-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S16384x8 : Shape := ⟨2, ![16384, 8]⟩
abbrev S1000000x16 : Shape := ⟨2, ![1000000, 16]⟩
abbrev S1000x8 : Shape := ⟨2, ![1000, 8]⟩
abbrev S64x32 : Shape := ⟨2, ![64, 32]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : IVec S16384 32) (main_arg2 : FVec F S16384x8 .f32) (main_arg3 : FVec F S1000000x16 .f32) (main_arg4 : FVec F S1000x8 .f32) (main_arg5 : FVec F S64x32 .f32) (main_arg6 : FVec F S64 .f32) (main_arg7 : FVec F S32x64 .f32) (main_arg8 : FVec F S32 .f32) (main_arg9 : FVec F S1x32 .f32) (main_arg10 : FVec F S1 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 1000000#32
  let main_v3 : IVec S16384 32 := broadcastInDim S16384 ![] bcast_S_S16384 main_c_1
  let main_v4 : IVec S16384 1 := cmpi .slt main_arg0 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_c_3 : IVec S_ 32 := constantI S_ 32 0#32
  let main_v7 : IVec S16384 32 := broadcastInDim S16384 ![] bcast_S_S16384 main_c_3
  let main_v8 : IVec S16384 1 := cmpi .sge main_arg1 main_v7
  let main_c_4 : IVec S_ 1 := constantI S_ 1 1#1
  let main_v9 : IVec S_ 1 := (fun x v => Host.reduce IntOp.andi x v reducesTo_S16384_S_d0 h_S_) main_v8 main_c_4
  let main_v10 : IVec S_ 1 := andi main_v6 main_v9
  let main_c_5 : IVec S_ 32 := constantI S_ 32 1000#32
  let main_v11 : IVec S16384 32 := broadcastInDim S16384 ![] bcast_S_S16384 main_c_5
  let main_v12 : IVec S16384 1 := cmpi .slt main_arg1 main_v11
  let main_c_6 : IVec S_ 1 := constantI S_ 1 1#1
  let main_v13 : IVec S_ 1 := (fun x v => Host.reduce IntOp.andi x v reducesTo_S16384_S_d0 h_S_) main_v12 main_c_6
  let main_v14 : IVec S_ 1 := andi main_v10 main_v13
  main_v14
-- ==== Kernel.lean ====
abbrev S16384 : Shape := ⟨1, ![16384]⟩
abbrev S16384x8 : Shape := ⟨2, ![16384, 8]⟩
abbrev S1000000x16 : Shape := ⟨2, ![1000000, 16]⟩
abbrev S1000x8 : Shape := ⟨2, ![1000, 8]⟩
abbrev S64x32 : Shape := ⟨2, ![64, 32]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S16x1000000 : Shape := ⟨2, ![16, 1000000]⟩
abbrev S8x1000 : Shape := ⟨2, ![8, 1000]⟩
abbrev S_ : Shape := ⟨0, ![]⟩
abbrev S16x1024 : Shape := ⟨2, ![16, 1024]⟩
abbrev S16x64 : Shape := ⟨2, ![16, 64]⟩
abbrev S125000x128 : Shape := ⟨2, ![125000, 128]⟩
abbrev S128x128 : Shape := ⟨2, ![128, 128]⟩
abbrev S16x1536 : Shape := ⟨2, ![16, 1536]⟩
abbrev S192x128 : Shape := ⟨2, ![192, 128]⟩
abbrev S8x128 : Shape := ⟨2, ![8, 128]⟩
abbrev S16 : Shape := ⟨1, ![16]⟩
abbrev S1x16 : Shape := ⟨2, ![1, 16]⟩
abbrev S16x16384 : Shape := ⟨2, ![16, 16384]⟩
abbrev S4x128 : Shape := ⟨2, ![4, 128]⟩
abbrev S512x128 : Shape := ⟨2, ![512, 128]⟩
abbrev S16x512 : Shape := ⟨2, ![16, 512]⟩
abbrev S1x128 : Shape := ⟨2, ![1, 128]⟩
abbrev S128 : Shape := ⟨1, ![128]⟩
abbrev S64x8 : Shape := ⟨2, ![64, 8]⟩
abbrev S64x16 : Shape := ⟨2, ![64, 16]⟩
abbrev S8x16384 : Shape := ⟨2, ![8, 16384]⟩
abbrev S64x1 : Shape := ⟨2, ![64, 1]⟩
abbrev S32x1 : Shape := ⟨2, ![32, 1]⟩
abbrev S1x1 : Shape := ⟨2, ![1, 1]⟩
abbrev S1x16384 : Shape := ⟨2, ![1, 16384]⟩
abbrev S64x16384 : Shape := ⟨2, ![64, 16384]⟩
abbrev S32x16384 : Shape := ⟨2, ![32, 16384]⟩

abbrev nBuf : Table → Nat
  | .hbm => 33
  | .local .tc .vmem => 12
  | .local .scVector .vmem => 10
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384x8, .f32⟩
  | .hbm, ⟨3, _⟩ => ⟨S1000000x16, .f32⟩
  | .hbm, ⟨4, _⟩ => ⟨S1000x8, .f32⟩
  | .hbm, ⟨5, _⟩ => ⟨S64x32, .f32⟩
  | .hbm, ⟨6, _⟩ => ⟨S64, .f32⟩
  | .hbm, ⟨7, _⟩ => ⟨S32x64, .f32⟩
  | .hbm, ⟨8, _⟩ => ⟨S32, .f32⟩
  | .hbm, ⟨9, _⟩ => ⟨S1x32, .f32⟩
  | .hbm, ⟨10, _⟩ => ⟨S1, .f32⟩
  | .hbm, ⟨11, _⟩ => ⟨S16x1000000, .f32⟩
  | .hbm, ⟨12, _⟩ => ⟨S8x1000, .f32⟩
  | .hbm, ⟨13, _⟩ => ⟨S_, .i32⟩
  | .hbm, ⟨14, _⟩ => ⟨S_, .f32⟩
  | .hbm, ⟨15, _⟩ => ⟨S16x1024, .f32⟩
  | .hbm, ⟨16, _⟩ => ⟨S16x64, .f32⟩
  | .hbm, ⟨17, _⟩ => ⟨S125000x128, .f32⟩
  | .hbm, ⟨18, _⟩ => ⟨S128x128, .f32⟩
  | .hbm, ⟨19, _⟩ => ⟨S16x16384, .f32⟩
  | .hbm, ⟨20, _⟩ => ⟨S16x16384, .f32⟩
  | .hbm, ⟨21, _⟩ => ⟨S64x8, .f32⟩
  | .hbm, ⟨22, _⟩ => ⟨S_, .i32⟩
  | .hbm, ⟨23, _⟩ => ⟨S_, .f32⟩
  | .hbm, ⟨24, _⟩ => ⟨S64x16, .f32⟩
  | .hbm, ⟨25, _⟩ => ⟨S8x16384, .f32⟩
  | .hbm, ⟨26, _⟩ => ⟨S64x16, .f32⟩
  | .hbm, ⟨27, _⟩ => ⟨S64x8, .f32⟩
  | .hbm, ⟨28, _⟩ => ⟨S64x1, .f32⟩
  | .hbm, ⟨29, _⟩ => ⟨S32x1, .f32⟩
  | .hbm, ⟨30, _⟩ => ⟨S1x1, .f32⟩
  | .hbm, ⟨31, _⟩ => ⟨S1x16384, .f32⟩
  | .hbm, ⟨32, _⟩ => ⟨S16384, .f32⟩
  | .local .tc .vmem, ⟨0, _⟩ => ⟨S16x16384, .f32⟩
  | .local .tc .vmem, ⟨1, _⟩ => ⟨S16x16384, .f32⟩
  | .local .tc .vmem, ⟨2, _⟩ => ⟨S8x16384, .f32⟩
  | .local .tc .vmem, ⟨3, _⟩ => ⟨S64x16, .f32⟩
  | .local .tc .vmem, ⟨4, _⟩ => ⟨S64x16, .f32⟩
  | .local .tc .vmem, ⟨5, _⟩ => ⟨S64x8, .f32⟩
  | .local .tc .vmem, ⟨6, _⟩ => ⟨S64x1, .f32⟩
  | .local .tc .vmem, ⟨7, _⟩ => ⟨S32x64, .f32⟩
  | .local .tc .vmem, ⟨8, _⟩ => ⟨S32x1, .f32⟩
  | .local .tc .vmem, ⟨9, _⟩ => ⟨S1x32, .f32⟩
  | .local .tc .vmem, ⟨10, _⟩ => ⟨S1x1, .f32⟩
  | .local .tc .vmem, ⟨11, _⟩ => ⟨S1x16384, .f32⟩
  | .local .scVector .vmem, ⟨0, _⟩ => ⟨S16x1536, .f32⟩
  | .local .scVector .vmem, ⟨1, _⟩ => ⟨S16x1536, .f32⟩
  | .local .scVector .vmem, ⟨2, _⟩ => ⟨S192x128, .f32⟩
  | .local .scVector .vmem, ⟨3, _⟩ => ⟨S192x128, .f32⟩
  | .local .scVector .vmem, ⟨4, _⟩ => ⟨S16x64, .f32⟩
  | .local .scVector .vmem, ⟨5, _⟩ => ⟨S8x128, .f32⟩
  | .local .scVector .vmem, ⟨6, _⟩ => ⟨S4x128, .i32⟩
  | .local .scVector .vmem, ⟨7, _⟩ => ⟨S4x128, .i32⟩
  | .local .scVector .vmem, ⟨8, _⟩ => ⟨S512x128, .f32⟩
  | .local .scVector .vmem, ⟨9, _⟩ => ⟨S16x512, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 31 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTables nBuf rfl bufTy 4 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v5_0 : Ref sig .tc := ⟨.hbm, 19, rfl⟩
abbrev main_v5_1 : Ref sig .tc := ⟨.hbm, 20, rfl⟩
abbrev main_v6 : Ref sig .tc := ⟨.hbm, 21, rfl⟩
abbrev main_c_0 : Ref sig .tc := ⟨.hbm, 22, rfl⟩
abbrev main_call1_v0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v0_scv : Ref sig .scVector := ⟨.hbm, 11, rfl⟩
abbrev main_v3_scv : Ref sig .scVector := ⟨.hbm, 16, rfl⟩
abbrev main_v2_scv : Ref sig .scVector := ⟨.hbm, 15, rfl⟩
abbrev main_v4_0_scv : Ref sig .scVector := ⟨.hbm, 17, rfl⟩
abbrev main_v4_1_scv : Ref sig .scVector := ⟨.hbm, 18, rfl⟩
abbrev main_arg0_scv : Ref sig .scVector := ⟨.hbm, 0, rfl⟩
abbrev main_arg1_scv : Ref sig .scVector := ⟨.hbm, 1, rfl⟩
abbrev main_v5_0_scv : Ref sig .scVector := ⟨.hbm, 19, rfl⟩
abbrev main_v5_1_scv : Ref sig .scVector := ⟨.hbm, 20, rfl⟩
abbrev cc2_stg0_0 : Ref sig .tc := ⟨.vmem, 0, rfl⟩
abbrev cc2_stg1_0 : Ref sig .tc := ⟨.vmem, 1, rfl⟩
abbrev cc2_stg2_0 : Ref sig .tc := ⟨.vmem, 2, rfl⟩
abbrev cc2_stg3_0 : Ref sig .tc := ⟨.vmem, 3, rfl⟩
abbrev cc2_stg4_0 : Ref sig .tc := ⟨.vmem, 4, rfl⟩
abbrev cc2_stg5_0 : Ref sig .tc := ⟨.vmem, 5, rfl⟩
abbrev cc2_stg6_0 : Ref sig .tc := ⟨.vmem, 6, rfl⟩
abbrev cc2_stg7_0 : Ref sig .tc := ⟨.vmem, 7, rfl⟩
abbrev cc2_stg8_0 : Ref sig .tc := ⟨.vmem, 8, rfl⟩
abbrev cc2_stg9_0 : Ref sig .tc := ⟨.vmem, 9, rfl⟩
abbrev cc2_stg10_0 : Ref sig .tc := ⟨.vmem, 10, rfl⟩
abbrev cc2_stg11_0 : Ref sig .tc := ⟨.vmem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_scratch0 : Ref sig .scVector := ⟨.vmem, 6, rfl⟩
abbrev cc1_scratch1 : Ref sig .scVector := ⟨.vmem, 7, rfl⟩
abbrev cc1_scratch2 : Ref sig .scVector := ⟨.vmem, 8, rfl⟩
abbrev cc1_scratch3 : Ref sig .scVector := ⟨.vmem, 9, rfl⟩
abbrev cc2_sem0_0 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem10_0 : DmaSem sig := 29
abbrev cc2_sem11_0 : DmaSem sig := 30
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_34 : BitVec 32 := 0#32
  let v103 : BitVec 32 := Scalar.addi v1 c0_i32_34
  let c1536_i32 : BitVec 32 := 1536#32
  let v104 : BitVec 32 := Scalar.muli v103 c1536_i32
  v104
def k0_off1 (i : grid0.Coords) : Fin 2 → Nat :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_34 : BitVec 32 := 0#32
  let v103 : BitVec 32 := Scalar.addi v1 c0_i32_34
  let c1536_i32 : BitVec 32 := 1536#32
  let v104 : BitVec 32 := Scalar.muli v103 c1536_i32
  let v105 : BitVec 32 := v104
  ![0, v105.toNat]
@[reducible] def k0_t1_loop (i : grid0.Coords) : Scf.Loop 32 :=
  let c0_i32_46 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11_i32_33 : BitVec 32 := 11#32
  let v101 : BitVec 1 := Scalar.cmpi .slt v1 c11_i32_33
  let c21_i32 : BitVec 32 := 21#32
  let c20_i32 : BitVec 32 := 20#32
  let v102 : BitVec 32 := Scalar.select v101 c21_i32 c20_i32
  let c1_i32_37 : BitVec 32 := 1#32
  let v108 : BitVec 32 := Scalar.addi v102 c1_i32_37
  let c0_i32_39 : BitVec 32 := 0#32
  let v110 : BitVec 1 := Scalar.cmpi .sgt v108 c0_i32_39
  let v111 : BitVec 32 := Scalar.extui v110
  let c0_i32_40 : BitVec 32 := 0#32
  let v112 : BitVec 1 := Scalar.cmpi .slt v108 c0_i32_40
  let v113 : BitVec 32 := Scalar.extui v112
  let v114 : BitVec 32 := Scalar.subi v111 v113
  let c2_i32_38 : BitVec 32 := 2#32
  let c0_i32_41 : BitVec 32 := 0#32
  let v115 : BitVec 1 := Scalar.cmpi .sgt c2_i32_38 c0_i32_41
  let v116 : BitVec 32 := Scalar.extui v115
  let c0_i32_42 : BitVec 32 := 0#32
  let v117 : BitVec 1 := Scalar.cmpi .slt c2_i32_38 c0_i32_42
  let v118 : BitVec 32 := Scalar.extui v117
  let v119 : BitVec 32 := Scalar.subi v116 v118
  let v120 : BitVec 1 := Scalar.cmpi .ne v114 v119
  let v121 : BitVec 32 := Scalar.remsi v108 c2_i32_38
  let c0_i32_43 : BitVec 32 := 0#32
  let v122 : BitVec 1 := Scalar.cmpi .ne v121 c0_i32_43
  let v123 : BitVec 1 := Scalar.andi v120 v122
  let v109 : BitVec 32 := Scalar.divsi v108 c2_i32_38
  let c1_i32_44 : BitVec 32 := 1#32
  let v124 : BitVec 32 := Scalar.subi v109 c1_i32_44
  let v125 : BitVec 32 := Scalar.select v123 v124 v109
  let v126 : BitVec 32 := Scalar.subi v125 c0_i32_46
  let c1_i32_47 : BitVec 32 := 1#32
  let v128 : BitVec 32 := Scalar.divsi v126 c1_i32_47
  let v129 : BitVec 32 := Scalar.muli v128 c1_i32_47
  let v130 : BitVec 32 := Scalar.addi c0_i32_46 v129
  let c1_i32_48 : BitVec 32 := 1#32
  ⟨c0_i32_46, v130, c1_i32_48⟩
def k0_cond1 (i : grid0.Coords) (k0_t1 : Fin (k0_t1_loop i).trips) : BitVec 1 :=
  let c2_i32_61 : BitVec 32 := 2#32
  let c0_i32_46 : BitVec 32 := 0#32
  let c1_i32_48 : BitVec 32 := 1#32
  let arg17 : BitVec 32 := Scf.iv c0_i32_46 c1_i32_48 k0_t1
  let v141 : BitVec 32 := Scalar.muli c2_i32_61 arg17
  let c1_i32_62 : BitVec 32 := 1#32
  let v142 : BitVec 32 := Scalar.addi v141 c1_i32_62
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11_i32_33 : BitVec 32 := 11#32
  let v101 : BitVec 1 := Scalar.cmpi .slt v1 c11_i32_33
  let c21_i32 : BitVec 32 := 21#32
  let c20_i32 : BitVec 32 := 20#32
  let v102 : BitVec 32 := Scalar.select v101 c21_i32 c20_i32
  let v143 : BitVec 1 := Scalar.cmpi .slt v142 v102
  let v144 : BitVec 32 := Scalar.extui v143
  let c0_i32_63 : BitVec 32 := 0#32
  let v145 : BitVec 1 := Scalar.cmpi .ne v144 c0_i32_63
  v145

def k0_mult2 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_61 : BitVec 32 := 2#32
  let c0_i32_46 : BitVec 32 := 0#32
  let c1_i32_48 : BitVec 32 := 1#32
  let arg17 : BitVec 32 := Scf.iv c0_i32_46 c1_i32_48 k0_t1
  let v141 : BitVec 32 := Scalar.muli c2_i32_61 arg17
  let c1_i32_62 : BitVec 32 := 1#32
  let v142 : BitVec 32 := Scalar.addi v141 c1_i32_62
  let c32_i32 : BitVec 32 := 32#32
  let v156 : BitVec 32 := Scalar.muli v142 c32_i32
  let v157 : BitVec 32 := Scalar.addi v1 v156
  let c1536_i32_68 : BitVec 32 := 1536#32
  let v158 : BitVec 32 := Scalar.muli v157 c1536_i32_68
  v158
def k0_off2 (i : grid0.Coords) (k0_t1 : Fin (k0_t1_loop i).trips) : Fin 2 → Nat :=
  let c0_i32_69 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_61 : BitVec 32 := 2#32
  let c0_i32_46 : BitVec 32 := 0#32
  let c1_i32_48 : BitVec 32 := 1#32
  let arg17 : BitVec 32 := Scf.iv c0_i32_46 c1_i32_48 k0_t1
  let v141 : BitVec 32 := Scalar.muli c2_i32_61 arg17
  let c1_i32_62 : BitVec 32 := 1#32
  let v142 : BitVec 32 := Scalar.addi v141 c1_i32_62
  let c32_i32 : BitVec 32 := 32#32
  let v156 : BitVec 32 := Scalar.muli v142 c32_i32
  let v157 : BitVec 32 := Scalar.addi v1 v156
  let c1536_i32_68 : BitVec 32 := 1536#32
  let v158 : BitVec 32 := Scalar.muli v157 c1536_i32_68
  let v159 : BitVec 32 := v158
  ![0, v159.toNat]
def k0_cond2 (i : grid0.Coords) (k0_t1 : Fin (k0_t1_loop i).trips) : BitVec 1 :=
  let c2_i32_61 : BitVec 32 := 2#32
  let c0_i32_46 : BitVec 32 := 0#32
  let c1_i32_48 : BitVec 32 := 1#32
  let arg17 : BitVec 32 := Scf.iv c0_i32_46 c1_i32_48 k0_t1
  let v141 : BitVec 32 := Scalar.muli c2_i32_61 arg17
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11_i32_33 : BitVec 32 := 11#32
  let v101 : BitVec 1 := Scalar.cmpi .slt v1 c11_i32_33
  let c21_i32 : BitVec 32 := 21#32
  let c20_i32 : BitVec 32 := 20#32
  let v102 : BitVec 32 := Scalar.select v101 c21_i32 c20_i32
  let v146 : BitVec 1 := Scalar.cmpi .slt v141 v102
  let v147 : BitVec 32 := Scalar.extui v146
  let c0_i32_64 : BitVec 32 := 0#32
  let v148 : BitVec 1 := Scalar.cmpi .ne v147 c0_i32_64
  v148

@[reducible] def k0_t2_loop : Scf.Loop 32 :=
  let c0_i32_75 : BitVec 32 := 0#32
  let c96_i32 : BitVec 32 := 96#32
  let v161 : BitVec 32 := Scalar.addi c0_i32_75 c96_i32
  let c1_i32_76 : BitVec 32 := 1#32
  ⟨c0_i32_75, v161, c1_i32_76⟩
def k0_off3 (k0_t2 : Fin k0_t2_loop.trips) : Fin 2 → Nat :=
  let c0_i32_90 : BitVec 32 := 0#32
  let v190 : Index := Scalar.indexCast c0_i32_90
  let c0_i32_75 : BitVec 32 := 0#32
  let c1_i32_76 : BitVec 32 := 1#32
  let arg18 : BitVec 32 := Scf.iv c0_i32_75 c1_i32_76 k0_t2
  let c16_i32_89 : BitVec 32 := 16#32
  let v189 : BitVec 32 := Scalar.muli arg18 c16_i32_89
  let v191 : Index := Scalar.indexCast v189
  ![0, v191.toNat]
def k0_off4 (k0_t2 : Fin k0_t2_loop.trips) : Fin 2 → Nat :=
  let c1_i32_92 : BitVec 32 := 1#32
  let v194 : Index := Scalar.indexCast c1_i32_92
  let c0_i32_75 : BitVec 32 := 0#32
  let c1_i32_76 : BitVec 32 := 1#32
  let arg18 : BitVec 32 := Scf.iv c0_i32_75 c1_i32_76 k0_t2
  let c16_i32_91 : BitVec 32 := 16#32
  let v193 : BitVec 32 := Scalar.muli arg18 c16_i32_91
  let v195 : Index := Scalar.indexCast v193
  ![1, v195.toNat]
def k0_off5 (k0_t2 : Fin k0_t2_loop.trips) : Fin 2 → Nat :=
  let c2_i32_94 : BitVec 32 := 2#32
  let v198 : Index := Scalar.indexCast c2_i32_94
  let c0_i32_75 : BitVec 32 := 0#32
  let c1_i32_76 : BitVec 32 := 1#32
  let arg18 : BitVec 32 := Scf.iv c0_i32_75 c1_i32_76 k0_t2
  let c16_i32_93 : BitVec 32 := 16#32
  let v197 : BitVec 32 := Scalar.muli arg18 c16_i32_93
  let v199 : Index := Scalar.indexCast v197
  ![2, v199.toNat]
def k0_off6 (k0_t2 : Fin k0_t2_loop.trips) : Fin 2 → Nat :=
  let c3_i32_96 : BitVec 32 := 3#32
  let v202 : Index := Scalar.indexCast c3_i32_96
  let c0_i32_75 : BitVec 32 := 0#32
  let c1_i32_76 : BitVec 32 := 1#32
  let arg18 : BitVec 32 := Scf.iv c0_i32_75 c1_i32_76 k0_t2
  let c16_i32_95 : BitVec 32 := 16#32
  let v201 : BitVec 32 := Scalar.muli arg18 c16_i32_95
  let v203 : Index := Scalar.indexCast v201
  ![3, v203.toNat]
def k0_off7 (k0_t2 : Fin k0_t2_loop.trips) : Fin 2 → Nat :=
  let c4_i32_98 : BitVec 32 := 4#32
  let v206 : Index := Scalar.indexCast c4_i32_98
  let c0_i32_75 : BitVec 32 := 0#32
  let c1_i32_76 : BitVec 32 := 1#32
  let arg18 : BitVec 32 := Scf.iv c0_i32_75 c1_i32_76 k0_t2
  let c16_i32_97 : BitVec 32 := 16#32
  let v205 : BitVec 32 := Scalar.muli arg18 c16_i32_97
  let v207 : Index := Scalar.indexCast v205
  ![4, v207.toNat]
def k0_off8 (k0_t2 : Fin k0_t2_loop.trips) : Fin 2 → Nat :=
  let c5_i32_100 : BitVec 32 := 5#32
  let v210 : Index := Scalar.indexCast c5_i32_100
  let c0_i32_75 : BitVec 32 := 0#32
  let c1_i32_76 : BitVec 32 := 1#32
  let arg18 : BitVec 32 := Scf.iv c0_i32_75 c1_i32_76 k0_t2
  let c16_i32_99 : BitVec 32 := 16#32
  let v209 : BitVec 32 := Scalar.muli arg18 c16_i32_99
  let v211 : Index := Scalar.indexCast v209
  ![5, v211.toNat]
def k0_off9 (k0_t2 : Fin k0_t2_loop.trips) : Fin 2 → Nat :=
  let c6_i32_102 : BitVec 32 := 6#32
  let v214 : Index := Scalar.indexCast c6_i32_102
  let c0_i32_75 : BitVec 32 := 0#32
  let c1_i32_76 : BitVec 32 := 1#32
  let arg18 : BitVec 32 := Scf.iv c0_i32_75 c1_i32_76 k0_t2
  let c16_i32_101 : BitVec 32 := 16#32
  let v213 : BitVec 32 := Scalar.muli arg18 c16_i32_101
  let v215 : Index := Scalar.indexCast v213
  ![6, v215.toNat]
def k0_off10 (k0_t2 : Fin k0_t2_loop.trips) : Fin 2 → Nat :=
  let c7_i32_104 : BitVec 32 := 7#32
  let v218 : Index := Scalar.indexCast c7_i32_104
  let c0_i32_75 : BitVec 32 := 0#32
  let c1_i32_76 : BitVec 32 := 1#32
  let arg18 : BitVec 32 := Scf.iv c0_i32_75 c1_i32_76 k0_t2
  let c16_i32_103 : BitVec 32 := 16#32
  let v217 : BitVec 32 := Scalar.muli arg18 c16_i32_103
  let v219 : Index := Scalar.indexCast v217
  ![7, v219.toNat]
def k0_off11 (k0_t2 : Fin k0_t2_loop.trips) : Fin 2 → Nat :=
  let c8_i32_106 : BitVec 32 := 8#32
  let v222 : Index := Scalar.indexCast c8_i32_106
  let c0_i32_75 : BitVec 32 := 0#32
  let c1_i32_76 : BitVec 32 := 1#32
  let arg18 : BitVec 32 := Scf.iv c0_i32_75 c1_i32_76 k0_t2
  let c16_i32_105 : BitVec 32 := 16#32
  let v221 : BitVec 32 := Scalar.muli arg18 c16_i32_105
  let v223 : Index := Scalar.indexCast v221
  ![8, v223.toNat]
def k0_off12 (k0_t2 : Fin k0_t2_loop.trips) : Fin 2 → Nat :=
  let c9_i32_108 : BitVec 32 := 9#32
  let v226 : Index := Scalar.indexCast c9_i32_108
  let c0_i32_75 : BitVec 32 := 0#32
  let c1_i32_76 : BitVec 32 := 1#32
  let arg18 : BitVec 32 := Scf.iv c0_i32_75 c1_i32_76 k0_t2
  let c16_i32_107 : BitVec 32 := 16#32
  let v225 : BitVec 32 := Scalar.muli arg18 c16_i32_107
  let v227 : Index := Scalar.indexCast v225
  ![9, v227.toNat]
def k0_off13 (k0_t2 : Fin k0_t2_loop.trips) : Fin 2 → Nat :=
  let c10_i32_110 : BitVec 32 := 10#32
  let v230 : Index := Scalar.indexCast c10_i32_110
  let c0_i32_75 : BitVec 32 := 0#32
  let c1_i32_76 : BitVec 32 := 1#32
  let arg18 : BitVec 32 := Scf.iv c0_i32_75 c1_i32_76 k0_t2
  let c16_i32_109 : BitVec 32 := 16#32
  let v229 : BitVec 32 := Scalar.muli arg18 c16_i32_109
  let v231 : Index := Scalar.indexCast v229
  ![10, v231.toNat]
def k0_off14 (k0_t2 : Fin k0_t2_loop.trips) : Fin 2 → Nat :=
  let c11_i32_112 : BitVec 32 := 11#32
  let v234 : Index := Scalar.indexCast c11_i32_112
  let c0_i32_75 : BitVec 32 := 0#32
  let c1_i32_76 : BitVec 32 := 1#32
  let arg18 : BitVec 32 := Scf.iv c0_i32_75 c1_i32_76 k0_t2
  let c16_i32_111 : BitVec 32 := 16#32
  let v233 : BitVec 32 := Scalar.muli arg18 c16_i32_111
  let v235 : Index := Scalar.indexCast v233
  ![11, v235.toNat]
def k0_off15 (k0_t2 : Fin k0_t2_loop.trips) : Fin 2 → Nat :=
  let c12_i32_114 : BitVec 32 := 12#32
  let v238 : Index := Scalar.indexCast c12_i32_114
  let c0_i32_75 : BitVec 32 := 0#32
  let c1_i32_76 : BitVec 32 := 1#32
  let arg18 : BitVec 32 := Scf.iv c0_i32_75 c1_i32_76 k0_t2
  let c16_i32_113 : BitVec 32 := 16#32
  let v237 : BitVec 32 := Scalar.muli arg18 c16_i32_113
  let v239 : Index := Scalar.indexCast v237
  ![12, v239.toNat]
def k0_off16 (k0_t2 : Fin k0_t2_loop.trips) : Fin 2 → Nat :=
  let c13_i32_116 : BitVec 32 := 13#32
  let v242 : Index := Scalar.indexCast c13_i32_116
  let c0_i32_75 : BitVec 32 := 0#32
  let c1_i32_76 : BitVec 32 := 1#32
  let arg18 : BitVec 32 := Scf.iv c0_i32_75 c1_i32_76 k0_t2
  let c16_i32_115 : BitVec 32 := 16#32
  let v241 : BitVec 32 := Scalar.muli arg18 c16_i32_115
  let v243 : Index := Scalar.indexCast v241
  ![13, v243.toNat]
def k0_off17 (k0_t2 : Fin k0_t2_loop.trips) : Fin 2 → Nat :=
  let c14_i32_118 : BitVec 32 := 14#32
  let v246 : Index := Scalar.indexCast c14_i32_118
  let c0_i32_75 : BitVec 32 := 0#32
  let c1_i32_76 : BitVec 32 := 1#32
  let arg18 : BitVec 32 := Scf.iv c0_i32_75 c1_i32_76 k0_t2
  let c16_i32_117 : BitVec 32 := 16#32
  let v245 : BitVec 32 := Scalar.muli arg18 c16_i32_117
  let v247 : Index := Scalar.indexCast v245
  ![14, v247.toNat]
def k0_off18 (k0_t2 : Fin k0_t2_loop.trips) : Fin 2 → Nat :=
  let c15_i32_120 : BitVec 32 := 15#32
  let v250 : Index := Scalar.indexCast c15_i32_120
  let c0_i32_75 : BitVec 32 := 0#32
  let c1_i32_76 : BitVec 32 := 1#32
  let arg18 : BitVec 32 := Scf.iv c0_i32_75 c1_i32_76 k0_t2
  let c16_i32_119 : BitVec 32 := 16#32
  let v249 : BitVec 32 := Scalar.muli arg18 c16_i32_119
  let v251 : Index := Scalar.indexCast v249
  ![15, v251.toNat]

def k0_chk1 (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) : Prop :=
  (∀ (k0_h2 : k0_cond2 i k0_t1 = 1#1), ∀ a x, ((![v188, v10] : Fin 2 → IVec S16 32) a x).toNat < S192x128.size a) ∧
  (∀ (k0_h2 : k0_cond2 i k0_t1 = 1#1), ∀ a x, ((![v188, v16] : Fin 2 → IVec S16 32) a x).toNat < S192x128.size a) ∧
  (∀ (k0_h2 : k0_cond2 i k0_t1 = 1#1), ∀ a x, ((![v188, v22] : Fin 2 → IVec S16 32) a x).toNat < S192x128.size a) ∧
  (∀ (k0_h2 : k0_cond2 i k0_t1 = 1#1), ∀ a x, ((![v188, v28] : Fin 2 → IVec S16 32) a x).toNat < S192x128.size a) ∧
  (∀ (k0_h2 : k0_cond2 i k0_t1 = 1#1), ∀ a x, ((![v188, v34] : Fin 2 → IVec S16 32) a x).toNat < S192x128.size a) ∧
  (∀ (k0_h2 : k0_cond2 i k0_t1 = 1#1), ∀ a x, ((![v188, v40] : Fin 2 → IVec S16 32) a x).toNat < S192x128.size a) ∧
  (∀ (k0_h2 : k0_cond2 i k0_t1 = 1#1), ∀ a x, ((![v188, v46] : Fin 2 → IVec S16 32) a x).toNat < S192x128.size a) ∧
  (∀ (k0_h2 : k0_cond2 i k0_t1 = 1#1), ∀ a x, ((![v188, v52] : Fin 2 → IVec S16 32) a x).toNat < S192x128.size a) ∧
  (∀ (k0_h2 : k0_cond2 i k0_t1 = 1#1), ∀ a x, ((![v188, v58] : Fin 2 → IVec S16 32) a x).toNat < S192x128.size a) ∧
  (∀ (k0_h2 : k0_cond2 i k0_t1 = 1#1), ∀ a x, ((![v188, v64] : Fin 2 → IVec S16 32) a x).toNat < S192x128.size a) ∧
  (∀ (k0_h2 : k0_cond2 i k0_t1 = 1#1), ∀ a x, ((![v188, v70] : Fin 2 → IVec S16 32) a x).toNat < S192x128.size a) ∧
  (∀ (k0_h2 : k0_cond2 i k0_t1 = 1#1), ∀ a x, ((![v188, v76] : Fin 2 → IVec S16 32) a x).toNat < S192x128.size a) ∧
  (∀ (k0_h2 : k0_cond2 i k0_t1 = 1#1), ∀ a x, ((![v188, v82] : Fin 2 → IVec S16 32) a x).toNat < S192x128.size a) ∧
  (∀ (k0_h2 : k0_cond2 i k0_t1 = 1#1), ∀ a x, ((![v188, v88] : Fin 2 → IVec S16 32) a x).toNat < S192x128.size a) ∧
  (∀ (k0_h2 : k0_cond2 i k0_t1 = 1#1), ∀ a x, ((![v188, v94] : Fin 2 → IVec S16 32) a x).toNat < S192x128.size a) ∧
  (∀ (k0_h2 : k0_cond2 i k0_t1 = 1#1), ∀ a x, ((![v188, v100] : Fin 2 → IVec S16 32) a x).toNat < S192x128.size a)
theorem k0_idx1_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw1 : k0_chk1 i v10 v16 v22 v28 v34 v40 v46 v52 v58 v64 v70 v76 v82 v88 v94 v100 k0_t1 v188), ∀ (k0_h2 : k0_cond2 i k0_t1 = 1#1), ∀ a x, ((![v188, v10] : Fin 2 → IVec S16 32) a x).toNat < S192x128.size a := fun i v10 v16 v22 v28 v34 v40 v46 v52 v58 v64 v70 v76 v82 v88 v94 v100 k0_t1 v188 k0_hw1 k0_h2 => k0_hw1.1 k0_h2
theorem k0_idx2_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw1 : k0_chk1 i v10 v16 v22 v28 v34 v40 v46 v52 v58 v64 v70 v76 v82 v88 v94 v100 k0_t1 v188), ∀ (k0_h2 : k0_cond2 i k0_t1 = 1#1), ∀ a x, ((![v188, v16] : Fin 2 → IVec S16 32) a x).toNat < S192x128.size a := fun i v10 v16 v22 v28 v34 v40 v46 v52 v58 v64 v70 v76 v82 v88 v94 v100 k0_t1 v188 k0_hw1 k0_h2 => k0_hw1.2.1 k0_h2
theorem k0_idx3_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw1 : k0_chk1 i v10 v16 v22 v28 v34 v40 v46 v52 v58 v64 v70 v76 v82 v88 v94 v100 k0_t1 v188), ∀ (k0_h2 : k0_cond2 i k0_t1 = 1#1), ∀ a x, ((![v188, v22] : Fin 2 → IVec S16 32) a x).toNat < S192x128.size a := fun i v10 v16 v22 v28 v34 v40 v46 v52 v58 v64 v70 v76 v82 v88 v94 v100 k0_t1 v188 k0_hw1 k0_h2 => k0_hw1.2.2.1 k0_h2
theorem k0_idx4_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw1 : k0_chk1 i v10 v16 v22 v28 v34 v40 v46 v52 v58 v64 v70 v76 v82 v88 v94 v100 k0_t1 v188), ∀ (k0_h2 : k0_cond2 i k0_t1 = 1#1), ∀ a x, ((![v188, v28] : Fin 2 → IVec S16 32) a x).toNat < S192x128.size a := fun i v10 v16 v22 v28 v34 v40 v46 v52 v58 v64 v70 v76 v82 v88 v94 v100 k0_t1 v188 k0_hw1 k0_h2 => k0_hw1.2.2.2.1 k0_h2
theorem k0_idx5_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw1 : k0_chk1 i v10 v16 v22 v28 v34 v40 v46 v52 v58 v64 v70 v76 v82 v88 v94 v100 k0_t1 v188), ∀ (k0_h2 : k0_cond2 i k0_t1 = 1#1), ∀ a x, ((![v188, v34] : Fin 2 → IVec S16 32) a x).toNat < S192x128.size a := fun i v10 v16 v22 v28 v34 v40 v46 v52 v58 v64 v70 v76 v82 v88 v94 v100 k0_t1 v188 k0_hw1 k0_h2 => k0_hw1.2.2.2.2.1 k0_h2
theorem k0_idx6_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw1 : k0_chk1 i v10 v16 v22 v28 v34 v40 v46 v52 v58 v64 v70 v76 v82 v88 v94 v100 k0_t1 v188), ∀ (k0_h2 : k0_cond2 i k0_t1 = 1#1), ∀ a x, ((![v188, v40] : Fin 2 → IVec S16 32) a x).toNat < S192x128.size a := fun i v10 v16 v22 v28 v34 v40 v46 v52 v58 v64 v70 v76 v82 v88 v94 v100 k0_t1 v188 k0_hw1 k0_h2 => k0_hw1.2.2.2.2.2.1 k0_h2
theorem k0_idx7_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw1 : k0_chk1 i v10 v16 v22 v28 v34 v40 v46 v52 v58 v64 v70 v76 v82 v88 v94 v100 k0_t1 v188), ∀ (k0_h2 : k0_cond2 i k0_t1 = 1#1), ∀ a x, ((![v188, v46] : Fin 2 → IVec S16 32) a x).toNat < S192x128.size a := fun i v10 v16 v22 v28 v34 v40 v46 v52 v58 v64 v70 v76 v82 v88 v94 v100 k0_t1 v188 k0_hw1 k0_h2 => k0_hw1.2.2.2.2.2.2.1 k0_h2
theorem k0_idx8_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw1 : k0_chk1 i v10 v16 v22 v28 v34 v40 v46 v52 v58 v64 v70 v76 v82 v88 v94 v100 k0_t1 v188), ∀ (k0_h2 : k0_cond2 i k0_t1 = 1#1), ∀ a x, ((![v188, v52] : Fin 2 → IVec S16 32) a x).toNat < S192x128.size a := fun i v10 v16 v22 v28 v34 v40 v46 v52 v58 v64 v70 v76 v82 v88 v94 v100 k0_t1 v188 k0_hw1 k0_h2 => k0_hw1.2.2.2.2.2.2.2.1 k0_h2
theorem k0_idx9_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw1 : k0_chk1 i v10 v16 v22 v28 v34 v40 v46 v52 v58 v64 v70 v76 v82 v88 v94 v100 k0_t1 v188), ∀ (k0_h2 : k0_cond2 i k0_t1 = 1#1), ∀ a x, ((![v188, v58] : Fin 2 → IVec S16 32) a x).toNat < S192x128.size a := fun i v10 v16 v22 v28 v34 v40 v46 v52 v58 v64 v70 v76 v82 v88 v94 v100 k0_t1 v188 k0_hw1 k0_h2 => k0_hw1.2.2.2.2.2.2.2.2.1 k0_h2
theorem k0_idx10_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw1 : k0_chk1 i v10 v16 v22 v28 v34 v40 v46 v52 v58 v64 v70 v76 v82 v88 v94 v100 k0_t1 v188), ∀ (k0_h2 : k0_cond2 i k0_t1 = 1#1), ∀ a x, ((![v188, v64] : Fin 2 → IVec S16 32) a x).toNat < S192x128.size a := fun i v10 v16 v22 v28 v34 v40 v46 v52 v58 v64 v70 v76 v82 v88 v94 v100 k0_t1 v188 k0_hw1 k0_h2 => k0_hw1.2.2.2.2.2.2.2.2.2.1 k0_h2
theorem k0_idx11_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw1 : k0_chk1 i v10 v16 v22 v28 v34 v40 v46 v52 v58 v64 v70 v76 v82 v88 v94 v100 k0_t1 v188), ∀ (k0_h2 : k0_cond2 i k0_t1 = 1#1), ∀ a x, ((![v188, v70] : Fin 2 → IVec S16 32) a x).toNat < S192x128.size a := fun i v10 v16 v22 v28 v34 v40 v46 v52 v58 v64 v70 v76 v82 v88 v94 v100 k0_t1 v188 k0_hw1 k0_h2 => k0_hw1.2.2.2.2.2.2.2.2.2.2.1 k0_h2
theorem k0_idx12_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw1 : k0_chk1 i v10 v16 v22 v28 v34 v40 v46 v52 v58 v64 v70 v76 v82 v88 v94 v100 k0_t1 v188), ∀ (k0_h2 : k0_cond2 i k0_t1 = 1#1), ∀ a x, ((![v188, v76] : Fin 2 → IVec S16 32) a x).toNat < S192x128.size a := fun i v10 v16 v22 v28 v34 v40 v46 v52 v58 v64 v70 v76 v82 v88 v94 v100 k0_t1 v188 k0_hw1 k0_h2 => k0_hw1.2.2.2.2.2.2.2.2.2.2.2.1 k0_h2
theorem k0_idx13_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw1 : k0_chk1 i v10 v16 v22 v28 v34 v40 v46 v52 v58 v64 v70 v76 v82 v88 v94 v100 k0_t1 v188), ∀ (k0_h2 : k0_cond2 i k0_t1 = 1#1), ∀ a x, ((![v188, v82] : Fin 2 → IVec S16 32) a x).toNat < S192x128.size a := fun i v10 v16 v22 v28 v34 v40 v46 v52 v58 v64 v70 v76 v82 v88 v94 v100 k0_t1 v188 k0_hw1 k0_h2 => k0_hw1.2.2.2.2.2.2.2.2.2.2.2.2.1 k0_h2
theorem k0_idx14_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw1 : k0_chk1 i v10 v16 v22 v28 v34 v40 v46 v52 v58 v64 v70 v76 v82 v88 v94 v100 k0_t1 v188), ∀ (k0_h2 : k0_cond2 i k0_t1 = 1#1), ∀ a x, ((![v188, v88] : Fin 2 → IVec S16 32) a x).toNat < S192x128.size a := fun i v10 v16 v22 v28 v34 v40 v46 v52 v58 v64 v70 v76 v82 v88 v94 v100 k0_t1 v188 k0_hw1 k0_h2 => k0_hw1.2.2.2.2.2.2.2.2.2.2.2.2.2.1 k0_h2
theorem k0_idx15_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw1 : k0_chk1 i v10 v16 v22 v28 v34 v40 v46 v52 v58 v64 v70 v76 v82 v88 v94 v100 k0_t1 v188), ∀ (k0_h2 : k0_cond2 i k0_t1 = 1#1), ∀ a x, ((![v188, v94] : Fin 2 → IVec S16 32) a x).toNat < S192x128.size a := fun i v10 v16 v22 v28 v34 v40 v46 v52 v58 v64 v70 v76 v82 v88 v94 v100 k0_t1 v188 k0_hw1 k0_h2 => k0_hw1.2.2.2.2.2.2.2.2.2.2.2.2.2.2.1 k0_h2
theorem k0_idx16_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw1 : k0_chk1 i v10 v16 v22 v28 v34 v40 v46 v52 v58 v64 v70 v76 v82 v88 v94 v100 k0_t1 v188), ∀ (k0_h2 : k0_cond2 i k0_t1 = 1#1), ∀ a x, ((![v188, v100] : Fin 2 → IVec S16 32) a x).toNat < S192x128.size a := fun i v10 v16 v22 v28 v34 v40 v46 v52 v58 v64 v70 v76 v82 v88 v94 v100 k0_t1 v188 k0_hw1 k0_h2 => k0_hw1.2.2.2.2.2.2.2.2.2.2.2.2.2.2.2 k0_h2
def k0_mult3 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_61 : BitVec 32 := 2#32
  let c0_i32_46 : BitVec 32 := 0#32
  let c1_i32_48 : BitVec 32 := 1#32
  let arg17 : BitVec 32 := Scf.iv c0_i32_46 c1_i32_48 k0_t1
  let v141 : BitVec 32 := Scalar.muli c2_i32_61 arg17
  let c32_i32 : BitVec 32 := 32#32
  let v162 : BitVec 32 := Scalar.muli v141 c32_i32
  let v163 : BitVec 32 := Scalar.addi v1 v162
  let c1536_i32_78 : BitVec 32 := 1536#32
  let v164 : BitVec 32 := Scalar.muli v163 c1536_i32_78
  v164
def k0_mult4 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_61 : BitVec 32 := 2#32
  let c0_i32_46 : BitVec 32 := 0#32
  let c1_i32_48 : BitVec 32 := 1#32
  let arg17 : BitVec 32 := Scf.iv c0_i32_46 c1_i32_48 k0_t1
  let v141 : BitVec 32 := Scalar.muli c2_i32_61 arg17
  let c32_i32 : BitVec 32 := 32#32
  let v162 : BitVec 32 := Scalar.muli v141 c32_i32
  let v163 : BitVec 32 := Scalar.addi v1 v162
  let c1536_i32_78 : BitVec 32 := 1536#32
  let v164 : BitVec 32 := Scalar.muli v163 c1536_i32_78
  let v165 : BitVec 32 := v164
  let c0_i32_80 : BitVec 32 := 0#32
  let v167 : BitVec 1 := Scalar.cmpi .sgt v165 c0_i32_80
  let v168 : BitVec 32 := Scalar.extui v167
  let c0_i32_81 : BitVec 32 := 0#32
  let v169 : BitVec 1 := Scalar.cmpi .slt v165 c0_i32_81
  let v170 : BitVec 32 := Scalar.extui v169
  let v171 : BitVec 32 := Scalar.subi v168 v170
  let c8_i32_79 : BitVec 32 := 8#32
  let c0_i32_82 : BitVec 32 := 0#32
  let v172 : BitVec 1 := Scalar.cmpi .sgt c8_i32_79 c0_i32_82
  let v173 : BitVec 32 := Scalar.extui v172
  let c0_i32_83 : BitVec 32 := 0#32
  let v174 : BitVec 1 := Scalar.cmpi .slt c8_i32_79 c0_i32_83
  let v175 : BitVec 32 := Scalar.extui v174
  let v176 : BitVec 32 := Scalar.subi v173 v175
  let v177 : BitVec 1 := Scalar.cmpi .ne v171 v176
  let v178 : BitVec 32 := Scalar.remsi v165 c8_i32_79
  let c0_i32_84 : BitVec 32 := 0#32
  let v179 : BitVec 1 := Scalar.cmpi .ne v178 c0_i32_84
  let v180 : BitVec 1 := Scalar.andi v177 v179
  let v166 : BitVec 32 := Scalar.divsi v165 c8_i32_79
  let c1_i32_85 : BitVec 32 := 1#32
  let v181 : BitVec 32 := Scalar.subi v166 c1_i32_85
  let v182 : BitVec 32 := Scalar.select v180 v181 v166
  v182
def k0_off19 (i : grid0.Coords) (k0_t1 : Fin (k0_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_61 : BitVec 32 := 2#32
  let c0_i32_46 : BitVec 32 := 0#32
  let c1_i32_48 : BitVec 32 := 1#32
  let arg17 : BitVec 32 := Scf.iv c0_i32_46 c1_i32_48 k0_t1
  let v141 : BitVec 32 := Scalar.muli c2_i32_61 arg17
  let c32_i32 : BitVec 32 := 32#32
  let v162 : BitVec 32 := Scalar.muli v141 c32_i32
  let v163 : BitVec 32 := Scalar.addi v1 v162
  let c1536_i32_78 : BitVec 32 := 1536#32
  let v164 : BitVec 32 := Scalar.muli v163 c1536_i32_78
  let v165 : BitVec 32 := v164
  let c0_i32_80 : BitVec 32 := 0#32
  let v167 : BitVec 1 := Scalar.cmpi .sgt v165 c0_i32_80
  let v168 : BitVec 32 := Scalar.extui v167
  let c0_i32_81 : BitVec 32 := 0#32
  let v169 : BitVec 1 := Scalar.cmpi .slt v165 c0_i32_81
  let v170 : BitVec 32 := Scalar.extui v169
  let v171 : BitVec 32 := Scalar.subi v168 v170
  let c8_i32_79 : BitVec 32 := 8#32
  let c0_i32_82 : BitVec 32 := 0#32
  let v172 : BitVec 1 := Scalar.cmpi .sgt c8_i32_79 c0_i32_82
  let v173 : BitVec 32 := Scalar.extui v172
  let c0_i32_83 : BitVec 32 := 0#32
  let v174 : BitVec 1 := Scalar.cmpi .slt c8_i32_79 c0_i32_83
  let v175 : BitVec 32 := Scalar.extui v174
  let v176 : BitVec 32 := Scalar.subi v173 v175
  let v177 : BitVec 1 := Scalar.cmpi .ne v171 v176
  let v178 : BitVec 32 := Scalar.remsi v165 c8_i32_79
  let c0_i32_84 : BitVec 32 := 0#32
  let v179 : BitVec 1 := Scalar.cmpi .ne v178 c0_i32_84
  let v180 : BitVec 1 := Scalar.andi v177 v179
  let v166 : BitVec 32 := Scalar.divsi v165 c8_i32_79
  let c1_i32_85 : BitVec 32 := 1#32
  let v181 : BitVec 32 := Scalar.subi v166 c1_i32_85
  let v182 : BitVec 32 := Scalar.select v180 v181 v166
  let v183 : BitVec 32 := v182
  let c0_i32_86 : BitVec 32 := 0#32
  ![v183.toNat, 0]
def k0_cond4 (i : grid0.Coords) (k0_t1 : Fin (k0_t1_loop i).trips) : BitVec 1 :=
  let c2_i32_61 : BitVec 32 := 2#32
  let c0_i32_46 : BitVec 32 := 0#32
  let c1_i32_48 : BitVec 32 := 1#32
  let arg17 : BitVec 32 := Scf.iv c0_i32_46 c1_i32_48 k0_t1
  let v141 : BitVec 32 := Scalar.muli c2_i32_61 arg17
  let c2_i32_65 : BitVec 32 := 2#32
  let v149 : BitVec 32 := Scalar.addi v141 c2_i32_65
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11_i32_33 : BitVec 32 := 11#32
  let v101 : BitVec 1 := Scalar.cmpi .slt v1 c11_i32_33
  let c21_i32 : BitVec 32 := 21#32
  let c20_i32 : BitVec 32 := 20#32
  let v102 : BitVec 32 := Scalar.select v101 c21_i32 c20_i32
  let v150 : BitVec 1 := Scalar.cmpi .slt v149 v102
  let v151 : BitVec 32 := Scalar.extui v150
  let c0_i32_66 : BitVec 32 := 0#32
  let v152 : BitVec 1 := Scalar.cmpi .ne v151 c0_i32_66
  v152

def k0_mult5 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_61 : BitVec 32 := 2#32
  let c0_i32_46 : BitVec 32 := 0#32
  let c1_i32_48 : BitVec 32 := 1#32
  let arg17 : BitVec 32 := Scf.iv c0_i32_46 c1_i32_48 k0_t1
  let v141 : BitVec 32 := Scalar.muli c2_i32_61 arg17
  let c2_i32_68 : BitVec 32 := 2#32
  let v156 : BitVec 32 := Scalar.addi v141 c2_i32_68
  let c32_i32 : BitVec 32 := 32#32
  let v157 : BitVec 32 := Scalar.muli v156 c32_i32
  let v158 : BitVec 32 := Scalar.addi v1 v157
  let c1536_i32_69 : BitVec 32 := 1536#32
  let v159 : BitVec 32 := Scalar.muli v158 c1536_i32_69
  v159
def k0_off20 (i : grid0.Coords) (k0_t1 : Fin (k0_t1_loop i).trips) : Fin 2 → Nat :=
  let c0_i32_70 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_61 : BitVec 32 := 2#32
  let c0_i32_46 : BitVec 32 := 0#32
  let c1_i32_48 : BitVec 32 := 1#32
  let arg17 : BitVec 32 := Scf.iv c0_i32_46 c1_i32_48 k0_t1
  let v141 : BitVec 32 := Scalar.muli c2_i32_61 arg17
  let c2_i32_68 : BitVec 32 := 2#32
  let v156 : BitVec 32 := Scalar.addi v141 c2_i32_68
  let c32_i32 : BitVec 32 := 32#32
  let v157 : BitVec 32 := Scalar.muli v156 c32_i32
  let v158 : BitVec 32 := Scalar.addi v1 v157
  let c1536_i32_69 : BitVec 32 := 1536#32
  let v159 : BitVec 32 := Scalar.muli v158 c1536_i32_69
  let v160 : BitVec 32 := v159
  ![0, v160.toNat]
def k0_cond5 (i : grid0.Coords) (k0_t1 : Fin (k0_t1_loop i).trips) : BitVec 1 :=
  let c2_i32_61 : BitVec 32 := 2#32
  let c0_i32_46 : BitVec 32 := 0#32
  let c1_i32_48 : BitVec 32 := 1#32
  let arg17 : BitVec 32 := Scf.iv c0_i32_46 c1_i32_48 k0_t1
  let v141 : BitVec 32 := Scalar.muli c2_i32_61 arg17
  let c1_i32_62 : BitVec 32 := 1#32
  let v142 : BitVec 32 := Scalar.addi v141 c1_i32_62
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11_i32_33 : BitVec 32 := 11#32
  let v101 : BitVec 1 := Scalar.cmpi .slt v1 c11_i32_33
  let c21_i32 : BitVec 32 := 21#32
  let c20_i32 : BitVec 32 := 20#32
  let v102 : BitVec 32 := Scalar.select v101 c21_i32 c20_i32
  let v153 : BitVec 1 := Scalar.cmpi .slt v142 v102
  let v154 : BitVec 32 := Scalar.extui v153
  let c0_i32_67 : BitVec 32 := 0#32
  let v155 : BitVec 1 := Scalar.cmpi .ne v154 c0_i32_67
  v155

@[reducible] def k0_t3_loop : Scf.Loop 32 :=
  let c0_i32_75 : BitVec 32 := 0#32
  let c96_i32 : BitVec 32 := 96#32
  let v161 : BitVec 32 := Scalar.addi c0_i32_75 c96_i32
  let c1_i32_76 : BitVec 32 := 1#32
  ⟨c0_i32_75, v161, c1_i32_76⟩
def k0_off21 (k0_t3 : Fin k0_t3_loop.trips) : Fin 2 → Nat :=
  let c0_i32_90 : BitVec 32 := 0#32
  let v190 : Index := Scalar.indexCast c0_i32_90
  let c0_i32_75 : BitVec 32 := 0#32
  let c1_i32_76 : BitVec 32 := 1#32
  let arg18 : BitVec 32 := Scf.iv c0_i32_75 c1_i32_76 k0_t3
  let c16_i32_89 : BitVec 32 := 16#32
  let v189 : BitVec 32 := Scalar.muli arg18 c16_i32_89
  let v191 : Index := Scalar.indexCast v189
  ![0, v191.toNat]
def k0_off22 (k0_t3 : Fin k0_t3_loop.trips) : Fin 2 → Nat :=
  let c1_i32_92 : BitVec 32 := 1#32
  let v194 : Index := Scalar.indexCast c1_i32_92
  let c0_i32_75 : BitVec 32 := 0#32
  let c1_i32_76 : BitVec 32 := 1#32
  let arg18 : BitVec 32 := Scf.iv c0_i32_75 c1_i32_76 k0_t3
  let c16_i32_91 : BitVec 32 := 16#32
  let v193 : BitVec 32 := Scalar.muli arg18 c16_i32_91
  let v195 : Index := Scalar.indexCast v193
  ![1, v195.toNat]
def k0_off23 (k0_t3 : Fin k0_t3_loop.trips) : Fin 2 → Nat :=
  let c2_i32_94 : BitVec 32 := 2#32
  let v198 : Index := Scalar.indexCast c2_i32_94
  let c0_i32_75 : BitVec 32 := 0#32
  let c1_i32_76 : BitVec 32 := 1#32
  let arg18 : BitVec 32 := Scf.iv c0_i32_75 c1_i32_76 k0_t3
  let c16_i32_93 : BitVec 32 := 16#32
  let v197 : BitVec 32 := Scalar.muli arg18 c16_i32_93
  let v199 : Index := Scalar.indexCast v197
  ![2, v199.toNat]
def k0_off24 (k0_t3 : Fin k0_t3_loop.trips) : Fin 2 → Nat :=
  let c3_i32_96 : BitVec 32 := 3#32
  let v202 : Index := Scalar.indexCast c3_i32_96
  let c0_i32_75 : BitVec 32 := 0#32
  let c1_i32_76 : BitVec 32 := 1#32
  let arg18 : BitVec 32 := Scf.iv c0_i32_75 c1_i32_76 k0_t3
  let c16_i32_95 : BitVec 32 := 16#32
  let v201 : BitVec 32 := Scalar.muli arg18 c16_i32_95
  let v203 : Index := Scalar.indexCast v201
  ![3, v203.toNat]
def k0_off25 (k0_t3 : Fin k0_t3_loop.trips) : Fin 2 → Nat :=
  let c4_i32_98 : BitVec 32 := 4#32
  let v206 : Index := Scalar.indexCast c4_i32_98
  let c0_i32_75 : BitVec 32 := 0#32
  let c1_i32_76 : BitVec 32 := 1#32
  let arg18 : BitVec 32 := Scf.iv c0_i32_75 c1_i32_76 k0_t3
  let c16_i32_97 : BitVec 32 := 16#32
  let v205 : BitVec 32 := Scalar.muli arg18 c16_i32_97
  let v207 : Index := Scalar.indexCast v205
  ![4, v207.toNat]
def k0_off26 (k0_t3 : Fin k0_t3_loop.trips) : Fin 2 → Nat :=
  let c5_i32_100 : BitVec 32 := 5#32
  let v210 : Index := Scalar.indexCast c5_i32_100
  let c0_i32_75 : BitVec 32 := 0#32
  let c1_i32_76 : BitVec 32 := 1#32
  let arg18 : BitVec 32 := Scf.iv c0_i32_75 c1_i32_76 k0_t3
  let c16_i32_99 : BitVec 32 := 16#32
  let v209 : BitVec 32 := Scalar.muli arg18 c16_i32_99
  let v211 : Index := Scalar.indexCast v209
  ![5, v211.toNat]
def k0_off27 (k0_t3 : Fin k0_t3_loop.trips) : Fin 2 → Nat :=
  let c6_i32_102 : BitVec 32 := 6#32
  let v214 : Index := Scalar.indexCast c6_i32_102
  let c0_i32_75 : BitVec 32 := 0#32
  let c1_i32_76 : BitVec 32 := 1#32
  let arg18 : BitVec 32 := Scf.iv c0_i32_75 c1_i32_76 k0_t3
  let c16_i32_101 : BitVec 32 := 16#32
  let v213 : BitVec 32 := Scalar.muli arg18 c16_i32_101
  let v215 : Index := Scalar.indexCast v213
  ![6, v215.toNat]
def k0_off28 (k0_t3 : Fin k0_t3_loop.trips) : Fin 2 → Nat :=
  let c7_i32_104 : BitVec 32 := 7#32
  let v218 : Index := Scalar.indexCast c7_i32_104
  let c0_i32_75 : BitVec 32 := 0#32
  let c1_i32_76 : BitVec 32 := 1#32
  let arg18 : BitVec 32 := Scf.iv c0_i32_75 c1_i32_76 k0_t3
  let c16_i32_103 : BitVec 32 := 16#32
  let v217 : BitVec 32 := Scalar.muli arg18 c16_i32_103
  let v219 : Index := Scalar.indexCast v217
  ![7, v219.toNat]
def k0_off29 (k0_t3 : Fin k0_t3_loop.trips) : Fin 2 → Nat :=
  let c8_i32_106 : BitVec 32 := 8#32
  let v222 : Index := Scalar.indexCast c8_i32_106
  let c0_i32_75 : BitVec 32 := 0#32
  let c1_i32_76 : BitVec 32 := 1#32
  let arg18 : BitVec 32 := Scf.iv c0_i32_75 c1_i32_76 k0_t3
  let c16_i32_105 : BitVec 32 := 16#32
  let v221 : BitVec 32 := Scalar.muli arg18 c16_i32_105
  let v223 : Index := Scalar.indexCast v221
  ![8, v223.toNat]
def k0_off30 (k0_t3 : Fin k0_t3_loop.trips) : Fin 2 → Nat :=
  let c9_i32_108 : BitVec 32 := 9#32
  let v226 : Index := Scalar.indexCast c9_i32_108
  let c0_i32_75 : BitVec 32 := 0#32
  let c1_i32_76 : BitVec 32 := 1#32
  let arg18 : BitVec 32 := Scf.iv c0_i32_75 c1_i32_76 k0_t3
  let c16_i32_107 : BitVec 32 := 16#32
  let v225 : BitVec 32 := Scalar.muli arg18 c16_i32_107
  let v227 : Index := Scalar.indexCast v225
  ![9, v227.toNat]
def k0_off31 (k0_t3 : Fin k0_t3_loop.trips) : Fin 2 → Nat :=
  let c10_i32_110 : BitVec 32 := 10#32
  let v230 : Index := Scalar.indexCast c10_i32_110
  let c0_i32_75 : BitVec 32 := 0#32
  let c1_i32_76 : BitVec 32 := 1#32
  let arg18 : BitVec 32 := Scf.iv c0_i32_75 c1_i32_76 k0_t3
  let c16_i32_109 : BitVec 32 := 16#32
  let v229 : BitVec 32 := Scalar.muli arg18 c16_i32_109
  let v231 : Index := Scalar.indexCast v229
  ![10, v231.toNat]
def k0_off32 (k0_t3 : Fin k0_t3_loop.trips) : Fin 2 → Nat :=
  let c11_i32_112 : BitVec 32 := 11#32
  let v234 : Index := Scalar.indexCast c11_i32_112
  let c0_i32_75 : BitVec 32 := 0#32
  let c1_i32_76 : BitVec 32 := 1#32
  let arg18 : BitVec 32 := Scf.iv c0_i32_75 c1_i32_76 k0_t3
  let c16_i32_111 : BitVec 32 := 16#32
  let v233 : BitVec 32 := Scalar.muli arg18 c16_i32_111
  let v235 : Index := Scalar.indexCast v233
  ![11, v235.toNat]
def k0_off33 (k0_t3 : Fin k0_t3_loop.trips) : Fin 2 → Nat :=
  let c12_i32_114 : BitVec 32 := 12#32
  let v238 : Index := Scalar.indexCast c12_i32_114
  let c0_i32_75 : BitVec 32 := 0#32
  let c1_i32_76 : BitVec 32 := 1#32
  let arg18 : BitVec 32 := Scf.iv c0_i32_75 c1_i32_76 k0_t3
  let c16_i32_113 : BitVec 32 := 16#32
  let v237 : BitVec 32 := Scalar.muli arg18 c16_i32_113
  let v239 : Index := Scalar.indexCast v237
  ![12, v239.toNat]
def k0_off34 (k0_t3 : Fin k0_t3_loop.trips) : Fin 2 → Nat :=
  let c13_i32_116 : BitVec 32 := 13#32
  let v242 : Index := Scalar.indexCast c13_i32_116
  let c0_i32_75 : BitVec 32 := 0#32
  let c1_i32_76 : BitVec 32 := 1#32
  let arg18 : BitVec 32 := Scf.iv c0_i32_75 c1_i32_76 k0_t3
  let c16_i32_115 : BitVec 32 := 16#32
  let v241 : BitVec 32 := Scalar.muli arg18 c16_i32_115
  let v243 : Index := Scalar.indexCast v241
  ![13, v243.toNat]
def k0_off35 (k0_t3 : Fin k0_t3_loop.trips) : Fin 2 → Nat :=
  let c14_i32_118 : BitVec 32 := 14#32
  let v246 : Index := Scalar.indexCast c14_i32_118
  let c0_i32_75 : BitVec 32 := 0#32
  let c1_i32_76 : BitVec 32 := 1#32
  let arg18 : BitVec 32 := Scf.iv c0_i32_75 c1_i32_76 k0_t3
  let c16_i32_117 : BitVec 32 := 16#32
  let v245 : BitVec 32 := Scalar.muli arg18 c16_i32_117
  let v247 : Index := Scalar.indexCast v245
  ![14, v247.toNat]
def k0_off36 (k0_t3 : Fin k0_t3_loop.trips) : Fin 2 → Nat :=
  let c15_i32_120 : BitVec 32 := 15#32
  let v250 : Index := Scalar.indexCast c15_i32_120
  let c0_i32_75 : BitVec 32 := 0#32
  let c1_i32_76 : BitVec 32 := 1#32
  let arg18 : BitVec 32 := Scf.iv c0_i32_75 c1_i32_76 k0_t3
  let c16_i32_119 : BitVec 32 := 16#32
  let v249 : BitVec 32 := Scalar.muli arg18 c16_i32_119
  let v251 : Index := Scalar.indexCast v249
  ![15, v251.toNat]

def k0_chk2 (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) : Prop :=
  (∀ (k0_h5 : k0_cond5 i k0_t1 = 1#1), ∀ a x, ((![v188, v10] : Fin 2 → IVec S16 32) a x).toNat < S192x128.size a) ∧
  (∀ (k0_h5 : k0_cond5 i k0_t1 = 1#1), ∀ a x, ((![v188, v16] : Fin 2 → IVec S16 32) a x).toNat < S192x128.size a) ∧
  (∀ (k0_h5 : k0_cond5 i k0_t1 = 1#1), ∀ a x, ((![v188, v22] : Fin 2 → IVec S16 32) a x).toNat < S192x128.size a) ∧
  (∀ (k0_h5 : k0_cond5 i k0_t1 = 1#1), ∀ a x, ((![v188, v28] : Fin 2 → IVec S16 32) a x).toNat < S192x128.size a) ∧
  (∀ (k0_h5 : k0_cond5 i k0_t1 = 1#1), ∀ a x, ((![v188, v34] : Fin 2 → IVec S16 32) a x).toNat < S192x128.size a) ∧
  (∀ (k0_h5 : k0_cond5 i k0_t1 = 1#1), ∀ a x, ((![v188, v40] : Fin 2 → IVec S16 32) a x).toNat < S192x128.size a) ∧
  (∀ (k0_h5 : k0_cond5 i k0_t1 = 1#1), ∀ a x, ((![v188, v46] : Fin 2 → IVec S16 32) a x).toNat < S192x128.size a) ∧
  (∀ (k0_h5 : k0_cond5 i k0_t1 = 1#1), ∀ a x, ((![v188, v52] : Fin 2 → IVec S16 32) a x).toNat < S192x128.size a) ∧
  (∀ (k0_h5 : k0_cond5 i k0_t1 = 1#1), ∀ a x, ((![v188, v58] : Fin 2 → IVec S16 32) a x).toNat < S192x128.size a) ∧
  (∀ (k0_h5 : k0_cond5 i k0_t1 = 1#1), ∀ a x, ((![v188, v64] : Fin 2 → IVec S16 32) a x).toNat < S192x128.size a) ∧
  (∀ (k0_h5 : k0_cond5 i k0_t1 = 1#1), ∀ a x, ((![v188, v70] : Fin 2 → IVec S16 32) a x).toNat < S192x128.size a) ∧
  (∀ (k0_h5 : k0_cond5 i k0_t1 = 1#1), ∀ a x, ((![v188, v76] : Fin 2 → IVec S16 32) a x).toNat < S192x128.size a) ∧
  (∀ (k0_h5 : k0_cond5 i k0_t1 = 1#1), ∀ a x, ((![v188, v82] : Fin 2 → IVec S16 32) a x).toNat < S192x128.size a) ∧
  (∀ (k0_h5 : k0_cond5 i k0_t1 = 1#1), ∀ a x, ((![v188, v88] : Fin 2 → IVec S16 32) a x).toNat < S192x128.size a) ∧
  (∀ (k0_h5 : k0_cond5 i k0_t1 = 1#1), ∀ a x, ((![v188, v94] : Fin 2 → IVec S16 32) a x).toNat < S192x128.size a) ∧
  (∀ (k0_h5 : k0_cond5 i k0_t1 = 1#1), ∀ a x, ((![v188, v100] : Fin 2 → IVec S16 32) a x).toNat < S192x128.size a)
theorem k0_idx17_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw2 : k0_chk2 i v10 v16 v22 v28 v34 v40 v46 v52 v58 v64 v70 v76 v82 v88 v94 v100 k0_t1 v188), ∀ (k0_h5 : k0_cond5 i k0_t1 = 1#1), ∀ a x, ((![v188, v10] : Fin 2 → IVec S16 32) a x).toNat < S192x128.size a := fun i v10 v16 v22 v28 v34 v40 v46 v52 v58 v64 v70 v76 v82 v88 v94 v100 k0_t1 v188 k0_hw2 k0_h5 => k0_hw2.1 k0_h5
theorem k0_idx18_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw2 : k0_chk2 i v10 v16 v22 v28 v34 v40 v46 v52 v58 v64 v70 v76 v82 v88 v94 v100 k0_t1 v188), ∀ (k0_h5 : k0_cond5 i k0_t1 = 1#1), ∀ a x, ((![v188, v16] : Fin 2 → IVec S16 32) a x).toNat < S192x128.size a := fun i v10 v16 v22 v28 v34 v40 v46 v52 v58 v64 v70 v76 v82 v88 v94 v100 k0_t1 v188 k0_hw2 k0_h5 => k0_hw2.2.1 k0_h5
theorem k0_idx19_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw2 : k0_chk2 i v10 v16 v22 v28 v34 v40 v46 v52 v58 v64 v70 v76 v82 v88 v94 v100 k0_t1 v188), ∀ (k0_h5 : k0_cond5 i k0_t1 = 1#1), ∀ a x, ((![v188, v22] : Fin 2 → IVec S16 32) a x).toNat < S192x128.size a := fun i v10 v16 v22 v28 v34 v40 v46 v52 v58 v64 v70 v76 v82 v88 v94 v100 k0_t1 v188 k0_hw2 k0_h5 => k0_hw2.2.2.1 k0_h5
theorem k0_idx20_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw2 : k0_chk2 i v10 v16 v22 v28 v34 v40 v46 v52 v58 v64 v70 v76 v82 v88 v94 v100 k0_t1 v188), ∀ (k0_h5 : k0_cond5 i k0_t1 = 1#1), ∀ a x, ((![v188, v28] : Fin 2 → IVec S16 32) a x).toNat < S192x128.size a := fun i v10 v16 v22 v28 v34 v40 v46 v52 v58 v64 v70 v76 v82 v88 v94 v100 k0_t1 v188 k0_hw2 k0_h5 => k0_hw2.2.2.2.1 k0_h5
theorem k0_idx21_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw2 : k0_chk2 i v10 v16 v22 v28 v34 v40 v46 v52 v58 v64 v70 v76 v82 v88 v94 v100 k0_t1 v188), ∀ (k0_h5 : k0_cond5 i k0_t1 = 1#1), ∀ a x, ((![v188, v34] : Fin 2 → IVec S16 32) a x).toNat < S192x128.size a := fun i v10 v16 v22 v28 v34 v40 v46 v52 v58 v64 v70 v76 v82 v88 v94 v100 k0_t1 v188 k0_hw2 k0_h5 => k0_hw2.2.2.2.2.1 k0_h5
theorem k0_idx22_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw2 : k0_chk2 i v10 v16 v22 v28 v34 v40 v46 v52 v58 v64 v70 v76 v82 v88 v94 v100 k0_t1 v188), ∀ (k0_h5 : k0_cond5 i k0_t1 = 1#1), ∀ a x, ((![v188, v40] : Fin 2 → IVec S16 32) a x).toNat < S192x128.size a := fun i v10 v16 v22 v28 v34 v40 v46 v52 v58 v64 v70 v76 v82 v88 v94 v100 k0_t1 v188 k0_hw2 k0_h5 => k0_hw2.2.2.2.2.2.1 k0_h5
theorem k0_idx23_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw2 : k0_chk2 i v10 v16 v22 v28 v34 v40 v46 v52 v58 v64 v70 v76 v82 v88 v94 v100 k0_t1 v188), ∀ (k0_h5 : k0_cond5 i k0_t1 = 1#1), ∀ a x, ((![v188, v46] : Fin 2 → IVec S16 32) a x).toNat < S192x128.size a := fun i v10 v16 v22 v28 v34 v40 v46 v52 v58 v64 v70 v76 v82 v88 v94 v100 k0_t1 v188 k0_hw2 k0_h5 => k0_hw2.2.2.2.2.2.2.1 k0_h5
theorem k0_idx24_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw2 : k0_chk2 i v10 v16 v22 v28 v34 v40 v46 v52 v58 v64 v70 v76 v82 v88 v94 v100 k0_t1 v188), ∀ (k0_h5 : k0_cond5 i k0_t1 = 1#1), ∀ a x, ((![v188, v52] : Fin 2 → IVec S16 32) a x).toNat < S192x128.size a := fun i v10 v16 v22 v28 v34 v40 v46 v52 v58 v64 v70 v76 v82 v88 v94 v100 k0_t1 v188 k0_hw2 k0_h5 => k0_hw2.2.2.2.2.2.2.2.1 k0_h5
theorem k0_idx25_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw2 : k0_chk2 i v10 v16 v22 v28 v34 v40 v46 v52 v58 v64 v70 v76 v82 v88 v94 v100 k0_t1 v188), ∀ (k0_h5 : k0_cond5 i k0_t1 = 1#1), ∀ a x, ((![v188, v58] : Fin 2 → IVec S16 32) a x).toNat < S192x128.size a := fun i v10 v16 v22 v28 v34 v40 v46 v52 v58 v64 v70 v76 v82 v88 v94 v100 k0_t1 v188 k0_hw2 k0_h5 => k0_hw2.2.2.2.2.2.2.2.2.1 k0_h5
theorem k0_idx26_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw2 : k0_chk2 i v10 v16 v22 v28 v34 v40 v46 v52 v58 v64 v70 v76 v82 v88 v94 v100 k0_t1 v188), ∀ (k0_h5 : k0_cond5 i k0_t1 = 1#1), ∀ a x, ((![v188, v64] : Fin 2 → IVec S16 32) a x).toNat < S192x128.size a := fun i v10 v16 v22 v28 v34 v40 v46 v52 v58 v64 v70 v76 v82 v88 v94 v100 k0_t1 v188 k0_hw2 k0_h5 => k0_hw2.2.2.2.2.2.2.2.2.2.1 k0_h5
theorem k0_idx27_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw2 : k0_chk2 i v10 v16 v22 v28 v34 v40 v46 v52 v58 v64 v70 v76 v82 v88 v94 v100 k0_t1 v188), ∀ (k0_h5 : k0_cond5 i k0_t1 = 1#1), ∀ a x, ((![v188, v70] : Fin 2 → IVec S16 32) a x).toNat < S192x128.size a := fun i v10 v16 v22 v28 v34 v40 v46 v52 v58 v64 v70 v76 v82 v88 v94 v100 k0_t1 v188 k0_hw2 k0_h5 => k0_hw2.2.2.2.2.2.2.2.2.2.2.1 k0_h5
theorem k0_idx28_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw2 : k0_chk2 i v10 v16 v22 v28 v34 v40 v46 v52 v58 v64 v70 v76 v82 v88 v94 v100 k0_t1 v188), ∀ (k0_h5 : k0_cond5 i k0_t1 = 1#1), ∀ a x, ((![v188, v76] : Fin 2 → IVec S16 32) a x).toNat < S192x128.size a := fun i v10 v16 v22 v28 v34 v40 v46 v52 v58 v64 v70 v76 v82 v88 v94 v100 k0_t1 v188 k0_hw2 k0_h5 => k0_hw2.2.2.2.2.2.2.2.2.2.2.2.1 k0_h5
theorem k0_idx29_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw2 : k0_chk2 i v10 v16 v22 v28 v34 v40 v46 v52 v58 v64 v70 v76 v82 v88 v94 v100 k0_t1 v188), ∀ (k0_h5 : k0_cond5 i k0_t1 = 1#1), ∀ a x, ((![v188, v82] : Fin 2 → IVec S16 32) a x).toNat < S192x128.size a := fun i v10 v16 v22 v28 v34 v40 v46 v52 v58 v64 v70 v76 v82 v88 v94 v100 k0_t1 v188 k0_hw2 k0_h5 => k0_hw2.2.2.2.2.2.2.2.2.2.2.2.2.1 k0_h5
theorem k0_idx30_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw2 : k0_chk2 i v10 v16 v22 v28 v34 v40 v46 v52 v58 v64 v70 v76 v82 v88 v94 v100 k0_t1 v188), ∀ (k0_h5 : k0_cond5 i k0_t1 = 1#1), ∀ a x, ((![v188, v88] : Fin 2 → IVec S16 32) a x).toNat < S192x128.size a := fun i v10 v16 v22 v28 v34 v40 v46 v52 v58 v64 v70 v76 v82 v88 v94 v100 k0_t1 v188 k0_hw2 k0_h5 => k0_hw2.2.2.2.2.2.2.2.2.2.2.2.2.2.1 k0_h5
theorem k0_idx31_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw2 : k0_chk2 i v10 v16 v22 v28 v34 v40 v46 v52 v58 v64 v70 v76 v82 v88 v94 v100 k0_t1 v188), ∀ (k0_h5 : k0_cond5 i k0_t1 = 1#1), ∀ a x, ((![v188, v94] : Fin 2 → IVec S16 32) a x).toNat < S192x128.size a := fun i v10 v16 v22 v28 v34 v40 v46 v52 v58 v64 v70 v76 v82 v88 v94 v100 k0_t1 v188 k0_hw2 k0_h5 => k0_hw2.2.2.2.2.2.2.2.2.2.2.2.2.2.2.1 k0_h5
theorem k0_idx32_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t1 : Fin (k0_t1_loop i).trips) (v188 : IVec S16 32) (k0_hw2 : k0_chk2 i v10 v16 v22 v28 v34 v40 v46 v52 v58 v64 v70 v76 v82 v88 v94 v100 k0_t1 v188), ∀ (k0_h5 : k0_cond5 i k0_t1 = 1#1), ∀ a x, ((![v188, v100] : Fin 2 → IVec S16 32) a x).toNat < S192x128.size a := fun i v10 v16 v22 v28 v34 v40 v46 v52 v58 v64 v70 v76 v82 v88 v94 v100 k0_t1 v188 k0_hw2 k0_h5 => k0_hw2.2.2.2.2.2.2.2.2.2.2.2.2.2.2.2 k0_h5
def k0_mult6 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_61 : BitVec 32 := 2#32
  let c0_i32_46 : BitVec 32 := 0#32
  let c1_i32_48 : BitVec 32 := 1#32
  let arg17 : BitVec 32 := Scf.iv c0_i32_46 c1_i32_48 k0_t1
  let v141 : BitVec 32 := Scalar.muli c2_i32_61 arg17
  let c1_i32_62 : BitVec 32 := 1#32
  let v142 : BitVec 32 := Scalar.addi v141 c1_i32_62
  let c32_i32 : BitVec 32 := 32#32
  let v162 : BitVec 32 := Scalar.muli v142 c32_i32
  let v163 : BitVec 32 := Scalar.addi v1 v162
  let c1536_i32_78 : BitVec 32 := 1536#32
  let v164 : BitVec 32 := Scalar.muli v163 c1536_i32_78
  v164
def k0_mult7 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_61 : BitVec 32 := 2#32
  let c0_i32_46 : BitVec 32 := 0#32
  let c1_i32_48 : BitVec 32 := 1#32
  let arg17 : BitVec 32 := Scf.iv c0_i32_46 c1_i32_48 k0_t1
  let v141 : BitVec 32 := Scalar.muli c2_i32_61 arg17
  let c1_i32_62 : BitVec 32 := 1#32
  let v142 : BitVec 32 := Scalar.addi v141 c1_i32_62
  let c32_i32 : BitVec 32 := 32#32
  let v162 : BitVec 32 := Scalar.muli v142 c32_i32
  let v163 : BitVec 32 := Scalar.addi v1 v162
  let c1536_i32_78 : BitVec 32 := 1536#32
  let v164 : BitVec 32 := Scalar.muli v163 c1536_i32_78
  let v165 : BitVec 32 := v164
  let c0_i32_80 : BitVec 32 := 0#32
  let v167 : BitVec 1 := Scalar.cmpi .sgt v165 c0_i32_80
  let v168 : BitVec 32 := Scalar.extui v167
  let c0_i32_81 : BitVec 32 := 0#32
  let v169 : BitVec 1 := Scalar.cmpi .slt v165 c0_i32_81
  let v170 : BitVec 32 := Scalar.extui v169
  let v171 : BitVec 32 := Scalar.subi v168 v170
  let c8_i32_79 : BitVec 32 := 8#32
  let c0_i32_82 : BitVec 32 := 0#32
  let v172 : BitVec 1 := Scalar.cmpi .sgt c8_i32_79 c0_i32_82
  let v173 : BitVec 32 := Scalar.extui v172
  let c0_i32_83 : BitVec 32 := 0#32
  let v174 : BitVec 1 := Scalar.cmpi .slt c8_i32_79 c0_i32_83
  let v175 : BitVec 32 := Scalar.extui v174
  let v176 : BitVec 32 := Scalar.subi v173 v175
  let v177 : BitVec 1 := Scalar.cmpi .ne v171 v176
  let v178 : BitVec 32 := Scalar.remsi v165 c8_i32_79
  let c0_i32_84 : BitVec 32 := 0#32
  let v179 : BitVec 1 := Scalar.cmpi .ne v178 c0_i32_84
  let v180 : BitVec 1 := Scalar.andi v177 v179
  let v166 : BitVec 32 := Scalar.divsi v165 c8_i32_79
  let c1_i32_85 : BitVec 32 := 1#32
  let v181 : BitVec 32 := Scalar.subi v166 c1_i32_85
  let v182 : BitVec 32 := Scalar.select v180 v181 v166
  v182
def k0_off37 (i : grid0.Coords) (k0_t1 : Fin (k0_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_61 : BitVec 32 := 2#32
  let c0_i32_46 : BitVec 32 := 0#32
  let c1_i32_48 : BitVec 32 := 1#32
  let arg17 : BitVec 32 := Scf.iv c0_i32_46 c1_i32_48 k0_t1
  let v141 : BitVec 32 := Scalar.muli c2_i32_61 arg17
  let c1_i32_62 : BitVec 32 := 1#32
  let v142 : BitVec 32 := Scalar.addi v141 c1_i32_62
  let c32_i32 : BitVec 32 := 32#32
  let v162 : BitVec 32 := Scalar.muli v142 c32_i32
  let v163 : BitVec 32 := Scalar.addi v1 v162
  let c1536_i32_78 : BitVec 32 := 1536#32
  let v164 : BitVec 32 := Scalar.muli v163 c1536_i32_78
  let v165 : BitVec 32 := v164
  let c0_i32_80 : BitVec 32 := 0#32
  let v167 : BitVec 1 := Scalar.cmpi .sgt v165 c0_i32_80
  let v168 : BitVec 32 := Scalar.extui v167
  let c0_i32_81 : BitVec 32 := 0#32
  let v169 : BitVec 1 := Scalar.cmpi .slt v165 c0_i32_81
  let v170 : BitVec 32 := Scalar.extui v169
  let v171 : BitVec 32 := Scalar.subi v168 v170
  let c8_i32_79 : BitVec 32 := 8#32
  let c0_i32_82 : BitVec 32 := 0#32
  let v172 : BitVec 1 := Scalar.cmpi .sgt c8_i32_79 c0_i32_82
  let v173 : BitVec 32 := Scalar.extui v172
  let c0_i32_83 : BitVec 32 := 0#32
  let v174 : BitVec 1 := Scalar.cmpi .slt c8_i32_79 c0_i32_83
  let v175 : BitVec 32 := Scalar.extui v174
  let v176 : BitVec 32 := Scalar.subi v173 v175
  let v177 : BitVec 1 := Scalar.cmpi .ne v171 v176
  let v178 : BitVec 32 := Scalar.remsi v165 c8_i32_79
  let c0_i32_84 : BitVec 32 := 0#32
  let v179 : BitVec 1 := Scalar.cmpi .ne v178 c0_i32_84
  let v180 : BitVec 1 := Scalar.andi v177 v179
  let v166 : BitVec 32 := Scalar.divsi v165 c8_i32_79
  let c1_i32_85 : BitVec 32 := 1#32
  let v181 : BitVec 32 := Scalar.subi v166 c1_i32_85
  let v182 : BitVec 32 := Scalar.select v180 v181 v166
  let v183 : BitVec 32 := v182
  let c0_i32_86 : BitVec 32 := 0#32
  ![v183.toNat, 0]
@[reducible] def k0_t4_loop (i : grid0.Coords) : Scf.Loop 32 :=
  let c0_i32_46 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11_i32_33 : BitVec 32 := 11#32
  let v101 : BitVec 1 := Scalar.cmpi .slt v1 c11_i32_33
  let c21_i32 : BitVec 32 := 21#32
  let c20_i32 : BitVec 32 := 20#32
  let v102 : BitVec 32 := Scalar.select v101 c21_i32 c20_i32
  let c1_i32_37 : BitVec 32 := 1#32
  let v108 : BitVec 32 := Scalar.addi v102 c1_i32_37
  let c0_i32_39 : BitVec 32 := 0#32
  let v110 : BitVec 1 := Scalar.cmpi .sgt v108 c0_i32_39
  let v111 : BitVec 32 := Scalar.extui v110
  let c0_i32_40 : BitVec 32 := 0#32
  let v112 : BitVec 1 := Scalar.cmpi .slt v108 c0_i32_40
  let v113 : BitVec 32 := Scalar.extui v112
  let v114 : BitVec 32 := Scalar.subi v111 v113
  let c2_i32_38 : BitVec 32 := 2#32
  let c0_i32_41 : BitVec 32 := 0#32
  let v115 : BitVec 1 := Scalar.cmpi .sgt c2_i32_38 c0_i32_41
  let v116 : BitVec 32 := Scalar.extui v115
  let c0_i32_42 : BitVec 32 := 0#32
  let v117 : BitVec 1 := Scalar.cmpi .slt c2_i32_38 c0_i32_42
  let v118 : BitVec 32 := Scalar.extui v117
  let v119 : BitVec 32 := Scalar.subi v116 v118
  let v120 : BitVec 1 := Scalar.cmpi .ne v114 v119
  let v121 : BitVec 32 := Scalar.remsi v108 c2_i32_38
  let c0_i32_43 : BitVec 32 := 0#32
  let v122 : BitVec 1 := Scalar.cmpi .ne v121 c0_i32_43
  let v123 : BitVec 1 := Scalar.andi v120 v122
  let v109 : BitVec 32 := Scalar.divsi v108 c2_i32_38
  let c1_i32_44 : BitVec 32 := 1#32
  let v124 : BitVec 32 := Scalar.subi v109 c1_i32_44
  let v125 : BitVec 32 := Scalar.select v123 v124 v109
  let v126 : BitVec 32 := Scalar.subi v125 c0_i32_46
  let c1_i32_47 : BitVec 32 := 1#32
  let v128 : BitVec 32 := Scalar.divsi v126 c1_i32_47
  let v129 : BitVec 32 := Scalar.muli v128 c1_i32_47
  let v130 : BitVec 32 := Scalar.addi c0_i32_46 v129
  let v127 : BitVec 32 := Scalar.addi c0_i32_46 v126
  let c1_i32_49 : BitVec 32 := 1#32
  ⟨v130, v127, c1_i32_49⟩
def k0_cond7 (i : grid0.Coords) (k0_t4 : Fin (k0_t4_loop i).trips) : BitVec 1 :=
  let c2_i32_61 : BitVec 32 := 2#32
  let c0_i32_46 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11_i32_33 : BitVec 32 := 11#32
  let v101 : BitVec 1 := Scalar.cmpi .slt v1 c11_i32_33
  let c21_i32 : BitVec 32 := 21#32
  let c20_i32 : BitVec 32 := 20#32
  let v102 : BitVec 32 := Scalar.select v101 c21_i32 c20_i32
  let c1_i32_37 : BitVec 32 := 1#32
  let v108 : BitVec 32 := Scalar.addi v102 c1_i32_37
  let c0_i32_39 : BitVec 32 := 0#32
  let v110 : BitVec 1 := Scalar.cmpi .sgt v108 c0_i32_39
  let v111 : BitVec 32 := Scalar.extui v110
  let c0_i32_40 : BitVec 32 := 0#32
  let v112 : BitVec 1 := Scalar.cmpi .slt v108 c0_i32_40
  let v113 : BitVec 32 := Scalar.extui v112
  let v114 : BitVec 32 := Scalar.subi v111 v113
  let c2_i32_38 : BitVec 32 := 2#32
  let c0_i32_41 : BitVec 32 := 0#32
  let v115 : BitVec 1 := Scalar.cmpi .sgt c2_i32_38 c0_i32_41
  let v116 : BitVec 32 := Scalar.extui v115
  let c0_i32_42 : BitVec 32 := 0#32
  let v117 : BitVec 1 := Scalar.cmpi .slt c2_i32_38 c0_i32_42
  let v118 : BitVec 32 := Scalar.extui v117
  let v119 : BitVec 32 := Scalar.subi v116 v118
  let v120 : BitVec 1 := Scalar.cmpi .ne v114 v119
  let v121 : BitVec 32 := Scalar.remsi v108 c2_i32_38
  let c0_i32_43 : BitVec 32 := 0#32
  let v122 : BitVec 1 := Scalar.cmpi .ne v121 c0_i32_43
  let v123 : BitVec 1 := Scalar.andi v120 v122
  let v109 : BitVec 32 := Scalar.divsi v108 c2_i32_38
  let c1_i32_44 : BitVec 32 := 1#32
  let v124 : BitVec 32 := Scalar.subi v109 c1_i32_44
  let v125 : BitVec 32 := Scalar.select v123 v124 v109
  let v126 : BitVec 32 := Scalar.subi v125 c0_i32_46
  let c1_i32_47 : BitVec 32 := 1#32
  let v128 : BitVec 32 := Scalar.divsi v126 c1_i32_47
  let v129 : BitVec 32 := Scalar.muli v128 c1_i32_47
  let v130 : BitVec 32 := Scalar.addi c0_i32_46 v129
  let c1_i32_49 : BitVec 32 := 1#32
  let arg17 : BitVec 32 := Scf.iv v130 c1_i32_49 k0_t4
  let v141 : BitVec 32 := Scalar.muli c2_i32_61 arg17
  let c1_i32_62 : BitVec 32 := 1#32
  let v142 : BitVec 32 := Scalar.addi v141 c1_i32_62
  let v143 : BitVec 1 := Scalar.cmpi .slt v142 v102
  let v144 : BitVec 32 := Scalar.extui v143
  let c0_i32_63 : BitVec 32 := 0#32
  let v145 : BitVec 1 := Scalar.cmpi .ne v144 c0_i32_63
  v145

def k0_mult8 (i : grid0.Coords) (k0_t4 : Fin (k0_t4_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_61 : BitVec 32 := 2#32
  let c0_i32_46 : BitVec 32 := 0#32
  let c11_i32_33 : BitVec 32 := 11#32
  let v101 : BitVec 1 := Scalar.cmpi .slt v1 c11_i32_33
  let c21_i32 : BitVec 32 := 21#32
  let c20_i32 : BitVec 32 := 20#32
  let v102 : BitVec 32 := Scalar.select v101 c21_i32 c20_i32
  let c1_i32_37 : BitVec 32 := 1#32
  let v108 : BitVec 32 := Scalar.addi v102 c1_i32_37
  let c0_i32_39 : BitVec 32 := 0#32
  let v110 : BitVec 1 := Scalar.cmpi .sgt v108 c0_i32_39
  let v111 : BitVec 32 := Scalar.extui v110
  let c0_i32_40 : BitVec 32 := 0#32
  let v112 : BitVec 1 := Scalar.cmpi .slt v108 c0_i32_40
  let v113 : BitVec 32 := Scalar.extui v112
  let v114 : BitVec 32 := Scalar.subi v111 v113
  let c2_i32_38 : BitVec 32 := 2#32
  let c0_i32_41 : BitVec 32 := 0#32
  let v115 : BitVec 1 := Scalar.cmpi .sgt c2_i32_38 c0_i32_41
  let v116 : BitVec 32 := Scalar.extui v115
  let c0_i32_42 : BitVec 32 := 0#32
  let v117 : BitVec 1 := Scalar.cmpi .slt c2_i32_38 c0_i32_42
  let v118 : BitVec 32 := Scalar.extui v117
  let v119 : BitVec 32 := Scalar.subi v116 v118
  let v120 : BitVec 1 := Scalar.cmpi .ne v114 v119
  let v121 : BitVec 32 := Scalar.remsi v108 c2_i32_38
  let c0_i32_43 : BitVec 32 := 0#32
  let v122 : BitVec 1 := Scalar.cmpi .ne v121 c0_i32_43
  let v123 : BitVec 1 := Scalar.andi v120 v122
  let v109 : BitVec 32 := Scalar.divsi v108 c2_i32_38
  let c1_i32_44 : BitVec 32 := 1#32
  let v124 : BitVec 32 := Scalar.subi v109 c1_i32_44
  let v125 : BitVec 32 := Scalar.select v123 v124 v109
  let v126 : BitVec 32 := Scalar.subi v125 c0_i32_46
  let c1_i32_47 : BitVec 32 := 1#32
  let v128 : BitVec 32 := Scalar.divsi v126 c1_i32_47
  let v129 : BitVec 32 := Scalar.muli v128 c1_i32_47
  let v130 : BitVec 32 := Scalar.addi c0_i32_46 v129
  let c1_i32_49 : BitVec 32 := 1#32
  let arg17 : BitVec 32 := Scf.iv v130 c1_i32_49 k0_t4
  let v141 : BitVec 32 := Scalar.muli c2_i32_61 arg17
  let c1_i32_62 : BitVec 32 := 1#32
  let v142 : BitVec 32 := Scalar.addi v141 c1_i32_62
  let c32_i32 : BitVec 32 := 32#32
  let v156 : BitVec 32 := Scalar.muli v142 c32_i32
  let v157 : BitVec 32 := Scalar.addi v1 v156
  let c1536_i32_68 : BitVec 32 := 1536#32
  let v158 : BitVec 32 := Scalar.muli v157 c1536_i32_68
  v158
def k0_off38 (i : grid0.Coords) (k0_t4 : Fin (k0_t4_loop i).trips) : Fin 2 → Nat :=
  let c0_i32_69 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_61 : BitVec 32 := 2#32
  let c0_i32_46 : BitVec 32 := 0#32
  let c11_i32_33 : BitVec 32 := 11#32
  let v101 : BitVec 1 := Scalar.cmpi .slt v1 c11_i32_33
  let c21_i32 : BitVec 32 := 21#32
  let c20_i32 : BitVec 32 := 20#32
  let v102 : BitVec 32 := Scalar.select v101 c21_i32 c20_i32
  let c1_i32_37 : BitVec 32 := 1#32
  let v108 : BitVec 32 := Scalar.addi v102 c1_i32_37
  let c0_i32_39 : BitVec 32 := 0#32
  let v110 : BitVec 1 := Scalar.cmpi .sgt v108 c0_i32_39
  let v111 : BitVec 32 := Scalar.extui v110
  let c0_i32_40 : BitVec 32 := 0#32
  let v112 : BitVec 1 := Scalar.cmpi .slt v108 c0_i32_40
  let v113 : BitVec 32 := Scalar.extui v112
  let v114 : BitVec 32 := Scalar.subi v111 v113
  let c2_i32_38 : BitVec 32 := 2#32
  let c0_i32_41 : BitVec 32 := 0#32
  let v115 : BitVec 1 := Scalar.cmpi .sgt c2_i32_38 c0_i32_41
  let v116 : BitVec 32 := Scalar.extui v115
  let c0_i32_42 : BitVec 32 := 0#32
  let v117 : BitVec 1 := Scalar.cmpi .slt c2_i32_38 c0_i32_42
  let v118 : BitVec 32 := Scalar.extui v117
  let v119 : BitVec 32 := Scalar.subi v116 v118
  let v120 : BitVec 1 := Scalar.cmpi .ne v114 v119
  let v121 : BitVec 32 := Scalar.remsi v108 c2_i32_38
  let c0_i32_43 : BitVec 32 := 0#32
  let v122 : BitVec 1 := Scalar.cmpi .ne v121 c0_i32_43
  let v123 : BitVec 1 := Scalar.andi v120 v122
  let v109 : BitVec 32 := Scalar.divsi v108 c2_i32_38
  let c1_i32_44 : BitVec 32 := 1#32
  let v124 : BitVec 32 := Scalar.subi v109 c1_i32_44
  let v125 : BitVec 32 := Scalar.select v123 v124 v109
  let v126 : BitVec 32 := Scalar.subi v125 c0_i32_46
  let c1_i32_47 : BitVec 32 := 1#32
  let v128 : BitVec 32 := Scalar.divsi v126 c1_i32_47
  let v129 : BitVec 32 := Scalar.muli v128 c1_i32_47
  let v130 : BitVec 32 := Scalar.addi c0_i32_46 v129
  let c1_i32_49 : BitVec 32 := 1#32
  let arg17 : BitVec 32 := Scf.iv v130 c1_i32_49 k0_t4
  let v141 : BitVec 32 := Scalar.muli c2_i32_61 arg17
  let c1_i32_62 : BitVec 32 := 1#32
  let v142 : BitVec 32 := Scalar.addi v141 c1_i32_62
  let c32_i32 : BitVec 32 := 32#32
  let v156 : BitVec 32 := Scalar.muli v142 c32_i32
  let v157 : BitVec 32 := Scalar.addi v1 v156
  let c1536_i32_68 : BitVec 32 := 1536#32
  let v158 : BitVec 32 := Scalar.muli v157 c1536_i32_68
  let v159 : BitVec 32 := v158
  ![0, v159.toNat]
def k0_cond8 (i : grid0.Coords) (k0_t4 : Fin (k0_t4_loop i).trips) : BitVec 1 :=
  let c2_i32_61 : BitVec 32 := 2#32
  let c0_i32_46 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11_i32_33 : BitVec 32 := 11#32
  let v101 : BitVec 1 := Scalar.cmpi .slt v1 c11_i32_33
  let c21_i32 : BitVec 32 := 21#32
  let c20_i32 : BitVec 32 := 20#32
  let v102 : BitVec 32 := Scalar.select v101 c21_i32 c20_i32
  let c1_i32_37 : BitVec 32 := 1#32
  let v108 : BitVec 32 := Scalar.addi v102 c1_i32_37
  let c0_i32_39 : BitVec 32 := 0#32
  let v110 : BitVec 1 := Scalar.cmpi .sgt v108 c0_i32_39
  let v111 : BitVec 32 := Scalar.extui v110
  let c0_i32_40 : BitVec 32 := 0#32
  let v112 : BitVec 1 := Scalar.cmpi .slt v108 c0_i32_40
  let v113 : BitVec 32 := Scalar.extui v112
  let v114 : BitVec 32 := Scalar.subi v111 v113
  let c2_i32_38 : BitVec 32 := 2#32
  let c0_i32_41 : BitVec 32 := 0#32
  let v115 : BitVec 1 := Scalar.cmpi .sgt c2_i32_38 c0_i32_41
  let v116 : BitVec 32 := Scalar.extui v115
  let c0_i32_42 : BitVec 32 := 0#32
  let v117 : BitVec 1 := Scalar.cmpi .slt c2_i32_38 c0_i32_42
  let v118 : BitVec 32 := Scalar.extui v117
  let v119 : BitVec 32 := Scalar.subi v116 v118
  let v120 : BitVec 1 := Scalar.cmpi .ne v114 v119
  let v121 : BitVec 32 := Scalar.remsi v108 c2_i32_38
  let c0_i32_43 : BitVec 32 := 0#32
  let v122 : BitVec 1 := Scalar.cmpi .ne v121 c0_i32_43
  let v123 : BitVec 1 := Scalar.andi v120 v122
  let v109 : BitVec 32 := Scalar.divsi v108 c2_i32_38
  let c1_i32_44 : BitVec 32 := 1#32
  let v124 : BitVec 32 := Scalar.subi v109 c1_i32_44
  let v125 : BitVec 32 := Scalar.select v123 v124 v109
  let v126 : BitVec 32 := Scalar.subi v125 c0_i32_46
  let c1_i32_47 : BitVec 32 := 1#32
  let v128 : BitVec 32 := Scalar.divsi v126 c1_i32_47
  let v129 : BitVec 32 := Scalar.muli v128 c1_i32_47
  let v130 : BitVec 32 := Scalar.addi c0_i32_46 v129
  let c1_i32_49 : BitVec 32 := 1#32
  let arg17 : BitVec 32 := Scf.iv v130 c1_i32_49 k0_t4
  let v141 : BitVec 32 := Scalar.muli c2_i32_61 arg17
  let v146 : BitVec 1 := Scalar.cmpi .slt v141 v102
  let v147 : BitVec 32 := Scalar.extui v146
  let c0_i32_64 : BitVec 32 := 0#32
  let v148 : BitVec 1 := Scalar.cmpi .ne v147 c0_i32_64
  v148

@[reducible] def k0_t5_loop : Scf.Loop 32 :=
  let c0_i32_75 : BitVec 32 := 0#32
  let c96_i32 : BitVec 32 := 96#32
  let v161 : BitVec 32 := Scalar.addi c0_i32_75 c96_i32
  let c1_i32_76 : BitVec 32 := 1#32
  ⟨c0_i32_75, v161, c1_i32_76⟩
def k0_off39 (k0_t5 : Fin k0_t5_loop.trips) : Fin 2 → Nat :=
  let c0_i32_90 : BitVec 32 := 0#32
  let v190 : Index := Scalar.indexCast c0_i32_90
  let c0_i32_75 : BitVec 32 := 0#32
  let c1_i32_76 : BitVec 32 := 1#32
  let arg18 : BitVec 32 := Scf.iv c0_i32_75 c1_i32_76 k0_t5
  let c16_i32_89 : BitVec 32 := 16#32
  let v189 : BitVec 32 := Scalar.muli arg18 c16_i32_89
  let v191 : Index := Scalar.indexCast v189
  ![0, v191.toNat]
def k0_off40 (k0_t5 : Fin k0_t5_loop.trips) : Fin 2 → Nat :=
  let c1_i32_92 : BitVec 32 := 1#32
  let v194 : Index := Scalar.indexCast c1_i32_92
  let c0_i32_75 : BitVec 32 := 0#32
  let c1_i32_76 : BitVec 32 := 1#32
  let arg18 : BitVec 32 := Scf.iv c0_i32_75 c1_i32_76 k0_t5
  let c16_i32_91 : BitVec 32 := 16#32
  let v193 : BitVec 32 := Scalar.muli arg18 c16_i32_91
  let v195 : Index := Scalar.indexCast v193
  ![1, v195.toNat]
def k0_off41 (k0_t5 : Fin k0_t5_loop.trips) : Fin 2 → Nat :=
  let c2_i32_94 : BitVec 32 := 2#32
  let v198 : Index := Scalar.indexCast c2_i32_94
  let c0_i32_75 : BitVec 32 := 0#32
  let c1_i32_76 : BitVec 32 := 1#32
  let arg18 : BitVec 32 := Scf.iv c0_i32_75 c1_i32_76 k0_t5
  let c16_i32_93 : BitVec 32 := 16#32
  let v197 : BitVec 32 := Scalar.muli arg18 c16_i32_93
  let v199 : Index := Scalar.indexCast v197
  ![2, v199.toNat]
def k0_off42 (k0_t5 : Fin k0_t5_loop.trips) : Fin 2 → Nat :=
  let c3_i32_96 : BitVec 32 := 3#32
  let v202 : Index := Scalar.indexCast c3_i32_96
  let c0_i32_75 : BitVec 32 := 0#32
  let c1_i32_76 : BitVec 32 := 1#32
  let arg18 : BitVec 32 := Scf.iv c0_i32_75 c1_i32_76 k0_t5
  let c16_i32_95 : BitVec 32 := 16#32
  let v201 : BitVec 32 := Scalar.muli arg18 c16_i32_95
  let v203 : Index := Scalar.indexCast v201
  ![3, v203.toNat]
def k0_off43 (k0_t5 : Fin k0_t5_loop.trips) : Fin 2 → Nat :=
  let c4_i32_98 : BitVec 32 := 4#32
  let v206 : Index := Scalar.indexCast c4_i32_98
  let c0_i32_75 : BitVec 32 := 0#32
  let c1_i32_76 : BitVec 32 := 1#32
  let arg18 : BitVec 32 := Scf.iv c0_i32_75 c1_i32_76 k0_t5
  let c16_i32_97 : BitVec 32 := 16#32
  let v205 : BitVec 32 := Scalar.muli arg18 c16_i32_97
  let v207 : Index := Scalar.indexCast v205
  ![4, v207.toNat]
def k0_off44 (k0_t5 : Fin k0_t5_loop.trips) : Fin 2 → Nat :=
  let c5_i32_100 : BitVec 32 := 5#32
  let v210 : Index := Scalar.indexCast c5_i32_100
  let c0_i32_75 : BitVec 32 := 0#32
  let c1_i32_76 : BitVec 32 := 1#32
  let arg18 : BitVec 32 := Scf.iv c0_i32_75 c1_i32_76 k0_t5
  let c16_i32_99 : BitVec 32 := 16#32
  let v209 : BitVec 32 := Scalar.muli arg18 c16_i32_99
  let v211 : Index := Scalar.indexCast v209
  ![5, v211.toNat]
def k0_off45 (k0_t5 : Fin k0_t5_loop.trips) : Fin 2 → Nat :=
  let c6_i32_102 : BitVec 32 := 6#32
  let v214 : Index := Scalar.indexCast c6_i32_102
  let c0_i32_75 : BitVec 32 := 0#32
  let c1_i32_76 : BitVec 32 := 1#32
  let arg18 : BitVec 32 := Scf.iv c0_i32_75 c1_i32_76 k0_t5
  let c16_i32_101 : BitVec 32 := 16#32
  let v213 : BitVec 32 := Scalar.muli arg18 c16_i32_101
  let v215 : Index := Scalar.indexCast v213
  ![6, v215.toNat]
def k0_off46 (k0_t5 : Fin k0_t5_loop.trips) : Fin 2 → Nat :=
  let c7_i32_104 : BitVec 32 := 7#32
  let v218 : Index := Scalar.indexCast c7_i32_104
  let c0_i32_75 : BitVec 32 := 0#32
  let c1_i32_76 : BitVec 32 := 1#32
  let arg18 : BitVec 32 := Scf.iv c0_i32_75 c1_i32_76 k0_t5
  let c16_i32_103 : BitVec 32 := 16#32
  let v217 : BitVec 32 := Scalar.muli arg18 c16_i32_103
  let v219 : Index := Scalar.indexCast v217
  ![7, v219.toNat]
def k0_off47 (k0_t5 : Fin k0_t5_loop.trips) : Fin 2 → Nat :=
  let c8_i32_106 : BitVec 32 := 8#32
  let v222 : Index := Scalar.indexCast c8_i32_106
  let c0_i32_75 : BitVec 32 := 0#32
  let c1_i32_76 : BitVec 32 := 1#32
  let arg18 : BitVec 32 := Scf.iv c0_i32_75 c1_i32_76 k0_t5
  let c16_i32_105 : BitVec 32 := 16#32
  let v221 : BitVec 32 := Scalar.muli arg18 c16_i32_105
  let v223 : Index := Scalar.indexCast v221
  ![8, v223.toNat]
def k0_off48 (k0_t5 : Fin k0_t5_loop.trips) : Fin 2 → Nat :=
  let c9_i32_108 : BitVec 32 := 9#32
  let v226 : Index := Scalar.indexCast c9_i32_108
  let c0_i32_75 : BitVec 32 := 0#32
  let c1_i32_76 : BitVec 32 := 1#32
  let arg18 : BitVec 32 := Scf.iv c0_i32_75 c1_i32_76 k0_t5
  let c16_i32_107 : BitVec 32 := 16#32
  let v225 : BitVec 32 := Scalar.muli arg18 c16_i32_107
  let v227 : Index := Scalar.indexCast v225
  ![9, v227.toNat]
def k0_off49 (k0_t5 : Fin k0_t5_loop.trips) : Fin 2 → Nat :=
  let c10_i32_110 : BitVec 32 := 10#32
  let v230 : Index := Scalar.indexCast c10_i32_110
  let c0_i32_75 : BitVec 32 := 0#32
  let c1_i32_76 : BitVec 32 := 1#32
  let arg18 : BitVec 32 := Scf.iv c0_i32_75 c1_i32_76 k0_t5
  let c16_i32_109 : BitVec 32 := 16#32
  let v229 : BitVec 32 := Scalar.muli arg18 c16_i32_109
  let v231 : Index := Scalar.indexCast v229
  ![10, v231.toNat]
def k0_off50 (k0_t5 : Fin k0_t5_loop.trips) : Fin 2 → Nat :=
  let c11_i32_112 : BitVec 32 := 11#32
  let v234 : Index := Scalar.indexCast c11_i32_112
  let c0_i32_75 : BitVec 32 := 0#32
  let c1_i32_76 : BitVec 32 := 1#32
  let arg18 : BitVec 32 := Scf.iv c0_i32_75 c1_i32_76 k0_t5
  let c16_i32_111 : BitVec 32 := 16#32
  let v233 : BitVec 32 := Scalar.muli arg18 c16_i32_111
  let v235 : Index := Scalar.indexCast v233
  ![11, v235.toNat]
def k0_off51 (k0_t5 : Fin k0_t5_loop.trips) : Fin 2 → Nat :=
  let c12_i32_114 : BitVec 32 := 12#32
  let v238 : Index := Scalar.indexCast c12_i32_114
  let c0_i32_75 : BitVec 32 := 0#32
  let c1_i32_76 : BitVec 32 := 1#32
  let arg18 : BitVec 32 := Scf.iv c0_i32_75 c1_i32_76 k0_t5
  let c16_i32_113 : BitVec 32 := 16#32
  let v237 : BitVec 32 := Scalar.muli arg18 c16_i32_113
  let v239 : Index := Scalar.indexCast v237
  ![12, v239.toNat]
def k0_off52 (k0_t5 : Fin k0_t5_loop.trips) : Fin 2 → Nat :=
  let c13_i32_116 : BitVec 32 := 13#32
  let v242 : Index := Scalar.indexCast c13_i32_116
  let c0_i32_75 : BitVec 32 := 0#32
  let c1_i32_76 : BitVec 32 := 1#32
  let arg18 : BitVec 32 := Scf.iv c0_i32_75 c1_i32_76 k0_t5
  let c16_i32_115 : BitVec 32 := 16#32
  let v241 : BitVec 32 := Scalar.muli arg18 c16_i32_115
  let v243 : Index := Scalar.indexCast v241
  ![13, v243.toNat]
def k0_off53 (k0_t5 : Fin k0_t5_loop.trips) : Fin 2 → Nat :=
  let c14_i32_118 : BitVec 32 := 14#32
  let v246 : Index := Scalar.indexCast c14_i32_118
  let c0_i32_75 : BitVec 32 := 0#32
  let c1_i32_76 : BitVec 32 := 1#32
  let arg18 : BitVec 32 := Scf.iv c0_i32_75 c1_i32_76 k0_t5
  let c16_i32_117 : BitVec 32 := 16#32
  let v245 : BitVec 32 := Scalar.muli arg18 c16_i32_117
  let v247 : Index := Scalar.indexCast v245
  ![14, v247.toNat]
def k0_off54 (k0_t5 : Fin k0_t5_loop.trips) : Fin 2 → Nat :=
  let c15_i32_120 : BitVec 32 := 15#32
  let v250 : Index := Scalar.indexCast c15_i32_120
  let c0_i32_75 : BitVec 32 := 0#32
  let c1_i32_76 : BitVec 32 := 1#32
  let arg18 : BitVec 32 := Scf.iv c0_i32_75 c1_i32_76 k0_t5
  let c16_i32_119 : BitVec 32 := 16#32
  let v249 : BitVec 32 := Scalar.muli arg18 c16_i32_119
  let v251 : Index := Scalar.indexCast v249
  ![15, v251.toNat]

def k0_chk3 (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) : Prop :=
  (∀ (k0_h8 : k0_cond8 i k0_t4 = 1#1), ∀ a x, ((![v188, v10] : Fin 2 → IVec S16 32) a x).toNat < S192x128.size a) ∧
  (∀ (k0_h8 : k0_cond8 i k0_t4 = 1#1), ∀ a x, ((![v188, v16] : Fin 2 → IVec S16 32) a x).toNat < S192x128.size a) ∧
  (∀ (k0_h8 : k0_cond8 i k0_t4 = 1#1), ∀ a x, ((![v188, v22] : Fin 2 → IVec S16 32) a x).toNat < S192x128.size a) ∧
  (∀ (k0_h8 : k0_cond8 i k0_t4 = 1#1), ∀ a x, ((![v188, v28] : Fin 2 → IVec S16 32) a x).toNat < S192x128.size a) ∧
  (∀ (k0_h8 : k0_cond8 i k0_t4 = 1#1), ∀ a x, ((![v188, v34] : Fin 2 → IVec S16 32) a x).toNat < S192x128.size a) ∧
  (∀ (k0_h8 : k0_cond8 i k0_t4 = 1#1), ∀ a x, ((![v188, v40] : Fin 2 → IVec S16 32) a x).toNat < S192x128.size a) ∧
  (∀ (k0_h8 : k0_cond8 i k0_t4 = 1#1), ∀ a x, ((![v188, v46] : Fin 2 → IVec S16 32) a x).toNat < S192x128.size a) ∧
  (∀ (k0_h8 : k0_cond8 i k0_t4 = 1#1), ∀ a x, ((![v188, v52] : Fin 2 → IVec S16 32) a x).toNat < S192x128.size a) ∧
  (∀ (k0_h8 : k0_cond8 i k0_t4 = 1#1), ∀ a x, ((![v188, v58] : Fin 2 → IVec S16 32) a x).toNat < S192x128.size a) ∧
  (∀ (k0_h8 : k0_cond8 i k0_t4 = 1#1), ∀ a x, ((![v188, v64] : Fin 2 → IVec S16 32) a x).toNat < S192x128.size a) ∧
  (∀ (k0_h8 : k0_cond8 i k0_t4 = 1#1), ∀ a x, ((![v188, v70] : Fin 2 → IVec S16 32) a x).toNat < S192x128.size a) ∧
  (∀ (k0_h8 : k0_cond8 i k0_t4 = 1#1), ∀ a x, ((![v188, v76] : Fin 2 → IVec S16 32) a x).toNat < S192x128.size a) ∧
  (∀ (k0_h8 : k0_cond8 i k0_t4 = 1#1), ∀ a x, ((![v188, v82] : Fin 2 → IVec S16 32) a x).toNat < S192x128.size a) ∧
  (∀ (k0_h8 : k0_cond8 i k0_t4 = 1#1), ∀ a x, ((![v188, v88] : Fin 2 → IVec S16 32) a x).toNat < S192x128.size a) ∧
  (∀ (k0_h8 : k0_cond8 i k0_t4 = 1#1), ∀ a x, ((![v188, v94] : Fin 2 → IVec S16 32) a x).toNat < S192x128.size a) ∧
  (∀ (k0_h8 : k0_cond8 i k0_t4 = 1#1), ∀ a x, ((![v188, v100] : Fin 2 → IVec S16 32) a x).toNat < S192x128.size a)
theorem k0_idx33_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw3 : k0_chk3 i v10 v16 v22 v28 v34 v40 v46 v52 v58 v64 v70 v76 v82 v88 v94 v100 k0_t4 v188), ∀ (k0_h8 : k0_cond8 i k0_t4 = 1#1), ∀ a x, ((![v188, v10] : Fin 2 → IVec S16 32) a x).toNat < S192x128.size a := fun i v10 v16 v22 v28 v34 v40 v46 v52 v58 v64 v70 v76 v82 v88 v94 v100 k0_t4 v188 k0_hw3 k0_h8 => k0_hw3.1 k0_h8
theorem k0_idx34_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw3 : k0_chk3 i v10 v16 v22 v28 v34 v40 v46 v52 v58 v64 v70 v76 v82 v88 v94 v100 k0_t4 v188), ∀ (k0_h8 : k0_cond8 i k0_t4 = 1#1), ∀ a x, ((![v188, v16] : Fin 2 → IVec S16 32) a x).toNat < S192x128.size a := fun i v10 v16 v22 v28 v34 v40 v46 v52 v58 v64 v70 v76 v82 v88 v94 v100 k0_t4 v188 k0_hw3 k0_h8 => k0_hw3.2.1 k0_h8
theorem k0_idx35_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw3 : k0_chk3 i v10 v16 v22 v28 v34 v40 v46 v52 v58 v64 v70 v76 v82 v88 v94 v100 k0_t4 v188), ∀ (k0_h8 : k0_cond8 i k0_t4 = 1#1), ∀ a x, ((![v188, v22] : Fin 2 → IVec S16 32) a x).toNat < S192x128.size a := fun i v10 v16 v22 v28 v34 v40 v46 v52 v58 v64 v70 v76 v82 v88 v94 v100 k0_t4 v188 k0_hw3 k0_h8 => k0_hw3.2.2.1 k0_h8
theorem k0_idx36_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw3 : k0_chk3 i v10 v16 v22 v28 v34 v40 v46 v52 v58 v64 v70 v76 v82 v88 v94 v100 k0_t4 v188), ∀ (k0_h8 : k0_cond8 i k0_t4 = 1#1), ∀ a x, ((![v188, v28] : Fin 2 → IVec S16 32) a x).toNat < S192x128.size a := fun i v10 v16 v22 v28 v34 v40 v46 v52 v58 v64 v70 v76 v82 v88 v94 v100 k0_t4 v188 k0_hw3 k0_h8 => k0_hw3.2.2.2.1 k0_h8
theorem k0_idx37_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw3 : k0_chk3 i v10 v16 v22 v28 v34 v40 v46 v52 v58 v64 v70 v76 v82 v88 v94 v100 k0_t4 v188), ∀ (k0_h8 : k0_cond8 i k0_t4 = 1#1), ∀ a x, ((![v188, v34] : Fin 2 → IVec S16 32) a x).toNat < S192x128.size a := fun i v10 v16 v22 v28 v34 v40 v46 v52 v58 v64 v70 v76 v82 v88 v94 v100 k0_t4 v188 k0_hw3 k0_h8 => k0_hw3.2.2.2.2.1 k0_h8
theorem k0_idx38_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw3 : k0_chk3 i v10 v16 v22 v28 v34 v40 v46 v52 v58 v64 v70 v76 v82 v88 v94 v100 k0_t4 v188), ∀ (k0_h8 : k0_cond8 i k0_t4 = 1#1), ∀ a x, ((![v188, v40] : Fin 2 → IVec S16 32) a x).toNat < S192x128.size a := fun i v10 v16 v22 v28 v34 v40 v46 v52 v58 v64 v70 v76 v82 v88 v94 v100 k0_t4 v188 k0_hw3 k0_h8 => k0_hw3.2.2.2.2.2.1 k0_h8
theorem k0_idx39_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw3 : k0_chk3 i v10 v16 v22 v28 v34 v40 v46 v52 v58 v64 v70 v76 v82 v88 v94 v100 k0_t4 v188), ∀ (k0_h8 : k0_cond8 i k0_t4 = 1#1), ∀ a x, ((![v188, v46] : Fin 2 → IVec S16 32) a x).toNat < S192x128.size a := fun i v10 v16 v22 v28 v34 v40 v46 v52 v58 v64 v70 v76 v82 v88 v94 v100 k0_t4 v188 k0_hw3 k0_h8 => k0_hw3.2.2.2.2.2.2.1 k0_h8
theorem k0_idx40_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw3 : k0_chk3 i v10 v16 v22 v28 v34 v40 v46 v52 v58 v64 v70 v76 v82 v88 v94 v100 k0_t4 v188), ∀ (k0_h8 : k0_cond8 i k0_t4 = 1#1), ∀ a x, ((![v188, v52] : Fin 2 → IVec S16 32) a x).toNat < S192x128.size a := fun i v10 v16 v22 v28 v34 v40 v46 v52 v58 v64 v70 v76 v82 v88 v94 v100 k0_t4 v188 k0_hw3 k0_h8 => k0_hw3.2.2.2.2.2.2.2.1 k0_h8
theorem k0_idx41_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw3 : k0_chk3 i v10 v16 v22 v28 v34 v40 v46 v52 v58 v64 v70 v76 v82 v88 v94 v100 k0_t4 v188), ∀ (k0_h8 : k0_cond8 i k0_t4 = 1#1), ∀ a x, ((![v188, v58] : Fin 2 → IVec S16 32) a x).toNat < S192x128.size a := fun i v10 v16 v22 v28 v34 v40 v46 v52 v58 v64 v70 v76 v82 v88 v94 v100 k0_t4 v188 k0_hw3 k0_h8 => k0_hw3.2.2.2.2.2.2.2.2.1 k0_h8
theorem k0_idx42_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw3 : k0_chk3 i v10 v16 v22 v28 v34 v40 v46 v52 v58 v64 v70 v76 v82 v88 v94 v100 k0_t4 v188), ∀ (k0_h8 : k0_cond8 i k0_t4 = 1#1), ∀ a x, ((![v188, v64] : Fin 2 → IVec S16 32) a x).toNat < S192x128.size a := fun i v10 v16 v22 v28 v34 v40 v46 v52 v58 v64 v70 v76 v82 v88 v94 v100 k0_t4 v188 k0_hw3 k0_h8 => k0_hw3.2.2.2.2.2.2.2.2.2.1 k0_h8
theorem k0_idx43_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw3 : k0_chk3 i v10 v16 v22 v28 v34 v40 v46 v52 v58 v64 v70 v76 v82 v88 v94 v100 k0_t4 v188), ∀ (k0_h8 : k0_cond8 i k0_t4 = 1#1), ∀ a x, ((![v188, v70] : Fin 2 → IVec S16 32) a x).toNat < S192x128.size a := fun i v10 v16 v22 v28 v34 v40 v46 v52 v58 v64 v70 v76 v82 v88 v94 v100 k0_t4 v188 k0_hw3 k0_h8 => k0_hw3.2.2.2.2.2.2.2.2.2.2.1 k0_h8
theorem k0_idx44_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw3 : k0_chk3 i v10 v16 v22 v28 v34 v40 v46 v52 v58 v64 v70 v76 v82 v88 v94 v100 k0_t4 v188), ∀ (k0_h8 : k0_cond8 i k0_t4 = 1#1), ∀ a x, ((![v188, v76] : Fin 2 → IVec S16 32) a x).toNat < S192x128.size a := fun i v10 v16 v22 v28 v34 v40 v46 v52 v58 v64 v70 v76 v82 v88 v94 v100 k0_t4 v188 k0_hw3 k0_h8 => k0_hw3.2.2.2.2.2.2.2.2.2.2.2.1 k0_h8
theorem k0_idx45_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw3 : k0_chk3 i v10 v16 v22 v28 v34 v40 v46 v52 v58 v64 v70 v76 v82 v88 v94 v100 k0_t4 v188), ∀ (k0_h8 : k0_cond8 i k0_t4 = 1#1), ∀ a x, ((![v188, v82] : Fin 2 → IVec S16 32) a x).toNat < S192x128.size a := fun i v10 v16 v22 v28 v34 v40 v46 v52 v58 v64 v70 v76 v82 v88 v94 v100 k0_t4 v188 k0_hw3 k0_h8 => k0_hw3.2.2.2.2.2.2.2.2.2.2.2.2.1 k0_h8
theorem k0_idx46_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw3 : k0_chk3 i v10 v16 v22 v28 v34 v40 v46 v52 v58 v64 v70 v76 v82 v88 v94 v100 k0_t4 v188), ∀ (k0_h8 : k0_cond8 i k0_t4 = 1#1), ∀ a x, ((![v188, v88] : Fin 2 → IVec S16 32) a x).toNat < S192x128.size a := fun i v10 v16 v22 v28 v34 v40 v46 v52 v58 v64 v70 v76 v82 v88 v94 v100 k0_t4 v188 k0_hw3 k0_h8 => k0_hw3.2.2.2.2.2.2.2.2.2.2.2.2.2.1 k0_h8
theorem k0_idx47_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw3 : k0_chk3 i v10 v16 v22 v28 v34 v40 v46 v52 v58 v64 v70 v76 v82 v88 v94 v100 k0_t4 v188), ∀ (k0_h8 : k0_cond8 i k0_t4 = 1#1), ∀ a x, ((![v188, v94] : Fin 2 → IVec S16 32) a x).toNat < S192x128.size a := fun i v10 v16 v22 v28 v34 v40 v46 v52 v58 v64 v70 v76 v82 v88 v94 v100 k0_t4 v188 k0_hw3 k0_h8 => k0_hw3.2.2.2.2.2.2.2.2.2.2.2.2.2.2.1 k0_h8
theorem k0_idx48_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw3 : k0_chk3 i v10 v16 v22 v28 v34 v40 v46 v52 v58 v64 v70 v76 v82 v88 v94 v100 k0_t4 v188), ∀ (k0_h8 : k0_cond8 i k0_t4 = 1#1), ∀ a x, ((![v188, v100] : Fin 2 → IVec S16 32) a x).toNat < S192x128.size a := fun i v10 v16 v22 v28 v34 v40 v46 v52 v58 v64 v70 v76 v82 v88 v94 v100 k0_t4 v188 k0_hw3 k0_h8 => k0_hw3.2.2.2.2.2.2.2.2.2.2.2.2.2.2.2 k0_h8
def k0_mult9 (i : grid0.Coords) (k0_t4 : Fin (k0_t4_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_61 : BitVec 32 := 2#32
  let c0_i32_46 : BitVec 32 := 0#32
  let c11_i32_33 : BitVec 32 := 11#32
  let v101 : BitVec 1 := Scalar.cmpi .slt v1 c11_i32_33
  let c21_i32 : BitVec 32 := 21#32
  let c20_i32 : BitVec 32 := 20#32
  let v102 : BitVec 32 := Scalar.select v101 c21_i32 c20_i32
  let c1_i32_37 : BitVec 32 := 1#32
  let v108 : BitVec 32 := Scalar.addi v102 c1_i32_37
  let c0_i32_39 : BitVec 32 := 0#32
  let v110 : BitVec 1 := Scalar.cmpi .sgt v108 c0_i32_39
  let v111 : BitVec 32 := Scalar.extui v110
  let c0_i32_40 : BitVec 32 := 0#32
  let v112 : BitVec 1 := Scalar.cmpi .slt v108 c0_i32_40
  let v113 : BitVec 32 := Scalar.extui v112
  let v114 : BitVec 32 := Scalar.subi v111 v113
  let c2_i32_38 : BitVec 32 := 2#32
  let c0_i32_41 : BitVec 32 := 0#32
  let v115 : BitVec 1 := Scalar.cmpi .sgt c2_i32_38 c0_i32_41
  let v116 : BitVec 32 := Scalar.extui v115
  let c0_i32_42 : BitVec 32 := 0#32
  let v117 : BitVec 1 := Scalar.cmpi .slt c2_i32_38 c0_i32_42
  let v118 : BitVec 32 := Scalar.extui v117
  let v119 : BitVec 32 := Scalar.subi v116 v118
  let v120 : BitVec 1 := Scalar.cmpi .ne v114 v119
  let v121 : BitVec 32 := Scalar.remsi v108 c2_i32_38
  let c0_i32_43 : BitVec 32 := 0#32
  let v122 : BitVec 1 := Scalar.cmpi .ne v121 c0_i32_43
  let v123 : BitVec 1 := Scalar.andi v120 v122
  let v109 : BitVec 32 := Scalar.divsi v108 c2_i32_38
  let c1_i32_44 : BitVec 32 := 1#32
  let v124 : BitVec 32 := Scalar.subi v109 c1_i32_44
  let v125 : BitVec 32 := Scalar.select v123 v124 v109
  let v126 : BitVec 32 := Scalar.subi v125 c0_i32_46
  let c1_i32_47 : BitVec 32 := 1#32
  let v128 : BitVec 32 := Scalar.divsi v126 c1_i32_47
  let v129 : BitVec 32 := Scalar.muli v128 c1_i32_47
  let v130 : BitVec 32 := Scalar.addi c0_i32_46 v129
  let c1_i32_49 : BitVec 32 := 1#32
  let arg17 : BitVec 32 := Scf.iv v130 c1_i32_49 k0_t4
  let v141 : BitVec 32 := Scalar.muli c2_i32_61 arg17
  let c32_i32 : BitVec 32 := 32#32
  let v162 : BitVec 32 := Scalar.muli v141 c32_i32
  let v163 : BitVec 32 := Scalar.addi v1 v162
  let c1536_i32_78 : BitVec 32 := 1536#32
  let v164 : BitVec 32 := Scalar.muli v163 c1536_i32_78
  v164
def k0_mult10 (i : grid0.Coords) (k0_t4 : Fin (k0_t4_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_61 : BitVec 32 := 2#32
  let c0_i32_46 : BitVec 32 := 0#32
  let c11_i32_33 : BitVec 32 := 11#32
  let v101 : BitVec 1 := Scalar.cmpi .slt v1 c11_i32_33
  let c21_i32 : BitVec 32 := 21#32
  let c20_i32 : BitVec 32 := 20#32
  let v102 : BitVec 32 := Scalar.select v101 c21_i32 c20_i32
  let c1_i32_37 : BitVec 32 := 1#32
  let v108 : BitVec 32 := Scalar.addi v102 c1_i32_37
  let c0_i32_39 : BitVec 32 := 0#32
  let v110 : BitVec 1 := Scalar.cmpi .sgt v108 c0_i32_39
  let v111 : BitVec 32 := Scalar.extui v110
  let c0_i32_40 : BitVec 32 := 0#32
  let v112 : BitVec 1 := Scalar.cmpi .slt v108 c0_i32_40
  let v113 : BitVec 32 := Scalar.extui v112
  let v114 : BitVec 32 := Scalar.subi v111 v113
  let c2_i32_38 : BitVec 32 := 2#32
  let c0_i32_41 : BitVec 32 := 0#32
  let v115 : BitVec 1 := Scalar.cmpi .sgt c2_i32_38 c0_i32_41
  let v116 : BitVec 32 := Scalar.extui v115
  let c0_i32_42 : BitVec 32 := 0#32
  let v117 : BitVec 1 := Scalar.cmpi .slt c2_i32_38 c0_i32_42
  let v118 : BitVec 32 := Scalar.extui v117
  let v119 : BitVec 32 := Scalar.subi v116 v118
  let v120 : BitVec 1 := Scalar.cmpi .ne v114 v119
  let v121 : BitVec 32 := Scalar.remsi v108 c2_i32_38
  let c0_i32_43 : BitVec 32 := 0#32
  let v122 : BitVec 1 := Scalar.cmpi .ne v121 c0_i32_43
  let v123 : BitVec 1 := Scalar.andi v120 v122
  let v109 : BitVec 32 := Scalar.divsi v108 c2_i32_38
  let c1_i32_44 : BitVec 32 := 1#32
  let v124 : BitVec 32 := Scalar.subi v109 c1_i32_44
  let v125 : BitVec 32 := Scalar.select v123 v124 v109
  let v126 : BitVec 32 := Scalar.subi v125 c0_i32_46
  let c1_i32_47 : BitVec 32 := 1#32
  let v128 : BitVec 32 := Scalar.divsi v126 c1_i32_47
  let v129 : BitVec 32 := Scalar.muli v128 c1_i32_47
  let v130 : BitVec 32 := Scalar.addi c0_i32_46 v129
  let c1_i32_49 : BitVec 32 := 1#32
  let arg17 : BitVec 32 := Scf.iv v130 c1_i32_49 k0_t4
  let v141 : BitVec 32 := Scalar.muli c2_i32_61 arg17
  let c32_i32 : BitVec 32 := 32#32
  let v162 : BitVec 32 := Scalar.muli v141 c32_i32
  let v163 : BitVec 32 := Scalar.addi v1 v162
  let c1536_i32_78 : BitVec 32 := 1536#32
  let v164 : BitVec 32 := Scalar.muli v163 c1536_i32_78
  let v165 : BitVec 32 := v164
  let c0_i32_80 : BitVec 32 := 0#32
  let v167 : BitVec 1 := Scalar.cmpi .sgt v165 c0_i32_80
  let v168 : BitVec 32 := Scalar.extui v167
  let c0_i32_81 : BitVec 32 := 0#32
  let v169 : BitVec 1 := Scalar.cmpi .slt v165 c0_i32_81
  let v170 : BitVec 32 := Scalar.extui v169
  let v171 : BitVec 32 := Scalar.subi v168 v170
  let c8_i32_79 : BitVec 32 := 8#32
  let c0_i32_82 : BitVec 32 := 0#32
  let v172 : BitVec 1 := Scalar.cmpi .sgt c8_i32_79 c0_i32_82
  let v173 : BitVec 32 := Scalar.extui v172
  let c0_i32_83 : BitVec 32 := 0#32
  let v174 : BitVec 1 := Scalar.cmpi .slt c8_i32_79 c0_i32_83
  let v175 : BitVec 32 := Scalar.extui v174
  let v176 : BitVec 32 := Scalar.subi v173 v175
  let v177 : BitVec 1 := Scalar.cmpi .ne v171 v176
  let v178 : BitVec 32 := Scalar.remsi v165 c8_i32_79
  let c0_i32_84 : BitVec 32 := 0#32
  let v179 : BitVec 1 := Scalar.cmpi .ne v178 c0_i32_84
  let v180 : BitVec 1 := Scalar.andi v177 v179
  let v166 : BitVec 32 := Scalar.divsi v165 c8_i32_79
  let c1_i32_85 : BitVec 32 := 1#32
  let v181 : BitVec 32 := Scalar.subi v166 c1_i32_85
  let v182 : BitVec 32 := Scalar.select v180 v181 v166
  v182
def k0_off55 (i : grid0.Coords) (k0_t4 : Fin (k0_t4_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_61 : BitVec 32 := 2#32
  let c0_i32_46 : BitVec 32 := 0#32
  let c11_i32_33 : BitVec 32 := 11#32
  let v101 : BitVec 1 := Scalar.cmpi .slt v1 c11_i32_33
  let c21_i32 : BitVec 32 := 21#32
  let c20_i32 : BitVec 32 := 20#32
  let v102 : BitVec 32 := Scalar.select v101 c21_i32 c20_i32
  let c1_i32_37 : BitVec 32 := 1#32
  let v108 : BitVec 32 := Scalar.addi v102 c1_i32_37
  let c0_i32_39 : BitVec 32 := 0#32
  let v110 : BitVec 1 := Scalar.cmpi .sgt v108 c0_i32_39
  let v111 : BitVec 32 := Scalar.extui v110
  let c0_i32_40 : BitVec 32 := 0#32
  let v112 : BitVec 1 := Scalar.cmpi .slt v108 c0_i32_40
  let v113 : BitVec 32 := Scalar.extui v112
  let v114 : BitVec 32 := Scalar.subi v111 v113
  let c2_i32_38 : BitVec 32 := 2#32
  let c0_i32_41 : BitVec 32 := 0#32
  let v115 : BitVec 1 := Scalar.cmpi .sgt c2_i32_38 c0_i32_41
  let v116 : BitVec 32 := Scalar.extui v115
  let c0_i32_42 : BitVec 32 := 0#32
  let v117 : BitVec 1 := Scalar.cmpi .slt c2_i32_38 c0_i32_42
  let v118 : BitVec 32 := Scalar.extui v117
  let v119 : BitVec 32 := Scalar.subi v116 v118
  let v120 : BitVec 1 := Scalar.cmpi .ne v114 v119
  let v121 : BitVec 32 := Scalar.remsi v108 c2_i32_38
  let c0_i32_43 : BitVec 32 := 0#32
  let v122 : BitVec 1 := Scalar.cmpi .ne v121 c0_i32_43
  let v123 : BitVec 1 := Scalar.andi v120 v122
  let v109 : BitVec 32 := Scalar.divsi v108 c2_i32_38
  let c1_i32_44 : BitVec 32 := 1#32
  let v124 : BitVec 32 := Scalar.subi v109 c1_i32_44
  let v125 : BitVec 32 := Scalar.select v123 v124 v109
  let v126 : BitVec 32 := Scalar.subi v125 c0_i32_46
  let c1_i32_47 : BitVec 32 := 1#32
  let v128 : BitVec 32 := Scalar.divsi v126 c1_i32_47
  let v129 : BitVec 32 := Scalar.muli v128 c1_i32_47
  let v130 : BitVec 32 := Scalar.addi c0_i32_46 v129
  let c1_i32_49 : BitVec 32 := 1#32
  let arg17 : BitVec 32 := Scf.iv v130 c1_i32_49 k0_t4
  let v141 : BitVec 32 := Scalar.muli c2_i32_61 arg17
  let c32_i32 : BitVec 32 := 32#32
  let v162 : BitVec 32 := Scalar.muli v141 c32_i32
  let v163 : BitVec 32 := Scalar.addi v1 v162
  let c1536_i32_78 : BitVec 32 := 1536#32
  let v164 : BitVec 32 := Scalar.muli v163 c1536_i32_78
  let v165 : BitVec 32 := v164
  let c0_i32_80 : BitVec 32 := 0#32
  let v167 : BitVec 1 := Scalar.cmpi .sgt v165 c0_i32_80
  let v168 : BitVec 32 := Scalar.extui v167
  let c0_i32_81 : BitVec 32 := 0#32
  let v169 : BitVec 1 := Scalar.cmpi .slt v165 c0_i32_81
  let v170 : BitVec 32 := Scalar.extui v169
  let v171 : BitVec 32 := Scalar.subi v168 v170
  let c8_i32_79 : BitVec 32 := 8#32
  let c0_i32_82 : BitVec 32 := 0#32
  let v172 : BitVec 1 := Scalar.cmpi .sgt c8_i32_79 c0_i32_82
  let v173 : BitVec 32 := Scalar.extui v172
  let c0_i32_83 : BitVec 32 := 0#32
  let v174 : BitVec 1 := Scalar.cmpi .slt c8_i32_79 c0_i32_83
  let v175 : BitVec 32 := Scalar.extui v174
  let v176 : BitVec 32 := Scalar.subi v173 v175
  let v177 : BitVec 1 := Scalar.cmpi .ne v171 v176
  let v178 : BitVec 32 := Scalar.remsi v165 c8_i32_79
  let c0_i32_84 : BitVec 32 := 0#32
  let v179 : BitVec 1 := Scalar.cmpi .ne v178 c0_i32_84
  let v180 : BitVec 1 := Scalar.andi v177 v179
  let v166 : BitVec 32 := Scalar.divsi v165 c8_i32_79
  let c1_i32_85 : BitVec 32 := 1#32
  let v181 : BitVec 32 := Scalar.subi v166 c1_i32_85
  let v182 : BitVec 32 := Scalar.select v180 v181 v166
  let v183 : BitVec 32 := v182
  let c0_i32_86 : BitVec 32 := 0#32
  ![v183.toNat, 0]
def k0_cond10 (i : grid0.Coords) (k0_t4 : Fin (k0_t4_loop i).trips) : BitVec 1 :=
  let c2_i32_61 : BitVec 32 := 2#32
  let c0_i32_46 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11_i32_33 : BitVec 32 := 11#32
  let v101 : BitVec 1 := Scalar.cmpi .slt v1 c11_i32_33
  let c21_i32 : BitVec 32 := 21#32
  let c20_i32 : BitVec 32 := 20#32
  let v102 : BitVec 32 := Scalar.select v101 c21_i32 c20_i32
  let c1_i32_37 : BitVec 32 := 1#32
  let v108 : BitVec 32 := Scalar.addi v102 c1_i32_37
  let c0_i32_39 : BitVec 32 := 0#32
  let v110 : BitVec 1 := Scalar.cmpi .sgt v108 c0_i32_39
  let v111 : BitVec 32 := Scalar.extui v110
  let c0_i32_40 : BitVec 32 := 0#32
  let v112 : BitVec 1 := Scalar.cmpi .slt v108 c0_i32_40
  let v113 : BitVec 32 := Scalar.extui v112
  let v114 : BitVec 32 := Scalar.subi v111 v113
  let c2_i32_38 : BitVec 32 := 2#32
  let c0_i32_41 : BitVec 32 := 0#32
  let v115 : BitVec 1 := Scalar.cmpi .sgt c2_i32_38 c0_i32_41
  let v116 : BitVec 32 := Scalar.extui v115
  let c0_i32_42 : BitVec 32 := 0#32
  let v117 : BitVec 1 := Scalar.cmpi .slt c2_i32_38 c0_i32_42
  let v118 : BitVec 32 := Scalar.extui v117
  let v119 : BitVec 32 := Scalar.subi v116 v118
  let v120 : BitVec 1 := Scalar.cmpi .ne v114 v119
  let v121 : BitVec 32 := Scalar.remsi v108 c2_i32_38
  let c0_i32_43 : BitVec 32 := 0#32
  let v122 : BitVec 1 := Scalar.cmpi .ne v121 c0_i32_43
  let v123 : BitVec 1 := Scalar.andi v120 v122
  let v109 : BitVec 32 := Scalar.divsi v108 c2_i32_38
  let c1_i32_44 : BitVec 32 := 1#32
  let v124 : BitVec 32 := Scalar.subi v109 c1_i32_44
  let v125 : BitVec 32 := Scalar.select v123 v124 v109
  let v126 : BitVec 32 := Scalar.subi v125 c0_i32_46
  let c1_i32_47 : BitVec 32 := 1#32
  let v128 : BitVec 32 := Scalar.divsi v126 c1_i32_47
  let v129 : BitVec 32 := Scalar.muli v128 c1_i32_47
  let v130 : BitVec 32 := Scalar.addi c0_i32_46 v129
  let c1_i32_49 : BitVec 32 := 1#32
  let arg17 : BitVec 32 := Scf.iv v130 c1_i32_49 k0_t4
  let v141 : BitVec 32 := Scalar.muli c2_i32_61 arg17
  let c2_i32_65 : BitVec 32 := 2#32
  let v149 : BitVec 32 := Scalar.addi v141 c2_i32_65
  let v150 : BitVec 1 := Scalar.cmpi .slt v149 v102
  let v151 : BitVec 32 := Scalar.extui v150
  let c0_i32_66 : BitVec 32 := 0#32
  let v152 : BitVec 1 := Scalar.cmpi .ne v151 c0_i32_66
  v152

def k0_mult11 (i : grid0.Coords) (k0_t4 : Fin (k0_t4_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_61 : BitVec 32 := 2#32
  let c0_i32_46 : BitVec 32 := 0#32
  let c11_i32_33 : BitVec 32 := 11#32
  let v101 : BitVec 1 := Scalar.cmpi .slt v1 c11_i32_33
  let c21_i32 : BitVec 32 := 21#32
  let c20_i32 : BitVec 32 := 20#32
  let v102 : BitVec 32 := Scalar.select v101 c21_i32 c20_i32
  let c1_i32_37 : BitVec 32 := 1#32
  let v108 : BitVec 32 := Scalar.addi v102 c1_i32_37
  let c0_i32_39 : BitVec 32 := 0#32
  let v110 : BitVec 1 := Scalar.cmpi .sgt v108 c0_i32_39
  let v111 : BitVec 32 := Scalar.extui v110
  let c0_i32_40 : BitVec 32 := 0#32
  let v112 : BitVec 1 := Scalar.cmpi .slt v108 c0_i32_40
  let v113 : BitVec 32 := Scalar.extui v112
  let v114 : BitVec 32 := Scalar.subi v111 v113
  let c2_i32_38 : BitVec 32 := 2#32
  let c0_i32_41 : BitVec 32 := 0#32
  let v115 : BitVec 1 := Scalar.cmpi .sgt c2_i32_38 c0_i32_41
  let v116 : BitVec 32 := Scalar.extui v115
  let c0_i32_42 : BitVec 32 := 0#32
  let v117 : BitVec 1 := Scalar.cmpi .slt c2_i32_38 c0_i32_42
  let v118 : BitVec 32 := Scalar.extui v117
  let v119 : BitVec 32 := Scalar.subi v116 v118
  let v120 : BitVec 1 := Scalar.cmpi .ne v114 v119
  let v121 : BitVec 32 := Scalar.remsi v108 c2_i32_38
  let c0_i32_43 : BitVec 32 := 0#32
  let v122 : BitVec 1 := Scalar.cmpi .ne v121 c0_i32_43
  let v123 : BitVec 1 := Scalar.andi v120 v122
  let v109 : BitVec 32 := Scalar.divsi v108 c2_i32_38
  let c1_i32_44 : BitVec 32 := 1#32
  let v124 : BitVec 32 := Scalar.subi v109 c1_i32_44
  let v125 : BitVec 32 := Scalar.select v123 v124 v109
  let v126 : BitVec 32 := Scalar.subi v125 c0_i32_46
  let c1_i32_47 : BitVec 32 := 1#32
  let v128 : BitVec 32 := Scalar.divsi v126 c1_i32_47
  let v129 : BitVec 32 := Scalar.muli v128 c1_i32_47
  let v130 : BitVec 32 := Scalar.addi c0_i32_46 v129
  let c1_i32_49 : BitVec 32 := 1#32
  let arg17 : BitVec 32 := Scf.iv v130 c1_i32_49 k0_t4
  let v141 : BitVec 32 := Scalar.muli c2_i32_61 arg17
  let c2_i32_68 : BitVec 32 := 2#32
  let v156 : BitVec 32 := Scalar.addi v141 c2_i32_68
  let c32_i32 : BitVec 32 := 32#32
  let v157 : BitVec 32 := Scalar.muli v156 c32_i32
  let v158 : BitVec 32 := Scalar.addi v1 v157
  let c1536_i32_69 : BitVec 32 := 1536#32
  let v159 : BitVec 32 := Scalar.muli v158 c1536_i32_69
  v159
def k0_off56 (i : grid0.Coords) (k0_t4 : Fin (k0_t4_loop i).trips) : Fin 2 → Nat :=
  let c0_i32_70 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_61 : BitVec 32 := 2#32
  let c0_i32_46 : BitVec 32 := 0#32
  let c11_i32_33 : BitVec 32 := 11#32
  let v101 : BitVec 1 := Scalar.cmpi .slt v1 c11_i32_33
  let c21_i32 : BitVec 32 := 21#32
  let c20_i32 : BitVec 32 := 20#32
  let v102 : BitVec 32 := Scalar.select v101 c21_i32 c20_i32
  let c1_i32_37 : BitVec 32 := 1#32
  let v108 : BitVec 32 := Scalar.addi v102 c1_i32_37
  let c0_i32_39 : BitVec 32 := 0#32
  let v110 : BitVec 1 := Scalar.cmpi .sgt v108 c0_i32_39
  let v111 : BitVec 32 := Scalar.extui v110
  let c0_i32_40 : BitVec 32 := 0#32
  let v112 : BitVec 1 := Scalar.cmpi .slt v108 c0_i32_40
  let v113 : BitVec 32 := Scalar.extui v112
  let v114 : BitVec 32 := Scalar.subi v111 v113
  let c2_i32_38 : BitVec 32 := 2#32
  let c0_i32_41 : BitVec 32 := 0#32
  let v115 : BitVec 1 := Scalar.cmpi .sgt c2_i32_38 c0_i32_41
  let v116 : BitVec 32 := Scalar.extui v115
  let c0_i32_42 : BitVec 32 := 0#32
  let v117 : BitVec 1 := Scalar.cmpi .slt c2_i32_38 c0_i32_42
  let v118 : BitVec 32 := Scalar.extui v117
  let v119 : BitVec 32 := Scalar.subi v116 v118
  let v120 : BitVec 1 := Scalar.cmpi .ne v114 v119
  let v121 : BitVec 32 := Scalar.remsi v108 c2_i32_38
  let c0_i32_43 : BitVec 32 := 0#32
  let v122 : BitVec 1 := Scalar.cmpi .ne v121 c0_i32_43
  let v123 : BitVec 1 := Scalar.andi v120 v122
  let v109 : BitVec 32 := Scalar.divsi v108 c2_i32_38
  let c1_i32_44 : BitVec 32 := 1#32
  let v124 : BitVec 32 := Scalar.subi v109 c1_i32_44
  let v125 : BitVec 32 := Scalar.select v123 v124 v109
  let v126 : BitVec 32 := Scalar.subi v125 c0_i32_46
  let c1_i32_47 : BitVec 32 := 1#32
  let v128 : BitVec 32 := Scalar.divsi v126 c1_i32_47
  let v129 : BitVec 32 := Scalar.muli v128 c1_i32_47
  let v130 : BitVec 32 := Scalar.addi c0_i32_46 v129
  let c1_i32_49 : BitVec 32 := 1#32
  let arg17 : BitVec 32 := Scf.iv v130 c1_i32_49 k0_t4
  let v141 : BitVec 32 := Scalar.muli c2_i32_61 arg17
  let c2_i32_68 : BitVec 32 := 2#32
  let v156 : BitVec 32 := Scalar.addi v141 c2_i32_68
  let c32_i32 : BitVec 32 := 32#32
  let v157 : BitVec 32 := Scalar.muli v156 c32_i32
  let v158 : BitVec 32 := Scalar.addi v1 v157
  let c1536_i32_69 : BitVec 32 := 1536#32
  let v159 : BitVec 32 := Scalar.muli v158 c1536_i32_69
  let v160 : BitVec 32 := v159
  ![0, v160.toNat]
def k0_cond11 (i : grid0.Coords) (k0_t4 : Fin (k0_t4_loop i).trips) : BitVec 1 :=
  let c2_i32_61 : BitVec 32 := 2#32
  let c0_i32_46 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11_i32_33 : BitVec 32 := 11#32
  let v101 : BitVec 1 := Scalar.cmpi .slt v1 c11_i32_33
  let c21_i32 : BitVec 32 := 21#32
  let c20_i32 : BitVec 32 := 20#32
  let v102 : BitVec 32 := Scalar.select v101 c21_i32 c20_i32
  let c1_i32_37 : BitVec 32 := 1#32
  let v108 : BitVec 32 := Scalar.addi v102 c1_i32_37
  let c0_i32_39 : BitVec 32 := 0#32
  let v110 : BitVec 1 := Scalar.cmpi .sgt v108 c0_i32_39
  let v111 : BitVec 32 := Scalar.extui v110
  let c0_i32_40 : BitVec 32 := 0#32
  let v112 : BitVec 1 := Scalar.cmpi .slt v108 c0_i32_40
  let v113 : BitVec 32 := Scalar.extui v112
  let v114 : BitVec 32 := Scalar.subi v111 v113
  let c2_i32_38 : BitVec 32 := 2#32
  let c0_i32_41 : BitVec 32 := 0#32
  let v115 : BitVec 1 := Scalar.cmpi .sgt c2_i32_38 c0_i32_41
  let v116 : BitVec 32 := Scalar.extui v115
  let c0_i32_42 : BitVec 32 := 0#32
  let v117 : BitVec 1 := Scalar.cmpi .slt c2_i32_38 c0_i32_42
  let v118 : BitVec 32 := Scalar.extui v117
  let v119 : BitVec 32 := Scalar.subi v116 v118
  let v120 : BitVec 1 := Scalar.cmpi .ne v114 v119
  let v121 : BitVec 32 := Scalar.remsi v108 c2_i32_38
  let c0_i32_43 : BitVec 32 := 0#32
  let v122 : BitVec 1 := Scalar.cmpi .ne v121 c0_i32_43
  let v123 : BitVec 1 := Scalar.andi v120 v122
  let v109 : BitVec 32 := Scalar.divsi v108 c2_i32_38
  let c1_i32_44 : BitVec 32 := 1#32
  let v124 : BitVec 32 := Scalar.subi v109 c1_i32_44
  let v125 : BitVec 32 := Scalar.select v123 v124 v109
  let v126 : BitVec 32 := Scalar.subi v125 c0_i32_46
  let c1_i32_47 : BitVec 32 := 1#32
  let v128 : BitVec 32 := Scalar.divsi v126 c1_i32_47
  let v129 : BitVec 32 := Scalar.muli v128 c1_i32_47
  let v130 : BitVec 32 := Scalar.addi c0_i32_46 v129
  let c1_i32_49 : BitVec 32 := 1#32
  let arg17 : BitVec 32 := Scf.iv v130 c1_i32_49 k0_t4
  let v141 : BitVec 32 := Scalar.muli c2_i32_61 arg17
  let c1_i32_62 : BitVec 32 := 1#32
  let v142 : BitVec 32 := Scalar.addi v141 c1_i32_62
  let v153 : BitVec 1 := Scalar.cmpi .slt v142 v102
  let v154 : BitVec 32 := Scalar.extui v153
  let c0_i32_67 : BitVec 32 := 0#32
  let v155 : BitVec 1 := Scalar.cmpi .ne v154 c0_i32_67
  v155

@[reducible] def k0_t6_loop : Scf.Loop 32 :=
  let c0_i32_75 : BitVec 32 := 0#32
  let c96_i32 : BitVec 32 := 96#32
  let v161 : BitVec 32 := Scalar.addi c0_i32_75 c96_i32
  let c1_i32_76 : BitVec 32 := 1#32
  ⟨c0_i32_75, v161, c1_i32_76⟩
def k0_off57 (k0_t6 : Fin k0_t6_loop.trips) : Fin 2 → Nat :=
  let c0_i32_90 : BitVec 32 := 0#32
  let v190 : Index := Scalar.indexCast c0_i32_90
  let c0_i32_75 : BitVec 32 := 0#32
  let c1_i32_76 : BitVec 32 := 1#32
  let arg18 : BitVec 32 := Scf.iv c0_i32_75 c1_i32_76 k0_t6
  let c16_i32_89 : BitVec 32 := 16#32
  let v189 : BitVec 32 := Scalar.muli arg18 c16_i32_89
  let v191 : Index := Scalar.indexCast v189
  ![0, v191.toNat]
def k0_off58 (k0_t6 : Fin k0_t6_loop.trips) : Fin 2 → Nat :=
  let c1_i32_92 : BitVec 32 := 1#32
  let v194 : Index := Scalar.indexCast c1_i32_92
  let c0_i32_75 : BitVec 32 := 0#32
  let c1_i32_76 : BitVec 32 := 1#32
  let arg18 : BitVec 32 := Scf.iv c0_i32_75 c1_i32_76 k0_t6
  let c16_i32_91 : BitVec 32 := 16#32
  let v193 : BitVec 32 := Scalar.muli arg18 c16_i32_91
  let v195 : Index := Scalar.indexCast v193
  ![1, v195.toNat]
def k0_off59 (k0_t6 : Fin k0_t6_loop.trips) : Fin 2 → Nat :=
  let c2_i32_94 : BitVec 32 := 2#32
  let v198 : Index := Scalar.indexCast c2_i32_94
  let c0_i32_75 : BitVec 32 := 0#32
  let c1_i32_76 : BitVec 32 := 1#32
  let arg18 : BitVec 32 := Scf.iv c0_i32_75 c1_i32_76 k0_t6
  let c16_i32_93 : BitVec 32 := 16#32
  let v197 : BitVec 32 := Scalar.muli arg18 c16_i32_93
  let v199 : Index := Scalar.indexCast v197
  ![2, v199.toNat]
def k0_off60 (k0_t6 : Fin k0_t6_loop.trips) : Fin 2 → Nat :=
  let c3_i32_96 : BitVec 32 := 3#32
  let v202 : Index := Scalar.indexCast c3_i32_96
  let c0_i32_75 : BitVec 32 := 0#32
  let c1_i32_76 : BitVec 32 := 1#32
  let arg18 : BitVec 32 := Scf.iv c0_i32_75 c1_i32_76 k0_t6
  let c16_i32_95 : BitVec 32 := 16#32
  let v201 : BitVec 32 := Scalar.muli arg18 c16_i32_95
  let v203 : Index := Scalar.indexCast v201
  ![3, v203.toNat]
def k0_off61 (k0_t6 : Fin k0_t6_loop.trips) : Fin 2 → Nat :=
  let c4_i32_98 : BitVec 32 := 4#32
  let v206 : Index := Scalar.indexCast c4_i32_98
  let c0_i32_75 : BitVec 32 := 0#32
  let c1_i32_76 : BitVec 32 := 1#32
  let arg18 : BitVec 32 := Scf.iv c0_i32_75 c1_i32_76 k0_t6
  let c16_i32_97 : BitVec 32 := 16#32
  let v205 : BitVec 32 := Scalar.muli arg18 c16_i32_97
  let v207 : Index := Scalar.indexCast v205
  ![4, v207.toNat]
def k0_off62 (k0_t6 : Fin k0_t6_loop.trips) : Fin 2 → Nat :=
  let c5_i32_100 : BitVec 32 := 5#32
  let v210 : Index := Scalar.indexCast c5_i32_100
  let c0_i32_75 : BitVec 32 := 0#32
  let c1_i32_76 : BitVec 32 := 1#32
  let arg18 : BitVec 32 := Scf.iv c0_i32_75 c1_i32_76 k0_t6
  let c16_i32_99 : BitVec 32 := 16#32
  let v209 : BitVec 32 := Scalar.muli arg18 c16_i32_99
  let v211 : Index := Scalar.indexCast v209
  ![5, v211.toNat]
def k0_off63 (k0_t6 : Fin k0_t6_loop.trips) : Fin 2 → Nat :=
  let c6_i32_102 : BitVec 32 := 6#32
  let v214 : Index := Scalar.indexCast c6_i32_102
  let c0_i32_75 : BitVec 32 := 0#32
  let c1_i32_76 : BitVec 32 := 1#32
  let arg18 : BitVec 32 := Scf.iv c0_i32_75 c1_i32_76 k0_t6
  let c16_i32_101 : BitVec 32 := 16#32
  let v213 : BitVec 32 := Scalar.muli arg18 c16_i32_101
  let v215 : Index := Scalar.indexCast v213
  ![6, v215.toNat]
def k0_off64 (k0_t6 : Fin k0_t6_loop.trips) : Fin 2 → Nat :=
  let c7_i32_104 : BitVec 32 := 7#32
  let v218 : Index := Scalar.indexCast c7_i32_104
  let c0_i32_75 : BitVec 32 := 0#32
  let c1_i32_76 : BitVec 32 := 1#32
  let arg18 : BitVec 32 := Scf.iv c0_i32_75 c1_i32_76 k0_t6
  let c16_i32_103 : BitVec 32 := 16#32
  let v217 : BitVec 32 := Scalar.muli arg18 c16_i32_103
  let v219 : Index := Scalar.indexCast v217
  ![7, v219.toNat]
def k0_off65 (k0_t6 : Fin k0_t6_loop.trips) : Fin 2 → Nat :=
  let c8_i32_106 : BitVec 32 := 8#32
  let v222 : Index := Scalar.indexCast c8_i32_106
  let c0_i32_75 : BitVec 32 := 0#32
  let c1_i32_76 : BitVec 32 := 1#32
  let arg18 : BitVec 32 := Scf.iv c0_i32_75 c1_i32_76 k0_t6
  let c16_i32_105 : BitVec 32 := 16#32
  let v221 : BitVec 32 := Scalar.muli arg18 c16_i32_105
  let v223 : Index := Scalar.indexCast v221
  ![8, v223.toNat]
def k0_off66 (k0_t6 : Fin k0_t6_loop.trips) : Fin 2 → Nat :=
  let c9_i32_108 : BitVec 32 := 9#32
  let v226 : Index := Scalar.indexCast c9_i32_108
  let c0_i32_75 : BitVec 32 := 0#32
  let c1_i32_76 : BitVec 32 := 1#32
  let arg18 : BitVec 32 := Scf.iv c0_i32_75 c1_i32_76 k0_t6
  let c16_i32_107 : BitVec 32 := 16#32
  let v225 : BitVec 32 := Scalar.muli arg18 c16_i32_107
  let v227 : Index := Scalar.indexCast v225
  ![9, v227.toNat]
def k0_off67 (k0_t6 : Fin k0_t6_loop.trips) : Fin 2 → Nat :=
  let c10_i32_110 : BitVec 32 := 10#32
  let v230 : Index := Scalar.indexCast c10_i32_110
  let c0_i32_75 : BitVec 32 := 0#32
  let c1_i32_76 : BitVec 32 := 1#32
  let arg18 : BitVec 32 := Scf.iv c0_i32_75 c1_i32_76 k0_t6
  let c16_i32_109 : BitVec 32 := 16#32
  let v229 : BitVec 32 := Scalar.muli arg18 c16_i32_109
  let v231 : Index := Scalar.indexCast v229
  ![10, v231.toNat]
def k0_off68 (k0_t6 : Fin k0_t6_loop.trips) : Fin 2 → Nat :=
  let c11_i32_112 : BitVec 32 := 11#32
  let v234 : Index := Scalar.indexCast c11_i32_112
  let c0_i32_75 : BitVec 32 := 0#32
  let c1_i32_76 : BitVec 32 := 1#32
  let arg18 : BitVec 32 := Scf.iv c0_i32_75 c1_i32_76 k0_t6
  let c16_i32_111 : BitVec 32 := 16#32
  let v233 : BitVec 32 := Scalar.muli arg18 c16_i32_111
  let v235 : Index := Scalar.indexCast v233
  ![11, v235.toNat]
def k0_off69 (k0_t6 : Fin k0_t6_loop.trips) : Fin 2 → Nat :=
  let c12_i32_114 : BitVec 32 := 12#32
  let v238 : Index := Scalar.indexCast c12_i32_114
  let c0_i32_75 : BitVec 32 := 0#32
  let c1_i32_76 : BitVec 32 := 1#32
  let arg18 : BitVec 32 := Scf.iv c0_i32_75 c1_i32_76 k0_t6
  let c16_i32_113 : BitVec 32 := 16#32
  let v237 : BitVec 32 := Scalar.muli arg18 c16_i32_113
  let v239 : Index := Scalar.indexCast v237
  ![12, v239.toNat]
def k0_off70 (k0_t6 : Fin k0_t6_loop.trips) : Fin 2 → Nat :=
  let c13_i32_116 : BitVec 32 := 13#32
  let v242 : Index := Scalar.indexCast c13_i32_116
  let c0_i32_75 : BitVec 32 := 0#32
  let c1_i32_76 : BitVec 32 := 1#32
  let arg18 : BitVec 32 := Scf.iv c0_i32_75 c1_i32_76 k0_t6
  let c16_i32_115 : BitVec 32 := 16#32
  let v241 : BitVec 32 := Scalar.muli arg18 c16_i32_115
  let v243 : Index := Scalar.indexCast v241
  ![13, v243.toNat]
def k0_off71 (k0_t6 : Fin k0_t6_loop.trips) : Fin 2 → Nat :=
  let c14_i32_118 : BitVec 32 := 14#32
  let v246 : Index := Scalar.indexCast c14_i32_118
  let c0_i32_75 : BitVec 32 := 0#32
  let c1_i32_76 : BitVec 32 := 1#32
  let arg18 : BitVec 32 := Scf.iv c0_i32_75 c1_i32_76 k0_t6
  let c16_i32_117 : BitVec 32 := 16#32
  let v245 : BitVec 32 := Scalar.muli arg18 c16_i32_117
  let v247 : Index := Scalar.indexCast v245
  ![14, v247.toNat]
def k0_off72 (k0_t6 : Fin k0_t6_loop.trips) : Fin 2 → Nat :=
  let c15_i32_120 : BitVec 32 := 15#32
  let v250 : Index := Scalar.indexCast c15_i32_120
  let c0_i32_75 : BitVec 32 := 0#32
  let c1_i32_76 : BitVec 32 := 1#32
  let arg18 : BitVec 32 := Scf.iv c0_i32_75 c1_i32_76 k0_t6
  let c16_i32_119 : BitVec 32 := 16#32
  let v249 : BitVec 32 := Scalar.muli arg18 c16_i32_119
  let v251 : Index := Scalar.indexCast v249
  ![15, v251.toNat]

def k0_chk4 (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) : Prop :=
  (∀ (k0_h11 : k0_cond11 i k0_t4 = 1#1), ∀ a x, ((![v188, v10] : Fin 2 → IVec S16 32) a x).toNat < S192x128.size a) ∧
  (∀ (k0_h11 : k0_cond11 i k0_t4 = 1#1), ∀ a x, ((![v188, v16] : Fin 2 → IVec S16 32) a x).toNat < S192x128.size a) ∧
  (∀ (k0_h11 : k0_cond11 i k0_t4 = 1#1), ∀ a x, ((![v188, v22] : Fin 2 → IVec S16 32) a x).toNat < S192x128.size a) ∧
  (∀ (k0_h11 : k0_cond11 i k0_t4 = 1#1), ∀ a x, ((![v188, v28] : Fin 2 → IVec S16 32) a x).toNat < S192x128.size a) ∧
  (∀ (k0_h11 : k0_cond11 i k0_t4 = 1#1), ∀ a x, ((![v188, v34] : Fin 2 → IVec S16 32) a x).toNat < S192x128.size a) ∧
  (∀ (k0_h11 : k0_cond11 i k0_t4 = 1#1), ∀ a x, ((![v188, v40] : Fin 2 → IVec S16 32) a x).toNat < S192x128.size a) ∧
  (∀ (k0_h11 : k0_cond11 i k0_t4 = 1#1), ∀ a x, ((![v188, v46] : Fin 2 → IVec S16 32) a x).toNat < S192x128.size a) ∧
  (∀ (k0_h11 : k0_cond11 i k0_t4 = 1#1), ∀ a x, ((![v188, v52] : Fin 2 → IVec S16 32) a x).toNat < S192x128.size a) ∧
  (∀ (k0_h11 : k0_cond11 i k0_t4 = 1#1), ∀ a x, ((![v188, v58] : Fin 2 → IVec S16 32) a x).toNat < S192x128.size a) ∧
  (∀ (k0_h11 : k0_cond11 i k0_t4 = 1#1), ∀ a x, ((![v188, v64] : Fin 2 → IVec S16 32) a x).toNat < S192x128.size a) ∧
  (∀ (k0_h11 : k0_cond11 i k0_t4 = 1#1), ∀ a x, ((![v188, v70] : Fin 2 → IVec S16 32) a x).toNat < S192x128.size a) ∧
  (∀ (k0_h11 : k0_cond11 i k0_t4 = 1#1), ∀ a x, ((![v188, v76] : Fin 2 → IVec S16 32) a x).toNat < S192x128.size a) ∧
  (∀ (k0_h11 : k0_cond11 i k0_t4 = 1#1), ∀ a x, ((![v188, v82] : Fin 2 → IVec S16 32) a x).toNat < S192x128.size a) ∧
  (∀ (k0_h11 : k0_cond11 i k0_t4 = 1#1), ∀ a x, ((![v188, v88] : Fin 2 → IVec S16 32) a x).toNat < S192x128.size a) ∧
  (∀ (k0_h11 : k0_cond11 i k0_t4 = 1#1), ∀ a x, ((![v188, v94] : Fin 2 → IVec S16 32) a x).toNat < S192x128.size a) ∧
  (∀ (k0_h11 : k0_cond11 i k0_t4 = 1#1), ∀ a x, ((![v188, v100] : Fin 2 → IVec S16 32) a x).toNat < S192x128.size a)
theorem k0_idx49_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw4 : k0_chk4 i v10 v16 v22 v28 v34 v40 v46 v52 v58 v64 v70 v76 v82 v88 v94 v100 k0_t4 v188), ∀ (k0_h11 : k0_cond11 i k0_t4 = 1#1), ∀ a x, ((![v188, v10] : Fin 2 → IVec S16 32) a x).toNat < S192x128.size a := fun i v10 v16 v22 v28 v34 v40 v46 v52 v58 v64 v70 v76 v82 v88 v94 v100 k0_t4 v188 k0_hw4 k0_h11 => k0_hw4.1 k0_h11
theorem k0_idx50_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw4 : k0_chk4 i v10 v16 v22 v28 v34 v40 v46 v52 v58 v64 v70 v76 v82 v88 v94 v100 k0_t4 v188), ∀ (k0_h11 : k0_cond11 i k0_t4 = 1#1), ∀ a x, ((![v188, v16] : Fin 2 → IVec S16 32) a x).toNat < S192x128.size a := fun i v10 v16 v22 v28 v34 v40 v46 v52 v58 v64 v70 v76 v82 v88 v94 v100 k0_t4 v188 k0_hw4 k0_h11 => k0_hw4.2.1 k0_h11
theorem k0_idx51_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw4 : k0_chk4 i v10 v16 v22 v28 v34 v40 v46 v52 v58 v64 v70 v76 v82 v88 v94 v100 k0_t4 v188), ∀ (k0_h11 : k0_cond11 i k0_t4 = 1#1), ∀ a x, ((![v188, v22] : Fin 2 → IVec S16 32) a x).toNat < S192x128.size a := fun i v10 v16 v22 v28 v34 v40 v46 v52 v58 v64 v70 v76 v82 v88 v94 v100 k0_t4 v188 k0_hw4 k0_h11 => k0_hw4.2.2.1 k0_h11
theorem k0_idx52_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw4 : k0_chk4 i v10 v16 v22 v28 v34 v40 v46 v52 v58 v64 v70 v76 v82 v88 v94 v100 k0_t4 v188), ∀ (k0_h11 : k0_cond11 i k0_t4 = 1#1), ∀ a x, ((![v188, v28] : Fin 2 → IVec S16 32) a x).toNat < S192x128.size a := fun i v10 v16 v22 v28 v34 v40 v46 v52 v58 v64 v70 v76 v82 v88 v94 v100 k0_t4 v188 k0_hw4 k0_h11 => k0_hw4.2.2.2.1 k0_h11
theorem k0_idx53_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw4 : k0_chk4 i v10 v16 v22 v28 v34 v40 v46 v52 v58 v64 v70 v76 v82 v88 v94 v100 k0_t4 v188), ∀ (k0_h11 : k0_cond11 i k0_t4 = 1#1), ∀ a x, ((![v188, v34] : Fin 2 → IVec S16 32) a x).toNat < S192x128.size a := fun i v10 v16 v22 v28 v34 v40 v46 v52 v58 v64 v70 v76 v82 v88 v94 v100 k0_t4 v188 k0_hw4 k0_h11 => k0_hw4.2.2.2.2.1 k0_h11
theorem k0_idx54_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw4 : k0_chk4 i v10 v16 v22 v28 v34 v40 v46 v52 v58 v64 v70 v76 v82 v88 v94 v100 k0_t4 v188), ∀ (k0_h11 : k0_cond11 i k0_t4 = 1#1), ∀ a x, ((![v188, v40] : Fin 2 → IVec S16 32) a x).toNat < S192x128.size a := fun i v10 v16 v22 v28 v34 v40 v46 v52 v58 v64 v70 v76 v82 v88 v94 v100 k0_t4 v188 k0_hw4 k0_h11 => k0_hw4.2.2.2.2.2.1 k0_h11
theorem k0_idx55_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw4 : k0_chk4 i v10 v16 v22 v28 v34 v40 v46 v52 v58 v64 v70 v76 v82 v88 v94 v100 k0_t4 v188), ∀ (k0_h11 : k0_cond11 i k0_t4 = 1#1), ∀ a x, ((![v188, v46] : Fin 2 → IVec S16 32) a x).toNat < S192x128.size a := fun i v10 v16 v22 v28 v34 v40 v46 v52 v58 v64 v70 v76 v82 v88 v94 v100 k0_t4 v188 k0_hw4 k0_h11 => k0_hw4.2.2.2.2.2.2.1 k0_h11
theorem k0_idx56_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw4 : k0_chk4 i v10 v16 v22 v28 v34 v40 v46 v52 v58 v64 v70 v76 v82 v88 v94 v100 k0_t4 v188), ∀ (k0_h11 : k0_cond11 i k0_t4 = 1#1), ∀ a x, ((![v188, v52] : Fin 2 → IVec S16 32) a x).toNat < S192x128.size a := fun i v10 v16 v22 v28 v34 v40 v46 v52 v58 v64 v70 v76 v82 v88 v94 v100 k0_t4 v188 k0_hw4 k0_h11 => k0_hw4.2.2.2.2.2.2.2.1 k0_h11
theorem k0_idx57_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw4 : k0_chk4 i v10 v16 v22 v28 v34 v40 v46 v52 v58 v64 v70 v76 v82 v88 v94 v100 k0_t4 v188), ∀ (k0_h11 : k0_cond11 i k0_t4 = 1#1), ∀ a x, ((![v188, v58] : Fin 2 → IVec S16 32) a x).toNat < S192x128.size a := fun i v10 v16 v22 v28 v34 v40 v46 v52 v58 v64 v70 v76 v82 v88 v94 v100 k0_t4 v188 k0_hw4 k0_h11 => k0_hw4.2.2.2.2.2.2.2.2.1 k0_h11
theorem k0_idx58_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw4 : k0_chk4 i v10 v16 v22 v28 v34 v40 v46 v52 v58 v64 v70 v76 v82 v88 v94 v100 k0_t4 v188), ∀ (k0_h11 : k0_cond11 i k0_t4 = 1#1), ∀ a x, ((![v188, v64] : Fin 2 → IVec S16 32) a x).toNat < S192x128.size a := fun i v10 v16 v22 v28 v34 v40 v46 v52 v58 v64 v70 v76 v82 v88 v94 v100 k0_t4 v188 k0_hw4 k0_h11 => k0_hw4.2.2.2.2.2.2.2.2.2.1 k0_h11
theorem k0_idx59_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw4 : k0_chk4 i v10 v16 v22 v28 v34 v40 v46 v52 v58 v64 v70 v76 v82 v88 v94 v100 k0_t4 v188), ∀ (k0_h11 : k0_cond11 i k0_t4 = 1#1), ∀ a x, ((![v188, v70] : Fin 2 → IVec S16 32) a x).toNat < S192x128.size a := fun i v10 v16 v22 v28 v34 v40 v46 v52 v58 v64 v70 v76 v82 v88 v94 v100 k0_t4 v188 k0_hw4 k0_h11 => k0_hw4.2.2.2.2.2.2.2.2.2.2.1 k0_h11
theorem k0_idx60_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw4 : k0_chk4 i v10 v16 v22 v28 v34 v40 v46 v52 v58 v64 v70 v76 v82 v88 v94 v100 k0_t4 v188), ∀ (k0_h11 : k0_cond11 i k0_t4 = 1#1), ∀ a x, ((![v188, v76] : Fin 2 → IVec S16 32) a x).toNat < S192x128.size a := fun i v10 v16 v22 v28 v34 v40 v46 v52 v58 v64 v70 v76 v82 v88 v94 v100 k0_t4 v188 k0_hw4 k0_h11 => k0_hw4.2.2.2.2.2.2.2.2.2.2.2.1 k0_h11
theorem k0_idx61_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw4 : k0_chk4 i v10 v16 v22 v28 v34 v40 v46 v52 v58 v64 v70 v76 v82 v88 v94 v100 k0_t4 v188), ∀ (k0_h11 : k0_cond11 i k0_t4 = 1#1), ∀ a x, ((![v188, v82] : Fin 2 → IVec S16 32) a x).toNat < S192x128.size a := fun i v10 v16 v22 v28 v34 v40 v46 v52 v58 v64 v70 v76 v82 v88 v94 v100 k0_t4 v188 k0_hw4 k0_h11 => k0_hw4.2.2.2.2.2.2.2.2.2.2.2.2.1 k0_h11
theorem k0_idx62_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw4 : k0_chk4 i v10 v16 v22 v28 v34 v40 v46 v52 v58 v64 v70 v76 v82 v88 v94 v100 k0_t4 v188), ∀ (k0_h11 : k0_cond11 i k0_t4 = 1#1), ∀ a x, ((![v188, v88] : Fin 2 → IVec S16 32) a x).toNat < S192x128.size a := fun i v10 v16 v22 v28 v34 v40 v46 v52 v58 v64 v70 v76 v82 v88 v94 v100 k0_t4 v188 k0_hw4 k0_h11 => k0_hw4.2.2.2.2.2.2.2.2.2.2.2.2.2.1 k0_h11
theorem k0_idx63_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw4 : k0_chk4 i v10 v16 v22 v28 v34 v40 v46 v52 v58 v64 v70 v76 v82 v88 v94 v100 k0_t4 v188), ∀ (k0_h11 : k0_cond11 i k0_t4 = 1#1), ∀ a x, ((![v188, v94] : Fin 2 → IVec S16 32) a x).toNat < S192x128.size a := fun i v10 v16 v22 v28 v34 v40 v46 v52 v58 v64 v70 v76 v82 v88 v94 v100 k0_t4 v188 k0_hw4 k0_h11 => k0_hw4.2.2.2.2.2.2.2.2.2.2.2.2.2.2.1 k0_h11
theorem k0_idx64_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (k0_t4 : Fin (k0_t4_loop i).trips) (v188 : IVec S16 32) (k0_hw4 : k0_chk4 i v10 v16 v22 v28 v34 v40 v46 v52 v58 v64 v70 v76 v82 v88 v94 v100 k0_t4 v188), ∀ (k0_h11 : k0_cond11 i k0_t4 = 1#1), ∀ a x, ((![v188, v100] : Fin 2 → IVec S16 32) a x).toNat < S192x128.size a := fun i v10 v16 v22 v28 v34 v40 v46 v52 v58 v64 v70 v76 v82 v88 v94 v100 k0_t4 v188 k0_hw4 k0_h11 => k0_hw4.2.2.2.2.2.2.2.2.2.2.2.2.2.2.2 k0_h11
def k0_mult12 (i : grid0.Coords) (k0_t4 : Fin (k0_t4_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_61 : BitVec 32 := 2#32
  let c0_i32_46 : BitVec 32 := 0#32
  let c11_i32_33 : BitVec 32 := 11#32
  let v101 : BitVec 1 := Scalar.cmpi .slt v1 c11_i32_33
  let c21_i32 : BitVec 32 := 21#32
  let c20_i32 : BitVec 32 := 20#32
  let v102 : BitVec 32 := Scalar.select v101 c21_i32 c20_i32
  let c1_i32_37 : BitVec 32 := 1#32
  let v108 : BitVec 32 := Scalar.addi v102 c1_i32_37
  let c0_i32_39 : BitVec 32 := 0#32
  let v110 : BitVec 1 := Scalar.cmpi .sgt v108 c0_i32_39
  let v111 : BitVec 32 := Scalar.extui v110
  let c0_i32_40 : BitVec 32 := 0#32
  let v112 : BitVec 1 := Scalar.cmpi .slt v108 c0_i32_40
  let v113 : BitVec 32 := Scalar.extui v112
  let v114 : BitVec 32 := Scalar.subi v111 v113
  let c2_i32_38 : BitVec 32 := 2#32
  let c0_i32_41 : BitVec 32 := 0#32
  let v115 : BitVec 1 := Scalar.cmpi .sgt c2_i32_38 c0_i32_41
  let v116 : BitVec 32 := Scalar.extui v115
  let c0_i32_42 : BitVec 32 := 0#32
  let v117 : BitVec 1 := Scalar.cmpi .slt c2_i32_38 c0_i32_42
  let v118 : BitVec 32 := Scalar.extui v117
  let v119 : BitVec 32 := Scalar.subi v116 v118
  let v120 : BitVec 1 := Scalar.cmpi .ne v114 v119
  let v121 : BitVec 32 := Scalar.remsi v108 c2_i32_38
  let c0_i32_43 : BitVec 32 := 0#32
  let v122 : BitVec 1 := Scalar.cmpi .ne v121 c0_i32_43
  let v123 : BitVec 1 := Scalar.andi v120 v122
  let v109 : BitVec 32 := Scalar.divsi v108 c2_i32_38
  let c1_i32_44 : BitVec 32 := 1#32
  let v124 : BitVec 32 := Scalar.subi v109 c1_i32_44
  let v125 : BitVec 32 := Scalar.select v123 v124 v109
  let v126 : BitVec 32 := Scalar.subi v125 c0_i32_46
  let c1_i32_47 : BitVec 32 := 1#32
  let v128 : BitVec 32 := Scalar.divsi v126 c1_i32_47
  let v129 : BitVec 32 := Scalar.muli v128 c1_i32_47
  let v130 : BitVec 32 := Scalar.addi c0_i32_46 v129
  let c1_i32_49 : BitVec 32 := 1#32
  let arg17 : BitVec 32 := Scf.iv v130 c1_i32_49 k0_t4
  let v141 : BitVec 32 := Scalar.muli c2_i32_61 arg17
  let c1_i32_62 : BitVec 32 := 1#32
  let v142 : BitVec 32 := Scalar.addi v141 c1_i32_62
  let c32_i32 : BitVec 32 := 32#32
  let v162 : BitVec 32 := Scalar.muli v142 c32_i32
  let v163 : BitVec 32 := Scalar.addi v1 v162
  let c1536_i32_78 : BitVec 32 := 1536#32
  let v164 : BitVec 32 := Scalar.muli v163 c1536_i32_78
  v164
def k0_mult13 (i : grid0.Coords) (k0_t4 : Fin (k0_t4_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_61 : BitVec 32 := 2#32
  let c0_i32_46 : BitVec 32 := 0#32
  let c11_i32_33 : BitVec 32 := 11#32
  let v101 : BitVec 1 := Scalar.cmpi .slt v1 c11_i32_33
  let c21_i32 : BitVec 32 := 21#32
  let c20_i32 : BitVec 32 := 20#32
  let v102 : BitVec 32 := Scalar.select v101 c21_i32 c20_i32
  let c1_i32_37 : BitVec 32 := 1#32
  let v108 : BitVec 32 := Scalar.addi v102 c1_i32_37
  let c0_i32_39 : BitVec 32 := 0#32
  let v110 : BitVec 1 := Scalar.cmpi .sgt v108 c0_i32_39
  let v111 : BitVec 32 := Scalar.extui v110
  let c0_i32_40 : BitVec 32 := 0#32
  let v112 : BitVec 1 := Scalar.cmpi .slt v108 c0_i32_40
  let v113 : BitVec 32 := Scalar.extui v112
  let v114 : BitVec 32 := Scalar.subi v111 v113
  let c2_i32_38 : BitVec 32 := 2#32
  let c0_i32_41 : BitVec 32 := 0#32
  let v115 : BitVec 1 := Scalar.cmpi .sgt c2_i32_38 c0_i32_41
  let v116 : BitVec 32 := Scalar.extui v115
  let c0_i32_42 : BitVec 32 := 0#32
  let v117 : BitVec 1 := Scalar.cmpi .slt c2_i32_38 c0_i32_42
  let v118 : BitVec 32 := Scalar.extui v117
  let v119 : BitVec 32 := Scalar.subi v116 v118
  let v120 : BitVec 1 := Scalar.cmpi .ne v114 v119
  let v121 : BitVec 32 := Scalar.remsi v108 c2_i32_38
  let c0_i32_43 : BitVec 32 := 0#32
  let v122 : BitVec 1 := Scalar.cmpi .ne v121 c0_i32_43
  let v123 : BitVec 1 := Scalar.andi v120 v122
  let v109 : BitVec 32 := Scalar.divsi v108 c2_i32_38
  let c1_i32_44 : BitVec 32 := 1#32
  let v124 : BitVec 32 := Scalar.subi v109 c1_i32_44
  let v125 : BitVec 32 := Scalar.select v123 v124 v109
  let v126 : BitVec 32 := Scalar.subi v125 c0_i32_46
  let c1_i32_47 : BitVec 32 := 1#32
  let v128 : BitVec 32 := Scalar.divsi v126 c1_i32_47
  let v129 : BitVec 32 := Scalar.muli v128 c1_i32_47
  let v130 : BitVec 32 := Scalar.addi c0_i32_46 v129
  let c1_i32_49 : BitVec 32 := 1#32
  let arg17 : BitVec 32 := Scf.iv v130 c1_i32_49 k0_t4
  let v141 : BitVec 32 := Scalar.muli c2_i32_61 arg17
  let c1_i32_62 : BitVec 32 := 1#32
  let v142 : BitVec 32 := Scalar.addi v141 c1_i32_62
  let c32_i32 : BitVec 32 := 32#32
  let v162 : BitVec 32 := Scalar.muli v142 c32_i32
  let v163 : BitVec 32 := Scalar.addi v1 v162
  let c1536_i32_78 : BitVec 32 := 1536#32
  let v164 : BitVec 32 := Scalar.muli v163 c1536_i32_78
  let v165 : BitVec 32 := v164
  let c0_i32_80 : BitVec 32 := 0#32
  let v167 : BitVec 1 := Scalar.cmpi .sgt v165 c0_i32_80
  let v168 : BitVec 32 := Scalar.extui v167
  let c0_i32_81 : BitVec 32 := 0#32
  let v169 : BitVec 1 := Scalar.cmpi .slt v165 c0_i32_81
  let v170 : BitVec 32 := Scalar.extui v169
  let v171 : BitVec 32 := Scalar.subi v168 v170
  let c8_i32_79 : BitVec 32 := 8#32
  let c0_i32_82 : BitVec 32 := 0#32
  let v172 : BitVec 1 := Scalar.cmpi .sgt c8_i32_79 c0_i32_82
  let v173 : BitVec 32 := Scalar.extui v172
  let c0_i32_83 : BitVec 32 := 0#32
  let v174 : BitVec 1 := Scalar.cmpi .slt c8_i32_79 c0_i32_83
  let v175 : BitVec 32 := Scalar.extui v174
  let v176 : BitVec 32 := Scalar.subi v173 v175
  let v177 : BitVec 1 := Scalar.cmpi .ne v171 v176
  let v178 : BitVec 32 := Scalar.remsi v165 c8_i32_79
  let c0_i32_84 : BitVec 32 := 0#32
  let v179 : BitVec 1 := Scalar.cmpi .ne v178 c0_i32_84
  let v180 : BitVec 1 := Scalar.andi v177 v179
  let v166 : BitVec 32 := Scalar.divsi v165 c8_i32_79
  let c1_i32_85 : BitVec 32 := 1#32
  let v181 : BitVec 32 := Scalar.subi v166 c1_i32_85
  let v182 : BitVec 32 := Scalar.select v180 v181 v166
  v182
def k0_off73 (i : grid0.Coords) (k0_t4 : Fin (k0_t4_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_61 : BitVec 32 := 2#32
  let c0_i32_46 : BitVec 32 := 0#32
  let c11_i32_33 : BitVec 32 := 11#32
  let v101 : BitVec 1 := Scalar.cmpi .slt v1 c11_i32_33
  let c21_i32 : BitVec 32 := 21#32
  let c20_i32 : BitVec 32 := 20#32
  let v102 : BitVec 32 := Scalar.select v101 c21_i32 c20_i32
  let c1_i32_37 : BitVec 32 := 1#32
  let v108 : BitVec 32 := Scalar.addi v102 c1_i32_37
  let c0_i32_39 : BitVec 32 := 0#32
  let v110 : BitVec 1 := Scalar.cmpi .sgt v108 c0_i32_39
  let v111 : BitVec 32 := Scalar.extui v110
  let c0_i32_40 : BitVec 32 := 0#32
  let v112 : BitVec 1 := Scalar.cmpi .slt v108 c0_i32_40
  let v113 : BitVec 32 := Scalar.extui v112
  let v114 : BitVec 32 := Scalar.subi v111 v113
  let c2_i32_38 : BitVec 32 := 2#32
  let c0_i32_41 : BitVec 32 := 0#32
  let v115 : BitVec 1 := Scalar.cmpi .sgt c2_i32_38 c0_i32_41
  let v116 : BitVec 32 := Scalar.extui v115
  let c0_i32_42 : BitVec 32 := 0#32
  let v117 : BitVec 1 := Scalar.cmpi .slt c2_i32_38 c0_i32_42
  let v118 : BitVec 32 := Scalar.extui v117
  let v119 : BitVec 32 := Scalar.subi v116 v118
  let v120 : BitVec 1 := Scalar.cmpi .ne v114 v119
  let v121 : BitVec 32 := Scalar.remsi v108 c2_i32_38
  let c0_i32_43 : BitVec 32 := 0#32
  let v122 : BitVec 1 := Scalar.cmpi .ne v121 c0_i32_43
  let v123 : BitVec 1 := Scalar.andi v120 v122
  let v109 : BitVec 32 := Scalar.divsi v108 c2_i32_38
  let c1_i32_44 : BitVec 32 := 1#32
  let v124 : BitVec 32 := Scalar.subi v109 c1_i32_44
  let v125 : BitVec 32 := Scalar.select v123 v124 v109
  let v126 : BitVec 32 := Scalar.subi v125 c0_i32_46
  let c1_i32_47 : BitVec 32 := 1#32
  let v128 : BitVec 32 := Scalar.divsi v126 c1_i32_47
  let v129 : BitVec 32 := Scalar.muli v128 c1_i32_47
  let v130 : BitVec 32 := Scalar.addi c0_i32_46 v129
  let c1_i32_49 : BitVec 32 := 1#32
  let arg17 : BitVec 32 := Scf.iv v130 c1_i32_49 k0_t4
  let v141 : BitVec 32 := Scalar.muli c2_i32_61 arg17
  let c1_i32_62 : BitVec 32 := 1#32
  let v142 : BitVec 32 := Scalar.addi v141 c1_i32_62
  let c32_i32 : BitVec 32 := 32#32
  let v162 : BitVec 32 := Scalar.muli v142 c32_i32
  let v163 : BitVec 32 := Scalar.addi v1 v162
  let c1536_i32_78 : BitVec 32 := 1536#32
  let v164 : BitVec 32 := Scalar.muli v163 c1536_i32_78
  let v165 : BitVec 32 := v164
  let c0_i32_80 : BitVec 32 := 0#32
  let v167 : BitVec 1 := Scalar.cmpi .sgt v165 c0_i32_80
  let v168 : BitVec 32 := Scalar.extui v167
  let c0_i32_81 : BitVec 32 := 0#32
  let v169 : BitVec 1 := Scalar.cmpi .slt v165 c0_i32_81
  let v170 : BitVec 32 := Scalar.extui v169
  let v171 : BitVec 32 := Scalar.subi v168 v170
  let c8_i32_79 : BitVec 32 := 8#32
  let c0_i32_82 : BitVec 32 := 0#32
  let v172 : BitVec 1 := Scalar.cmpi .sgt c8_i32_79 c0_i32_82
  let v173 : BitVec 32 := Scalar.extui v172
  let c0_i32_83 : BitVec 32 := 0#32
  let v174 : BitVec 1 := Scalar.cmpi .slt c8_i32_79 c0_i32_83
  let v175 : BitVec 32 := Scalar.extui v174
  let v176 : BitVec 32 := Scalar.subi v173 v175
  let v177 : BitVec 1 := Scalar.cmpi .ne v171 v176
  let v178 : BitVec 32 := Scalar.remsi v165 c8_i32_79
  let c0_i32_84 : BitVec 32 := 0#32
  let v179 : BitVec 1 := Scalar.cmpi .ne v178 c0_i32_84
  let v180 : BitVec 1 := Scalar.andi v177 v179
  let v166 : BitVec 32 := Scalar.divsi v165 c8_i32_79
  let c1_i32_85 : BitVec 32 := 1#32
  let v181 : BitVec 32 := Scalar.subi v166 c1_i32_85
  let v182 : BitVec 32 := Scalar.select v180 v181 v166
  let v183 : BitVec 32 := v182
  let c0_i32_86 : BitVec 32 := 0#32
  ![v183.toNat, 0]
def k0_cond13 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_58 : BitVec 32 := 0#32
  let v135 : BitVec 1 := Scalar.cmpi .eq v1 c0_i32_58
  let v136 : BitVec 32 := Scalar.extui v135
  let c0_i32_59 : BitVec 32 := 0#32
  let v137 : BitVec 1 := Scalar.cmpi .ne v136 c0_i32_59
  v137

@[reducible] def k0_t7_loop : Scf.Loop 32 :=
  let c0_i32_62 : BitVec 32 := 0#32
  let c4_i32_63 : BitVec 32 := 4#32
  let v141 : BitVec 32 := Scalar.addi c0_i32_62 c4_i32_63
  let c1_i32_64 : BitVec 32 := 1#32
  ⟨c0_i32_62, v141, c1_i32_64⟩
def k0_off74 (k0_t7 : Fin k0_t7_loop.trips) : Fin 2 → Nat :=
  let c0_i32_68 : BitVec 32 := 0#32
  let v146 : Index := Scalar.indexCast c0_i32_68
  let c0_i32_62 : BitVec 32 := 0#32
  let c1_i32_64 : BitVec 32 := 1#32
  let arg17 : BitVec 32 := Scf.iv c0_i32_62 c1_i32_64 k0_t7
  let c16_i32_67 : BitVec 32 := 16#32
  let v145 : BitVec 32 := Scalar.muli arg17 c16_i32_67
  let v147 : Index := Scalar.indexCast v145
  ![0, v147.toNat]
def k0_off75 (k0_t7 : Fin k0_t7_loop.trips) : Fin 2 → Nat :=
  let c1_i32_70 : BitVec 32 := 1#32
  let v150 : Index := Scalar.indexCast c1_i32_70
  let c0_i32_62 : BitVec 32 := 0#32
  let c1_i32_64 : BitVec 32 := 1#32
  let arg17 : BitVec 32 := Scf.iv c0_i32_62 c1_i32_64 k0_t7
  let c16_i32_69 : BitVec 32 := 16#32
  let v149 : BitVec 32 := Scalar.muli arg17 c16_i32_69
  let v151 : Index := Scalar.indexCast v149
  ![1, v151.toNat]
def k0_off76 (k0_t7 : Fin k0_t7_loop.trips) : Fin 2 → Nat :=
  let c2_i32_72 : BitVec 32 := 2#32
  let v154 : Index := Scalar.indexCast c2_i32_72
  let c0_i32_62 : BitVec 32 := 0#32
  let c1_i32_64 : BitVec 32 := 1#32
  let arg17 : BitVec 32 := Scf.iv c0_i32_62 c1_i32_64 k0_t7
  let c16_i32_71 : BitVec 32 := 16#32
  let v153 : BitVec 32 := Scalar.muli arg17 c16_i32_71
  let v155 : Index := Scalar.indexCast v153
  ![2, v155.toNat]
def k0_off77 (k0_t7 : Fin k0_t7_loop.trips) : Fin 2 → Nat :=
  let c3_i32_74 : BitVec 32 := 3#32
  let v158 : Index := Scalar.indexCast c3_i32_74
  let c0_i32_62 : BitVec 32 := 0#32
  let c1_i32_64 : BitVec 32 := 1#32
  let arg17 : BitVec 32 := Scf.iv c0_i32_62 c1_i32_64 k0_t7
  let c16_i32_73 : BitVec 32 := 16#32
  let v157 : BitVec 32 := Scalar.muli arg17 c16_i32_73
  let v159 : Index := Scalar.indexCast v157
  ![3, v159.toNat]
def k0_off78 (k0_t7 : Fin k0_t7_loop.trips) : Fin 2 → Nat :=
  let c4_i32_76 : BitVec 32 := 4#32
  let v162 : Index := Scalar.indexCast c4_i32_76
  let c0_i32_62 : BitVec 32 := 0#32
  let c1_i32_64 : BitVec 32 := 1#32
  let arg17 : BitVec 32 := Scf.iv c0_i32_62 c1_i32_64 k0_t7
  let c16_i32_75 : BitVec 32 := 16#32
  let v161 : BitVec 32 := Scalar.muli arg17 c16_i32_75
  let v163 : Index := Scalar.indexCast v161
  ![4, v163.toNat]
def k0_off79 (k0_t7 : Fin k0_t7_loop.trips) : Fin 2 → Nat :=
  let c5_i32_78 : BitVec 32 := 5#32
  let v166 : Index := Scalar.indexCast c5_i32_78
  let c0_i32_62 : BitVec 32 := 0#32
  let c1_i32_64 : BitVec 32 := 1#32
  let arg17 : BitVec 32 := Scf.iv c0_i32_62 c1_i32_64 k0_t7
  let c16_i32_77 : BitVec 32 := 16#32
  let v165 : BitVec 32 := Scalar.muli arg17 c16_i32_77
  let v167 : Index := Scalar.indexCast v165
  ![5, v167.toNat]
def k0_off80 (k0_t7 : Fin k0_t7_loop.trips) : Fin 2 → Nat :=
  let c6_i32_80 : BitVec 32 := 6#32
  let v170 : Index := Scalar.indexCast c6_i32_80
  let c0_i32_62 : BitVec 32 := 0#32
  let c1_i32_64 : BitVec 32 := 1#32
  let arg17 : BitVec 32 := Scf.iv c0_i32_62 c1_i32_64 k0_t7
  let c16_i32_79 : BitVec 32 := 16#32
  let v169 : BitVec 32 := Scalar.muli arg17 c16_i32_79
  let v171 : Index := Scalar.indexCast v169
  ![6, v171.toNat]
def k0_off81 (k0_t7 : Fin k0_t7_loop.trips) : Fin 2 → Nat :=
  let c7_i32_82 : BitVec 32 := 7#32
  let v174 : Index := Scalar.indexCast c7_i32_82
  let c0_i32_62 : BitVec 32 := 0#32
  let c1_i32_64 : BitVec 32 := 1#32
  let arg17 : BitVec 32 := Scf.iv c0_i32_62 c1_i32_64 k0_t7
  let c16_i32_81 : BitVec 32 := 16#32
  let v173 : BitVec 32 := Scalar.muli arg17 c16_i32_81
  let v175 : Index := Scalar.indexCast v173
  ![7, v175.toNat]
def k0_off82 (k0_t7 : Fin k0_t7_loop.trips) : Fin 2 → Nat :=
  let c8_i32_84 : BitVec 32 := 8#32
  let v178 : Index := Scalar.indexCast c8_i32_84
  let c0_i32_62 : BitVec 32 := 0#32
  let c1_i32_64 : BitVec 32 := 1#32
  let arg17 : BitVec 32 := Scf.iv c0_i32_62 c1_i32_64 k0_t7
  let c16_i32_83 : BitVec 32 := 16#32
  let v177 : BitVec 32 := Scalar.muli arg17 c16_i32_83
  let v179 : Index := Scalar.indexCast v177
  ![8, v179.toNat]
def k0_off83 (k0_t7 : Fin k0_t7_loop.trips) : Fin 2 → Nat :=
  let c9_i32_86 : BitVec 32 := 9#32
  let v182 : Index := Scalar.indexCast c9_i32_86
  let c0_i32_62 : BitVec 32 := 0#32
  let c1_i32_64 : BitVec 32 := 1#32
  let arg17 : BitVec 32 := Scf.iv c0_i32_62 c1_i32_64 k0_t7
  let c16_i32_85 : BitVec 32 := 16#32
  let v181 : BitVec 32 := Scalar.muli arg17 c16_i32_85
  let v183 : Index := Scalar.indexCast v181
  ![9, v183.toNat]
def k0_off84 (k0_t7 : Fin k0_t7_loop.trips) : Fin 2 → Nat :=
  let c10_i32_88 : BitVec 32 := 10#32
  let v186 : Index := Scalar.indexCast c10_i32_88
  let c0_i32_62 : BitVec 32 := 0#32
  let c1_i32_64 : BitVec 32 := 1#32
  let arg17 : BitVec 32 := Scf.iv c0_i32_62 c1_i32_64 k0_t7
  let c16_i32_87 : BitVec 32 := 16#32
  let v185 : BitVec 32 := Scalar.muli arg17 c16_i32_87
  let v187 : Index := Scalar.indexCast v185
  ![10, v187.toNat]
def k0_off85 (k0_t7 : Fin k0_t7_loop.trips) : Fin 2 → Nat :=
  let c11_i32_90 : BitVec 32 := 11#32
  let v190 : Index := Scalar.indexCast c11_i32_90
  let c0_i32_62 : BitVec 32 := 0#32
  let c1_i32_64 : BitVec 32 := 1#32
  let arg17 : BitVec 32 := Scf.iv c0_i32_62 c1_i32_64 k0_t7
  let c16_i32_89 : BitVec 32 := 16#32
  let v189 : BitVec 32 := Scalar.muli arg17 c16_i32_89
  let v191 : Index := Scalar.indexCast v189
  ![11, v191.toNat]
def k0_off86 (k0_t7 : Fin k0_t7_loop.trips) : Fin 2 → Nat :=
  let c12_i32_92 : BitVec 32 := 12#32
  let v194 : Index := Scalar.indexCast c12_i32_92
  let c0_i32_62 : BitVec 32 := 0#32
  let c1_i32_64 : BitVec 32 := 1#32
  let arg17 : BitVec 32 := Scf.iv c0_i32_62 c1_i32_64 k0_t7
  let c16_i32_91 : BitVec 32 := 16#32
  let v193 : BitVec 32 := Scalar.muli arg17 c16_i32_91
  let v195 : Index := Scalar.indexCast v193
  ![12, v195.toNat]
def k0_off87 (k0_t7 : Fin k0_t7_loop.trips) : Fin 2 → Nat :=
  let c13_i32_94 : BitVec 32 := 13#32
  let v198 : Index := Scalar.indexCast c13_i32_94
  let c0_i32_62 : BitVec 32 := 0#32
  let c1_i32_64 : BitVec 32 := 1#32
  let arg17 : BitVec 32 := Scf.iv c0_i32_62 c1_i32_64 k0_t7
  let c16_i32_93 : BitVec 32 := 16#32
  let v197 : BitVec 32 := Scalar.muli arg17 c16_i32_93
  let v199 : Index := Scalar.indexCast v197
  ![13, v199.toNat]
def k0_off88 (k0_t7 : Fin k0_t7_loop.trips) : Fin 2 → Nat :=
  let c14_i32_96 : BitVec 32 := 14#32
  let v202 : Index := Scalar.indexCast c14_i32_96
  let c0_i32_62 : BitVec 32 := 0#32
  let c1_i32_64 : BitVec 32 := 1#32
  let arg17 : BitVec 32 := Scf.iv c0_i32_62 c1_i32_64 k0_t7
  let c16_i32_95 : BitVec 32 := 16#32
  let v201 : BitVec 32 := Scalar.muli arg17 c16_i32_95
  let v203 : Index := Scalar.indexCast v201
  ![14, v203.toNat]
def k0_off89 (k0_t7 : Fin k0_t7_loop.trips) : Fin 2 → Nat :=
  let c15_i32_98 : BitVec 32 := 15#32
  let v206 : Index := Scalar.indexCast c15_i32_98
  let c0_i32_62 : BitVec 32 := 0#32
  let c1_i32_64 : BitVec 32 := 1#32
  let arg17 : BitVec 32 := Scf.iv c0_i32_62 c1_i32_64 k0_t7
  let c16_i32_97 : BitVec 32 := 16#32
  let v205 : BitVec 32 := Scalar.muli arg17 c16_i32_97
  let v207 : Index := Scalar.indexCast v205
  ![15, v207.toNat]

def k0_chk5 (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) : Prop :=
  (∀ (k0_h13 : k0_cond13 i = 1#1), ∀ a x, ((![v144, v10] : Fin 2 → IVec S16 32) a x).toNat < S8x128.size a) ∧
  (∀ (k0_h13 : k0_cond13 i = 1#1), ∀ a x, ((![v144, v16] : Fin 2 → IVec S16 32) a x).toNat < S8x128.size a) ∧
  (∀ (k0_h13 : k0_cond13 i = 1#1), ∀ a x, ((![v144, v22] : Fin 2 → IVec S16 32) a x).toNat < S8x128.size a) ∧
  (∀ (k0_h13 : k0_cond13 i = 1#1), ∀ a x, ((![v144, v28] : Fin 2 → IVec S16 32) a x).toNat < S8x128.size a) ∧
  (∀ (k0_h13 : k0_cond13 i = 1#1), ∀ a x, ((![v144, v34] : Fin 2 → IVec S16 32) a x).toNat < S8x128.size a) ∧
  (∀ (k0_h13 : k0_cond13 i = 1#1), ∀ a x, ((![v144, v40] : Fin 2 → IVec S16 32) a x).toNat < S8x128.size a) ∧
  (∀ (k0_h13 : k0_cond13 i = 1#1), ∀ a x, ((![v144, v46] : Fin 2 → IVec S16 32) a x).toNat < S8x128.size a) ∧
  (∀ (k0_h13 : k0_cond13 i = 1#1), ∀ a x, ((![v144, v52] : Fin 2 → IVec S16 32) a x).toNat < S8x128.size a) ∧
  (∀ (k0_h13 : k0_cond13 i = 1#1), ∀ a x, ((![v144, v58] : Fin 2 → IVec S16 32) a x).toNat < S8x128.size a) ∧
  (∀ (k0_h13 : k0_cond13 i = 1#1), ∀ a x, ((![v144, v64] : Fin 2 → IVec S16 32) a x).toNat < S8x128.size a) ∧
  (∀ (k0_h13 : k0_cond13 i = 1#1), ∀ a x, ((![v144, v70] : Fin 2 → IVec S16 32) a x).toNat < S8x128.size a) ∧
  (∀ (k0_h13 : k0_cond13 i = 1#1), ∀ a x, ((![v144, v76] : Fin 2 → IVec S16 32) a x).toNat < S8x128.size a) ∧
  (∀ (k0_h13 : k0_cond13 i = 1#1), ∀ a x, ((![v144, v82] : Fin 2 → IVec S16 32) a x).toNat < S8x128.size a) ∧
  (∀ (k0_h13 : k0_cond13 i = 1#1), ∀ a x, ((![v144, v88] : Fin 2 → IVec S16 32) a x).toNat < S8x128.size a) ∧
  (∀ (k0_h13 : k0_cond13 i = 1#1), ∀ a x, ((![v144, v94] : Fin 2 → IVec S16 32) a x).toNat < S8x128.size a) ∧
  (∀ (k0_h13 : k0_cond13 i = 1#1), ∀ a x, ((![v144, v100] : Fin 2 → IVec S16 32) a x).toNat < S8x128.size a)
theorem k0_idx65_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw5 : k0_chk5 i v10 v16 v22 v28 v34 v40 v46 v52 v58 v64 v70 v76 v82 v88 v94 v100 v144), ∀ (k0_h13 : k0_cond13 i = 1#1), ∀ a x, ((![v144, v10] : Fin 2 → IVec S16 32) a x).toNat < S8x128.size a := fun i v10 v16 v22 v28 v34 v40 v46 v52 v58 v64 v70 v76 v82 v88 v94 v100 v144 k0_hw5 k0_h13 => k0_hw5.1 k0_h13
theorem k0_idx66_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw5 : k0_chk5 i v10 v16 v22 v28 v34 v40 v46 v52 v58 v64 v70 v76 v82 v88 v94 v100 v144), ∀ (k0_h13 : k0_cond13 i = 1#1), ∀ a x, ((![v144, v16] : Fin 2 → IVec S16 32) a x).toNat < S8x128.size a := fun i v10 v16 v22 v28 v34 v40 v46 v52 v58 v64 v70 v76 v82 v88 v94 v100 v144 k0_hw5 k0_h13 => k0_hw5.2.1 k0_h13
theorem k0_idx67_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw5 : k0_chk5 i v10 v16 v22 v28 v34 v40 v46 v52 v58 v64 v70 v76 v82 v88 v94 v100 v144), ∀ (k0_h13 : k0_cond13 i = 1#1), ∀ a x, ((![v144, v22] : Fin 2 → IVec S16 32) a x).toNat < S8x128.size a := fun i v10 v16 v22 v28 v34 v40 v46 v52 v58 v64 v70 v76 v82 v88 v94 v100 v144 k0_hw5 k0_h13 => k0_hw5.2.2.1 k0_h13
theorem k0_idx68_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw5 : k0_chk5 i v10 v16 v22 v28 v34 v40 v46 v52 v58 v64 v70 v76 v82 v88 v94 v100 v144), ∀ (k0_h13 : k0_cond13 i = 1#1), ∀ a x, ((![v144, v28] : Fin 2 → IVec S16 32) a x).toNat < S8x128.size a := fun i v10 v16 v22 v28 v34 v40 v46 v52 v58 v64 v70 v76 v82 v88 v94 v100 v144 k0_hw5 k0_h13 => k0_hw5.2.2.2.1 k0_h13
theorem k0_idx69_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw5 : k0_chk5 i v10 v16 v22 v28 v34 v40 v46 v52 v58 v64 v70 v76 v82 v88 v94 v100 v144), ∀ (k0_h13 : k0_cond13 i = 1#1), ∀ a x, ((![v144, v34] : Fin 2 → IVec S16 32) a x).toNat < S8x128.size a := fun i v10 v16 v22 v28 v34 v40 v46 v52 v58 v64 v70 v76 v82 v88 v94 v100 v144 k0_hw5 k0_h13 => k0_hw5.2.2.2.2.1 k0_h13
theorem k0_idx70_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw5 : k0_chk5 i v10 v16 v22 v28 v34 v40 v46 v52 v58 v64 v70 v76 v82 v88 v94 v100 v144), ∀ (k0_h13 : k0_cond13 i = 1#1), ∀ a x, ((![v144, v40] : Fin 2 → IVec S16 32) a x).toNat < S8x128.size a := fun i v10 v16 v22 v28 v34 v40 v46 v52 v58 v64 v70 v76 v82 v88 v94 v100 v144 k0_hw5 k0_h13 => k0_hw5.2.2.2.2.2.1 k0_h13
theorem k0_idx71_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw5 : k0_chk5 i v10 v16 v22 v28 v34 v40 v46 v52 v58 v64 v70 v76 v82 v88 v94 v100 v144), ∀ (k0_h13 : k0_cond13 i = 1#1), ∀ a x, ((![v144, v46] : Fin 2 → IVec S16 32) a x).toNat < S8x128.size a := fun i v10 v16 v22 v28 v34 v40 v46 v52 v58 v64 v70 v76 v82 v88 v94 v100 v144 k0_hw5 k0_h13 => k0_hw5.2.2.2.2.2.2.1 k0_h13
theorem k0_idx72_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw5 : k0_chk5 i v10 v16 v22 v28 v34 v40 v46 v52 v58 v64 v70 v76 v82 v88 v94 v100 v144), ∀ (k0_h13 : k0_cond13 i = 1#1), ∀ a x, ((![v144, v52] : Fin 2 → IVec S16 32) a x).toNat < S8x128.size a := fun i v10 v16 v22 v28 v34 v40 v46 v52 v58 v64 v70 v76 v82 v88 v94 v100 v144 k0_hw5 k0_h13 => k0_hw5.2.2.2.2.2.2.2.1 k0_h13
theorem k0_idx73_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw5 : k0_chk5 i v10 v16 v22 v28 v34 v40 v46 v52 v58 v64 v70 v76 v82 v88 v94 v100 v144), ∀ (k0_h13 : k0_cond13 i = 1#1), ∀ a x, ((![v144, v58] : Fin 2 → IVec S16 32) a x).toNat < S8x128.size a := fun i v10 v16 v22 v28 v34 v40 v46 v52 v58 v64 v70 v76 v82 v88 v94 v100 v144 k0_hw5 k0_h13 => k0_hw5.2.2.2.2.2.2.2.2.1 k0_h13
theorem k0_idx74_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw5 : k0_chk5 i v10 v16 v22 v28 v34 v40 v46 v52 v58 v64 v70 v76 v82 v88 v94 v100 v144), ∀ (k0_h13 : k0_cond13 i = 1#1), ∀ a x, ((![v144, v64] : Fin 2 → IVec S16 32) a x).toNat < S8x128.size a := fun i v10 v16 v22 v28 v34 v40 v46 v52 v58 v64 v70 v76 v82 v88 v94 v100 v144 k0_hw5 k0_h13 => k0_hw5.2.2.2.2.2.2.2.2.2.1 k0_h13
theorem k0_idx75_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw5 : k0_chk5 i v10 v16 v22 v28 v34 v40 v46 v52 v58 v64 v70 v76 v82 v88 v94 v100 v144), ∀ (k0_h13 : k0_cond13 i = 1#1), ∀ a x, ((![v144, v70] : Fin 2 → IVec S16 32) a x).toNat < S8x128.size a := fun i v10 v16 v22 v28 v34 v40 v46 v52 v58 v64 v70 v76 v82 v88 v94 v100 v144 k0_hw5 k0_h13 => k0_hw5.2.2.2.2.2.2.2.2.2.2.1 k0_h13
theorem k0_idx76_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw5 : k0_chk5 i v10 v16 v22 v28 v34 v40 v46 v52 v58 v64 v70 v76 v82 v88 v94 v100 v144), ∀ (k0_h13 : k0_cond13 i = 1#1), ∀ a x, ((![v144, v76] : Fin 2 → IVec S16 32) a x).toNat < S8x128.size a := fun i v10 v16 v22 v28 v34 v40 v46 v52 v58 v64 v70 v76 v82 v88 v94 v100 v144 k0_hw5 k0_h13 => k0_hw5.2.2.2.2.2.2.2.2.2.2.2.1 k0_h13
theorem k0_idx77_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw5 : k0_chk5 i v10 v16 v22 v28 v34 v40 v46 v52 v58 v64 v70 v76 v82 v88 v94 v100 v144), ∀ (k0_h13 : k0_cond13 i = 1#1), ∀ a x, ((![v144, v82] : Fin 2 → IVec S16 32) a x).toNat < S8x128.size a := fun i v10 v16 v22 v28 v34 v40 v46 v52 v58 v64 v70 v76 v82 v88 v94 v100 v144 k0_hw5 k0_h13 => k0_hw5.2.2.2.2.2.2.2.2.2.2.2.2.1 k0_h13
theorem k0_idx78_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw5 : k0_chk5 i v10 v16 v22 v28 v34 v40 v46 v52 v58 v64 v70 v76 v82 v88 v94 v100 v144), ∀ (k0_h13 : k0_cond13 i = 1#1), ∀ a x, ((![v144, v88] : Fin 2 → IVec S16 32) a x).toNat < S8x128.size a := fun i v10 v16 v22 v28 v34 v40 v46 v52 v58 v64 v70 v76 v82 v88 v94 v100 v144 k0_hw5 k0_h13 => k0_hw5.2.2.2.2.2.2.2.2.2.2.2.2.2.1 k0_h13
theorem k0_idx79_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw5 : k0_chk5 i v10 v16 v22 v28 v34 v40 v46 v52 v58 v64 v70 v76 v82 v88 v94 v100 v144), ∀ (k0_h13 : k0_cond13 i = 1#1), ∀ a x, ((![v144, v94] : Fin 2 → IVec S16 32) a x).toNat < S8x128.size a := fun i v10 v16 v22 v28 v34 v40 v46 v52 v58 v64 v70 v76 v82 v88 v94 v100 v144 k0_hw5 k0_h13 => k0_hw5.2.2.2.2.2.2.2.2.2.2.2.2.2.2.1 k0_h13
theorem k0_idx80_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw5 : k0_chk5 i v10 v16 v22 v28 v34 v40 v46 v52 v58 v64 v70 v76 v82 v88 v94 v100 v144), ∀ (k0_h13 : k0_cond13 i = 1#1), ∀ a x, ((![v144, v100] : Fin 2 → IVec S16 32) a x).toNat < S8x128.size a := fun i v10 v16 v22 v28 v34 v40 v46 v52 v58 v64 v70 v76 v82 v88 v94 v100 v144 k0_hw5 k0_h13 => k0_hw5.2.2.2.2.2.2.2.2.2.2.2.2.2.2.2 k0_h13
def k0_cond14 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v138 : BitVec 1 := Scalar.cmpi .eq v1 c31_i32
  let v139 : BitVec 32 := Scalar.extui v138
  let c0_i32_60 : BitVec 32 := 0#32
  let v140 : BitVec 1 := Scalar.cmpi .ne v139 c0_i32_60
  v140

@[reducible] def k0_t8_loop : Scf.Loop 32 :=
  let c0_i32_62 : BitVec 32 := 0#32
  let c64_i32 : BitVec 32 := 64#32
  let v141 : BitVec 32 := Scalar.addi c0_i32_62 c64_i32
  let c1_i32_63 : BitVec 32 := 1#32
  ⟨c0_i32_62, v141, c1_i32_63⟩
def k0_off90 (k0_t8 : Fin k0_t8_loop.trips) : Fin 2 → Nat :=
  let c0_i32_67 : BitVec 32 := 0#32
  let v146 : Index := Scalar.indexCast c0_i32_67
  let c0_i32_62 : BitVec 32 := 0#32
  let c1_i32_63 : BitVec 32 := 1#32
  let arg17 : BitVec 32 := Scf.iv c0_i32_62 c1_i32_63 k0_t8
  let c16_i32_66 : BitVec 32 := 16#32
  let v145 : BitVec 32 := Scalar.muli arg17 c16_i32_66
  let v147 : Index := Scalar.indexCast v145
  ![0, v147.toNat]
def k0_off91 (k0_t8 : Fin k0_t8_loop.trips) : Fin 2 → Nat :=
  let c1_i32_69 : BitVec 32 := 1#32
  let v150 : Index := Scalar.indexCast c1_i32_69
  let c0_i32_62 : BitVec 32 := 0#32
  let c1_i32_63 : BitVec 32 := 1#32
  let arg17 : BitVec 32 := Scf.iv c0_i32_62 c1_i32_63 k0_t8
  let c16_i32_68 : BitVec 32 := 16#32
  let v149 : BitVec 32 := Scalar.muli arg17 c16_i32_68
  let v151 : Index := Scalar.indexCast v149
  ![1, v151.toNat]
def k0_off92 (k0_t8 : Fin k0_t8_loop.trips) : Fin 2 → Nat :=
  let c2_i32_71 : BitVec 32 := 2#32
  let v154 : Index := Scalar.indexCast c2_i32_71
  let c0_i32_62 : BitVec 32 := 0#32
  let c1_i32_63 : BitVec 32 := 1#32
  let arg17 : BitVec 32 := Scf.iv c0_i32_62 c1_i32_63 k0_t8
  let c16_i32_70 : BitVec 32 := 16#32
  let v153 : BitVec 32 := Scalar.muli arg17 c16_i32_70
  let v155 : Index := Scalar.indexCast v153
  ![2, v155.toNat]
def k0_off93 (k0_t8 : Fin k0_t8_loop.trips) : Fin 2 → Nat :=
  let c3_i32_73 : BitVec 32 := 3#32
  let v158 : Index := Scalar.indexCast c3_i32_73
  let c0_i32_62 : BitVec 32 := 0#32
  let c1_i32_63 : BitVec 32 := 1#32
  let arg17 : BitVec 32 := Scf.iv c0_i32_62 c1_i32_63 k0_t8
  let c16_i32_72 : BitVec 32 := 16#32
  let v157 : BitVec 32 := Scalar.muli arg17 c16_i32_72
  let v159 : Index := Scalar.indexCast v157
  ![3, v159.toNat]
def k0_off94 (k0_t8 : Fin k0_t8_loop.trips) : Fin 2 → Nat :=
  let c4_i32_75 : BitVec 32 := 4#32
  let v162 : Index := Scalar.indexCast c4_i32_75
  let c0_i32_62 : BitVec 32 := 0#32
  let c1_i32_63 : BitVec 32 := 1#32
  let arg17 : BitVec 32 := Scf.iv c0_i32_62 c1_i32_63 k0_t8
  let c16_i32_74 : BitVec 32 := 16#32
  let v161 : BitVec 32 := Scalar.muli arg17 c16_i32_74
  let v163 : Index := Scalar.indexCast v161
  ![4, v163.toNat]
def k0_off95 (k0_t8 : Fin k0_t8_loop.trips) : Fin 2 → Nat :=
  let c5_i32_77 : BitVec 32 := 5#32
  let v166 : Index := Scalar.indexCast c5_i32_77
  let c0_i32_62 : BitVec 32 := 0#32
  let c1_i32_63 : BitVec 32 := 1#32
  let arg17 : BitVec 32 := Scf.iv c0_i32_62 c1_i32_63 k0_t8
  let c16_i32_76 : BitVec 32 := 16#32
  let v165 : BitVec 32 := Scalar.muli arg17 c16_i32_76
  let v167 : Index := Scalar.indexCast v165
  ![5, v167.toNat]
def k0_off96 (k0_t8 : Fin k0_t8_loop.trips) : Fin 2 → Nat :=
  let c6_i32_79 : BitVec 32 := 6#32
  let v170 : Index := Scalar.indexCast c6_i32_79
  let c0_i32_62 : BitVec 32 := 0#32
  let c1_i32_63 : BitVec 32 := 1#32
  let arg17 : BitVec 32 := Scf.iv c0_i32_62 c1_i32_63 k0_t8
  let c16_i32_78 : BitVec 32 := 16#32
  let v169 : BitVec 32 := Scalar.muli arg17 c16_i32_78
  let v171 : Index := Scalar.indexCast v169
  ![6, v171.toNat]
def k0_off97 (k0_t8 : Fin k0_t8_loop.trips) : Fin 2 → Nat :=
  let c7_i32_81 : BitVec 32 := 7#32
  let v174 : Index := Scalar.indexCast c7_i32_81
  let c0_i32_62 : BitVec 32 := 0#32
  let c1_i32_63 : BitVec 32 := 1#32
  let arg17 : BitVec 32 := Scf.iv c0_i32_62 c1_i32_63 k0_t8
  let c16_i32_80 : BitVec 32 := 16#32
  let v173 : BitVec 32 := Scalar.muli arg17 c16_i32_80
  let v175 : Index := Scalar.indexCast v173
  ![7, v175.toNat]
def k0_off98 (k0_t8 : Fin k0_t8_loop.trips) : Fin 2 → Nat :=
  let c8_i32_83 : BitVec 32 := 8#32
  let v178 : Index := Scalar.indexCast c8_i32_83
  let c0_i32_62 : BitVec 32 := 0#32
  let c1_i32_63 : BitVec 32 := 1#32
  let arg17 : BitVec 32 := Scf.iv c0_i32_62 c1_i32_63 k0_t8
  let c16_i32_82 : BitVec 32 := 16#32
  let v177 : BitVec 32 := Scalar.muli arg17 c16_i32_82
  let v179 : Index := Scalar.indexCast v177
  ![8, v179.toNat]
def k0_off99 (k0_t8 : Fin k0_t8_loop.trips) : Fin 2 → Nat :=
  let c9_i32_85 : BitVec 32 := 9#32
  let v182 : Index := Scalar.indexCast c9_i32_85
  let c0_i32_62 : BitVec 32 := 0#32
  let c1_i32_63 : BitVec 32 := 1#32
  let arg17 : BitVec 32 := Scf.iv c0_i32_62 c1_i32_63 k0_t8
  let c16_i32_84 : BitVec 32 := 16#32
  let v181 : BitVec 32 := Scalar.muli arg17 c16_i32_84
  let v183 : Index := Scalar.indexCast v181
  ![9, v183.toNat]
def k0_off100 (k0_t8 : Fin k0_t8_loop.trips) : Fin 2 → Nat :=
  let c10_i32_87 : BitVec 32 := 10#32
  let v186 : Index := Scalar.indexCast c10_i32_87
  let c0_i32_62 : BitVec 32 := 0#32
  let c1_i32_63 : BitVec 32 := 1#32
  let arg17 : BitVec 32 := Scf.iv c0_i32_62 c1_i32_63 k0_t8
  let c16_i32_86 : BitVec 32 := 16#32
  let v185 : BitVec 32 := Scalar.muli arg17 c16_i32_86
  let v187 : Index := Scalar.indexCast v185
  ![10, v187.toNat]
def k0_off101 (k0_t8 : Fin k0_t8_loop.trips) : Fin 2 → Nat :=
  let c11_i32_89 : BitVec 32 := 11#32
  let v190 : Index := Scalar.indexCast c11_i32_89
  let c0_i32_62 : BitVec 32 := 0#32
  let c1_i32_63 : BitVec 32 := 1#32
  let arg17 : BitVec 32 := Scf.iv c0_i32_62 c1_i32_63 k0_t8
  let c16_i32_88 : BitVec 32 := 16#32
  let v189 : BitVec 32 := Scalar.muli arg17 c16_i32_88
  let v191 : Index := Scalar.indexCast v189
  ![11, v191.toNat]
def k0_off102 (k0_t8 : Fin k0_t8_loop.trips) : Fin 2 → Nat :=
  let c12_i32_91 : BitVec 32 := 12#32
  let v194 : Index := Scalar.indexCast c12_i32_91
  let c0_i32_62 : BitVec 32 := 0#32
  let c1_i32_63 : BitVec 32 := 1#32
  let arg17 : BitVec 32 := Scf.iv c0_i32_62 c1_i32_63 k0_t8
  let c16_i32_90 : BitVec 32 := 16#32
  let v193 : BitVec 32 := Scalar.muli arg17 c16_i32_90
  let v195 : Index := Scalar.indexCast v193
  ![12, v195.toNat]
def k0_off103 (k0_t8 : Fin k0_t8_loop.trips) : Fin 2 → Nat :=
  let c13_i32_93 : BitVec 32 := 13#32
  let v198 : Index := Scalar.indexCast c13_i32_93
  let c0_i32_62 : BitVec 32 := 0#32
  let c1_i32_63 : BitVec 32 := 1#32
  let arg17 : BitVec 32 := Scf.iv c0_i32_62 c1_i32_63 k0_t8
  let c16_i32_92 : BitVec 32 := 16#32
  let v197 : BitVec 32 := Scalar.muli arg17 c16_i32_92
  let v199 : Index := Scalar.indexCast v197
  ![13, v199.toNat]
def k0_off104 (k0_t8 : Fin k0_t8_loop.trips) : Fin 2 → Nat :=
  let c14_i32_95 : BitVec 32 := 14#32
  let v202 : Index := Scalar.indexCast c14_i32_95
  let c0_i32_62 : BitVec 32 := 0#32
  let c1_i32_63 : BitVec 32 := 1#32
  let arg17 : BitVec 32 := Scf.iv c0_i32_62 c1_i32_63 k0_t8
  let c16_i32_94 : BitVec 32 := 16#32
  let v201 : BitVec 32 := Scalar.muli arg17 c16_i32_94
  let v203 : Index := Scalar.indexCast v201
  ![14, v203.toNat]
def k0_off105 (k0_t8 : Fin k0_t8_loop.trips) : Fin 2 → Nat :=
  let c15_i32_97 : BitVec 32 := 15#32
  let v206 : Index := Scalar.indexCast c15_i32_97
  let c0_i32_62 : BitVec 32 := 0#32
  let c1_i32_63 : BitVec 32 := 1#32
  let arg17 : BitVec 32 := Scf.iv c0_i32_62 c1_i32_63 k0_t8
  let c16_i32_96 : BitVec 32 := 16#32
  let v205 : BitVec 32 := Scalar.muli arg17 c16_i32_96
  let v207 : Index := Scalar.indexCast v205
  ![15, v207.toNat]

def k0_chk6 (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) : Prop :=
  (∀ (k0_h14 : k0_cond14 i = 1#1), ∀ a x, ((![v144, v10] : Fin 2 → IVec S16 32) a x).toNat < S192x128.size a) ∧
  (∀ (k0_h14 : k0_cond14 i = 1#1), ∀ a x, ((![v144, v16] : Fin 2 → IVec S16 32) a x).toNat < S192x128.size a) ∧
  (∀ (k0_h14 : k0_cond14 i = 1#1), ∀ a x, ((![v144, v22] : Fin 2 → IVec S16 32) a x).toNat < S192x128.size a) ∧
  (∀ (k0_h14 : k0_cond14 i = 1#1), ∀ a x, ((![v144, v28] : Fin 2 → IVec S16 32) a x).toNat < S192x128.size a) ∧
  (∀ (k0_h14 : k0_cond14 i = 1#1), ∀ a x, ((![v144, v34] : Fin 2 → IVec S16 32) a x).toNat < S192x128.size a) ∧
  (∀ (k0_h14 : k0_cond14 i = 1#1), ∀ a x, ((![v144, v40] : Fin 2 → IVec S16 32) a x).toNat < S192x128.size a) ∧
  (∀ (k0_h14 : k0_cond14 i = 1#1), ∀ a x, ((![v144, v46] : Fin 2 → IVec S16 32) a x).toNat < S192x128.size a) ∧
  (∀ (k0_h14 : k0_cond14 i = 1#1), ∀ a x, ((![v144, v52] : Fin 2 → IVec S16 32) a x).toNat < S192x128.size a) ∧
  (∀ (k0_h14 : k0_cond14 i = 1#1), ∀ a x, ((![v144, v58] : Fin 2 → IVec S16 32) a x).toNat < S192x128.size a) ∧
  (∀ (k0_h14 : k0_cond14 i = 1#1), ∀ a x, ((![v144, v64] : Fin 2 → IVec S16 32) a x).toNat < S192x128.size a) ∧
  (∀ (k0_h14 : k0_cond14 i = 1#1), ∀ a x, ((![v144, v70] : Fin 2 → IVec S16 32) a x).toNat < S192x128.size a) ∧
  (∀ (k0_h14 : k0_cond14 i = 1#1), ∀ a x, ((![v144, v76] : Fin 2 → IVec S16 32) a x).toNat < S192x128.size a) ∧
  (∀ (k0_h14 : k0_cond14 i = 1#1), ∀ a x, ((![v144, v82] : Fin 2 → IVec S16 32) a x).toNat < S192x128.size a) ∧
  (∀ (k0_h14 : k0_cond14 i = 1#1), ∀ a x, ((![v144, v88] : Fin 2 → IVec S16 32) a x).toNat < S192x128.size a) ∧
  (∀ (k0_h14 : k0_cond14 i = 1#1), ∀ a x, ((![v144, v94] : Fin 2 → IVec S16 32) a x).toNat < S192x128.size a) ∧
  (∀ (k0_h14 : k0_cond14 i = 1#1), ∀ a x, ((![v144, v100] : Fin 2 → IVec S16 32) a x).toNat < S192x128.size a)
theorem k0_idx81_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw6 : k0_chk6 i v10 v16 v22 v28 v34 v40 v46 v52 v58 v64 v70 v76 v82 v88 v94 v100 v144), ∀ (k0_h14 : k0_cond14 i = 1#1), ∀ a x, ((![v144, v10] : Fin 2 → IVec S16 32) a x).toNat < S192x128.size a := fun i v10 v16 v22 v28 v34 v40 v46 v52 v58 v64 v70 v76 v82 v88 v94 v100 v144 k0_hw6 k0_h14 => k0_hw6.1 k0_h14
theorem k0_idx82_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw6 : k0_chk6 i v10 v16 v22 v28 v34 v40 v46 v52 v58 v64 v70 v76 v82 v88 v94 v100 v144), ∀ (k0_h14 : k0_cond14 i = 1#1), ∀ a x, ((![v144, v16] : Fin 2 → IVec S16 32) a x).toNat < S192x128.size a := fun i v10 v16 v22 v28 v34 v40 v46 v52 v58 v64 v70 v76 v82 v88 v94 v100 v144 k0_hw6 k0_h14 => k0_hw6.2.1 k0_h14
theorem k0_idx83_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw6 : k0_chk6 i v10 v16 v22 v28 v34 v40 v46 v52 v58 v64 v70 v76 v82 v88 v94 v100 v144), ∀ (k0_h14 : k0_cond14 i = 1#1), ∀ a x, ((![v144, v22] : Fin 2 → IVec S16 32) a x).toNat < S192x128.size a := fun i v10 v16 v22 v28 v34 v40 v46 v52 v58 v64 v70 v76 v82 v88 v94 v100 v144 k0_hw6 k0_h14 => k0_hw6.2.2.1 k0_h14
theorem k0_idx84_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw6 : k0_chk6 i v10 v16 v22 v28 v34 v40 v46 v52 v58 v64 v70 v76 v82 v88 v94 v100 v144), ∀ (k0_h14 : k0_cond14 i = 1#1), ∀ a x, ((![v144, v28] : Fin 2 → IVec S16 32) a x).toNat < S192x128.size a := fun i v10 v16 v22 v28 v34 v40 v46 v52 v58 v64 v70 v76 v82 v88 v94 v100 v144 k0_hw6 k0_h14 => k0_hw6.2.2.2.1 k0_h14
theorem k0_idx85_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw6 : k0_chk6 i v10 v16 v22 v28 v34 v40 v46 v52 v58 v64 v70 v76 v82 v88 v94 v100 v144), ∀ (k0_h14 : k0_cond14 i = 1#1), ∀ a x, ((![v144, v34] : Fin 2 → IVec S16 32) a x).toNat < S192x128.size a := fun i v10 v16 v22 v28 v34 v40 v46 v52 v58 v64 v70 v76 v82 v88 v94 v100 v144 k0_hw6 k0_h14 => k0_hw6.2.2.2.2.1 k0_h14
theorem k0_idx86_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw6 : k0_chk6 i v10 v16 v22 v28 v34 v40 v46 v52 v58 v64 v70 v76 v82 v88 v94 v100 v144), ∀ (k0_h14 : k0_cond14 i = 1#1), ∀ a x, ((![v144, v40] : Fin 2 → IVec S16 32) a x).toNat < S192x128.size a := fun i v10 v16 v22 v28 v34 v40 v46 v52 v58 v64 v70 v76 v82 v88 v94 v100 v144 k0_hw6 k0_h14 => k0_hw6.2.2.2.2.2.1 k0_h14
theorem k0_idx87_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw6 : k0_chk6 i v10 v16 v22 v28 v34 v40 v46 v52 v58 v64 v70 v76 v82 v88 v94 v100 v144), ∀ (k0_h14 : k0_cond14 i = 1#1), ∀ a x, ((![v144, v46] : Fin 2 → IVec S16 32) a x).toNat < S192x128.size a := fun i v10 v16 v22 v28 v34 v40 v46 v52 v58 v64 v70 v76 v82 v88 v94 v100 v144 k0_hw6 k0_h14 => k0_hw6.2.2.2.2.2.2.1 k0_h14
theorem k0_idx88_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw6 : k0_chk6 i v10 v16 v22 v28 v34 v40 v46 v52 v58 v64 v70 v76 v82 v88 v94 v100 v144), ∀ (k0_h14 : k0_cond14 i = 1#1), ∀ a x, ((![v144, v52] : Fin 2 → IVec S16 32) a x).toNat < S192x128.size a := fun i v10 v16 v22 v28 v34 v40 v46 v52 v58 v64 v70 v76 v82 v88 v94 v100 v144 k0_hw6 k0_h14 => k0_hw6.2.2.2.2.2.2.2.1 k0_h14
theorem k0_idx89_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw6 : k0_chk6 i v10 v16 v22 v28 v34 v40 v46 v52 v58 v64 v70 v76 v82 v88 v94 v100 v144), ∀ (k0_h14 : k0_cond14 i = 1#1), ∀ a x, ((![v144, v58] : Fin 2 → IVec S16 32) a x).toNat < S192x128.size a := fun i v10 v16 v22 v28 v34 v40 v46 v52 v58 v64 v70 v76 v82 v88 v94 v100 v144 k0_hw6 k0_h14 => k0_hw6.2.2.2.2.2.2.2.2.1 k0_h14
theorem k0_idx90_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw6 : k0_chk6 i v10 v16 v22 v28 v34 v40 v46 v52 v58 v64 v70 v76 v82 v88 v94 v100 v144), ∀ (k0_h14 : k0_cond14 i = 1#1), ∀ a x, ((![v144, v64] : Fin 2 → IVec S16 32) a x).toNat < S192x128.size a := fun i v10 v16 v22 v28 v34 v40 v46 v52 v58 v64 v70 v76 v82 v88 v94 v100 v144 k0_hw6 k0_h14 => k0_hw6.2.2.2.2.2.2.2.2.2.1 k0_h14
theorem k0_idx91_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw6 : k0_chk6 i v10 v16 v22 v28 v34 v40 v46 v52 v58 v64 v70 v76 v82 v88 v94 v100 v144), ∀ (k0_h14 : k0_cond14 i = 1#1), ∀ a x, ((![v144, v70] : Fin 2 → IVec S16 32) a x).toNat < S192x128.size a := fun i v10 v16 v22 v28 v34 v40 v46 v52 v58 v64 v70 v76 v82 v88 v94 v100 v144 k0_hw6 k0_h14 => k0_hw6.2.2.2.2.2.2.2.2.2.2.1 k0_h14
theorem k0_idx92_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw6 : k0_chk6 i v10 v16 v22 v28 v34 v40 v46 v52 v58 v64 v70 v76 v82 v88 v94 v100 v144), ∀ (k0_h14 : k0_cond14 i = 1#1), ∀ a x, ((![v144, v76] : Fin 2 → IVec S16 32) a x).toNat < S192x128.size a := fun i v10 v16 v22 v28 v34 v40 v46 v52 v58 v64 v70 v76 v82 v88 v94 v100 v144 k0_hw6 k0_h14 => k0_hw6.2.2.2.2.2.2.2.2.2.2.2.1 k0_h14
theorem k0_idx93_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw6 : k0_chk6 i v10 v16 v22 v28 v34 v40 v46 v52 v58 v64 v70 v76 v82 v88 v94 v100 v144), ∀ (k0_h14 : k0_cond14 i = 1#1), ∀ a x, ((![v144, v82] : Fin 2 → IVec S16 32) a x).toNat < S192x128.size a := fun i v10 v16 v22 v28 v34 v40 v46 v52 v58 v64 v70 v76 v82 v88 v94 v100 v144 k0_hw6 k0_h14 => k0_hw6.2.2.2.2.2.2.2.2.2.2.2.2.1 k0_h14
theorem k0_idx94_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw6 : k0_chk6 i v10 v16 v22 v28 v34 v40 v46 v52 v58 v64 v70 v76 v82 v88 v94 v100 v144), ∀ (k0_h14 : k0_cond14 i = 1#1), ∀ a x, ((![v144, v88] : Fin 2 → IVec S16 32) a x).toNat < S192x128.size a := fun i v10 v16 v22 v28 v34 v40 v46 v52 v58 v64 v70 v76 v82 v88 v94 v100 v144 k0_hw6 k0_h14 => k0_hw6.2.2.2.2.2.2.2.2.2.2.2.2.2.1 k0_h14
theorem k0_idx95_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw6 : k0_chk6 i v10 v16 v22 v28 v34 v40 v46 v52 v58 v64 v70 v76 v82 v88 v94 v100 v144), ∀ (k0_h14 : k0_cond14 i = 1#1), ∀ a x, ((![v144, v94] : Fin 2 → IVec S16 32) a x).toNat < S192x128.size a := fun i v10 v16 v22 v28 v34 v40 v46 v52 v58 v64 v70 v76 v82 v88 v94 v100 v144 k0_hw6 k0_h14 => k0_hw6.2.2.2.2.2.2.2.2.2.2.2.2.2.2.1 k0_h14
theorem k0_idx96_inb : ∀ (i : grid0.Coords) (v10 : IVec S16 32) (v16 : IVec S16 32) (v22 : IVec S16 32) (v28 : IVec S16 32) (v34 : IVec S16 32) (v40 : IVec S16 32) (v46 : IVec S16 32) (v52 : IVec S16 32) (v58 : IVec S16 32) (v64 : IVec S16 32) (v70 : IVec S16 32) (v76 : IVec S16 32) (v82 : IVec S16 32) (v88 : IVec S16 32) (v94 : IVec S16 32) (v100 : IVec S16 32) (v144 : IVec S16 32) (k0_hw6 : k0_chk6 i v10 v16 v22 v28 v34 v40 v46 v52 v58 v64 v70 v76 v82 v88 v94 v100 v144), ∀ (k0_h14 : k0_cond14 i = 1#1), ∀ a x, ((![v144, v100] : Fin 2 → IVec S16 32) a x).toNat < S192x128.size a := fun i v10 v16 v22 v28 v34 v40 v46 v52 v58 v64 v70 v76 v82 v88 v94 v100 v144 k0_hw6 k0_h14 => k0_hw6.2.2.2.2.2.2.2.2.2.2.2.2.2.2.2 k0_h14
abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v4 : BitVec 32 := Scalar.addi v2 c0_i32
  ![v4.toNat]
@[reducible] def k1_t1_loop : Scf.Loop 32 :=
  let c0_i32_203 : BitVec 32 := 0#32
  let c32_i32 : BitVec 32 := 32#32
  let v232 : BitVec 32 := Scalar.addi c0_i32_203 c32_i32
  let c1_i32_204 : BitVec 32 := 1#32
  ⟨c0_i32_203, v232, c1_i32_204⟩
def k1_off2 (k1_t1 : Fin k1_t1_loop.trips) : Fin 2 → Nat :=
  let c0_i32_203 : BitVec 32 := 0#32
  let c1_i32_204 : BitVec 32 := 1#32
  let arg13 : BitVec 32 := Scf.iv c0_i32_203 c1_i32_204 k1_t1
  let c0_i32_427 : BitVec 32 := 0#32
  let v463 : BitVec 1 := Scalar.cmpi .sgt arg13 c0_i32_427
  let v464 : BitVec 32 := Scalar.extui v463
  let c0_i32_428 : BitVec 32 := 0#32
  let v465 : BitVec 1 := Scalar.cmpi .slt arg13 c0_i32_428
  let v466 : BitVec 32 := Scalar.extui v465
  let v467 : BitVec 32 := Scalar.subi v464 v466
  let c8_i32 : BitVec 32 := 8#32
  let c0_i32_429 : BitVec 32 := 0#32
  let v468 : BitVec 1 := Scalar.cmpi .sgt c8_i32 c0_i32_429
  let v469 : BitVec 32 := Scalar.extui v468
  let c0_i32_430 : BitVec 32 := 0#32
  let v470 : BitVec 1 := Scalar.cmpi .slt c8_i32 c0_i32_430
  let v471 : BitVec 32 := Scalar.extui v470
  let v472 : BitVec 32 := Scalar.subi v469 v471
  let v473 : BitVec 1 := Scalar.cmpi .ne v467 v472
  let v474 : BitVec 32 := Scalar.remsi arg13 c8_i32
  let c0_i32_431 : BitVec 32 := 0#32
  let v475 : BitVec 1 := Scalar.cmpi .ne v474 c0_i32_431
  let v476 : BitVec 1 := Scalar.andi v473 v475
  let v462 : BitVec 32 := Scalar.divsi arg13 c8_i32
  let c1_i32_432 : BitVec 32 := 1#32
  let v477 : BitVec 32 := Scalar.subi v462 c1_i32_432
  let v478 : BitVec 32 := Scalar.select v476 v477 v462
  let v490 : Index := Scalar.indexCast v478
  let c8_i32_433 : BitVec 32 := 8#32
  let c0_i32_434 : BitVec 32 := 0#32
  let v479 : BitVec 1 := Scalar.cmpi .eq c8_i32_433 c0_i32_434
  let c1_i32_435 : BitVec 32 := 1#32
  let v480 : BitVec 32 := Scalar.select v479 c1_i32_435 c8_i32_433
  let v481 : BitVec 32 := Scalar.remsi arg13 v480
  let c0_i32_437 : BitVec 32 := 0#32
  let v483 : BitVec 1 := Scalar.cmpi .slt v481 c0_i32_437
  let c0_i32_438 : BitVec 32 := 0#32
  let v484 : BitVec 1 := Scalar.cmpi .slt v480 c0_i32_438
  let v485 : BitVec 1 := Scalar.xori v483 v484
  let c0_i32_436 : BitVec 32 := 0#32
  let v482 : BitVec 1 := Scalar.cmpi .ne v481 c0_i32_436
  let v486 : BitVec 1 := Scalar.andi v485 v482
  let v487 : BitVec 32 := Scalar.addi v481 v480
  let v488 : BitVec 32 := Scalar.select v486 v487 v481
  let c16_i32 : BitVec 32 := 16#32
  let v489 : BitVec 32 := Scalar.muli v488 c16_i32
  let v491 : Index := Scalar.indexCast v489
  ![v490.toNat, v491.toNat]

def k1_chk1 (v499 : IVec S16 32) (v501 : IVec S16 32) : Prop :=
  (∀ a x, ((![v499, v501] : Fin 2 → IVec S16 32) a x).toNat < S512x128.size a)
theorem k1_idx1_inb : ∀ (v499 : IVec S16 32) (v501 : IVec S16 32) (k1_hw1 : k1_chk1 v499 v501), ∀ a x, ((![v499, v501] : Fin 2 → IVec S16 32) a x).toNat < S512x128.size a := fun v499 v501 k1_hw1 => k1_hw1
def k1_off3 (k1_t1 : Fin k1_t1_loop.trips) : Fin 2 → Nat :=
  let c0_i32_443 : BitVec 32 := 0#32
  let v504 : Index := Scalar.indexCast c0_i32_443
  let c0_i32_203 : BitVec 32 := 0#32
  let c1_i32_204 : BitVec 32 := 1#32
  let arg13 : BitVec 32 := Scf.iv c0_i32_203 c1_i32_204 k1_t1
  let c16_i32_442 : BitVec 32 := 16#32
  let v503 : BitVec 32 := Scalar.muli arg13 c16_i32_442
  let v505 : Index := Scalar.indexCast v503
  ![0, v505.toNat]

def k1_chk2 (v499 : IVec S16 32) (v508 : IVec S16 32) : Prop :=
  (∀ a x, ((![v499, v508] : Fin 2 → IVec S16 32) a x).toNat < S512x128.size a)
theorem k1_idx2_inb : ∀ (v499 : IVec S16 32) (v508 : IVec S16 32) (k1_hw2 : k1_chk2 v499 v508), ∀ a x, ((![v499, v508] : Fin 2 → IVec S16 32) a x).toNat < S512x128.size a := fun v499 v508 k1_hw2 => k1_hw2
def k1_off4 (k1_t1 : Fin k1_t1_loop.trips) : Fin 2 → Nat :=
  let c1_i32_446 : BitVec 32 := 1#32
  let v511 : Index := Scalar.indexCast c1_i32_446
  let c0_i32_203 : BitVec 32 := 0#32
  let c1_i32_204 : BitVec 32 := 1#32
  let arg13 : BitVec 32 := Scf.iv c0_i32_203 c1_i32_204 k1_t1
  let c16_i32_445 : BitVec 32 := 16#32
  let v510 : BitVec 32 := Scalar.muli arg13 c16_i32_445
  let v512 : Index := Scalar.indexCast v510
  ![1, v512.toNat]

def k1_chk3 (v499 : IVec S16 32) (v515 : IVec S16 32) : Prop :=
  (∀ a x, ((![v499, v515] : Fin 2 → IVec S16 32) a x).toNat < S512x128.size a)
theorem k1_idx3_inb : ∀ (v499 : IVec S16 32) (v515 : IVec S16 32) (k1_hw3 : k1_chk3 v499 v515), ∀ a x, ((![v499, v515] : Fin 2 → IVec S16 32) a x).toNat < S512x128.size a := fun v499 v515 k1_hw3 => k1_hw3
def k1_off5 (k1_t1 : Fin k1_t1_loop.trips) : Fin 2 → Nat :=
  let c2_i32_449 : BitVec 32 := 2#32
  let v518 : Index := Scalar.indexCast c2_i32_449
  let c0_i32_203 : BitVec 32 := 0#32
  let c1_i32_204 : BitVec 32 := 1#32
  let arg13 : BitVec 32 := Scf.iv c0_i32_203 c1_i32_204 k1_t1
  let c16_i32_448 : BitVec 32 := 16#32
  let v517 : BitVec 32 := Scalar.muli arg13 c16_i32_448
  let v519 : Index := Scalar.indexCast v517
  ![2, v519.toNat]

def k1_chk4 (v499 : IVec S16 32) (v522 : IVec S16 32) : Prop :=
  (∀ a x, ((![v499, v522] : Fin 2 → IVec S16 32) a x).toNat < S512x128.size a)
theorem k1_idx4_inb : ∀ (v499 : IVec S16 32) (v522 : IVec S16 32) (k1_hw4 : k1_chk4 v499 v522), ∀ a x, ((![v499, v522] : Fin 2 → IVec S16 32) a x).toNat < S512x128.size a := fun v499 v522 k1_hw4 => k1_hw4
def k1_off6 (k1_t1 : Fin k1_t1_loop.trips) : Fin 2 → Nat :=
  let c3_i32_452 : BitVec 32 := 3#32
  let v525 : Index := Scalar.indexCast c3_i32_452
  let c0_i32_203 : BitVec 32 := 0#32
  let c1_i32_204 : BitVec 32 := 1#32
  let arg13 : BitVec 32 := Scf.iv c0_i32_203 c1_i32_204 k1_t1
  let c16_i32_451 : BitVec 32 := 16#32
  let v524 : BitVec 32 := Scalar.muli arg13 c16_i32_451
  let v526 : Index := Scalar.indexCast v524
  ![3, v526.toNat]

def k1_chk5 (v499 : IVec S16 32) (v529 : IVec S16 32) : Prop :=
  (∀ a x, ((![v499, v529] : Fin 2 → IVec S16 32) a x).toNat < S512x128.size a)
theorem k1_idx5_inb : ∀ (v499 : IVec S16 32) (v529 : IVec S16 32) (k1_hw5 : k1_chk5 v499 v529), ∀ a x, ((![v499, v529] : Fin 2 → IVec S16 32) a x).toNat < S512x128.size a := fun v499 v529 k1_hw5 => k1_hw5
def k1_off7 (k1_t1 : Fin k1_t1_loop.trips) : Fin 2 → Nat :=
  let c4_i32_454 : BitVec 32 := 4#32
  let v532 : Index := Scalar.indexCast c4_i32_454
  let c0_i32_203 : BitVec 32 := 0#32
  let c1_i32_204 : BitVec 32 := 1#32
  let arg13 : BitVec 32 := Scf.iv c0_i32_203 c1_i32_204 k1_t1
  let c16_i32_453 : BitVec 32 := 16#32
  let v531 : BitVec 32 := Scalar.muli arg13 c16_i32_453
  let v533 : Index := Scalar.indexCast v531
  ![4, v533.toNat]

def k1_chk6 (v499 : IVec S16 32) (v536 : IVec S16 32) : Prop :=
  (∀ a x, ((![v499, v536] : Fin 2 → IVec S16 32) a x).toNat < S512x128.size a)
theorem k1_idx6_inb : ∀ (v499 : IVec S16 32) (v536 : IVec S16 32) (k1_hw6 : k1_chk6 v499 v536), ∀ a x, ((![v499, v536] : Fin 2 → IVec S16 32) a x).toNat < S512x128.size a := fun v499 v536 k1_hw6 => k1_hw6
def k1_off8 (k1_t1 : Fin k1_t1_loop.trips) : Fin 2 → Nat :=
  let c5_i32_456 : BitVec 32 := 5#32
  let v539 : Index := Scalar.indexCast c5_i32_456
  let c0_i32_203 : BitVec 32 := 0#32
  let c1_i32_204 : BitVec 32 := 1#32
  let arg13 : BitVec 32 := Scf.iv c0_i32_203 c1_i32_204 k1_t1
  let c16_i32_455 : BitVec 32 := 16#32
  let v538 : BitVec 32 := Scalar.muli arg13 c16_i32_455
  let v540 : Index := Scalar.indexCast v538
  ![5, v540.toNat]

def k1_chk7 (v499 : IVec S16 32) (v543 : IVec S16 32) : Prop :=
  (∀ a x, ((![v499, v543] : Fin 2 → IVec S16 32) a x).toNat < S512x128.size a)
theorem k1_idx7_inb : ∀ (v499 : IVec S16 32) (v543 : IVec S16 32) (k1_hw7 : k1_chk7 v499 v543), ∀ a x, ((![v499, v543] : Fin 2 → IVec S16 32) a x).toNat < S512x128.size a := fun v499 v543 k1_hw7 => k1_hw7
def k1_off9 (k1_t1 : Fin k1_t1_loop.trips) : Fin 2 → Nat :=
  let c6_i32_458 : BitVec 32 := 6#32
  let v546 : Index := Scalar.indexCast c6_i32_458
  let c0_i32_203 : BitVec 32 := 0#32
  let c1_i32_204 : BitVec 32 := 1#32
  let arg13 : BitVec 32 := Scf.iv c0_i32_203 c1_i32_204 k1_t1
  let c16_i32_457 : BitVec 32 := 16#32
  let v545 : BitVec 32 := Scalar.muli arg13 c16_i32_457
  let v547 : Index := Scalar.indexCast v545
  ![6, v547.toNat]

def k1_chk8 (v499 : IVec S16 32) (v550 : IVec S16 32) : Prop :=
  (∀ a x, ((![v499, v550] : Fin 2 → IVec S16 32) a x).toNat < S512x128.size a)
theorem k1_idx8_inb : ∀ (v499 : IVec S16 32) (v550 : IVec S16 32) (k1_hw8 : k1_chk8 v499 v550), ∀ a x, ((![v499, v550] : Fin 2 → IVec S16 32) a x).toNat < S512x128.size a := fun v499 v550 k1_hw8 => k1_hw8
def k1_off10 (k1_t1 : Fin k1_t1_loop.trips) : Fin 2 → Nat :=
  let c7_i32_461 : BitVec 32 := 7#32
  let v553 : Index := Scalar.indexCast c7_i32_461
  let c0_i32_203 : BitVec 32 := 0#32
  let c1_i32_204 : BitVec 32 := 1#32
  let arg13 : BitVec 32 := Scf.iv c0_i32_203 c1_i32_204 k1_t1
  let c16_i32_460 : BitVec 32 := 16#32
  let v552 : BitVec 32 := Scalar.muli arg13 c16_i32_460
  let v554 : Index := Scalar.indexCast v552
  ![7, v554.toNat]

def k1_chk9 (v499 : IVec S16 32) (v557 : IVec S16 32) : Prop :=
  (∀ a x, ((![v499, v557] : Fin 2 → IVec S16 32) a x).toNat < S512x128.size a)
theorem k1_idx9_inb : ∀ (v499 : IVec S16 32) (v557 : IVec S16 32) (k1_hw9 : k1_chk9 v499 v557), ∀ a x, ((![v499, v557] : Fin 2 → IVec S16 32) a x).toNat < S512x128.size a := fun v499 v557 k1_hw9 => k1_hw9
def k1_off11 (k1_t1 : Fin k1_t1_loop.trips) : Fin 2 → Nat :=
  let c8_i32_464 : BitVec 32 := 8#32
  let v560 : Index := Scalar.indexCast c8_i32_464
  let c0_i32_203 : BitVec 32 := 0#32
  let c1_i32_204 : BitVec 32 := 1#32
  let arg13 : BitVec 32 := Scf.iv c0_i32_203 c1_i32_204 k1_t1
  let c16_i32_463 : BitVec 32 := 16#32
  let v559 : BitVec 32 := Scalar.muli arg13 c16_i32_463
  let v561 : Index := Scalar.indexCast v559
  ![8, v561.toNat]

def k1_chk10 (v499 : IVec S16 32) (v564 : IVec S16 32) : Prop :=
  (∀ a x, ((![v499, v564] : Fin 2 → IVec S16 32) a x).toNat < S512x128.size a)
theorem k1_idx10_inb : ∀ (v499 : IVec S16 32) (v564 : IVec S16 32) (k1_hw10 : k1_chk10 v499 v564), ∀ a x, ((![v499, v564] : Fin 2 → IVec S16 32) a x).toNat < S512x128.size a := fun v499 v564 k1_hw10 => k1_hw10
def k1_off12 (k1_t1 : Fin k1_t1_loop.trips) : Fin 2 → Nat :=
  let c9_i32_466 : BitVec 32 := 9#32
  let v567 : Index := Scalar.indexCast c9_i32_466
  let c0_i32_203 : BitVec 32 := 0#32
  let c1_i32_204 : BitVec 32 := 1#32
  let arg13 : BitVec 32 := Scf.iv c0_i32_203 c1_i32_204 k1_t1
  let c16_i32_465 : BitVec 32 := 16#32
  let v566 : BitVec 32 := Scalar.muli arg13 c16_i32_465
  let v568 : Index := Scalar.indexCast v566
  ![9, v568.toNat]

def k1_chk11 (v499 : IVec S16 32) (v571 : IVec S16 32) : Prop :=
  (∀ a x, ((![v499, v571] : Fin 2 → IVec S16 32) a x).toNat < S512x128.size a)
theorem k1_idx11_inb : ∀ (v499 : IVec S16 32) (v571 : IVec S16 32) (k1_hw11 : k1_chk11 v499 v571), ∀ a x, ((![v499, v571] : Fin 2 → IVec S16 32) a x).toNat < S512x128.size a := fun v499 v571 k1_hw11 => k1_hw11
def k1_off13 (k1_t1 : Fin k1_t1_loop.trips) : Fin 2 → Nat :=
  let c10_i32_468 : BitVec 32 := 10#32
  let v574 : Index := Scalar.indexCast c10_i32_468
  let c0_i32_203 : BitVec 32 := 0#32
  let c1_i32_204 : BitVec 32 := 1#32
  let arg13 : BitVec 32 := Scf.iv c0_i32_203 c1_i32_204 k1_t1
  let c16_i32_467 : BitVec 32 := 16#32
  let v573 : BitVec 32 := Scalar.muli arg13 c16_i32_467
  let v575 : Index := Scalar.indexCast v573
  ![10, v575.toNat]

def k1_chk12 (v499 : IVec S16 32) (v578 : IVec S16 32) : Prop :=
  (∀ a x, ((![v499, v578] : Fin 2 → IVec S16 32) a x).toNat < S512x128.size a)
theorem k1_idx12_inb : ∀ (v499 : IVec S16 32) (v578 : IVec S16 32) (k1_hw12 : k1_chk12 v499 v578), ∀ a x, ((![v499, v578] : Fin 2 → IVec S16 32) a x).toNat < S512x128.size a := fun v499 v578 k1_hw12 => k1_hw12
def k1_off14 (k1_t1 : Fin k1_t1_loop.trips) : Fin 2 → Nat :=
  let c11_i32_470 : BitVec 32 := 11#32
  let v581 : Index := Scalar.indexCast c11_i32_470
  let c0_i32_203 : BitVec 32 := 0#32
  let c1_i32_204 : BitVec 32 := 1#32
  let arg13 : BitVec 32 := Scf.iv c0_i32_203 c1_i32_204 k1_t1
  let c16_i32_469 : BitVec 32 := 16#32
  let v580 : BitVec 32 := Scalar.muli arg13 c16_i32_469
  let v582 : Index := Scalar.indexCast v580
  ![11, v582.toNat]

def k1_chk13 (v499 : IVec S16 32) (v585 : IVec S16 32) : Prop :=
  (∀ a x, ((![v499, v585] : Fin 2 → IVec S16 32) a x).toNat < S512x128.size a)
theorem k1_idx13_inb : ∀ (v499 : IVec S16 32) (v585 : IVec S16 32) (k1_hw13 : k1_chk13 v499 v585), ∀ a x, ((![v499, v585] : Fin 2 → IVec S16 32) a x).toNat < S512x128.size a := fun v499 v585 k1_hw13 => k1_hw13
def k1_off15 (k1_t1 : Fin k1_t1_loop.trips) : Fin 2 → Nat :=
  let c12_i32_472 : BitVec 32 := 12#32
  let v588 : Index := Scalar.indexCast c12_i32_472
  let c0_i32_203 : BitVec 32 := 0#32
  let c1_i32_204 : BitVec 32 := 1#32
  let arg13 : BitVec 32 := Scf.iv c0_i32_203 c1_i32_204 k1_t1
  let c16_i32_471 : BitVec 32 := 16#32
  let v587 : BitVec 32 := Scalar.muli arg13 c16_i32_471
  let v589 : Index := Scalar.indexCast v587
  ![12, v589.toNat]

def k1_chk14 (v499 : IVec S16 32) (v592 : IVec S16 32) : Prop :=
  (∀ a x, ((![v499, v592] : Fin 2 → IVec S16 32) a x).toNat < S512x128.size a)
theorem k1_idx14_inb : ∀ (v499 : IVec S16 32) (v592 : IVec S16 32) (k1_hw14 : k1_chk14 v499 v592), ∀ a x, ((![v499, v592] : Fin 2 → IVec S16 32) a x).toNat < S512x128.size a := fun v499 v592 k1_hw14 => k1_hw14
def k1_off16 (k1_t1 : Fin k1_t1_loop.trips) : Fin 2 → Nat :=
  let c13_i32_474 : BitVec 32 := 13#32
  let v595 : Index := Scalar.indexCast c13_i32_474
  let c0_i32_203 : BitVec 32 := 0#32
  let c1_i32_204 : BitVec 32 := 1#32
  let arg13 : BitVec 32 := Scf.iv c0_i32_203 c1_i32_204 k1_t1
  let c16_i32_473 : BitVec 32 := 16#32
  let v594 : BitVec 32 := Scalar.muli arg13 c16_i32_473
  let v596 : Index := Scalar.indexCast v594
  ![13, v596.toNat]

def k1_chk15 (v499 : IVec S16 32) (v599 : IVec S16 32) : Prop :=
  (∀ a x, ((![v499, v599] : Fin 2 → IVec S16 32) a x).toNat < S512x128.size a)
theorem k1_idx15_inb : ∀ (v499 : IVec S16 32) (v599 : IVec S16 32) (k1_hw15 : k1_chk15 v499 v599), ∀ a x, ((![v499, v599] : Fin 2 → IVec S16 32) a x).toNat < S512x128.size a := fun v499 v599 k1_hw15 => k1_hw15
def k1_off17 (k1_t1 : Fin k1_t1_loop.trips) : Fin 2 → Nat :=
  let c14_i32_476 : BitVec 32 := 14#32
  let v602 : Index := Scalar.indexCast c14_i32_476
  let c0_i32_203 : BitVec 32 := 0#32
  let c1_i32_204 : BitVec 32 := 1#32
  let arg13 : BitVec 32 := Scf.iv c0_i32_203 c1_i32_204 k1_t1
  let c16_i32_475 : BitVec 32 := 16#32
  let v601 : BitVec 32 := Scalar.muli arg13 c16_i32_475
  let v603 : Index := Scalar.indexCast v601
  ![14, v603.toNat]

def k1_chk16 (v499 : IVec S16 32) (v606 : IVec S16 32) : Prop :=
  (∀ a x, ((![v499, v606] : Fin 2 → IVec S16 32) a x).toNat < S512x128.size a)
theorem k1_idx16_inb : ∀ (v499 : IVec S16 32) (v606 : IVec S16 32) (k1_hw16 : k1_chk16 v499 v606), ∀ a x, ((![v499, v606] : Fin 2 → IVec S16 32) a x).toNat < S512x128.size a := fun v499 v606 k1_hw16 => k1_hw16
def k1_off18 (k1_t1 : Fin k1_t1_loop.trips) : Fin 2 → Nat :=
  let c15_i32_478 : BitVec 32 := 15#32
  let v609 : Index := Scalar.indexCast c15_i32_478
  let c0_i32_203 : BitVec 32 := 0#32
  let c1_i32_204 : BitVec 32 := 1#32
  let arg13 : BitVec 32 := Scf.iv c0_i32_203 c1_i32_204 k1_t1
  let c16_i32_477 : BitVec 32 := 16#32
  let v608 : BitVec 32 := Scalar.muli arg13 c16_i32_477
  let v610 : Index := Scalar.indexCast v608
  ![15, v610.toNat]
def k1_off19 (i : grid1.Coords) : Fin 2 → Nat :=
  let c0_i32_427_r4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
@[reducible] def k1_t2_loop : Scf.Loop 32 :=
  let c0_i32_423 : BitVec 32 := 0#32
  let c32_i32_424 : BitVec 32 := 32#32
  let v461 : BitVec 32 := Scalar.addi c0_i32_423 c32_i32_424
  let c1_i32_425 : BitVec 32 := 1#32
  ⟨c0_i32_423, v461, c1_i32_425⟩
def k1_off20 (k1_t2 : Fin k1_t2_loop.trips) : Fin 2 → Nat :=
  let c0_i32_423 : BitVec 32 := 0#32
  let c1_i32_425 : BitVec 32 := 1#32
  let arg13 : BitVec 32 := Scf.iv c0_i32_423 c1_i32_425 k1_t2
  let c0_i32_427 : BitVec 32 := 0#32
  let v463 : BitVec 1 := Scalar.cmpi .sgt arg13 c0_i32_427
  let v464 : BitVec 32 := Scalar.extui v463
  let c0_i32_428 : BitVec 32 := 0#32
  let v465 : BitVec 1 := Scalar.cmpi .slt arg13 c0_i32_428
  let v466 : BitVec 32 := Scalar.extui v465
  let v467 : BitVec 32 := Scalar.subi v464 v466
  let c8_i32 : BitVec 32 := 8#32
  let c0_i32_429 : BitVec 32 := 0#32
  let v468 : BitVec 1 := Scalar.cmpi .sgt c8_i32 c0_i32_429
  let v469 : BitVec 32 := Scalar.extui v468
  let c0_i32_430 : BitVec 32 := 0#32
  let v470 : BitVec 1 := Scalar.cmpi .slt c8_i32 c0_i32_430
  let v471 : BitVec 32 := Scalar.extui v470
  let v472 : BitVec 32 := Scalar.subi v469 v471
  let v473 : BitVec 1 := Scalar.cmpi .ne v467 v472
  let v474 : BitVec 32 := Scalar.remsi arg13 c8_i32
  let c0_i32_431 : BitVec 32 := 0#32
  let v475 : BitVec 1 := Scalar.cmpi .ne v474 c0_i32_431
  let v476 : BitVec 1 := Scalar.andi v473 v475
  let v462 : BitVec 32 := Scalar.divsi arg13 c8_i32
  let c1_i32_432 : BitVec 32 := 1#32
  let v477 : BitVec 32 := Scalar.subi v462 c1_i32_432
  let v478 : BitVec 32 := Scalar.select v476 v477 v462
  let v490 : Index := Scalar.indexCast v478
  let c8_i32_433 : BitVec 32 := 8#32
  let c0_i32_434 : BitVec 32 := 0#32
  let v479 : BitVec 1 := Scalar.cmpi .eq c8_i32_433 c0_i32_434
  let c1_i32_435 : BitVec 32 := 1#32
  let v480 : BitVec 32 := Scalar.select v479 c1_i32_435 c8_i32_433
  let v481 : BitVec 32 := Scalar.remsi arg13 v480
  let c0_i32_437 : BitVec 32 := 0#32
  let v483 : BitVec 1 := Scalar.cmpi .slt v481 c0_i32_437
  let c0_i32_438 : BitVec 32 := 0#32
  let v484 : BitVec 1 := Scalar.cmpi .slt v480 c0_i32_438
  let v485 : BitVec 1 := Scalar.xori v483 v484
  let c0_i32_436 : BitVec 32 := 0#32
  let v482 : BitVec 1 := Scalar.cmpi .ne v481 c0_i32_436
  let v486 : BitVec 1 := Scalar.andi v485 v482
  let v487 : BitVec 32 := Scalar.addi v481 v480
  let v488 : BitVec 32 := Scalar.select v486 v487 v481
  let c16_i32 : BitVec 32 := 16#32
  let v489 : BitVec 32 := Scalar.muli v488 c16_i32
  let v491 : Index := Scalar.indexCast v489
  ![v490.toNat, v491.toNat]

def k1_chk17 (v499 : IVec S16 32) (v501 : IVec S16 32) : Prop :=
  (∀ a x, ((![v499, v501] : Fin 2 → IVec S16 32) a x).toNat < S512x128.size a)
theorem k1_idx17_inb : ∀ (v499 : IVec S16 32) (v501 : IVec S16 32) (k1_hw17 : k1_chk17 v499 v501), ∀ a x, ((![v499, v501] : Fin 2 → IVec S16 32) a x).toNat < S512x128.size a := fun v499 v501 k1_hw17 => k1_hw17
def k1_off21 (k1_t2 : Fin k1_t2_loop.trips) : Fin 2 → Nat :=
  let c0_i32_443 : BitVec 32 := 0#32
  let v504 : Index := Scalar.indexCast c0_i32_443
  let c0_i32_423 : BitVec 32 := 0#32
  let c1_i32_425 : BitVec 32 := 1#32
  let arg13 : BitVec 32 := Scf.iv c0_i32_423 c1_i32_425 k1_t2
  let c16_i32_442 : BitVec 32 := 16#32
  let v503 : BitVec 32 := Scalar.muli arg13 c16_i32_442
  let v505 : Index := Scalar.indexCast v503
  ![0, v505.toNat]

def k1_chk18 (v499 : IVec S16 32) (v508 : IVec S16 32) : Prop :=
  (∀ a x, ((![v499, v508] : Fin 2 → IVec S16 32) a x).toNat < S512x128.size a)
theorem k1_idx18_inb : ∀ (v499 : IVec S16 32) (v508 : IVec S16 32) (k1_hw18 : k1_chk18 v499 v508), ∀ a x, ((![v499, v508] : Fin 2 → IVec S16 32) a x).toNat < S512x128.size a := fun v499 v508 k1_hw18 => k1_hw18
def k1_off22 (k1_t2 : Fin k1_t2_loop.trips) : Fin 2 → Nat :=
  let c1_i32_446 : BitVec 32 := 1#32
  let v511 : Index := Scalar.indexCast c1_i32_446
  let c0_i32_423 : BitVec 32 := 0#32
  let c1_i32_425 : BitVec 32 := 1#32
  let arg13 : BitVec 32 := Scf.iv c0_i32_423 c1_i32_425 k1_t2
  let c16_i32_445 : BitVec 32 := 16#32
  let v510 : BitVec 32 := Scalar.muli arg13 c16_i32_445
  let v512 : Index := Scalar.indexCast v510
  ![1, v512.toNat]

def k1_chk19 (v499 : IVec S16 32) (v515 : IVec S16 32) : Prop :=
  (∀ a x, ((![v499, v515] : Fin 2 → IVec S16 32) a x).toNat < S512x128.size a)
theorem k1_idx19_inb : ∀ (v499 : IVec S16 32) (v515 : IVec S16 32) (k1_hw19 : k1_chk19 v499 v515), ∀ a x, ((![v499, v515] : Fin 2 → IVec S16 32) a x).toNat < S512x128.size a := fun v499 v515 k1_hw19 => k1_hw19
def k1_off23 (k1_t2 : Fin k1_t2_loop.trips) : Fin 2 → Nat :=
  let c2_i32_449 : BitVec 32 := 2#32
  let v518 : Index := Scalar.indexCast c2_i32_449
  let c0_i32_423 : BitVec 32 := 0#32
  let c1_i32_425 : BitVec 32 := 1#32
  let arg13 : BitVec 32 := Scf.iv c0_i32_423 c1_i32_425 k1_t2
  let c16_i32_448 : BitVec 32 := 16#32
  let v517 : BitVec 32 := Scalar.muli arg13 c16_i32_448
  let v519 : Index := Scalar.indexCast v517
  ![2, v519.toNat]

def k1_chk20 (v499 : IVec S16 32) (v522 : IVec S16 32) : Prop :=
  (∀ a x, ((![v499, v522] : Fin 2 → IVec S16 32) a x).toNat < S512x128.size a)
theorem k1_idx20_inb : ∀ (v499 : IVec S16 32) (v522 : IVec S16 32) (k1_hw20 : k1_chk20 v499 v522), ∀ a x, ((![v499, v522] : Fin 2 → IVec S16 32) a x).toNat < S512x128.size a := fun v499 v522 k1_hw20 => k1_hw20
def k1_off24 (k1_t2 : Fin k1_t2_loop.trips) : Fin 2 → Nat :=
  let c3_i32_452 : BitVec 32 := 3#32
  let v525 : Index := Scalar.indexCast c3_i32_452
  let c0_i32_423 : BitVec 32 := 0#32
  let c1_i32_425 : BitVec 32 := 1#32
  let arg13 : BitVec 32 := Scf.iv c0_i32_423 c1_i32_425 k1_t2
  let c16_i32_451 : BitVec 32 := 16#32
  let v524 : BitVec 32 := Scalar.muli arg13 c16_i32_451
  let v526 : Index := Scalar.indexCast v524
  ![3, v526.toNat]

def k1_chk21 (v499 : IVec S16 32) (v529 : IVec S16 32) : Prop :=
  (∀ a x, ((![v499, v529] : Fin 2 → IVec S16 32) a x).toNat < S512x128.size a)
theorem k1_idx21_inb : ∀ (v499 : IVec S16 32) (v529 : IVec S16 32) (k1_hw21 : k1_chk21 v499 v529), ∀ a x, ((![v499, v529] : Fin 2 → IVec S16 32) a x).toNat < S512x128.size a := fun v499 v529 k1_hw21 => k1_hw21
def k1_off25 (k1_t2 : Fin k1_t2_loop.trips) : Fin 2 → Nat :=
  let c4_i32_454 : BitVec 32 := 4#32
  let v532 : Index := Scalar.indexCast c4_i32_454
  let c0_i32_423 : BitVec 32 := 0#32
  let c1_i32_425 : BitVec 32 := 1#32
  let arg13 : BitVec 32 := Scf.iv c0_i32_423 c1_i32_425 k1_t2
  let c16_i32_453 : BitVec 32 := 16#32
  let v531 : BitVec 32 := Scalar.muli arg13 c16_i32_453
  let v533 : Index := Scalar.indexCast v531
  ![4, v533.toNat]

def k1_chk22 (v499 : IVec S16 32) (v536 : IVec S16 32) : Prop :=
  (∀ a x, ((![v499, v536] : Fin 2 → IVec S16 32) a x).toNat < S512x128.size a)
theorem k1_idx22_inb : ∀ (v499 : IVec S16 32) (v536 : IVec S16 32) (k1_hw22 : k1_chk22 v499 v536), ∀ a x, ((![v499, v536] : Fin 2 → IVec S16 32) a x).toNat < S512x128.size a := fun v499 v536 k1_hw22 => k1_hw22
def k1_off26 (k1_t2 : Fin k1_t2_loop.trips) : Fin 2 → Nat :=
  let c5_i32_456 : BitVec 32 := 5#32
  let v539 : Index := Scalar.indexCast c5_i32_456
  let c0_i32_423 : BitVec 32 := 0#32
  let c1_i32_425 : BitVec 32 := 1#32
  let arg13 : BitVec 32 := Scf.iv c0_i32_423 c1_i32_425 k1_t2
  let c16_i32_455 : BitVec 32 := 16#32
  let v538 : BitVec 32 := Scalar.muli arg13 c16_i32_455
  let v540 : Index := Scalar.indexCast v538
  ![5, v540.toNat]

def k1_chk23 (v499 : IVec S16 32) (v543 : IVec S16 32) : Prop :=
  (∀ a x, ((![v499, v543] : Fin 2 → IVec S16 32) a x).toNat < S512x128.size a)
theorem k1_idx23_inb : ∀ (v499 : IVec S16 32) (v543 : IVec S16 32) (k1_hw23 : k1_chk23 v499 v543), ∀ a x, ((![v499, v543] : Fin 2 → IVec S16 32) a x).toNat < S512x128.size a := fun v499 v543 k1_hw23 => k1_hw23
def k1_off27 (k1_t2 : Fin k1_t2_loop.trips) : Fin 2 → Nat :=
  let c6_i32_458 : BitVec 32 := 6#32
  let v546 : Index := Scalar.indexCast c6_i32_458
  let c0_i32_423 : BitVec 32 := 0#32
  let c1_i32_425 : BitVec 32 := 1#32
  let arg13 : BitVec 32 := Scf.iv c0_i32_423 c1_i32_425 k1_t2
  let c16_i32_457 : BitVec 32 := 16#32
  let v545 : BitVec 32 := Scalar.muli arg13 c16_i32_457
  let v547 : Index := Scalar.indexCast v545
  ![6, v547.toNat]

def k1_chk24 (v499 : IVec S16 32) (v550 : IVec S16 32) : Prop :=
  (∀ a x, ((![v499, v550] : Fin 2 → IVec S16 32) a x).toNat < S512x128.size a)
theorem k1_idx24_inb : ∀ (v499 : IVec S16 32) (v550 : IVec S16 32) (k1_hw24 : k1_chk24 v499 v550), ∀ a x, ((![v499, v550] : Fin 2 → IVec S16 32) a x).toNat < S512x128.size a := fun v499 v550 k1_hw24 => k1_hw24
def k1_off28 (k1_t2 : Fin k1_t2_loop.trips) : Fin 2 → Nat :=
  let c7_i32_461 : BitVec 32 := 7#32
  let v553 : Index := Scalar.indexCast c7_i32_461
  let c0_i32_423 : BitVec 32 := 0#32
  let c1_i32_425 : BitVec 32 := 1#32
  let arg13 : BitVec 32 := Scf.iv c0_i32_423 c1_i32_425 k1_t2
  let c16_i32_460 : BitVec 32 := 16#32
  let v552 : BitVec 32 := Scalar.muli arg13 c16_i32_460
  let v554 : Index := Scalar.indexCast v552
  ![7, v554.toNat]

def k1_chk25 (v499 : IVec S16 32) (v557 : IVec S16 32) : Prop :=
  (∀ a x, ((![v499, v557] : Fin 2 → IVec S16 32) a x).toNat < S512x128.size a)
theorem k1_idx25_inb : ∀ (v499 : IVec S16 32) (v557 : IVec S16 32) (k1_hw25 : k1_chk25 v499 v557), ∀ a x, ((![v499, v557] : Fin 2 → IVec S16 32) a x).toNat < S512x128.size a := fun v499 v557 k1_hw25 => k1_hw25
def k1_off29 (k1_t2 : Fin k1_t2_loop.trips) : Fin 2 → Nat :=
  let c8_i32_464 : BitVec 32 := 8#32
  let v560 : Index := Scalar.indexCast c8_i32_464
  let c0_i32_423 : BitVec 32 := 0#32
  let c1_i32_425 : BitVec 32 := 1#32
  let arg13 : BitVec 32 := Scf.iv c0_i32_423 c1_i32_425 k1_t2
  let c16_i32_463 : BitVec 32 := 16#32
  let v559 : BitVec 32 := Scalar.muli arg13 c16_i32_463
  let v561 : Index := Scalar.indexCast v559
  ![8, v561.toNat]

def k1_chk26 (v499 : IVec S16 32) (v564 : IVec S16 32) : Prop :=
  (∀ a x, ((![v499, v564] : Fin 2 → IVec S16 32) a x).toNat < S512x128.size a)
theorem k1_idx26_inb : ∀ (v499 : IVec S16 32) (v564 : IVec S16 32) (k1_hw26 : k1_chk26 v499 v564), ∀ a x, ((![v499, v564] : Fin 2 → IVec S16 32) a x).toNat < S512x128.size a := fun v499 v564 k1_hw26 => k1_hw26
def k1_off30 (k1_t2 : Fin k1_t2_loop.trips) : Fin 2 → Nat :=
  let c9_i32_466 : BitVec 32 := 9#32
  let v567 : Index := Scalar.indexCast c9_i32_466
  let c0_i32_423 : BitVec 32 := 0#32
  let c1_i32_425 : BitVec 32 := 1#32
  let arg13 : BitVec 32 := Scf.iv c0_i32_423 c1_i32_425 k1_t2
  let c16_i32_465 : BitVec 32 := 16#32
  let v566 : BitVec 32 := Scalar.muli arg13 c16_i32_465
  let v568 : Index := Scalar.indexCast v566
  ![9, v568.toNat]

def k1_chk27 (v499 : IVec S16 32) (v571 : IVec S16 32) : Prop :=
  (∀ a x, ((![v499, v571] : Fin 2 → IVec S16 32) a x).toNat < S512x128.size a)
theorem k1_idx27_inb : ∀ (v499 : IVec S16 32) (v571 : IVec S16 32) (k1_hw27 : k1_chk27 v499 v571), ∀ a x, ((![v499, v571] : Fin 2 → IVec S16 32) a x).toNat < S512x128.size a := fun v499 v571 k1_hw27 => k1_hw27
def k1_off31 (k1_t2 : Fin k1_t2_loop.trips) : Fin 2 → Nat :=
  let c10_i32_468 : BitVec 32 := 10#32
  let v574 : Index := Scalar.indexCast c10_i32_468
  let c0_i32_423 : BitVec 32 := 0#32
  let c1_i32_425 : BitVec 32 := 1#32
  let arg13 : BitVec 32 := Scf.iv c0_i32_423 c1_i32_425 k1_t2
  let c16_i32_467 : BitVec 32 := 16#32
  let v573 : BitVec 32 := Scalar.muli arg13 c16_i32_467
  let v575 : Index := Scalar.indexCast v573
  ![10, v575.toNat]

def k1_chk28 (v499 : IVec S16 32) (v578 : IVec S16 32) : Prop :=
  (∀ a x, ((![v499, v578] : Fin 2 → IVec S16 32) a x).toNat < S512x128.size a)
theorem k1_idx28_inb : ∀ (v499 : IVec S16 32) (v578 : IVec S16 32) (k1_hw28 : k1_chk28 v499 v578), ∀ a x, ((![v499, v578] : Fin 2 → IVec S16 32) a x).toNat < S512x128.size a := fun v499 v578 k1_hw28 => k1_hw28
def k1_off32 (k1_t2 : Fin k1_t2_loop.trips) : Fin 2 → Nat :=
  let c11_i32_470 : BitVec 32 := 11#32
  let v581 : Index := Scalar.indexCast c11_i32_470
  let c0_i32_423 : BitVec 32 := 0#32
  let c1_i32_425 : BitVec 32 := 1#32
  let arg13 : BitVec 32 := Scf.iv c0_i32_423 c1_i32_425 k1_t2
  let c16_i32_469 : BitVec 32 := 16#32
  let v580 : BitVec 32 := Scalar.muli arg13 c16_i32_469
  let v582 : Index := Scalar.indexCast v580
  ![11, v582.toNat]

def k1_chk29 (v499 : IVec S16 32) (v585 : IVec S16 32) : Prop :=
  (∀ a x, ((![v499, v585] : Fin 2 → IVec S16 32) a x).toNat < S512x128.size a)
theorem k1_idx29_inb : ∀ (v499 : IVec S16 32) (v585 : IVec S16 32) (k1_hw29 : k1_chk29 v499 v585), ∀ a x, ((![v499, v585] : Fin 2 → IVec S16 32) a x).toNat < S512x128.size a := fun v499 v585 k1_hw29 => k1_hw29
def k1_off33 (k1_t2 : Fin k1_t2_loop.trips) : Fin 2 → Nat :=
  let c12_i32_472 : BitVec 32 := 12#32
  let v588 : Index := Scalar.indexCast c12_i32_472
  let c0_i32_423 : BitVec 32 := 0#32
  let c1_i32_425 : BitVec 32 := 1#32
  let arg13 : BitVec 32 := Scf.iv c0_i32_423 c1_i32_425 k1_t2
  let c16_i32_471 : BitVec 32 := 16#32
  let v587 : BitVec 32 := Scalar.muli arg13 c16_i32_471
  let v589 : Index := Scalar.indexCast v587
  ![12, v589.toNat]

def k1_chk30 (v499 : IVec S16 32) (v592 : IVec S16 32) : Prop :=
  (∀ a x, ((![v499, v592] : Fin 2 → IVec S16 32) a x).toNat < S512x128.size a)
theorem k1_idx30_inb : ∀ (v499 : IVec S16 32) (v592 : IVec S16 32) (k1_hw30 : k1_chk30 v499 v592), ∀ a x, ((![v499, v592] : Fin 2 → IVec S16 32) a x).toNat < S512x128.size a := fun v499 v592 k1_hw30 => k1_hw30
def k1_off34 (k1_t2 : Fin k1_t2_loop.trips) : Fin 2 → Nat :=
  let c13_i32_474 : BitVec 32 := 13#32
  let v595 : Index := Scalar.indexCast c13_i32_474
  let c0_i32_423 : BitVec 32 := 0#32
  let c1_i32_425 : BitVec 32 := 1#32
  let arg13 : BitVec 32 := Scf.iv c0_i32_423 c1_i32_425 k1_t2
  let c16_i32_473 : BitVec 32 := 16#32
  let v594 : BitVec 32 := Scalar.muli arg13 c16_i32_473
  let v596 : Index := Scalar.indexCast v594
  ![13, v596.toNat]

def k1_chk31 (v499 : IVec S16 32) (v599 : IVec S16 32) : Prop :=
  (∀ a x, ((![v499, v599] : Fin 2 → IVec S16 32) a x).toNat < S512x128.size a)
theorem k1_idx31_inb : ∀ (v499 : IVec S16 32) (v599 : IVec S16 32) (k1_hw31 : k1_chk31 v499 v599), ∀ a x, ((![v499, v599] : Fin 2 → IVec S16 32) a x).toNat < S512x128.size a := fun v499 v599 k1_hw31 => k1_hw31
def k1_off35 (k1_t2 : Fin k1_t2_loop.trips) : Fin 2 → Nat :=
  let c14_i32_476 : BitVec 32 := 14#32
  let v602 : Index := Scalar.indexCast c14_i32_476
  let c0_i32_423 : BitVec 32 := 0#32
  let c1_i32_425 : BitVec 32 := 1#32
  let arg13 : BitVec 32 := Scf.iv c0_i32_423 c1_i32_425 k1_t2
  let c16_i32_475 : BitVec 32 := 16#32
  let v601 : BitVec 32 := Scalar.muli arg13 c16_i32_475
  let v603 : Index := Scalar.indexCast v601
  ![14, v603.toNat]

def k1_chk32 (v499 : IVec S16 32) (v606 : IVec S16 32) : Prop :=
  (∀ a x, ((![v499, v606] : Fin 2 → IVec S16 32) a x).toNat < S512x128.size a)
theorem k1_idx32_inb : ∀ (v499 : IVec S16 32) (v606 : IVec S16 32) (k1_hw32 : k1_chk32 v499 v606), ∀ a x, ((![v499, v606] : Fin 2 → IVec S16 32) a x).toNat < S512x128.size a := fun v499 v606 k1_hw32 => k1_hw32
def k1_off36 (k1_t2 : Fin k1_t2_loop.trips) : Fin 2 → Nat :=
  let c15_i32_478 : BitVec 32 := 15#32
  let v609 : Index := Scalar.indexCast c15_i32_478
  let c0_i32_423 : BitVec 32 := 0#32
  let c1_i32_425 : BitVec 32 := 1#32
  let arg13 : BitVec 32 := Scf.iv c0_i32_423 c1_i32_425 k1_t2
  let c16_i32_477 : BitVec 32 := 16#32
  let v608 : BitVec 32 := Scalar.muli arg13 c16_i32_477
  let v610 : Index := Scalar.indexCast v608
  ![15, v610.toNat]
abbrev grid2 : Pipeline.Grid := .none

abbrev stage2_0 : Fin 1 → Memref sig .tc .vmem S16x16384 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S16x16384 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S8x16384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S64x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S64x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S64x8 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S64x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S32x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S32x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S1x32 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S1x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S1x16384 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16384 : Shape := ⟨1, ![16384]⟩
abbrev S16384x8 : Shape := ⟨2, ![16384, 8]⟩
abbrev S1000000x16 : Shape := ⟨2, ![1000000, 16]⟩
abbrev S1000x8 : Shape := ⟨2, ![1000, 8]⟩
abbrev S64x32 : Shape := ⟨2, ![64, 32]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x16 : Shape := ⟨2, ![16384, 16]⟩
abbrev S16384x32 : Shape := ⟨2, ![16384, 32]⟩
abbrev S16384x64 : Shape := ⟨2, ![16384, 64]⟩
abbrev S1x64 : Shape := ⟨2, ![1, 64]⟩
abbrev S32x1 : Shape := ⟨2, ![32, 1]⟩

abbrev nBuf : Space → Nat
  | .hbm => 80
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384x8, .f32⟩
  | .hbm, ⟨3, _⟩ => ⟨S1000000x16, .f32⟩
  | .hbm, ⟨4, _⟩ => ⟨S1000x8, .f32⟩
  | .hbm, ⟨5, _⟩ => ⟨S64x32, .f32⟩
  | .hbm, ⟨6, _⟩ => ⟨S64, .f32⟩
  | .hbm, ⟨7, _⟩ => ⟨S32x64, .f32⟩
  | .hbm, ⟨8, _⟩ => ⟨S32, .f32⟩
  | .hbm, ⟨9, _⟩ => ⟨S1x32, .f32⟩
  | .hbm, ⟨10, _⟩ => ⟨S1, .f32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S16384, .i32⟩
  | .hbm, ⟨18, _⟩ => ⟨S16384x1, .i32⟩
  | .hbm, ⟨19, _⟩ => ⟨S1, .i32⟩
  | .hbm, ⟨20, _⟩ => ⟨S_, .i32⟩
  | .hbm, ⟨21, _⟩ => ⟨S16384x1, .i32⟩
  | .hbm, ⟨22, _⟩ => ⟨S16384x1, .i1⟩
  | .hbm, ⟨23, _⟩ => ⟨S1x1, .i32⟩
  | .hbm, ⟨24, _⟩ => ⟨S16384x1, .i32⟩
  | .hbm, ⟨25, _⟩ => ⟨S16384x1, .i1⟩
  | .hbm, ⟨26, _⟩ => ⟨S16384x1, .i1⟩
  | .hbm, ⟨27, _⟩ => ⟨S_, .i1⟩
  | .hbm, ⟨28, _⟩ => ⟨S16384, .i1⟩
  | .hbm, ⟨29, _⟩ => ⟨S16384x16, .f32⟩
  | .hbm, ⟨30, _⟩ => ⟨S16384x16, .i1⟩
  | .hbm, ⟨31, _⟩ => ⟨S_, .f32⟩
  | .hbm, ⟨32, _⟩ => ⟨S16384x16, .f32⟩
  | .hbm, ⟨33, _⟩ => ⟨S16384x16, .f32⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S_, .i32⟩
  | .hbm, ⟨38, _⟩ => ⟨S16384, .i32⟩
  | .hbm, ⟨39, _⟩ => ⟨S16384, .i32⟩
  | .hbm, ⟨40, _⟩ => ⟨S16384, .i32⟩
  | .hbm, ⟨41, _⟩ => ⟨S16384x1, .i32⟩
  | .hbm, ⟨42, _⟩ => ⟨S1, .i32⟩
  | .hbm, ⟨43, _⟩ => ⟨S_, .i32⟩
  | .hbm, ⟨44, _⟩ => ⟨S16384x1, .i32⟩
  | .hbm, ⟨45, _⟩ => ⟨S16384x1, .i1⟩
  | .hbm, ⟨46, _⟩ => ⟨S1x1, .i32⟩
  | .hbm, ⟨47, _⟩ => ⟨S16384x1, .i32⟩
  | .hbm, ⟨48, _⟩ => ⟨S16384x1, .i1⟩
  | .hbm, ⟨49, _⟩ => ⟨S16384x1, .i1⟩
  | .hbm, ⟨50, _⟩ => ⟨S_, .i1⟩
  | .hbm, ⟨51, _⟩ => ⟨S16384, .i1⟩
  | .hbm, ⟨52, _⟩ => ⟨S16384x8, .f32⟩
  | .hbm, ⟨53, _⟩ => ⟨S16384x8, .i1⟩
  | .hbm, ⟨54, _⟩ => ⟨S_, .f32⟩
  | .hbm, ⟨55, _⟩ => ⟨S16384x8, .f32⟩
  | .hbm, ⟨56, _⟩ => ⟨S16384x8, .f32⟩
  | .hbm, ⟨57, _⟩ => ⟨S16384x32, .f32⟩
  | .hbm, ⟨58, _⟩ => ⟨S32x64, .f32⟩
  | .hbm, ⟨59, _⟩ => ⟨S16384x64, .f32⟩
  | .hbm, ⟨60, _⟩ => ⟨S1x64, .f32⟩
  | .hbm, ⟨61, _⟩ => ⟨S16384x64, .f32⟩
  | .hbm, ⟨62, _⟩ => ⟨S16384x64, .f32⟩
  | .hbm, ⟨63, _⟩ => ⟨S_, .f32⟩
  | .hbm, ⟨64, _⟩ => ⟨S16384x64, .f32⟩
  | .hbm, ⟨65, _⟩ => ⟨S16384x64, .f32⟩
  | .hbm, ⟨66, _⟩ => ⟨S64x32, .f32⟩
  | .hbm, ⟨67, _⟩ => ⟨S16384x32, .f32⟩
  | .hbm, ⟨68, _⟩ => ⟨S1x32, .f32⟩
  | .hbm, ⟨69, _⟩ => ⟨S16384x32, .f32⟩
  | .hbm, ⟨70, _⟩ => ⟨S16384x32, .f32⟩
  | .hbm, ⟨71, _⟩ => ⟨S_, .f32⟩
  | .hbm, ⟨72, _⟩ => ⟨S16384x32, .f32⟩
  | .hbm, ⟨73, _⟩ => ⟨S16384x32, .f32⟩
  | .hbm, ⟨74, _⟩ => ⟨S32x1, .f32⟩
  | .hbm, ⟨75, _⟩ => ⟨S16384x1, .f32⟩
  | .hbm, ⟨76, _⟩ => ⟨S1x1, .f32⟩
  | .hbm, ⟨77, _⟩ => ⟨S16384x1, .f32⟩
  | .hbm, ⟨78, _⟩ => ⟨S16384x1, .f32⟩
  | .hbm, ⟨79, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v1 : Ref sig .tc := ⟨.hbm, 56, rfl⟩
abbrev main_v2 : Ref sig .tc := ⟨.hbm, 57, rfl⟩
abbrev main_v3 : Ref sig .tc := ⟨.hbm, 58, rfl⟩
abbrev main_v4 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_call2_cst : Ref sig .tc := ⟨.hbm, 63, rfl⟩
abbrev main_call2_v0 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_call3_cst : Ref sig .tc := ⟨.hbm, 71, rfl⟩
abbrev main_call3_v0 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩

abbrev nD : Nat := 1
abbrev τ : Topo := Topo.v7x

variable {F : FTy → Type} [FloatOps F]
-- ==== Proof.Moves.lean ====
/-
  The two inner steps of the SparseCore kernels, each as one rule that carries the VALUE it moves.

  * `wp_scatterRow` — a tile of the packing kernel loads sixteen words of row `a` of its input block and scatters them
    into its output block. `Moved g a S D` says which words of the output `D` are already those of the input `S`: the
    ones of groups below `g`, and of group `g` those that come from rows below `a`. One step takes `a` to `a + 1`.
  * `wp_extractRow` — a tile of the gathering kernel picks one word from each of sixteen fetched rows and stores the
    sixteen words as part of row `f` of its output block. `Picked` is the corresponding statement.
-/
module

public import Idealize.ShloMosaic.Lib.SparseCore
public import Idealize.ShloMosaic.Lib.SparseCore.Ops
public import Idealize.ShloMosaic.Lib.ValueLayout
public import Idealize.ShloMosaic.Rules
public import Idealize.ShloMosaic.Lib.Tactic

@[expose] public section

noncomputable section

namespace Cert.Proof.Moves

open Idealize.ShloMosaic
open Idealize.SL
open Idealize.SL.BI (sProp)
open scoped Idealize.SL.BI
open Idealize.SL.BI.BIBase Idealize.SL.BI.Laws Idealize.SL.Sem Idealize.SL.ProofMode
open Idealize.SL.RA
open Idealize.ShloMosaic.ValueIdx

/-! ## A scatter, read at one element -/

/-- The scatter's fold, at one element `j`: if every lane that names `j` brings the word `w`, and some lane names it or
    it held `w` before, it holds `w` after. -/
theorem storeIdx_eq {F : FTy → Type} [FloatOps F] {s : Shape} {e : EltTy} {d : Fin 1 → Nat} (f : Vec F s e) (idxs : Fin s.rank → IVec ⟨1, d⟩ 32)
    (v : Vec F ⟨1, d⟩ e) (h : ∀ a x, (idxs a x).toNat < s.size a) (j : s.Idx) (w : Elt F e)
    (hv : ∀ k : Fin (d 0), (∀ a, (j a).val = (idxs a (Shape.ofLane k)).toNat) → v (Shape.ofLane k) = w)
    (hj : (∃ k : Fin (d 0), ∀ a, (j a).val = (idxs a (Shape.ofLane k)).toNat) ∨ f j = w) :
    storeIdx f idxs v (fun _ => 1#1) false h j = w := by
  unfold storeIdx
  have key : ∀ (L : List (Fin (d 0))) (g : Vec F s e),
      ((∃ k ∈ L, ∀ a, (j a).val = (idxs a (Shape.ofLane k)).toNat) ∨ g j = w) →
      (L.foldl (fun g k => fun j => if (∀ a, (j a).val = (idxs a (Shape.ofLane k)).toNat) then v (Shape.ofLane k) else g j) g) j = w := by
    intro L
    induction L with
    | nil =>
      intro g hg
      rcases hg with ⟨k, hk, -⟩ | hg
      · exact absurd hk List.not_mem_nil
      · exact hg
    | cons k L ih =>
      intro g hg
      rw [List.foldl_cons]
      apply ih
      by_cases hk : ∀ a, (j a).val = (idxs a (Shape.ofLane k)).toNat
      · right
        rw [if_pos hk]
        exact hv k hk
      · rcases hg with ⟨k', hk', hh⟩ | hg
        · rcases List.mem_cons.mp hk' with rfl | hk'
          · exact absurd hh hk
          · exact .inl ⟨k', hk', hh⟩
        · right
          rw [if_neg hk]; exact hg
  have h0 := key (List.finRange (d 0)) f ?_
  · simpa [idxAt] using h0
  rcases hj with ⟨k, hk⟩ | hj
  · exact .inl ⟨k, List.mem_finRange k, hk⟩
  · exact .inr hj

/-! ## What has been moved, what has been picked -/

/-- After the groups below `g`, and of group `g` the input rows below `a`: the output's words so far are the input's,
    the word at `(r, c)` of the output being the one at `(c mod 16, 8 r + c / 16)` of the input. -/
def Moved {V : Type} {dS dD : Fin 2 → ℕ} (g a : ℕ) (S : (⟨2, dS⟩ : Shape).Idx → V) (D : (⟨2, dD⟩ : Shape).Idx → V) : Prop :=
  ∀ (x : (⟨2, dD⟩ : Shape).Idx) (y : (⟨2, dS⟩ : Shape).Idx), (y 0).val = (x 1).val % 16 → (y 1).val = 8 * (x 0).val + (x 1).val / 16 →
    ((x 0).val < 2 * g ∨ ((x 0).val < 2 * g + 2 ∧ (x 1).val % 16 < a)) → D x = S y

theorem Moved.zero {V : Type} {dS dD : Fin 2 → ℕ} (S : (⟨2, dS⟩ : Shape).Idx → V) (D : (⟨2, dD⟩ : Shape).Idx → V) : Moved 0 0 S D :=
  fun x _ _ _ h => by omega

theorem Moved.next {V : Type} {dS dD : Fin 2 → ℕ} {g : ℕ} {S : (⟨2, dS⟩ : Shape).Idx → V} {D : (⟨2, dD⟩ : Shape).Idx → V}
    (h : Moved g 16 S D) : Moved (g + 1) 0 S D :=
  fun x y h0 h1 hh => h x y h0 h1 (by omega)

/-- After the groups below `g`, and of group `g` the output rows below `f`: the word at `(r, b)` of the output is the
    one at `(b, col b + r)` of the fetched rows. -/
def Picked {V : Type} {dR dO : Fin 2 → ℕ} (col : ℕ → ℕ) (g f : ℕ) (R : (⟨2, dR⟩ : Shape).Idx → V) (O : (⟨2, dO⟩ : Shape).Idx → V) : Prop :=
  ∀ (x : (⟨2, dO⟩ : Shape).Idx) (y : (⟨2, dR⟩ : Shape).Idx), (y 0).val = (x 1).val → (y 1).val = col (x 1).val + (x 0).val →
    ((x 1).val < 16 * g ∨ ((x 1).val < 16 * g + 16 ∧ (x 0).val < f)) → O x = R y

theorem Picked.zero {V : Type} {dR dO : Fin 2 → ℕ} (col : ℕ → ℕ) (R : (⟨2, dR⟩ : Shape).Idx → V) (O : (⟨2, dO⟩ : Shape).Idx → V) :
    Picked col 0 0 R O := fun x _ _ _ h => by omega

theorem Picked.next {V : Type} {dR dO : Fin 2 → ℕ} (hO : dO 0 = 16) {col : ℕ → ℕ} {g : ℕ} {R : (⟨2, dR⟩ : Shape).Idx → V}
    {O : (⟨2, dO⟩ : Shape).Idx → V} (h : Picked col g 16 R O) : Picked col (g + 1) 0 R O :=
  fun x y h0 h1 hh => h x y h0 h1 (by have := (x 0).isLt; simp only [Shape.size] at this; omega)

/-! ## The rules -/

section Rules

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V) (E : Set Name)
variable {α : Type} {Q : α → sProp (MT nD τ sig Ix (Elt F) Name U Lvl)}

local notation "𝕄" => MT nD τ sig Ix (Elt F) Name U Lvl

omit [FloatOps F] in
/-- What the view of a whole-rectangle access reads is what the memref's view reads. -/
theorem read_access_whole' {κ : Kind} {sp : Space} {s : Shape} {e : EltTy} (m : Memref sig κ sp s e) (f : m.view.ty.Contents (Elt F)) :
    (m.access (Rect.whole s)).read (Elt F) f = m.view.read (Elt F) f := by
  funext x
  rw [View.read_apply, View.read_apply]
  show cast _ (f (m.view.emb ((Rect.whole s).emb x))) = _
  rw [Rect.emb_whole_apply]

omit [FloatOps F] in
/-- A read through a rectangle of a memref is the memref's read at the rectangle's elements. -/
theorem read_access_apply {κ : Kind} {sp : Space} {s : Shape} {e : EltTy} (m : Memref sig κ sp s e) (r : Rect s) (f : m.view.ty.Contents (Elt F))
    (x : r.shape.Idx) : (m.access r).read (Elt F) f x = m.view.read (Elt F) f (r.emb x) := by
  rw [View.read_apply, View.read_apply]; rfl

/-- One load of sixteen words of row `a` and their scatter. -/
theorem wp_scatterRow {dS dD : Fin 2 → ℕ} {src : Memref sig c.2.kind .vmem ⟨2, dS⟩ .f32} {dst : Memref sig c.2.kind .vmem ⟨2, dD⟩ .f32}
    {off : Fin 2 → ℕ} {inb : ∀ b, off b + (![1, 16] : Fin 2 → ℕ) b ≤ (⟨2, dS⟩ : Shape).size b} {hl : src.view.LoadsAt (Rect.unit (s := ⟨2, dS⟩) off ![1, 16] inb).toLoadRect}
    {row col : IVec ⟨1, ![16]⟩ 32} {pay : Vec F ⟨2, ![1, 16]⟩ .f32 → Vec F ⟨1, ![16]⟩ .f32}
    {h : Vec F ⟨2, ![1, 16]⟩ .f32 → ∀ b x, ((![row, col] : Fin 2 → IVec ⟨1, ![16]⟩ 32) b x).toNat < (⟨2, dD⟩ : Shape).size b} {hs : (dst.access (.whole ⟨2, dD⟩)).Stores Finset.univ}
    {k : Vec F ⟨2, ![1, 16]⟩ .f32 → PUnit → Prog (TpuEff nD τ sig (Elt F) Λ c.2) α}
    (g a : ℕ) {q : PosShare TreeShare} (fs : Buf (Elt F) (src.view.loc c)) (S : (⟨2, dS⟩ : Shape).Idx → Elt F .f32)
    (hS : src.view.read (Elt F) fs = S)
    (hset : (dst.access (.whole ⟨2, dD⟩)).set = Finset.univ)
    (hD1 : dD 1 = 128) (ha : a < 16)
    (hoff : off = ![a, 16 * g]) (hpay : ∀ ld (l : Fin 16), pay ld (ix1 l) = ld (ix2 0 l))
    (hrow : ∀ l : Fin 16, (row (ix1 l)).toNat = l.val / 8 + 2 * g) (hcol : ∀ l : Fin 16, (col (ix1 l)).toNat = (l.val % 8) * 16 + a) :
    iprop((src.view.loc c ↦{q} fs) ∗ (∃ fd, ⌜Moved g a S (dst.view.read (Elt F) fd)⌝ ∗ dst.view.loc c ↦{fullShare} fd))
      ⊢ iprop((∀ ld, ((src.view.loc c ↦{q} fs) ∗ (∃ fd, ⌜Moved g (a + 1) S (dst.view.read (Elt F) fd)⌝ ∗ dst.view.loc c ↦{fullShare} fd))
          -∗ wp frame (wpE defs 𝒱 c bd) E (k ld ⟨⟩) Q)
        -∗ wp frame (wpE defs 𝒱 c bd) E (.op (.load src (Rect.unit (s := ⟨2, dS⟩) off ![1, 16] inb).toLoadRect hl) fun ld =>
            (SparseCore.vectorStoreIdx dst ![row, col] (pay ld) (fun _ => 1#1) false (h ld) hs >>= k ld)) Q) := by
  subst hS
  iintro ⟨Hs, %fd, %hM, Hd⟩ Hk
  iapply (wp_load_rect (defs := defs) 𝒱 c bd E (m := src) (r := Rect.unit (s := ⟨2, dS⟩) off ![1, 16] inb) (hl := hl) (S := Finset.univ) (q := q) (f := fs)
    (Finset.subset_univ _)) $$ Hs
  iintro Hs
  ihave Hd := (Entails.of_eq (show (dst.view.loc c ↦{fullShare} fd : sProp 𝕄)
    = ((dst.access (.whole ⟨2, dD⟩)).loc c ↦[(dst.access (.whole ⟨2, dD⟩)).set]{fullShare} fd) by rw [hset])) $$ Hd
  iapply (SparseCore.wp_vectorStoreIdx (defs := defs) 𝒱 c bd E) $$ Hd
  iintro Hd
  ihave Hd := (Entails.of_eq (show (((dst.access (.whole ⟨2, dD⟩)).loc c ↦[(dst.access (.whole ⟨2, dD⟩)).set]{fullShare} _) : sProp 𝕄)
    = (dst.view.loc c ↦{fullShare} _) by rw [hset])) $$ Hd
  iapply Hk
  isplitl [Hs]; · iexact Hs
  iexists _
  isplitr
  swap; · iexact Hd
  ipureintro
  subst hoff
  intro x y hy0 hy1 hx
  rw [← read_access_whole' dst, View.read_write_univ, read_access_whole']
  have hx1 : (x 1).val < 128 := hD1 ▸ (x 1).isLt
  have hemb : ∀ l : Fin 16, (y 0).val = a → (y 1).val = 16 * g + l.val →
      (Rect.unit (s := ⟨2, dS⟩) ![a, 16 * g] ![1, 16] inb).emb (ix2 (0 : Fin 1) l) = y := by
    intro l h0 h1
    funext b
    apply Fin.ext
    show (![a, 16 * g] : Fin 2 → ℕ) b + 1 * (ix2 (0 : Fin 1) l b).val = _
    match b with
    | 0 => show a + 1 * 0 = _; omega
    | 1 => show 16 * g + 1 * l.val = _; omega
  have hlane : ∀ l : Fin 16, (Shape.ofLane (d := ![16]) l) = ix1 l := by
    intro l; funext b; match b with | 0 => rfl
  refine storeIdx_eq (F := F) _ _ _ _ x _ ?_ ?_
  · intro l hl
    have e0 : (x 0).val = _ := (hl 0)
    have e1 : (x 1).val = _ := (hl 1)
    change Fin 16 at l
    rw [hlane] at e0 e1 ⊢
    have e0' : (x 0).val = l.val / 8 + 2 * g := e0.trans (hrow l)
    have e1' : (x 1).val = (l.val % 8) * 16 + a := e1.trans (hcol l)
    rw [hpay, read_access_apply, hemb l (by omega) (by omega)]
  · by_cases hold : (x 0).val < 2 * g ∨ ((x 0).val < 2 * g + 2 ∧ (x 1).val % 16 < a)
    · exact .inr (hM x y hy0 hy1 hold)
    · left
      obtain ⟨l, hl⟩ : ∃ l : Fin 16, l.val = 8 * ((x 0).val - 2 * g) + (x 1).val / 16 := ⟨⟨_, by omega⟩, rfl⟩
      refine ⟨l, ?_⟩
      have e0 : (x 0).val = (row (ix1 l)).toNat := by rw [hrow l]; omega
      have e1 : (x 1).val = (col (ix1 l)).toNat := by rw [hcol l]; omega
      intro b
      rw [hlane]
      match b with
      | 0 => exact e0
      | 1 => exact e1

/-- One indexed load out of the fetched rows and the store of its sixteen words into row `f` of the output (the program
    first loads the words it is about to replace). -/
theorem wp_extractRow {dR dO : Fin 2 → ℕ} {src : Memref sig c.2.kind .vmem ⟨2, dR⟩ .f32} {dst : Memref sig c.2.kind .vmem ⟨2, dO⟩ .f32}
    {off : Fin 2 → ℕ} {inb : ∀ b, off b + (![1, 16] : Fin 2 → ℕ) b ≤ (⟨2, dO⟩ : Shape).size b}
    {row cl : IVec ⟨1, ![16]⟩ 32} {pay : Vec F ⟨1, ![16]⟩ .f32 → Vec F ⟨2, ![1, 16]⟩ .f32}
    {h : ∀ b x, ((![row, cl] : Fin 2 → IVec ⟨1, ![16]⟩ 32) b x).toNat < (⟨2, dR⟩ : Shape).size b} {hli : src.view.Loads}
    {hl : dst.view.LoadsAt (Rect.unit (s := ⟨2, dO⟩) off ![1, 16] inb).toLoadRect}
    {hx : (dst.access (Rect.unit (s := ⟨2, dO⟩) off ![1, 16] inb)).Stores Finset.univ}
    {hm : (Finset.univ : Finset (Rect.unit (s := ⟨2, dO⟩) off ![1, 16] inb).shape.Idx) = Finset.univ ∨ ∀ b, (Rect.unit (s := ⟨2, dO⟩) off ![1, 16] inb).stride b = 1}
    {k : Vec F ⟨1, ![16]⟩ .f32 → Vec F ⟨2, ![1, 16]⟩ .f32 → PUnit → Prog (TpuEff nD τ sig (Elt F) Λ c.2) α}
    (col : ℕ → ℕ) (g f : ℕ) {q : PosShare TreeShare} (fs : Buf (Elt F) (src.view.loc c)) (R : (⟨2, dR⟩ : Shape).Idx → Elt F .f32)
    (hR : src.view.read (Elt F) fs = R)
    (hoff : off = ![f, 16 * g]) (hpay : ∀ v (l : Fin 16), pay v (ix2 0 l) = v (ix1 l))
    (hrow : ∀ l : Fin 16, (row (ix1 l)).toNat = 16 * g + l.val) (hcol : ∀ l : Fin 16, (cl (ix1 l)).toNat = col (16 * g + l.val) + f) :
    iprop((src.view.loc c ↦{q} fs) ∗ (∃ fd, ⌜Picked col g f R (dst.view.read (Elt F) fd)⌝ ∗ dst.view.loc c ↦{fullShare} fd))
      ⊢ iprop((∀ v ld, ((src.view.loc c ↦{q} fs) ∗ (∃ fd, ⌜Picked col g (f + 1) R (dst.view.read (Elt F) fd)⌝ ∗ dst.view.loc c ↦{fullShare} fd))
          -∗ wp frame (wpE defs 𝒱 c bd) E (k v ld ⟨⟩) Q)
        -∗ wp frame (wpE defs 𝒱 c bd) E (SparseCore.vectorLoadIdx src ![row, cl] h hli >>= fun v =>
            .op (.load dst (Rect.unit (s := ⟨2, dO⟩) off ![1, 16] inb).toLoadRect hl) fun ld =>
            .op (.store dst (Rect.unit (s := ⟨2, dO⟩) off ![1, 16] inb) (pay v) Finset.univ hx hm) (k v ld)) Q) := by
  subst hR
  iintro ⟨Hs, %fd, %hM, Hd⟩ Hk
  iapply (SparseCore.wp_vectorLoadIdx (defs := defs) 𝒱 c bd E (base := src) (S := Finset.univ) (q := q) (f := fs) (Finset.subset_univ _)) $$ Hs
  iintro Hs
  iapply (wp_load_rect (defs := defs) 𝒱 c bd E (m := dst) (r := Rect.unit (s := ⟨2, dO⟩) off ![1, 16] inb) (hl := hl) (S := Finset.univ) (q := fullShare) (f := fd)
    (Finset.subset_univ _)) $$ Hd
  iintro Hd
  iapply (wp_store (defs := defs) 𝒱 c bd E (m := dst) (r := Rect.unit (s := ⟨2, dO⟩) off ![1, 16] inb) (Mk := Finset.univ) (hx := hx) (hm := hm) (S := Finset.univ) (f := fd)
    (Finset.subset_univ _)) $$ Hd
  iintro Hd
  iapply Hk
  isplitl [Hs]; · iexact Hs
  iexists _
  isplitr
  swap; · iexact Hd
  ipureintro
  subst hoff
  intro x y hy0 hy1 hx'
  by_cases hin : (x 0).val = f ∧ 16 * g ≤ (x 1).val ∧ (x 1).val < 16 * g + 16
  · have hx : (Rect.unit (s := ⟨2, dO⟩) ![f, 16 * g] ![1, 16] inb).emb (ix2 (0 : Fin 1) (⟨(x 1).val - 16 * g, by omega⟩ : Fin 16)) = x := by
      funext b
      apply Fin.ext
      match b with
      | 0 => show f + 1 * 0 = _; omega
      | 1 => show 16 * g + 1 * ((x 1).val - 16 * g) = _; omega
    rw [← hx]
    refine (View.read_slice_write_emb (v := dst.view) (Rect.unit (s := ⟨2, dO⟩) ![f, 16 * g] ![1, 16] inb) fd _ (Finset.mem_univ _)).trans ?_
    rw [hpay, read_access_whole']
    show src.view.read (Elt F) fs (idxAt _ h _) = _
    congr 1
    funext b
    apply Fin.ext
    match b with
    | 0 => exact (hrow _).trans (by show 16 * g + ((x 1).val - 16 * g) = _; omega)
    | 1 =>
      refine (hcol _).trans ?_
      show col (16 * g + ((x 1).val - 16 * g)) + f = _
      rw [show 16 * g + ((x 1).val - 16 * g) = (x 1).val by omega]; omega
  · refine (View.read_slice_write_of_not_mem (v := dst.view) (Rect.unit (s := ⟨2, dO⟩) ![f, 16 * g] ![1, 16] inb) fd _ Finset.univ ?_).trans ?_
    · intro hmem
      obtain ⟨z, -, rfl⟩ := Finset.mem_map.mp hmem
      have z0 : (z 0).val < 1 := (z 0).isLt
      have z1 : (z 1).val < 16 := (z 1).isLt
      have e0 : ((Rect.unit (s := ⟨2, dO⟩) ![f, 16 * g] ![1, 16] inb).emb z 0).val = f + 1 * (z 0).val := rfl
      have e1 : ((Rect.unit (s := ⟨2, dO⟩) ![f, 16 * g] ![1, 16] inb).emb z 1).val = 16 * g + 1 * (z 1).val := rfl
      exact hin ⟨by omega, by omega, by omega⟩
    · exact hM x y hy0 hy1 (by omega)

end Rules

end Cert.Proof.Moves

end
-- ==== Proof.Setup.lean ====
/-
  The program as the launch theorem sees it, and the names the tile proofs share: the configuration of the two SparseCore
  calls, the resource algebra, and the arrays, scratch buffers and semaphores by the names the kernels address them with.
-/
module

public import proofs.«01_k».proof.Defs
public import proofs.«01_k».proof.Proof.Moves
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the rounds of the TensorCore call's copies, the transfers' counters -/

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL
/-- The rounds of the TensorCore call's copies: the left half of the right factor. -/
def EP : Emb UP (MT nD τ sig (HIx 2) (Elt F) ℕ UU ℕ) := (Emb.inl : Emb UP (UP × Counters)).trans embR
instance EP_landsIn : (EP : Emb UP 𝕄).LandsIn (upEmb : UEmb _ 𝕄) := by unfold EP embR; infer_instance

/-! ## The tiles, and what they address -/

abbrev cV (L : grid0.Coords) : Fin τ.nSC := (L 0).castLE hcore0
abbrev jV (L : grid0.Coords) : Fin τ.nSub := (L 1).castLE hsub0
/-- The thread of the tile at the coordinates `L`. -/
abbrev thr (d : Dev nD) (L : grid0.Coords) : Thread nD τ := V d (cV L) (jV L)

/-- The transposed user table, its last columns, and the padded category table. -/
abbrev utM : Memref sig .scVector .hbm S16x1000000 .f32 := Memref.whole main_v0_scv
abbrev tailM : Memref sig .scVector .hbm S16x64 .f32 := Memref.whole main_v3_scv
abbrev cpadM : Memref sig .scVector .hbm S16x1024 .f32 := Memref.whole main_v2_scv
/-- The packed tables. -/
abbrev ut2M : Memref sig .scVector .hbm S125000x128 .f32 := Memref.whole main_v4_0_scv
abbrev ct2M : Memref sig .scVector .hbm S128x128 .f32 := Memref.whole main_v4_1_scv
/-- The ids, and the gathered rows' transposes. -/
abbrev uidM : Memref sig .scVector .hbm S16384 .i32 := Memref.whole main_arg0_scv
abbrev cidM : Memref sig .scVector .hbm S16384 .i32 := Memref.whole main_arg1_scv
abbrev uM : Memref sig .scVector .hbm S16x16384 .f32 := Memref.whole main_v5_0_scv
abbrev cM : Memref sig .scVector .hbm S16x16384 .f32 := Memref.whole main_v5_1_scv
/-- The packing kernel's scratch. -/
abbrev in0 : Memref sig .scVector .vmem S16x1536 .f32 := Memref.whole cc0_scratch0
abbrev in1 : Memref sig .scVector .vmem S16x1536 .f32 := Memref.whole cc0_scratch1
abbrev out0 : Memref sig .scVector .vmem S192x128 .f32 := Memref.whole cc0_scratch2
abbrev out1 : Memref sig .scVector .vmem S192x128 .f32 := Memref.whole cc0_scratch3
abbrev tin : Memref sig .scVector .vmem S16x64 .f32 := Memref.whole cc0_scratch4
abbrev tout : Memref sig .scVector .vmem S8x128 .f32 := Memref.whole cc0_scratch5
/-- The gathering kernel's scratch. -/
abbrev idxM : Memref sig .scVector .vmem S4x128 .i32 := Memref.whole cc1_scratch0
abbrev ridxM : Memref sig .scVector .vmem S4x128 .i32 := Memref.whole cc1_scratch1
abbrev rowsM : Memref sig .scVector .vmem S512x128 .f32 := Memref.whole cc1_scratch2
abbrev outM : Memref sig .scVector .vmem S16x512 .f32 := Memref.whole cc1_scratch3

end Cert.Proof.KI
-- ==== Proof.PackCells.lean ====
/-
  Which rows of the packed table a tile writes, and when. Tile `w` (of 32) takes the column blocks `w, w + 32, w + 64, …`
  of the transposed table, 1536 columns each, and block `n` becomes the 192 rows from `192 n` on. A tile's blocks go
  alternately through two pairs of buffers, so they are counted here by parity: block `w + 32 (2 n + p)` is the `n`-th of
  parity `p`.
-/
module

public import proofs.«01_k».proof.Proof.Setup

@[expose] public section

noncomputable section

namespace Cert.Proof.KI

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-- The tile's number. -/
abbrev wid (L : grid0.Coords) : ℕ := 2 * (L 1).val + (L 0).val

theorem L0_lt (L : grid0.Coords) : (L 0).val < 2 := (L 0).isLt
theorem L1_lt (L : grid0.Coords) : (L 1).val < 16 := (L 1).isLt
theorem wid_lt (L : grid0.Coords) : wid L < 32 := by have h0 := L0_lt L; have h1 := L1_lt L; show 2 * (L 1).val + (L 0).val < 32; omega

/-- How many blocks tile `w` takes, and how many trips of the pair loop. -/
def nm (w : ℕ) : ℕ := if w < 11 then 21 else 20
def tr (w : ℕ) : ℕ := if w < 11 then 11 else 10

/-! ## The branches -/

/-- `2 k + e < nm`, as the kernel computes it. -/
def ltNm (a b k e : ℕ) : BitVec 1 :=
  Scalar.cmpi .ne (Scalar.extui (Scalar.cmpi .slt (Scalar.addi (Scalar.muli 2#32 (Scf.iv 0#32 1#32 k)) (BitVec.ofNat 32 e))
    (Scalar.select (Scalar.cmpi .slt (Scalar.addi (Scalar.muli (BitVec.ofNat 32 b) 2#32) (BitVec.ofNat 32 a)) 11#32) 21#32 20#32)) : BitVec 32) 0#32

theorem ltNm_iff : ∀ (a : Fin 2) (b : Fin 16) (k : Fin 11) (e : Fin 3), ltNm a.val b.val k.val e.val = 1#1 ↔ 2 * k.val + e.val < nm (2 * b.val + a.val) := by
  decide +kernel

theorem trips_t1 (L : grid0.Coords) : (k0_t1_loop L).trips = tr (wid L) := by
  have key : ∀ (a : Fin 2) (b : Fin 16),
      (Scf.Loop.trips (⟨0#32, (k0_t1_loop (fun | 0 => a | 1 => b | ⟨_ + 2, h⟩ => absurd h (Nat.not_lt.2 (Nat.le_add_left _ _)))).ub, 1#32⟩ : Scf.Loop 32)) = tr (2 * b.val + a.val) := by
    decide +kernel
  exact key (L 0) (L 1)

theorem t1_lt (L : grid0.Coords) (k : Fin (k0_t1_loop L).trips) : k.val < tr (wid L) := by rw [← trips_t1]; exact k.isLt
theorem tr_le (w : ℕ) : tr w ≤ 11 := by unfold tr; split <;> omega
theorem t1_lt11 (L : grid0.Coords) (k : Fin (k0_t1_loop L).trips) : k.val < 11 := lt_of_lt_of_le (t1_lt L k) (tr_le _)

theorem trips_t4 (L : grid0.Coords) : (k0_t4_loop L).trips = 0 := by
  have key : ∀ (a : Fin 2) (b : Fin 16),
      (k0_t4_loop (fun | 0 => a | 1 => b | ⟨_ + 2, h⟩ => absurd h (Nat.not_lt.2 (Nat.le_add_left _ _)))).trips = 0 := by
    decide +kernel
  exact key (L 0) (L 1)

theorem cond1_iff (L : grid0.Coords) (k : Fin (k0_t1_loop L).trips) : k0_cond1 L k = 1#1 ↔ 2 * k.val + 1 < nm (wid L) :=
  ltNm_iff (L 0) (L 1) ⟨k.val, t1_lt11 L k⟩ 1
theorem cond2_iff (L : grid0.Coords) (k : Fin (k0_t1_loop L).trips) : k0_cond2 L k = 1#1 ↔ 2 * k.val < nm (wid L) := by
  have key : ∀ (a : Fin 2) (b : Fin 16) (k : Fin 11), Scalar.cmpi .ne (Scalar.extui (Scalar.cmpi .slt (Scalar.muli 2#32 (Scf.iv 0#32 1#32 k.val))
    (Scalar.select (Scalar.cmpi .slt (Scalar.addi (Scalar.muli (BitVec.ofNat 32 b.val) 2#32) (BitVec.ofNat 32 a.val)) 11#32) 21#32 20#32)) : BitVec 32) 0#32 = 1#1
      ↔ 2 * k.val < nm (2 * b.val + a.val) := by decide +kernel
  exact key (L 0) (L 1) ⟨k.val, t1_lt11 L k⟩
theorem cond4_iff (L : grid0.Coords) (k : Fin (k0_t1_loop L).trips) : k0_cond4 L k = 1#1 ↔ 2 * k.val + 2 < nm (wid L) :=
  ltNm_iff (L 0) (L 1) ⟨k.val, t1_lt11 L k⟩ 2
theorem cond5_iff (L : grid0.Coords) (k : Fin (k0_t1_loop L).trips) : k0_cond5 L k = 1#1 ↔ 2 * k.val + 1 < nm (wid L) :=
  ltNm_iff (L 0) (L 1) ⟨k.val, t1_lt11 L k⟩ 1
theorem cond3_iff (k : ℕ) (hk : k < 11) :
    (Scalar.cmpi .ne (Scalar.extui (Scalar.cmpi .sge (Scalar.muli 2#32 (Scf.iv 0#32 1#32 k)) 2#32) : BitVec 32) 0#32 = 1#1) ↔ 1 ≤ k := by
  have key : ∀ k : Fin 11, (Scalar.cmpi .ne (Scalar.extui (Scalar.cmpi .sge (Scalar.muli 2#32 (Scf.iv 0#32 1#32 k.val)) 2#32) : BitVec 32) 0#32 = 1#1) ↔ 1 ≤ k.val := by
    decide +kernel
  exact key ⟨k, hk⟩
theorem cond6_iff (k : ℕ) (hk : k < 11) :
    (Scalar.cmpi .ne (Scalar.extui (Scalar.cmpi .sge (Scalar.addi (Scalar.muli 2#32 (Scf.iv 0#32 1#32 k)) 1#32) 3#32) : BitVec 32) 0#32 = 1#1) ↔ 1 ≤ k := by
  have key : ∀ k : Fin 11, (Scalar.cmpi .ne (Scalar.extui (Scalar.cmpi .sge (Scalar.addi (Scalar.muli 2#32 (Scf.iv 0#32 1#32 k.val)) 1#32) 3#32) : BitVec 32) 0#32 = 1#1) ↔ 1 ≤ k.val := by
    decide +kernel
  exact key ⟨k, hk⟩
theorem cond13_iff (L : grid0.Coords) : k0_cond13 L = 1#1 ↔ wid L = 0 := by
  have key : ∀ (a : Fin 2) (b : Fin 16), k0_cond13 (fun | 0 => a | 1 => b | ⟨_ + 2, h⟩ => absurd h (Nat.not_lt.2 (Nat.le_add_left _ _))) = 1#1 ↔ 2 * b.val + a.val = 0 := by
    decide +kernel
  exact key (L 0) (L 1)
theorem cond14_iff (L : grid0.Coords) : k0_cond14 L = 1#1 ↔ wid L = 31 := by
  have key : ∀ (a : Fin 2) (b : Fin 16), k0_cond14 (fun | 0 => a | 1 => b | ⟨_ + 2, h⟩ => absurd h (Nat.not_lt.2 (Nat.le_add_left _ _))) = 1#1 ↔ 2 * b.val + a.val = 31 := by
    decide +kernel
  exact key (L 0) (L 1)

/-! ## The cells -/

/-- The rows of the packed table that come from tile `w`'s blocks of parity `p`, the `lo`-th up to the `hi`-th. -/
def slotCells (w p lo hi : ℕ) : Finset S125000x128.Idx :=
  Finset.univ.filter fun x => (x 0).val < 124992 ∧ (x 0).val / 192 % 32 = w ∧ (x 0).val / 192 / 32 % 2 = p ∧ lo ≤ (x 0).val / 192 / 32 / 2 ∧ (x 0).val / 192 / 32 / 2 < hi
/-- The last eight rows. -/
def tailCells : Finset S125000x128.Idx := Finset.univ.filter fun x => 124992 ≤ (x 0).val
/-- All the rows tile `w` writes. -/
def tileCells (w : ℕ) : Finset S125000x128.Idx :=
  Finset.univ.filter fun x => ((x 0).val < 124992 ∧ (x 0).val / 192 % 32 = w) ∨ (w = 0 ∧ 124992 ≤ (x 0).val)

theorem mem_slotCells {w p lo hi : ℕ} {x : S125000x128.Idx} : x ∈ slotCells w p lo hi ↔
    (x 0).val < 124992 ∧ (x 0).val / 192 % 32 = w ∧ (x 0).val / 192 / 32 % 2 = p ∧ lo ≤ (x 0).val / 192 / 32 / 2 ∧ (x 0).val / 192 / 32 / 2 < hi := by
  simp [slotCells]
theorem mem_tailCells {x : S125000x128.Idx} : x ∈ tailCells ↔ 124992 ≤ (x 0).val := by simp [tailCells]
theorem mem_tileCells {w : ℕ} {x : S125000x128.Idx} : x ∈ tileCells w ↔ ((x 0).val < 124992 ∧ (x 0).val / 192 % 32 = w) ∨ (w = 0 ∧ 124992 ≤ (x 0).val) := by simp [tileCells]

theorem slot_split (w p : ℕ) {lo mid hi : ℕ} (h1 : lo ≤ mid) (h2 : mid ≤ hi) : slotCells w p lo hi = slotCells w p lo mid ∪ slotCells w p mid hi := by
  ext x; rw [Finset.mem_union]; simp only [mem_slotCells]; omega
theorem slot_disj (w p lo mid hi : ℕ) : Disjoint (slotCells w p lo mid) (slotCells w p mid hi) := by
  rw [Finset.disjoint_left]; intro x; simp only [mem_slotCells]; omega
theorem slot_empty (w p n : ℕ) : slotCells w p n n = ∅ := by
  ext x; rw [mem_slotCells]; refine iff_of_false ?_ (Finset.notMem_empty _); omega

theorem tile_split (w : ℕ) : tileCells w = (slotCells w 0 0 11 ∪ slotCells w 1 0 11) ∪ (if w = 0 then tailCells else ∅) := by
  ext x
  rw [Finset.mem_union, Finset.mem_union, mem_tileCells, mem_slotCells, mem_slotCells]
  have ht : x ∈ (if w = 0 then tailCells else ∅) ↔ w = 0 ∧ 124992 ≤ (x 0).val := by
    split <;> simp_all [mem_tailCells]
  rw [ht]
  generalize (x 0).val = n
  omega
theorem slots_disj (w : ℕ) : Disjoint (slotCells w 0 0 11) (slotCells w 1 0 11) := by
  rw [Finset.disjoint_left]; intro x; simp only [mem_slotCells]; omega
theorem tail_disj (w : ℕ) : Disjoint (slotCells w 0 0 11 ∪ slotCells w 1 0 11) (if w = 0 then tailCells else ∅) := by
  rw [Finset.disjoint_left]; intro x; rw [Finset.mem_union, mem_slotCells, mem_slotCells]
  have ht : x ∈ (if w = 0 then tailCells else ∅) ↔ w = 0 ∧ 124992 ≤ (x 0).val := by
    split <;> simp_all [mem_tailCells]
  rw [ht]
  generalize (x 0).val = n
  omega

/-- The even blocks are all taken after the last trip, and the odd ones after ten. -/
theorem slot_full0 (w : ℕ) (hw : w < 32) : slotCells w 0 0 (tr w) = slotCells w 0 0 11 := by
  ext x; rw [mem_slotCells, mem_slotCells]
  generalize (x 0).val = n
  unfold tr
  by_cases h : w < 11
  · rw [if_pos h]
  · rw [if_neg h]
    constructor
    · rintro ⟨h1, h2, h3, h4, h5⟩; exact ⟨h1, h2, h3, h4, by omega⟩
    · rintro ⟨h1, h2, h3, h4, h5⟩; exact ⟨h1, h2, h3, h4, by omega⟩
theorem slot_full1 (w : ℕ) (hw : w < 32) : slotCells w 1 0 10 = slotCells w 1 0 11 := by
  ext x; simp only [mem_slotCells]; omega

/-- The rows a transfer out writes: the `n`-th block of parity `p`. -/
theorem set_block (w p n : ℕ) (hw : w < 32) (hp : p < 2) (hn : w + 32 * (2 * n + p) < 651) {off : Fin 2 → ℕ} (inb : ∀ a, off a + S192x128.size a ≤ S125000x128.size a)
    (hoff : off = ![192 * (w + 32 * (2 * n + p)), 0]) :
    (ut2M.slice (Rect.unit (s := S125000x128) off S192x128.size inb) (fun _ => rfl)).view.set = slotCells w p n (n + 1) := by
  subst hoff
  show (View.slice (Memref.whole main_v4_0_scv).view _).set = _
  rw [show (View.slice (Memref.whole main_v4_0_scv).view (Rect.unit (s := S125000x128) ![192 * (w + 32 * (2 * n + p)), 0] S192x128.size inb)).set
    = (Rect.unit (s := S125000x128) ![192 * (w + 32 * (2 * n + p)), 0] S192x128.size inb).set from View.set_slice_whole ..]
  ext x
  rw [Rect.mem_set_unit, mem_slotCells, Fin.forall_fin_two]
  have h1 : (x 1).val < 128 := (x 1).isLt
  show (192 * (w + 32 * (2 * n + p)) ≤ (x 0).val ∧ (x 0).val < 192 * (w + 32 * (2 * n + p)) + 192) ∧ (0 ≤ (x 1).val ∧ (x 1).val < 0 + 128) ↔ _
  omega
theorem set_tail : (ut2M.slice (Rect.unit (s := S125000x128) ![124992, 0] S8x128.size inb_S125000x128_S8x128_124992_0) (fun _ => rfl)).view.set = tailCells := by
  rw [show (ut2M.slice (Rect.unit (s := S125000x128) ![124992, 0] S8x128.size inb_S125000x128_S8x128_124992_0) (fun _ => rfl)).view.set
    = (Rect.unit (s := S125000x128) ![124992, 0] S8x128.size inb_S125000x128_S8x128_124992_0).set from View.set_slice_whole ..]
  ext x
  rw [Rect.mem_set_unit, mem_tailCells, Fin.forall_fin_two]
  have h1 : (x 1).val < 128 := (x 1).isLt
  have h0 : (x 0).val < 125000 := (x 0).isLt
  show (124992 ≤ (x 0).val ∧ (x 0).val < 124992 + 8) ∧ (0 ≤ (x 1).val ∧ (x 1).val < 0 + 128) ↔ _
  omega

/-! ## The values -/

/-- The packed user table, of the transposed one: row `r`, column `c` is element `8 r + c / 16` of row `c % 16`. -/
def packU {V : Type} (u : S16x1000000.Idx → V) : S125000x128.Idx → V := fun x =>
  u (ix2 ⟨(x 1).val % 16, by omega⟩ ⟨8 * (x 0).val + (x 1).val / 16, by have := (x 0).isLt; have := (x 1).isLt; change (x 0).val < 125000 at *; change (x 1).val < 128 at *; omega⟩)
/-- The packed category table. -/
def packC {V : Type} (u : S16x1024.Idx → V) : S128x128.Idx → V := fun x =>
  u (ix2 ⟨(x 1).val % 16, by omega⟩ ⟨8 * (x 0).val + (x 1).val / 16, by have := (x 0).isLt; have := (x 1).isLt; change (x 0).val < 128 at *; change (x 1).val < 128 at *; omega⟩)

end Cert.Proof.KI
-- ==== Proof.PackSlots.lean ====
/-
  The packing kernel's transfers, as rules that carry what is transferred: a block of the transposed table coming into an
  input buffer, and an output buffer going to its rows of the packed table. Between a transfer's start and its wait the
  tile holds the transfer (`InFly`, `OutFly`); the wait hands back both ends.
-/
module

public import proofs.«01_k».proof.Proof.PackCells

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.ValueIdx

variable {F : FTy → Type} [FloatOps F]

local notation "𝕄" => MT nD τ sig (HIx 2) (Elt F) ℕ UU ℕ

abbrev EC : UEmb Counters (MT nD τ sig (HIx 2) (Elt F) ℕ UU ℕ) := countersEmb

/-- What the thread owes, with the waits it has recorded since. -/
def OweN (c : Thread nD τ) (O : CellTallies nD τ sig (HIx 2)) (W : Waits sig (HIx 2)) : sProp 𝕄 :=
  iprop(∃ W', ⌜∀ p ∈ W', p ∈ W ∨ p.2 = none⌝ ∗ owes c O W')

/-- A wait on a transfer in flight. -/
theorem wp_waitN {c : Thread nD τ} {Λ : Labels} {defs : Defs nD τ sig (Elt F) Λ} {𝒱' : Variants} {bd : Option 𝒱'.V} {α : Type} {Q : α → sProp 𝕄}
    {sp' sp : Space} {s' : Shape} {e' : EltTy} {s : Shape} {e : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig (Elt F) Λ c.2) α} {N : ℕ} (hN : dstw.view.dmaCredit = N) {D : sProp 𝕄}
    {O : CellTallies nD τ sig (HIx 2)} {W : Waits sig (HIx 2)} :
    iprop(MayWaits c none O ∗ Flight EC c (.dma sem) none N D ∗ OweN (F := F) c O W)
      ⊢ iprop((iprop(D ∗ semVal (c, .dma sem) 0 ∗ OweN (F := F) c O W) -∗ wp frame (wpE defs 𝒱' c bd) Set.univ (k ⟨⟩) Q)
          -∗ wp frame (wpE defs 𝒱' c bd) Set.univ (.op (.waitDma2 sem srcw dstw hsrc hdst) k) Q) := by
  iintro ⟨#Hmw, Hfl, HO⟩ Hk
  unfold OweN
  icases HO with ⟨%W', %hW', HO⟩
  iapply (wp_waitLocalO EC 𝒱' c bd none hN) $$ [Hfl HO]
  · isplitl [Hfl]; · iexact Hfl
    isplitl [HO]; · iexact HO
    iapply (MayWaits.elim (SemLoc.dma sem)) $$ Hmw
  iintro ⟨HD, Hs, HO⟩
  iapply Hk
  isplitl [HD]; · iexact HD
  isplitl [Hs]; · iexact Hs
  iexists _; isplitr
  swap; · iexact HO
  ipureintro; intro p hp
  rcases Finset.mem_insert.mp hp with hp | hp
  · exact .inr (hp ▸ rfl)
  · exact hW' p hp

section Slots

variable (d : Dev nD) (L : grid0.Coords)

abbrev utLoc (d : Dev nD) : Loc nD τ sig := (SparseCore.T d).loc main_v0
abbrev ut2Loc (d : Dev nD) : Loc nD τ sig := (SparseCore.T d).loc main_v4_0
abbrev ct2Loc (d : Dev nD) : Loc nD τ sig := (SparseCore.T d).loc main_v4_1
abbrev cpadLoc (d : Dev nD) : Loc nD τ sig := (SparseCore.T d).loc main_v2
abbrev tailLoc (d : Dev nD) : Loc nD τ sig := (SparseCore.T d).loc main_v3

/-- `fd` holds columns `1536 n …` of the transposed table. -/
def Blk {V : Type} (u : S16x1000000.Idx → V) (n : ℕ) (fd : S16x1536.Idx → V) : Prop :=
  ∀ x y, (y 0).val = (x 0).val → (y 1).val = 1536 * n + (x 1).val → fd x = u y

/-- Block `n` of the transposed table on its way into `b`. -/
def InFly (b : Memref sig .scVector .vmem S16x1536 .f32) (s : DmaSem sig) (q : PosShare TreeShare) (u : Buf (Elt F) (utLoc d)) (n : ℕ) : sProp 𝕄 :=
  iprop(∃ I : Finset (Idx (utLoc d)), Flight EC (thr d L) (.dma s) none b.view.dmaCredit
      iprop((∃ fd, ⌜Blk u n (b.view.read (Elt F) fd)⌝ ∗ b.view.loc (thr d L) ↦{fullShare} fd) ∗ utLoc d ↦[I]{q} u)
    ∗ utLoc d ↦[Finset.univ \ I]{q} u)

/-- Where the `j`-th index of a unit-stride rectangle lies. -/
theorem emb_unit {s : Shape} (off size : Fin s.rank → ℕ) (inb : ∀ a, off a + size a ≤ s.size a) (j : (Rect.unit off size inb).shape.Idx)
    (a : Fin s.rank) : ((Rect.unit off size inb).emb j a).val = off a + (j a).val := by
  rw [Rect.emb_apply]
  show off a + 1 * (j a).val = _
  omega

theorem blk_read (u : Buf (Elt F) (utLoc d)) (n : ℕ) (inb : ∀ a, (![0, 1536 * n] : Fin 2 → ℕ) a + S16x1536.size a ≤ S16x1000000.size a) :
    Blk u n ((utM.slice (Rect.unit (s := S16x1000000) ![0, 1536 * n] S16x1536.size inb) (fun _ => rfl)).view.read (Elt F) u) := by
  intro x y h0 h1
  rw [View.read_apply, cast_eq]
  congr 1
  funext a
  refine Fin.ext ?_
  show ((Rect.unit (s := S16x1000000) ![0, 1536 * n] S16x1536.size inb).emb x a).val = _
  rw [emb_unit]
  match a with
  | 0 => rw [h0]; exact Nat.zero_add _
  | 1 => rw [h1]; rfl

set_option maxHeartbeats 4000000 in
theorem wp_fireIn {𝒱' : Variants} {bd : Option 𝒱'.V} {Λ : Labels} {defs : Defs nD τ sig (Elt F) Λ} {α : Type} {Q : α → sProp 𝕄}
    {b : Memref sig .scVector .vmem S16x1536 .f32} (hb : b.IsWhole) (hN0 : 0 < b.view.dmaCredit) {s : DmaSem sig} {q : PosShare TreeShare} {u : Buf (Elt F) (utLoc d)}
    (n : ℕ) {off : Fin 2 → ℕ} {inb : ∀ a, off a + S16x1536.size a ≤ S16x1000000.size a} (hoff : off = ![0, 1536 * n])
    {hsrc : (utM.slice (Rect.unit (s := S16x1000000) off S16x1536.size inb) (fun _ => rfl)).view.WordExact} {hdst : b.view.WordExact}
    {hsem : (DmaTarget.here b : DmaTarget nD τ sig (thr d L).2 .vmem S16x1536 .f32).Typed .hbm (.dma s)}
    {k : PUnit → Prog (TpuEff nD τ sig (Elt F) Λ (thr d L).2) α} :
    iprop((utLoc d ↦{q} u) ∗ (∃ fd, b.view.loc (thr d L) ↦{fullShare} fd) ∗ semVal (thr d L, .dma s) 0)
      ⊢ iprop((InFly (F := F) d L b s q u n -∗ wp frame (wpE defs 𝒱' (thr d L) bd) Set.univ (k ⟨⟩) Q)
          -∗ wp frame (wpE defs 𝒱' (thr d L) bd) Set.univ
            (.op (.enqueueDma (utM.slice (Rect.unit (s := S16x1000000) off S16x1536.size inb) (fun _ => rfl)) (.here b) (.dma s) hsrc hdst hsem) k) Q) := by
  subst hoff
  iintro ⟨Hu, ⟨%fd, Hb⟩, Hs⟩ Hk
  ihave Hus := (pointsTo_split_subset (q := q) (f := u) (S := Finset.univ)
    (Finset.subset_univ (utM.slice (Rect.unit (s := S16x1000000) ![0, 1536 * n] S16x1536.size inb) (fun _ => rfl)).view.set)).1 $$ Hu
  icases Hus with ⟨Hus, Hur⟩
  iapply (wp_dmaLocal EC 𝒱' (thr d L) bd (src := utM.slice (Rect.unit (s := S16x1000000) ![0, 1536 * n] S16x1536.size inb) (fun _ => rfl)) (dst := b) (via := .same)
    none b.view.dmaCredit rfl hN0 (Finset.subset_univ _)) $$ [Hus Hb Hs]
  · isplitl [Hus]; · iexact Hus
    isplitl [Hb]; · iexact Hb
    iexact Hs
  iintro Hfl
  iapply Hk
  unfold InFly
  iexists _
  isplitl [Hfl]
  · iapply (Flight_mono EC (thr d L) (D' := iprop((∃ fd, ⌜Blk u n (b.view.read (Elt F) fd)⌝ ∗ b.view.loc (thr d L) ↦{fullShare} fd)
      ∗ utLoc d ↦[(utM.slice (Rect.unit (s := S16x1000000) ![0, 1536 * n] S16x1536.size inb) (fun _ => rfl)).view.set]{q} u)) ?_) $$ Hfl
    iintro ⟨Hb, Hu⟩
    isplitl [Hb]
    · iexists _
      isplitr
      swap; · iexact Hb
      ipureintro
      rw [View.read_write_univ]
      exact blk_read d u n inb
    · iexact Hu
  · iexact Hur

theorem wp_waitIn {𝒱' : Variants} {bd : Option 𝒱'.V} {Λ : Labels} {defs : Defs nD τ sig (Elt F) Λ} {α : Type} {Q : α → sProp 𝕄}
    {b : Memref sig .scVector .vmem S16x1536 .f32} {s : DmaSem sig} {q : PosShare TreeShare} {u : Buf (Elt F) (utLoc d)} {n : ℕ}
    {O : CellTallies nD τ sig (HIx 2)} {W : Waits sig (HIx 2)}
    {srcw : Memref sig .scVector .hbm S16x1536 .f32} {hsrc : srcw.view.WordExact} {hdst : b.view.WordExact}
    {k : PUnit → Prog (TpuEff nD τ sig (Elt F) Λ (thr d L).2) α} :
    iprop(MayWaits (thr d L) none O ∗ InFly (F := F) d L b s q u n ∗ OweN (F := F) (thr d L) O W)
      ⊢ iprop((iprop((∃ fd, ⌜Blk u n (b.view.read (Elt F) fd)⌝ ∗ b.view.loc (thr d L) ↦{fullShare} fd) ∗ (utLoc d ↦{q} u) ∗ semVal (thr d L, .dma s) 0
            ∗ OweN (F := F) (thr d L) O W) -∗ wp frame (wpE defs 𝒱' (thr d L) bd) Set.univ (k ⟨⟩) Q)
          -∗ wp frame (wpE defs 𝒱' (thr d L) bd) Set.univ (.op (.waitDma2 s srcw b hsrc hdst) k) Q) := by
  unfold InFly
  iintro ⟨#Hmw, ⟨%I, Hfl, Hur⟩, HO⟩ Hk
  iapply (wp_waitN rfl) $$ [Hfl HO]
  · isplitr; · iexact Hmw
    isplitl [Hfl]; · iexact Hfl
    iexact HO
  iintro ⟨⟨Hb, Hu⟩, Hs, HO⟩
  iapply Hk
  isplitl [Hb]; · iexact Hb
  isplitl [Hu Hur]
  · iapply (pointsTo_split_subset (q := q) (f := u) (S := Finset.univ) (Finset.subset_univ I)).2
    isplitl [Hu] <;> iassumption
  isplitl [Hs]; · iexact Hs
  iexact HO

/-! ## Out -/

/-- What every transfer of a 192-row block credits. -/
abbrev blkCredit : ℕ := (ut2M.slice (Rect.unit (s := S125000x128) ![0, 0] S192x128.size inb_S125000x128_S192x128_0_0) (fun _ => rfl)).view.dmaCredit

/-- Output buffer `b` on its way to the rows of the `n`-th block of parity `p`. -/
def OutFly (p : ℕ) (b : Memref sig .scVector .vmem S192x128 .f32) (s : DmaSem sig) (u : Buf (Elt F) (utLoc d)) (n : ℕ) : sProp 𝕄 :=
  Flight EC (thr d L) (.dma s) none blkCredit
    iprop((ut2Loc d ↦[slotCells (wid L) p n (n + 1)]{fullShare} (packU u : Buf (Elt F) (ut2Loc d))) ∗ (∃ fo, b.view.loc (thr d L) ↦{fullShare} fo))

set_option maxHeartbeats 4000000 in
theorem wp_fireOut {𝒱' : Variants} {bd : Option 𝒱'.V} {Λ : Labels} {defs : Defs nD τ sig (Elt F) Λ} {α : Type} {Q : α → sProp 𝕄}
    {b : Memref sig .scVector .vmem S192x128 .f32} (hb : b.IsWhole) {s : DmaSem sig} {u : Buf (Elt F) (utLoc d)} {f0 : Buf (Elt F) (ut2Loc d)}
    (p n : ℕ) (hp : p < 2) (hn : wid L + 32 * (2 * n + p) < 651) {off : Fin 2 → ℕ} {inb : ∀ a, off a + S192x128.size a ≤ S125000x128.size a}
    (hoff : off = ![192 * (wid L + 32 * (2 * n + p)), 0])
    {hdst : (ut2M.slice (Rect.unit (s := S125000x128) off S192x128.size inb) (fun _ => rfl)).view.WordExact} {hsrc : b.view.WordExact}
    {hsem : (DmaTarget.here (ut2M.slice (Rect.unit (s := S125000x128) off S192x128.size inb) (fun _ => rfl)) : DmaTarget nD τ sig (thr d L).2 .hbm S192x128 .f32).Typed .vmem (.dma s)}
    {k : PUnit → Prog (TpuEff nD τ sig (Elt F) Λ (thr d L).2) α} :
    iprop((∃ fo, ⌜∀ x y, (y 0).val = 192 * (wid L + 32 * (2 * n + p)) + (x 0).val → (y 1).val = (x 1).val → b.view.read (Elt F) fo x = packU u y⌝
          ∗ b.view.loc (thr d L) ↦{fullShare} fo)
        ∗ (ut2Loc d ↦[slotCells (wid L) p n (n + 1)]{fullShare} f0) ∗ semVal (thr d L, .dma s) 0)
      ⊢ iprop((OutFly (F := F) d L p b s u n -∗ wp frame (wpE defs 𝒱' (thr d L) bd) Set.univ (k ⟨⟩) Q)
          -∗ wp frame (wpE defs 𝒱' (thr d L) bd) Set.univ
            (.op (.enqueueDma b (.here (ut2M.slice (Rect.unit (s := S125000x128) off S192x128.size inb) (fun _ => rfl))) (.dma s) hsrc hdst hsem) k) Q) := by
  have hset := set_block (wid L) p n (wid_lt L) hp hn inb hoff
  subst hoff
  iintro ⟨⟨%fo, %hfo, Hb⟩, Hd, Hs⟩ Hk
  rw [← hset]
  iapply (wp_dmaLocal EC 𝒱' (thr d L) bd (src := b) (dst := ut2M.slice (Rect.unit (s := S125000x128) ![192 * (wid L + 32 * (2 * n + p)), 0] S192x128.size inb) (fun _ => rfl))
    (via := .same) none blkCredit rfl (by decide) (Finset.Subset.refl _)) $$ [Hb Hd Hs]
  · isplitl [Hb]; · rw [hb.set_eq_univ]; iexact Hb
    isplitl [Hd]; · iexact Hd
    iexact Hs
  iintro Hfl
  iapply Hk
  unfold OutFly
  iapply (Flight_mono EC (thr d L) ?_) $$ Hfl
  iintro ⟨Hd, Hb⟩
  isplitl [Hd]
  · rw [← hset]
    iapply (Entails.of_eq (pointsTo_congr ?_)) $$ Hd
    intro i hi
    obtain ⟨x, rfl⟩ : ∃ x, i = (ut2M.slice (Rect.unit (s := S125000x128) ![192 * (wid L + 32 * (2 * n + p)), 0] S192x128.size inb) (fun _ => rfl)).view.emb x := by
      obtain ⟨x, -, hx⟩ := Finset.mem_map.mp hi
      exact ⟨x, hx.symm⟩
    rw [View.write_emb_of_mem _ _ (Finset.mem_univ x), cast_eq]
    refine hfo x _ ?_ ?_
    · show ((Rect.unit (s := S125000x128) ![192 * (wid L + 32 * (2 * n + p)), 0] S192x128.size inb).emb x 0).val = _
      rw [emb_unit]; rfl
    · show ((Rect.unit (s := S125000x128) ![192 * (wid L + 32 * (2 * n + p)), 0] S192x128.size inb).emb x 1).val = _
      rw [emb_unit]; exact Nat.zero_add _
  · iexists fo; rw [hb.set_eq_univ]; iexact Hb

end Slots

end Cert.Proof.KI
-- ==== Proof.PackGroups.lean ====
/-
  One trip of each of the packing kernel's group loops: sixteen rows of the input block, sixteen words of each, moved to
  their places in the output block.
-/
module

public import proofs.«01_k».proof.Proof.Setup

@[expose] public section

noncomputable section

namespace Cert.Proof.KI

open Cert.KernelIdeal Cert.KernelIdeal.Gen Cert.Proof.Moves

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

/-- What a group loop keeps: the input block, and an output block whose first `g` groups are moved. -/
abbrev GInv (d : Dev nD) (L : grid0.Coords) {dS dD : Fin 2 → ℕ} (src : Memref sig .scVector .vmem ⟨2, dS⟩ .f32) (dst : Memref sig .scVector .vmem ⟨2, dD⟩ .f32)
    (g a : ℕ) (fs : Buf (Elt F) (src.view.loc (thr d L))) : sProp 𝕄 :=
  iprop((src.view.loc (thr d L) ↦{fullShare} fs)
    ∗ (∃ fd, ⌜Moved g a (src.view.read (Elt F) fs) (dst.view.read (Elt F) fd)⌝ ∗ dst.view.loc (thr d L) ↦{fullShare} fd))

/-- The sixteen lane vectors of the scatters' columns, and the row base. -/
def ColsOK (v4 : IVec S16 32) (cols : Fin 16 → IVec S16 32) : Prop :=
  (∀ l : Fin 16, (v4 (ix1 l)).toNat = l.val / 8) ∧ ∀ (a l : Fin 16), (cols a (ix1 l)).toNat = (l.val % 8) * 16 + a.val

theorem cols_lt {v4 : IVec S16 32} {cols : Fin 16 → IVec S16 32} (h : ColsOK v4 cols) (a : Fin 16) (x : S16.Idx) : (cols a x).toNat < 128 := by
  obtain ⟨l, rfl⟩ : ∃ l : Fin 16, x = ix1 l := ⟨x 0, by funext b; match b with | 0 => rfl⟩
  rw [h.2]; omega

theorem row_of {v4 : IVec S16 32} {cols : Fin 16 → IVec S16 32} (h : ColsOK v4 cols) (w : BitVec 32) (g : ℕ) (hg : g < 96) (hw : w.toNat = 2 * g) (l : Fin 16) :
    ((addi v4 (broadcast S16 w)) (ix1 l)).toNat = l.val / 8 + 2 * g := by
  have : (addi v4 (broadcast S16 w)) (ix1 l) = v4 (ix1 l) + w := rfl
  rw [this, BitVec.toNat_add, h.1, hw]
  omega

theorem payOf (ld : Vec F S1x16 .f32) (l : Fin 16) : (shapeCast S16 ld shapeCasts_S1x16_S16) (ix1 l) = ld (ix2 0 l) :=
  shapeCast_1a_a_apply ..

/-! ## The trips -/

/-- A scatter's places lie in an output block of at least `2 (g + 1)` rows. -/
theorem in_block {v4 : IVec S16 32} {cols : Fin 16 → IVec S16 32} (hc : ColsOK v4 cols) {v : IVec S16 32} {g R : ℕ} (hR : 2 * g + 2 ≤ R)
    (hv : ∀ l : Fin 16, (v (ix1 l)).toNat = l.val / 8 + 2 * g) (a : Fin 16) (b : Fin 2) (x : S16.Idx) :
    ((![v, cols a] : Fin 2 → IVec S16 32) b x).toNat < (⟨2, ![R, 128]⟩ : Shape).size b := by
  obtain ⟨l, rfl⟩ : ∃ l : Fin 16, x = ix1 l := ⟨x 0, by funext b; match b with | 0 => rfl⟩
  match b with
  | 0 => show (v (ix1 l)).toNat < R; rw [hv]; omega
  | 1 => show (cols a (ix1 l)).toNat < 128; exact cols_lt hc a _

theorem chk2 {L : grid0.Coords} {v4 : IVec S16 32} {cols : Fin 16 → IVec S16 32} (hc : ColsOK v4 cols) (k1 : Fin (k0_t1_loop L).trips) (v : IVec S16 32) {g : ℕ} (_ : g < 96)
    (hv : ∀ l : Fin 16, (v (ix1 l)).toNat = l.val / 8 + 2 * g) : k0_chk1 L (cols 0) (cols 1) (cols 2) (cols 3) (cols 4) (cols 5) (cols 6) (cols 7) (cols 8) (cols 9) (cols 10) (cols 11) (cols 12) (cols 13) (cols 14) (cols 15) k1 v := by
  refine ⟨fun _ => in_block hc (by omega) hv 0, fun _ => in_block hc (by omega) hv 1, fun _ => in_block hc (by omega) hv 2, fun _ => in_block hc (by omega) hv 3, fun _ => in_block hc (by omega) hv 4, fun _ => in_block hc (by omega) hv 5, fun _ => in_block hc (by omega) hv 6, fun _ => in_block hc (by omega) hv 7, fun _ => in_block hc (by omega) hv 8, fun _ => in_block hc (by omega) hv 9, fun _ => in_block hc (by omega) hv 10, fun _ => in_block hc (by omega) hv 11, fun _ => in_block hc (by omega) hv 12, fun _ => in_block hc (by omega) hv 13, fun _ => in_block hc (by omega) hv 14, fun _ => in_block hc (by omega) hv 15⟩

theorem chk3 {L : grid0.Coords} {v4 : IVec S16 32} {cols : Fin 16 → IVec S16 32} (hc : ColsOK v4 cols) (k1 : Fin (k0_t1_loop L).trips) (v : IVec S16 32) {g : ℕ} (_ : g < 96)
    (hv : ∀ l : Fin 16, (v (ix1 l)).toNat = l.val / 8 + 2 * g) : k0_chk2 L (cols 0) (cols 1) (cols 2) (cols 3) (cols 4) (cols 5) (cols 6) (cols 7) (cols 8) (cols 9) (cols 10) (cols 11) (cols 12) (cols 13) (cols 14) (cols 15) k1 v := by
  refine ⟨fun _ => in_block hc (by omega) hv 0, fun _ => in_block hc (by omega) hv 1, fun _ => in_block hc (by omega) hv 2, fun _ => in_block hc (by omega) hv 3, fun _ => in_block hc (by omega) hv 4, fun _ => in_block hc (by omega) hv 5, fun _ => in_block hc (by omega) hv 6, fun _ => in_block hc (by omega) hv 7, fun _ => in_block hc (by omega) hv 8, fun _ => in_block hc (by omega) hv 9, fun _ => in_block hc (by omega) hv 10, fun _ => in_block hc (by omega) hv 11, fun _ => in_block hc (by omega) hv 12, fun _ => in_block hc (by omega) hv 13, fun _ => in_block hc (by omega) hv 14, fun _ => in_block hc (by omega) hv 15⟩

theorem chk7 {L : grid0.Coords} {v4 : IVec S16 32} {cols : Fin 16 → IVec S16 32} (hc : ColsOK v4 cols) (v : IVec S16 32) {g : ℕ} (_ : g < 4)
    (hv : ∀ l : Fin 16, (v (ix1 l)).toNat = l.val / 8 + 2 * g) : k0_chk5 L (cols 0) (cols 1) (cols 2) (cols 3) (cols 4) (cols 5) (cols 6) (cols 7) (cols 8) (cols 9) (cols 10) (cols 11) (cols 12) (cols 13) (cols 14) (cols 15) v := by
  refine ⟨fun _ => in_block hc (by omega) hv 0, fun _ => in_block hc (by omega) hv 1, fun _ => in_block hc (by omega) hv 2, fun _ => in_block hc (by omega) hv 3, fun _ => in_block hc (by omega) hv 4, fun _ => in_block hc (by omega) hv 5, fun _ => in_block hc (by omega) hv 6, fun _ => in_block hc (by omega) hv 7, fun _ => in_block hc (by omega) hv 8, fun _ => in_block hc (by omega) hv 9, fun _ => in_block hc (by omega) hv 10, fun _ => in_block hc (by omega) hv 11, fun _ => in_block hc (by omega) hv 12, fun _ => in_block hc (by omega) hv 13, fun _ => in_block hc (by omega) hv 14, fun _ => in_block hc (by omega) hv 15⟩

theorem chk8 {L : grid0.Coords} {v4 : IVec S16 32} {cols : Fin 16 → IVec S16 32} (hc : ColsOK v4 cols) (v : IVec S16 32) {g : ℕ} (_ : g < 64)
    (hv : ∀ l : Fin 16, (v (ix1 l)).toNat = l.val / 8 + 2 * g) : k0_chk6 L (cols 0) (cols 1) (cols 2) (cols 3) (cols 4) (cols 5) (cols 6) (cols 7) (cols 8) (cols 9) (cols 10) (cols 11) (cols 12) (cols 13) (cols 14) (cols 15) v := by
  refine ⟨fun _ => in_block hc (by omega) hv 0, fun _ => in_block hc (by omega) hv 1, fun _ => in_block hc (by omega) hv 2, fun _ => in_block hc (by omega) hv 3, fun _ => in_block hc (by omega) hv 4, fun _ => in_block hc (by omega) hv 5, fun _ => in_block hc (by omega) hv 6, fun _ => in_block hc (by omega) hv 7, fun _ => in_block hc (by omega) hv 8, fun _ => in_block hc (by omega) hv 9, fun _ => in_block hc (by omega) hv 10, fun _ => in_block hc (by omega) hv 11, fun _ => in_block hc (by omega) hv 12, fun _ => in_block hc (by omega) hv 13, fun _ => in_block hc (by omega) hv 14, fun _ => in_block hc (by omega) hv 15⟩

end Cert.Proof.KI
-- ==== Proof.PackLoop.lean ====
/-
  The packing kernel's pair loop. A tile's blocks alternate between two pairs of buffers (parity 0 and parity 1); each
  parity keeps a slot on the way in (`InSlot`: a block in flight, or the buffer idle) and a slot on the way out (`OutSlot`:
  how many blocks of that parity were sent, the last one perhaps still in flight).
-/
module

public import proofs.«01_k».proof.Proof.PackSlots
public import proofs.«01_k».proof.Proof.PackGroups

@[expose] public section

noncomputable section

namespace Cert.Proof.KI

open Cert.KernelIdeal Cert.KernelIdeal.Gen Cert.Proof.Moves

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.ValueIdx

variable {F : FTy → Type} [FloatOps F]

local notation "𝕄" => MT nD τ sig (HIx 2) (Elt F) ℕ UU ℕ

section Slots

variable (d : Dev nD) (L : grid0.Coords)

/-- An input buffer at rest, with the share of the table it is filled from. -/
def InIdle (b : Memref sig .scVector .vmem S16x1536 .f32) (s : DmaSem sig) (q : PosShare TreeShare) (u : Buf (Elt F) (utLoc d)) : sProp 𝕄 :=
  iprop((∃ fd, b.view.loc (thr d L) ↦{fullShare} fd) ∗ (utLoc d ↦{q} u) ∗ semVal (thr d L, .dma s) 0)

/-- An input buffer: block `n` is coming in, or it is at rest. -/
def InSlot (c : Prop) [Decidable c] (b : Memref sig .scVector .vmem S16x1536 .f32) (s : DmaSem sig) (q : PosShare TreeShare) (u : Buf (Elt F) (utLoc d)) (n : ℕ) : sProp 𝕄 :=
  if c then InFly (F := F) d L b s q u n else InIdle (F := F) d L b s q u

theorem inSlot_pos {c : Prop} [Decidable c] (h : c) {b : Memref sig .scVector .vmem S16x1536 .f32} {s : DmaSem sig} {q : PosShare TreeShare} {u : Buf (Elt F) (utLoc d)} {n : ℕ} :
    InSlot (F := F) d L c b s q u n = InFly (F := F) d L b s q u n := if_pos h
theorem inSlot_neg {c : Prop} [Decidable c] (h : ¬ c) {b : Memref sig .scVector .vmem S16x1536 .f32} {s : DmaSem sig} {q : PosShare TreeShare} {u : Buf (Elt F) (utLoc d)} {n : ℕ} :
    InSlot (F := F) d L c b s q u n = InIdle (F := F) d L b s q u := if_neg h

/-- An output buffer with nothing of it in flight: `n` blocks of its parity written, the others as they were. -/
def OutIdle (p : ℕ) (b : Memref sig .scVector .vmem S192x128 .f32) (s : DmaSem sig) (u : Buf (Elt F) (utLoc d)) (f0 : Buf (Elt F) (ut2Loc d)) (n : ℕ) : sProp 𝕄 :=
  iprop((ut2Loc d ↦[slotCells (wid L) p n 11]{fullShare} f0) ∗ (ut2Loc d ↦[slotCells (wid L) p 0 n]{fullShare} (packU u : Buf (Elt F) (ut2Loc d)))
    ∗ (∃ fo, b.view.loc (thr d L) ↦{fullShare} fo) ∗ semVal (thr d L, .dma s) 0)

/-- An output buffer after `n` blocks of its parity were sent: the last of them may be in flight. -/
def OutSlot (p : ℕ) (b : Memref sig .scVector .vmem S192x128 .f32) (s : DmaSem sig) (u : Buf (Elt F) (utLoc d)) (f0 : Buf (Elt F) (ut2Loc d)) : ℕ → sProp 𝕄
  | 0 => OutIdle (F := F) d L p b s u f0 0
  | n + 1 => iprop((ut2Loc d ↦[slotCells (wid L) p (n + 1) 11]{fullShare} f0) ∗ (ut2Loc d ↦[slotCells (wid L) p 0 n]{fullShare} (packU u : Buf (Elt F) (ut2Loc d)))
    ∗ OutFly (F := F) d L p b s u n)

/-! ## The branches that start a transfer in -/

set_option maxHeartbeats 1000000 in
theorem wp_ifFire {𝒱' : Variants} {bd : Option 𝒱'.V} {Λ : Labels} {defs : Defs nD τ sig (Elt F) Λ} {α : Type} {Q : α → sProp 𝕄}
    {b : Memref sig .scVector .vmem S16x1536 .f32} (hb : b.IsWhole) (hN0 : 0 < b.view.dmaCredit) {s : DmaSem sig} {q : PosShare TreeShare} {u : Buf (Elt F) (utLoc d)}
    {c : Prop} [hc : Decidable c] (c' : Prop) [Decidable c'] (hcc : c ↔ c')
    (n : ℕ) {off : Fin 2 → ℕ} {inb : c → ∀ a, off a + S16x1536.size a ≤ S16x1000000.size a} (hoff : off = ![0, 1536 * n])
    {hsrc : ∀ h : c, (utM.slice (Rect.unit (s := S16x1000000) off S16x1536.size (inb h)) (fun _ => rfl)).view.WordExact} {hdst : b.view.WordExact}
    {hsem : (DmaTarget.here b : DmaTarget nD τ sig (thr d L).2 .vmem S16x1536 .f32).Typed .hbm (.dma s)}
    {K : Prog (TpuEff nD τ sig (Elt F) Λ (thr d L).2) α} :
    InIdle (F := F) d L b s q u
      ⊢ iprop((InSlot (F := F) d L c' b s q u n -∗ wp frame (wpE defs 𝒱' (thr d L) bd) Set.univ K Q)
          -∗ wp frame (wpE defs 𝒱' (thr d L) bd) Set.univ
            (dite c (fun h => .op (.enqueueDma (utM.slice (Rect.unit (s := S16x1000000) off S16x1536.size (inb h)) (fun _ => rfl)) (.here b) (.dma s) (hsrc h) hdst hsem) fun _ => K) (fun _ => K)) Q) := by
  unfold InIdle
  iintro ⟨Hb, Hu, Hs⟩ Hk
  by_cases h : c
  · rw [dif_pos h]
    iapply (wp_fireIn d L hb hN0 n hoff) $$ [Hb Hu Hs]
    · isplitl [Hu]; · iexact Hu
      isplitl [Hb]; · iexact Hb
      iexact Hs
    unfold InSlot
    rw [if_pos (hcc.1 h)]
    iexact Hk
  · rw [dif_neg h]
    iapply Hk
    unfold InSlot
    rw [if_neg (fun h' => h (hcc.2 h'))]
    unfold InIdle
    isplitl [Hb]; · iexact Hb
    isplitl [Hu]; · iexact Hu
    iexact Hs

/-! ## Waiting for the transfer out -/

theorem outSlot_pos {p : ℕ} {b : Memref sig .scVector .vmem S192x128 .f32} {s : DmaSem sig} {u : Buf (Elt F) (utLoc d)} {f0 : Buf (Elt F) (ut2Loc d)} {n : ℕ} (hn : 1 ≤ n) :
    OutSlot (F := F) d L p b s u f0 n = iprop((ut2Loc d ↦[slotCells (wid L) p n 11]{fullShare} f0)
      ∗ (ut2Loc d ↦[slotCells (wid L) p 0 (n - 1)]{fullShare} (packU u : Buf (Elt F) (ut2Loc d))) ∗ OutFly (F := F) d L p b s u (n - 1)) := by
  obtain ⟨m, rfl⟩ : ∃ m, n = m + 1 := ⟨n - 1, by omega⟩
  rfl

theorem wp_drain {𝒱' : Variants} {bd : Option 𝒱'.V} {Λ : Labels} {defs : Defs nD τ sig (Elt F) Λ} {α : Type} {Q : α → sProp 𝕄}
    {p : ℕ} {b : Memref sig .scVector .vmem S192x128 .f32} {s : DmaSem sig} {u : Buf (Elt F) (utLoc d)} {f0 : Buf (Elt F) (ut2Loc d)} {n : ℕ} (hn : 1 ≤ n)
    {O : CellTallies nD τ sig (HIx 2)} {W : Waits sig (HIx 2)}
    {hsrc : b.view.WordExact} {hdst : (ut2M.slice (Rect.unit (s := S125000x128) ![0, 0] S192x128.size inb_S125000x128_S192x128_0_0) (fun _ => rfl)).view.WordExact}
    {k : PUnit → Prog (TpuEff nD τ sig (Elt F) Λ (thr d L).2) α} :
    iprop(MayWaits (thr d L) none O ∗ OutSlot (F := F) d L p b s u f0 n ∗ OweN (F := F) (thr d L) O W)
      ⊢ iprop((iprop(OutIdle (F := F) d L p b s u f0 n ∗ OweN (F := F) (thr d L) O W) -∗ wp frame (wpE defs 𝒱' (thr d L) bd) Set.univ (k ⟨⟩) Q)
          -∗ wp frame (wpE defs 𝒱' (thr d L) bd) Set.univ
            (.op (.waitDma2 s b (ut2M.slice (Rect.unit (s := S125000x128) ![0, 0] S192x128.size inb_S125000x128_S192x128_0_0) (fun _ => rfl)) hsrc hdst) k) Q) := by
  rw [outSlot_pos d L hn]
  iintro ⟨#Hmw, ⟨Ht, Hd, Hfl⟩, HO⟩ Hk
  unfold OutFly
  iapply (wp_waitN rfl) $$ [Hfl HO]
  · isplitr; · iexact Hmw
    isplitl [Hfl]; · iexact Hfl
    iexact HO
  iintro ⟨⟨Hd', Hb⟩, Hs, HO⟩
  iapply Hk
  isplitr [HO]
  swap; · iexact HO
  unfold OutIdle
  isplitl [Ht]; · iexact Ht
  isplitl [Hd Hd']
  · rw [slot_split (wid L) p (lo := 0) (mid := n - 1) (hi := n) (by omega) (by omega)]
    iapply (pointsTo_union (slot_disj (wid L) p 0 (n - 1) n)).2
    isplitl [Hd]; · iexact Hd
    rw [show n - 1 + 1 = n by omega]
    iexact Hd'
  isplitl [Hb]; · iexact Hb
  iexact Hs

theorem wp_ifDrain {𝒱' : Variants} {bd : Option 𝒱'.V} {Λ : Labels} {defs : Defs nD τ sig (Elt F) Λ} {α : Type} {Q : α → sProp 𝕄}
    {p : ℕ} {b : Memref sig .scVector .vmem S192x128 .f32} {s : DmaSem sig} {u : Buf (Elt F) (utLoc d)} {f0 : Buf (Elt F) (ut2Loc d)} {n : ℕ}
    {c : Prop} [hc : Decidable c] (hn : c ↔ 1 ≤ n)
    {O : CellTallies nD τ sig (HIx 2)} {W : Waits sig (HIx 2)}
    {hsrc : b.view.WordExact} {hdst : (ut2M.slice (Rect.unit (s := S125000x128) ![0, 0] S192x128.size inb_S125000x128_S192x128_0_0) (fun _ => rfl)).view.WordExact}
    {K : Prog (TpuEff nD τ sig (Elt F) Λ (thr d L).2) α} :
    iprop(MayWaits (thr d L) none O ∗ OutSlot (F := F) d L p b s u f0 n ∗ OweN (F := F) (thr d L) O W)
      ⊢ iprop((iprop(OutIdle (F := F) d L p b s u f0 n ∗ OweN (F := F) (thr d L) O W) -∗ wp frame (wpE defs 𝒱' (thr d L) bd) Set.univ K Q)
          -∗ wp frame (wpE defs 𝒱' (thr d L) bd) Set.univ
            (dite c (fun _ => .op (.waitDma2 s b (ut2M.slice (Rect.unit (s := S125000x128) ![0, 0] S192x128.size inb_S125000x128_S192x128_0_0) (fun _ => rfl)) hsrc hdst) fun _ => K)
              (fun _ => K)) Q) := by
  by_cases h : c
  · rw [dif_pos h]
    exact wp_drain (F := F) d L (hn.1 h) (k := fun _ => K)
  · rw [dif_neg h]
    obtain rfl : n = 0 := by by_contra h0; exact h (hn.2 (by omega))
    iintro ⟨-, Ho, HO⟩ Hk
    iapply Hk
    isplitl [Ho]; · unfold OutSlot; iexact Ho
    iexact HO

/-! ## Sending an output buffer whose groups are all moved -/

/-- What was moved out of a block of the table is that block of the packed table. -/
theorem moved_pack {V : Type} {u : S16x1000000.Idx → V} {N : ℕ} {Sr : S16x1536.Idx → V} {D : S192x128.Idx → V} (hS : Blk u N Sr) (hM : Moved 96 0 Sr D)
    (x : S192x128.Idx) (y : S125000x128.Idx) (h0 : (y 0).val = 192 * N + (x 0).val) (h1 : (y 1).val = (x 1).val) : D x = packU u y := by
  have hx0 : (x 0).val < 192 := (x 0).isLt
  have hx1 : (x 1).val < 128 := (x 1).isLt
  rw [hM x (ix2 ⟨(x 1).val % 16, by omega⟩ ⟨8 * (x 0).val + (x 1).val / 16, by omega⟩) rfl rfl (.inl (by omega))]
  refine hS _ _ ?_ ?_
  · show (y 1).val % 16 = (x 1).val % 16; rw [h1]
  · show 8 * (y 0).val + (y 1).val / 16 = 1536 * N + (8 * (x 0).val + (x 1).val / 16); rw [h0, h1]; omega

set_option maxHeartbeats 1000000 in
theorem wp_send {𝒱' : Variants} {bd : Option 𝒱'.V} {Λ : Labels} {defs : Defs nD τ sig (Elt F) Λ} {α : Type} {Q : α → sProp 𝕄}
    {b : Memref sig .scVector .vmem S192x128 .f32} (hb : b.IsWhole) {s : DmaSem sig} {u : Buf (Elt F) (utLoc d)} {f0 : Buf (Elt F) (ut2Loc d)}
    {Sr : S16x1536.Idx → Elt F .f32}
    (p n : ℕ) (hp : p < 2) (hn : wid L + 32 * (2 * n + p) < 651) (hn11 : n < 11) (hS : Blk u (wid L + 32 * (2 * n + p)) Sr)
    {off : Fin 2 → ℕ} {inb : ∀ a, off a + S192x128.size a ≤ S125000x128.size a}
    (hoff : off = ![192 * (wid L + 32 * (2 * n + p)), 0])
    {hdst : (ut2M.slice (Rect.unit (s := S125000x128) off S192x128.size inb) (fun _ => rfl)).view.WordExact} {hsrc : b.view.WordExact}
    {hsem : (DmaTarget.here (ut2M.slice (Rect.unit (s := S125000x128) off S192x128.size inb) (fun _ => rfl)) : DmaTarget nD τ sig (thr d L).2 .hbm S192x128 .f32).Typed .vmem (.dma s)}
    {k : PUnit → Prog (TpuEff nD τ sig (Elt F) Λ (thr d L).2) α} :
    iprop((∃ fo, ⌜Moved 96 0 Sr (b.view.read (Elt F) fo)⌝ ∗ b.view.loc (thr d L) ↦{fullShare} fo)
        ∗ (ut2Loc d ↦[slotCells (wid L) p n 11]{fullShare} f0) ∗ (ut2Loc d ↦[slotCells (wid L) p 0 n]{fullShare} (packU u : Buf (Elt F) (ut2Loc d)))
        ∗ semVal (thr d L, .dma s) 0)
      ⊢ iprop((OutSlot (F := F) d L p b s u f0 (n + 1) -∗ wp frame (wpE defs 𝒱' (thr d L) bd) Set.univ (k ⟨⟩) Q)
          -∗ wp frame (wpE defs 𝒱' (thr d L) bd) Set.univ
            (.op (.enqueueDma b (.here (ut2M.slice (Rect.unit (s := S125000x128) off S192x128.size inb) (fun _ => rfl))) (.dma s) hsrc hdst hsem) k) Q) := by
  rw [slot_split (wid L) p (lo := n) (mid := n + 1) (hi := 11) (by omega) (by omega)]
  iintro ⟨⟨%fo, %hM, Hb⟩, Ht, Hd, Hs⟩ Hk
  ihave Ht := (pointsTo_union (slot_disj (wid L) p n (n + 1) 11)).1 $$ Ht
  icases Ht with ⟨Hn, Ht⟩
  iapply (wp_fireOut d L hb (u := u) (f0 := f0) p n hp hn hoff) $$ [Hb Hn Hs]
  · isplitl [Hb]
    · iexists fo
      isplitr; · ipureintro; exact fun x y h0 h1 => moved_pack hS hM x y h0 h1
      iexact Hb
    isplitl [Hn]; · iexact Hn
    iexact Hs
  iintro Hfl
  iapply Hk
  unfold OutSlot
  isplitl [Ht]; · iexact Ht
  isplitl [Hd]; · iexact Hd
  iexact Hfl

end Slots

end Cert.Proof.KI
-- ==== Proof.PackTrip2.lean ====
/-
  One trip of the packing kernel's group loop over the first input block: sixteen loads and scatters, each moving the words of one row.
-/
module

public import proofs.«01_k».proof.Proof.PackGroups

@[expose] public section

noncomputable section

namespace Cert.Proof.KI

open Cert.KernelIdeal Cert.KernelIdeal.Gen Cert.Proof.Moves

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

set_option cleanup.letToHave false in
set_option maxHeartbeats 1000000 in
/-- A trip over the first input block. -/
theorem trip2 (d : Dev nD) (L : grid0.Coords) (a13 a14 a15 a16 r0 r1 r2 r3 : DmaSems sig S_) {v4 : IVec S16 32} {cols : Fin 16 → IVec S16 32} (hc : ColsOK v4 cols)
    (k1 : Fin (k0_t1_loop L).trips) (h2 : k0_cond2 L k1 = 1#1) (g : Fin k0_t2_loop.trips) (fs : Buf (Elt F) ((in0).view.loc (thr d L))) :
    GInv (F := F) d L in0 out0 g.val 0 fs
      ⊢ wp frame (wpE (defs₀ (F := F)) 𝒱₀ (thr d L) none) Set.univ
          (k0_t2_body (F := F) L utM (Memref.isWhole_whole _) tailM (Memref.isWhole_whole _) cpadM (Memref.isWhole_whole _) ut2M (Memref.isWhole_whole _) ct2M (Memref.isWhole_whole _) in0 (Memref.isWhole_whole _) in1 (Memref.isWhole_whole _) out0 (Memref.isWhole_whole _) out1 (Memref.isWhole_whole _) tin (Memref.isWhole_whole _) tout (Memref.isWhole_whole _) a13 a14 a15 a16 r0 r1 r2 r3 v4 (cols 0) (cols 1) (cols 2) (cols 3) (cols 4) (cols 5) (cols 6) (cols 7) (cols 8) (cols 9) (cols 10) (cols 11) (cols 12) (cols 13) (cols 14) (cols 15) k1 h2 g ())
          fun _ => GInv (F := F) d L in0 out0 (g.val + 1) 0 fs := by
  have hg : g.val < 96 := g.isLt
  have hw : (Scalar.muli 2#32 (Scf.iv 0#32 1#32 g)).toNat = 2 * g.val := by
    revert g; decide +kernel
  have hrow : ∀ l : Fin 16, ((k0_pay13 v4 0#32 1#32 g) (ix1 l)).toNat = l.val / 8 + 2 * g.val :=
    row_of hc _ g.val (by omega) hw
  iintro H
  unfold k0_t2_body
  simp only [k0_part1_eq_skeleton, k0_part2_eq_skeleton]
  unfold k0_part1_skel k0_part2_skel
  simp only [Prog.lift, Prog.bind_op, Prog.bind_ret, Prog.pure_eq_ret, Prog.bind_assoc]
  rw [wp_assume_of _ _ _ _ (chk2 hc k1 _ hg hrow)]
  iapply (wp_scatterRow (defs := defs₀ (F := F)) 𝒱₀ (thr d L) none Set.univ g.val 0 fs _ rfl (Memref.set_access_whole _) rfl (by decide) (k0_off3_eq _) payOf hrow (hc.2 0)) $$ H
  iintro %_ H
  iapply (wp_scatterRow (defs := defs₀ (F := F)) 𝒱₀ (thr d L) none Set.univ g.val 1 fs _ rfl (Memref.set_access_whole _) rfl (by decide) (k0_off4_eq _) payOf hrow (hc.2 1)) $$ H
  iintro %_ H
  iapply (wp_scatterRow (defs := defs₀ (F := F)) 𝒱₀ (thr d L) none Set.univ g.val 2 fs _ rfl (Memref.set_access_whole _) rfl (by decide) (k0_off5_eq _) payOf hrow (hc.2 2)) $$ H
  iintro %_ H
  iapply (wp_scatterRow (defs := defs₀ (F := F)) 𝒱₀ (thr d L) none Set.univ g.val 3 fs _ rfl (Memref.set_access_whole _) rfl (by decide) (k0_off6_eq _) payOf hrow (hc.2 3)) $$ H
  iintro %_ H
  iapply (wp_scatterRow (defs := defs₀ (F := F)) 𝒱₀ (thr d L) none Set.univ g.val 4 fs _ rfl (Memref.set_access_whole _) rfl (by decide) (k0_off7_eq _) payOf hrow (hc.2 4)) $$ H
  iintro %_ H
  iapply (wp_scatterRow (defs := defs₀ (F := F)) 𝒱₀ (thr d L) none Set.univ g.val 5 fs _ rfl (Memref.set_access_whole _) rfl (by decide) (k0_off8_eq _) payOf hrow (hc.2 5)) $$ H
  iintro %_ H
  iapply (wp_scatterRow (defs := defs₀ (F := F)) 𝒱₀ (thr d L) none Set.univ g.val 6 fs _ rfl (Memref.set_access_whole _) rfl (by decide) (k0_off9_eq _) payOf hrow (hc.2 6)) $$ H
  iintro %_ H
  iapply (wp_scatterRow (defs := defs₀ (F := F)) 𝒱₀ (thr d L) none Set.univ g.val 7 fs _ rfl (Memref.set_access_whole _) rfl (by decide) (k0_off10_eq _) payOf hrow (hc.2 7)) $$ H
  iintro %_ H
  iapply (wp_scatterRow (defs := defs₀ (F := F)) 𝒱₀ (thr d L) none Set.univ g.val 8 fs _ rfl (Memref.set_access_whole _) rfl (by decide) (k0_off11_eq _) payOf hrow (hc.2 8)) $$ H
  iintro %_ H
  iapply (wp_scatterRow (defs := defs₀ (F := F)) 𝒱₀ (thr d L) none Set.univ g.val 9 fs _ rfl (Memref.set_access_whole _) rfl (by decide) (k0_off12_eq _) payOf hrow (hc.2 9)) $$ H
  iintro %_ H
  iapply (wp_scatterRow (defs := defs₀ (F := F)) 𝒱₀ (thr d L) none Set.univ g.val 10 fs _ rfl (Memref.set_access_whole _) rfl (by decide) (k0_off13_eq _) payOf hrow (hc.2 10)) $$ H
  iintro %_ H
  iapply (wp_scatterRow (defs := defs₀ (F := F)) 𝒱₀ (thr d L) none Set.univ g.val 11 fs _ rfl (Memref.set_access_whole _) rfl (by decide) (k0_off14_eq _) payOf hrow (hc.2 11)) $$ H
  iintro %_ H
  iapply (wp_scatterRow (defs := defs₀ (F := F)) 𝒱₀ (thr d L) none Set.univ g.val 12 fs _ rfl (Memref.set_access_whole _) rfl (by decide) (k0_off15_eq _) payOf hrow (hc.2 12)) $$ H
  iintro %_ H
  iapply (wp_scatterRow (defs := defs₀ (F := F)) 𝒱₀ (thr d L) none Set.univ g.val 13 fs _ rfl (Memref.set_access_whole _) rfl (by decide) (k0_off16_eq _) payOf hrow (hc.2 13)) $$ H
  iintro %_ H
  iapply (wp_scatterRow (defs := defs₀ (F := F)) 𝒱₀ (thr d L) none Set.univ g.val 14 fs _ rfl (Memref.set_access_whole _) rfl (by decide) (k0_off17_eq _) payOf hrow (hc.2 14)) $$ H
  iintro %_ H
  iapply (wp_scatterRow (defs := defs₀ (F := F)) 𝒱₀ (thr d L) none Set.univ g.val 15 fs _ rfl (Memref.set_access_whole _) rfl (by decide) (k0_off18_eq _) payOf hrow (hc.2 15)) $$ H
  iintro %_ H
  rw [wp_ret]
  imodintro
  unfold GInv
  icases H with ⟨Hs, %fd, %hM, Hd⟩
  isplitl [Hs]; · iexact Hs
  iexists fd
  isplitr; · ipureintro; exact hM.next
  iexact Hd

end Cert.Proof.KI
-- ==== Proof.PackTrip3.lean ====
/-
  One trip of the packing kernel's group loop over the second input block: sixteen loads and scatters, each moving the words of one row.
-/
module

public import proofs.«01_k».proof.Proof.PackGroups

@[expose] public section

noncomputable section

namespace Cert.Proof.KI

open Cert.KernelIdeal Cert.KernelIdeal.Gen Cert.Proof.Moves

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

set_option cleanup.letToHave false in
set_option maxHeartbeats 1000000 in
/-- A trip over the second input block. -/
theorem trip3 (d : Dev nD) (L : grid0.Coords) (a13 a14 a15 a16 r0 r1 r2 r3 : DmaSems sig S_) {v4 : IVec S16 32} {cols : Fin 16 → IVec S16 32} (hc : ColsOK v4 cols)
    (k1 : Fin (k0_t1_loop L).trips) (h5 : k0_cond5 L k1 = 1#1) (g : Fin k0_t3_loop.trips) (fs : Buf (Elt F) ((in1).view.loc (thr d L))) :
    GInv (F := F) d L in1 out1 g.val 0 fs
      ⊢ wp frame (wpE (defs₀ (F := F)) 𝒱₀ (thr d L) none) Set.univ
          (k0_t3_body (F := F) L utM (Memref.isWhole_whole _) tailM (Memref.isWhole_whole _) cpadM (Memref.isWhole_whole _) ut2M (Memref.isWhole_whole _) ct2M (Memref.isWhole_whole _) in0 (Memref.isWhole_whole _) in1 (Memref.isWhole_whole _) out0 (Memref.isWhole_whole _) out1 (Memref.isWhole_whole _) tin (Memref.isWhole_whole _) tout (Memref.isWhole_whole _) a13 a14 a15 a16 r0 r1 r2 r3 v4 (cols 0) (cols 1) (cols 2) (cols 3) (cols 4) (cols 5) (cols 6) (cols 7) (cols 8) (cols 9) (cols 10) (cols 11) (cols 12) (cols 13) (cols 14) (cols 15) k1 h5 g ())
          fun _ => GInv (F := F) d L in1 out1 (g.val + 1) 0 fs := by
  have hg : g.val < 96 := g.isLt
  have hw : (Scalar.muli 2#32 (Scf.iv 0#32 1#32 g)).toNat = 2 * g.val := by
    revert g; decide +kernel
  have hrow : ∀ l : Fin 16, ((k0_pay28 v4 0#32 1#32 g) (ix1 l)).toNat = l.val / 8 + 2 * g.val :=
    row_of hc _ g.val (by omega) hw
  iintro H
  unfold k0_t3_body
  simp only [k0_part3_eq_skeleton, k0_part4_eq_skeleton]
  unfold k0_part3_skel k0_part4_skel
  simp only [Prog.lift, Prog.bind_op, Prog.bind_ret, Prog.pure_eq_ret, Prog.bind_assoc]
  rw [wp_assume_of _ _ _ _ (chk3 hc k1 _ hg hrow)]
  iapply (wp_scatterRow (defs := defs₀ (F := F)) 𝒱₀ (thr d L) none Set.univ g.val 0 fs _ rfl (Memref.set_access_whole _) rfl (by decide) (k0_off21_eq _) payOf hrow (hc.2 0)) $$ H
  iintro %_ H
  iapply (wp_scatterRow (defs := defs₀ (F := F)) 𝒱₀ (thr d L) none Set.univ g.val 1 fs _ rfl (Memref.set_access_whole _) rfl (by decide) (k0_off22_eq _) payOf hrow (hc.2 1)) $$ H
  iintro %_ H
  iapply (wp_scatterRow (defs := defs₀ (F := F)) 𝒱₀ (thr d L) none Set.univ g.val 2 fs _ rfl (Memref.set_access_whole _) rfl (by decide) (k0_off23_eq _) payOf hrow (hc.2 2)) $$ H
  iintro %_ H
  iapply (wp_scatterRow (defs := defs₀ (F := F)) 𝒱₀ (thr d L) none Set.univ g.val 3 fs _ rfl (Memref.set_access_whole _) rfl (by decide) (k0_off24_eq _) payOf hrow (hc.2 3)) $$ H
  iintro %_ H
  iapply (wp_scatterRow (defs := defs₀ (F := F)) 𝒱₀ (thr d L) none Set.univ g.val 4 fs _ rfl (Memref.set_access_whole _) rfl (by decide) (k0_off25_eq _) payOf hrow (hc.2 4)) $$ H
  iintro %_ H
  iapply (wp_scatterRow (defs := defs₀ (F := F)) 𝒱₀ (thr d L) none Set.univ g.val 5 fs _ rfl (Memref.set_access_whole _) rfl (by decide) (k0_off26_eq _) payOf hrow (hc.2 5)) $$ H
  iintro %_ H
  iapply (wp_scatterRow (defs := defs₀ (F := F)) 𝒱₀ (thr d L) none Set.univ g.val 6 fs _ rfl (Memref.set_access_whole _) rfl (by decide) (k0_off27_eq _) payOf hrow (hc.2 6)) $$ H
  iintro %_ H
  iapply (wp_scatterRow (defs := defs₀ (F := F)) 𝒱₀ (thr d L) none Set.univ g.val 7 fs _ rfl (Memref.set_access_whole _) rfl (by decide) (k0_off28_eq _) payOf hrow (hc.2 7)) $$ H
  iintro %_ H
  iapply (wp_scatterRow (defs := defs₀ (F := F)) 𝒱₀ (thr d L) none Set.univ g.val 8 fs _ rfl (Memref.set_access_whole _) rfl (by decide) (k0_off29_eq _) payOf hrow (hc.2 8)) $$ H
  iintro %_ H
  iapply (wp_scatterRow (defs := defs₀ (F := F)) 𝒱₀ (thr d L) none Set.univ g.val 9 fs _ rfl (Memref.set_access_whole _) rfl (by decide) (k0_off30_eq _) payOf hrow (hc.2 9)) $$ H
  iintro %_ H
  iapply (wp_scatterRow (defs := defs₀ (F := F)) 𝒱₀ (thr d L) none Set.univ g.val 10 fs _ rfl (Memref.set_access_whole _) rfl (by decide) (k0_off31_eq _) payOf hrow (hc.2 10)) $$ H
  iintro %_ H
  iapply (wp_scatterRow (defs := defs₀ (F := F)) 𝒱₀ (thr d L) none Set.univ g.val 11 fs _ rfl (Memref.set_access_whole _) rfl (by decide) (k0_off32_eq _) payOf hrow (hc.2 11)) $$ H
  iintro %_ H
  iapply (wp_scatterRow (defs := defs₀ (F := F)) 𝒱₀ (thr d L) none Set.univ g.val 12 fs _ rfl (Memref.set_access_whole _) rfl (by decide) (k0_off33_eq _) payOf hrow (hc.2 12)) $$ H
  iintro %_ H
  iapply (wp_scatterRow (defs := defs₀ (F := F)) 𝒱₀ (thr d L) none Set.univ g.val 13 fs _ rfl (Memref.set_access_whole _) rfl (by decide) (k0_off34_eq _) payOf hrow (hc.2 13)) $$ H
  iintro %_ H
  iapply (wp_scatterRow (defs := defs₀ (F := F)) 𝒱₀ (thr d L) none Set.univ g.val 14 fs _ rfl (Memref.set_access_whole _) rfl (by decide) (k0_off35_eq _) payOf hrow (hc.2 14)) $$ H
  iintro %_ H
  iapply (wp_scatterRow (defs := defs₀ (F := F)) 𝒱₀ (thr d L) none Set.univ g.val 15 fs _ rfl (Memref.set_access_whole _) rfl (by decide) (k0_off36_eq _) payOf hrow (hc.2 15)) $$ H
  iintro %_ H
  rw [wp_ret]
  imodintro
  unfold GInv
  icases H with ⟨Hs, %fd, %hM, Hd⟩
  isplitl [Hs]; · iexact Hs
  iexists fd
  isplitr; · ipureintro; exact hM.next
  iexact Hd

end Cert.Proof.KI
-- ==== Proof.PackTrip7.lean ====
/-
  One trip of the packing kernel's group loop over the last columns: sixteen loads and scatters, each moving the words of one row.
-/
module

public import proofs.«01_k».proof.Proof.PackGroups

@[expose] public section

noncomputable section

namespace Cert.Proof.KI

open Cert.KernelIdeal Cert.KernelIdeal.Gen Cert.Proof.Moves

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

set_option cleanup.letToHave false in
set_option maxHeartbeats 1000000 in
/-- A trip over the last columns. -/
theorem trip7 (d : Dev nD) (L : grid0.Coords) (a13 a14 a15 a16 r0 r1 r2 r3 : DmaSems sig S_) {v4 : IVec S16 32} {cols : Fin 16 → IVec S16 32} (hc : ColsOK v4 cols)
    (h13 : k0_cond13 L = 1#1) (g : Fin k0_t7_loop.trips) (fs : Buf (Elt F) ((tin).view.loc (thr d L))) :
    GInv (F := F) d L tin tout g.val 0 fs
      ⊢ wp frame (wpE (defs₀ (F := F)) 𝒱₀ (thr d L) none) Set.univ
          (k0_t7_body (F := F) L utM (Memref.isWhole_whole _) tailM (Memref.isWhole_whole _) cpadM (Memref.isWhole_whole _) ut2M (Memref.isWhole_whole _) ct2M (Memref.isWhole_whole _) in0 (Memref.isWhole_whole _) in1 (Memref.isWhole_whole _) out0 (Memref.isWhole_whole _) out1 (Memref.isWhole_whole _) tin (Memref.isWhole_whole _) tout (Memref.isWhole_whole _) a13 a14 a15 a16 r0 r1 r2 r3 v4 (cols 0) (cols 1) (cols 2) (cols 3) (cols 4) (cols 5) (cols 6) (cols 7) (cols 8) (cols 9) (cols 10) (cols 11) (cols 12) (cols 13) (cols 14) (cols 15) h13 g ())
          fun _ => GInv (F := F) d L tin tout (g.val + 1) 0 fs := by
  have hg : g.val < 4 := g.isLt
  have hw : (Scalar.muli 2#32 (Scf.iv 0#32 1#32 g)).toNat = 2 * g.val := by
    revert g; decide +kernel
  have hrow : ∀ l : Fin 16, ((k0_pay73 v4 0#32 1#32 g) (ix1 l)).toNat = l.val / 8 + 2 * g.val :=
    row_of hc _ g.val (by omega) hw
  iintro H
  unfold k0_t7_body
  simp only [k0_part9_eq_skeleton, k0_part10_eq_skeleton]
  unfold k0_part9_skel k0_part10_skel
  simp only [Prog.lift, Prog.bind_op, Prog.bind_ret, Prog.pure_eq_ret, Prog.bind_assoc]
  rw [wp_assume_of _ _ _ _ (chk7 hc _ hg hrow)]
  iapply (wp_scatterRow (defs := defs₀ (F := F)) 𝒱₀ (thr d L) none Set.univ g.val 0 fs _ rfl (Memref.set_access_whole _) rfl (by decide) (k0_off74_eq _) payOf hrow (hc.2 0)) $$ H
  iintro %_ H
  iapply (wp_scatterRow (defs := defs₀ (F := F)) 𝒱₀ (thr d L) none Set.univ g.val 1 fs _ rfl (Memref.set_access_whole _) rfl (by decide) (k0_off75_eq _) payOf hrow (hc.2 1)) $$ H
  iintro %_ H
  iapply (wp_scatterRow (defs := defs₀ (F := F)) 𝒱₀ (thr d L) none Set.univ g.val 2 fs _ rfl (Memref.set_access_whole _) rfl (by decide) (k0_off76_eq _) payOf hrow (hc.2 2)) $$ H
  iintro %_ H
  iapply (wp_scatterRow (defs := defs₀ (F := F)) 𝒱₀ (thr d L) none Set.univ g.val 3 fs _ rfl (Memref.set_access_whole _) rfl (by decide) (k0_off77_eq _) payOf hrow (hc.2 3)) $$ H
  iintro %_ H
  iapply (wp_scatterRow (defs := defs₀ (F := F)) 𝒱₀ (thr d L) none Set.univ g.val 4 fs _ rfl (Memref.set_access_whole _) rfl (by decide) (k0_off78_eq _) payOf hrow (hc.2 4)) $$ H
  iintro %_ H
  iapply (wp_scatterRow (defs := defs₀ (F := F)) 𝒱₀ (thr d L) none Set.univ g.val 5 fs _ rfl (Memref.set_access_whole _) rfl (by decide) (k0_off79_eq _) payOf hrow (hc.2 5)) $$ H
  iintro %_ H
  iapply (wp_scatterRow (defs := defs₀ (F := F)) 𝒱₀ (thr d L) none Set.univ g.val 6 fs _ rfl (Memref.set_access_whole _) rfl (by decide) (k0_off80_eq _) payOf hrow (hc.2 6)) $$ H
  iintro %_ H
  iapply (wp_scatterRow (defs := defs₀ (F := F)) 𝒱₀ (thr d L) none Set.univ g.val 7 fs _ rfl (Memref.set_access_whole _) rfl (by decide) (k0_off81_eq _) payOf hrow (hc.2 7)) $$ H
  iintro %_ H
  iapply (wp_scatterRow (defs := defs₀ (F := F)) 𝒱₀ (thr d L) none Set.univ g.val 8 fs _ rfl (Memref.set_access_whole _) rfl (by decide) (k0_off82_eq _) payOf hrow (hc.2 8)) $$ H
  iintro %_ H
  iapply (wp_scatterRow (defs := defs₀ (F := F)) 𝒱₀ (thr d L) none Set.univ g.val 9 fs _ rfl (Memref.set_access_whole _) rfl (by decide) (k0_off83_eq _) payOf hrow (hc.2 9)) $$ H
  iintro %_ H
  iapply (wp_scatterRow (defs := defs₀ (F := F)) 𝒱₀ (thr d L) none Set.univ g.val 10 fs _ rfl (Memref.set_access_whole _) rfl (by decide) (k0_off84_eq _) payOf hrow (hc.2 10)) $$ H
  iintro %_ H
  iapply (wp_scatterRow (defs := defs₀ (F := F)) 𝒱₀ (thr d L) none Set.univ g.val 11 fs _ rfl (Memref.set_access_whole _) rfl (by decide) (k0_off85_eq _) payOf hrow (hc.2 11)) $$ H
  iintro %_ H
  iapply (wp_scatterRow (defs := defs₀ (F := F)) 𝒱₀ (thr d L) none Set.univ g.val 12 fs _ rfl (Memref.set_access_whole _) rfl (by decide) (k0_off86_eq _) payOf hrow (hc.2 12)) $$ H
  iintro %_ H
  iapply (wp_scatterRow (defs := defs₀ (F := F)) 𝒱₀ (thr d L) none Set.univ g.val 13 fs _ rfl (Memref.set_access_whole _) rfl (by decide) (k0_off87_eq _) payOf hrow (hc.2 13)) $$ H
  iintro %_ H
  iapply (wp_scatterRow (defs := defs₀ (F := F)) 𝒱₀ (thr d L) none Set.univ g.val 14 fs _ rfl (Memref.set_access_whole _) rfl (by decide) (k0_off88_eq _) payOf hrow (hc.2 14)) $$ H
  iintro %_ H
  iapply (wp_scatterRow (defs := defs₀ (F := F)) 𝒱₀ (thr d L) none Set.univ g.val 15 fs _ rfl (Memref.set_access_whole _) rfl (by decide) (k0_off89_eq _) payOf hrow (hc.2 15)) $$ H
  iintro %_ H
  rw [wp_ret]
  imodintro
  unfold GInv
  icases H with ⟨Hs, %fd, %hM, Hd⟩
  isplitl [Hs]; · iexact Hs
  iexists fd
  isplitr; · ipureintro; exact hM.next
  iexact Hd

end Cert.Proof.KI
-- ==== Proof.PackTrip8.lean ====
/-
  One trip of the packing kernel's group loop over the category table: sixteen loads and scatters, each moving the words of one row.
-/
module

public import proofs.«01_k».proof.Proof.PackGroups

@[expose] public section

noncomputable section

namespace Cert.Proof.KI

open Cert.KernelIdeal Cert.KernelIdeal.Gen Cert.Proof.Moves

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

set_option cleanup.letToHave false in
set_option maxHeartbeats 1000000 in
/-- A trip over the category table. -/
theorem trip8 (d : Dev nD) (L : grid0.Coords) (a13 a14 a15 a16 r0 r1 r2 r3 : DmaSems sig S_) {v4 : IVec S16 32} {cols : Fin 16 → IVec S16 32} (hc : ColsOK v4 cols)
    (h14 : k0_cond14 L = 1#1) (g : Fin k0_t8_loop.trips) (fs : Buf (Elt F) ((in0).view.loc (thr d L))) :
    GInv (F := F) d L in0 out0 g.val 0 fs
      ⊢ wp frame (wpE (defs₀ (F := F)) 𝒱₀ (thr d L) none) Set.univ
          (k0_t8_body (F := F) L utM (Memref.isWhole_whole _) tailM (Memref.isWhole_whole _) cpadM (Memref.isWhole_whole _) ut2M (Memref.isWhole_whole _) ct2M (Memref.isWhole_whole _) in0 (Memref.isWhole_whole _) in1 (Memref.isWhole_whole _) out0 (Memref.isWhole_whole _) out1 (Memref.isWhole_whole _) tin (Memref.isWhole_whole _) tout (Memref.isWhole_whole _) a13 a14 a15 a16 r0 r1 r2 r3 v4 (cols 0) (cols 1) (cols 2) (cols 3) (cols 4) (cols 5) (cols 6) (cols 7) (cols 8) (cols 9) (cols 10) (cols 11) (cols 12) (cols 13) (cols 14) (cols 15) h14 g ())
          fun _ => GInv (F := F) d L in0 out0 (g.val + 1) 0 fs := by
  have hg : g.val < 64 := g.isLt
  have hw : (Scalar.muli 2#32 (Scf.iv 0#32 1#32 g)).toNat = 2 * g.val := by
    revert g; decide +kernel
  have hrow : ∀ l : Fin 16, ((k0_pay88 v4 0#32 1#32 g) (ix1 l)).toNat = l.val / 8 + 2 * g.val :=
    row_of hc _ g.val (by omega) hw
  iintro H
  unfold k0_t8_body
  simp only [k0_part11_eq_skeleton, k0_part12_eq_skeleton]
  unfold k0_part11_skel k0_part12_skel
  simp only [Prog.lift, Prog.bind_op, Prog.bind_ret, Prog.pure_eq_ret, Prog.bind_assoc]
  rw [wp_assume_of _ _ _ _ (chk8 hc _ hg hrow)]
  iapply (wp_scatterRow (defs := defs₀ (F := F)) 𝒱₀ (thr d L) none Set.univ g.val 0 fs _ rfl (Memref.set_access_whole _) rfl (by decide) (k0_off90_eq _) payOf hrow (hc.2 0)) $$ H
  iintro %_ H
  iapply (wp_scatterRow (defs := defs₀ (F := F)) 𝒱₀ (thr d L) none Set.univ g.val 1 fs _ rfl (Memref.set_access_whole _) rfl (by decide) (k0_off91_eq _) payOf hrow (hc.2 1)) $$ H
  iintro %_ H
  iapply (wp_scatterRow (defs := defs₀ (F := F)) 𝒱₀ (thr d L) none Set.univ g.val 2 fs _ rfl (Memref.set_access_whole _) rfl (by decide) (k0_off92_eq _) payOf hrow (hc.2 2)) $$ H
  iintro %_ H
  iapply (wp_scatterRow (defs := defs₀ (F := F)) 𝒱₀ (thr d L) none Set.univ g.val 3 fs _ rfl (Memref.set_access_whole _) rfl (by decide) (k0_off93_eq _) payOf hrow (hc.2 3)) $$ H
  iintro %_ H
  iapply (wp_scatterRow (defs := defs₀ (F := F)) 𝒱₀ (thr d L) none Set.univ g.val 4 fs _ rfl (Memref.set_access_whole _) rfl (by decide) (k0_off94_eq _) payOf hrow (hc.2 4)) $$ H
  iintro %_ H
  iapply (wp_scatterRow (defs := defs₀ (F := F)) 𝒱₀ (thr d L) none Set.univ g.val 5 fs _ rfl (Memref.set_access_whole _) rfl (by decide) (k0_off95_eq _) payOf hrow (hc.2 5)) $$ H
  iintro %_ H
  iapply (wp_scatterRow (defs := defs₀ (F := F)) 𝒱₀ (thr d L) none Set.univ g.val 6 fs _ rfl (Memref.set_access_whole _) rfl (by decide) (k0_off96_eq _) payOf hrow (hc.2 6)) $$ H
  iintro %_ H
  iapply (wp_scatterRow (defs := defs₀ (F := F)) 𝒱₀ (thr d L) none Set.univ g.val 7 fs _ rfl (Memref.set_access_whole _) rfl (by decide) (k0_off97_eq _) payOf hrow (hc.2 7)) $$ H
  iintro %_ H
  iapply (wp_scatterRow (defs := defs₀ (F := F)) 𝒱₀ (thr d L) none Set.univ g.val 8 fs _ rfl (Memref.set_access_whole _) rfl (by decide) (k0_off98_eq _) payOf hrow (hc.2 8)) $$ H
  iintro %_ H
  iapply (wp_scatterRow (defs := defs₀ (F := F)) 𝒱₀ (thr d L) none Set.univ g.val 9 fs _ rfl (Memref.set_access_whole _) rfl (by decide) (k0_off99_eq _) payOf hrow (hc.2 9)) $$ H
  iintro %_ H
  iapply (wp_scatterRow (defs := defs₀ (F := F)) 𝒱₀ (thr d L) none Set.univ g.val 10 fs _ rfl (Memref.set_access_whole _) rfl (by decide) (k0_off100_eq _) payOf hrow (hc.2 10)) $$ H
  iintro %_ H
  iapply (wp_scatterRow (defs := defs₀ (F := F)) 𝒱₀ (thr d L) none Set.univ g.val 11 fs _ rfl (Memref.set_access_whole _) rfl (by decide) (k0_off101_eq _) payOf hrow (hc.2 11)) $$ H
  iintro %_ H
  iapply (wp_scatterRow (defs := defs₀ (F := F)) 𝒱₀ (thr d L) none Set.univ g.val 12 fs _ rfl (Memref.set_access_whole _) rfl (by decide) (k0_off102_eq _) payOf hrow (hc.2 12)) $$ H
  iintro %_ H
  iapply (wp_scatterRow (defs := defs₀ (F := F)) 𝒱₀ (thr d L) none Set.univ g.val 13 fs _ rfl (Memref.set_access_whole _) rfl (by decide) (k0_off103_eq _) payOf hrow (hc.2 13)) $$ H
  iintro %_ H
  iapply (wp_scatterRow (defs := defs₀ (F := F)) 𝒱₀ (thr d L) none Set.univ g.val 14 fs _ rfl (Memref.set_access_whole _) rfl (by decide) (k0_off104_eq _) payOf hrow (hc.2 14)) $$ H
  iintro %_ H
  iapply (wp_scatterRow (defs := defs₀ (F := F)) 𝒱₀ (thr d L) none Set.univ g.val 15 fs _ rfl (Memref.set_access_whole _) rfl (by decide) (k0_off105_eq _) payOf hrow (hc.2 15)) $$ H
  iintro %_ H
  rw [wp_ret]
  imodintro
  unfold GInv
  icases H with ⟨Hs, %fd, %hM, Hd⟩
  isplitl [Hs]; · iexact Hs
  iexists fd
  isplitr; · ipureintro; exact hM.next
  iexact Hd

end Cert.Proof.KI
-- ==== Proof.PackMoves.lean ====
/-
  The packing kernel's group loops: each moves a whole input block into an output block, sixteen columns a trip.
-/
module

public import proofs.«01_k».proof.Proof.PackTrip2
public import proofs.«01_k».proof.Proof.PackTrip3
public import proofs.«01_k».proof.Proof.PackTrip7
public import proofs.«01_k».proof.Proof.PackTrip8

@[expose] public section

noncomputable section

namespace Cert.Proof.KI

open Cert.KernelIdeal Cert.KernelIdeal.Gen Cert.Proof.Moves

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.ValueIdx

variable {F : FTy → Type} [FloatOps F]

local notation "𝕄" => MT nD τ sig (HIx 2) (Elt F) ℕ UU ℕ

/-- The group loop over the first input block. -/
theorem wp_groups2 (d : Dev nD) (L : grid0.Coords) (a13 a14 a15 a16 r0 r1 r2 r3 : DmaSems sig S_) {v4 : IVec S16 32} {cols : Fin 16 → IVec S16 32} (hc : ColsOK v4 cols)
    (k1 : Fin (k0_t1_loop L).trips) (h2 : k0_cond2 L k1 = 1#1) (fs : Buf (Elt F) ((in0).view.loc (thr d L))) {α : Type} {Q : α → sProp 𝕄}
    {k : Unit → Prog (TpuEff nD τ sig (Elt F) Λ₀ (thr d L).2) α} :
    iprop(((in0).view.loc (thr d L) ↦{fullShare} fs) ∗ (∃ fd, (out0).view.loc (thr d L) ↦{fullShare} fd))
      ⊢ iprop((iprop(((in0).view.loc (thr d L) ↦{fullShare} fs)
            ∗ (∃ fd, ⌜Moved 96 0 ((in0).view.read (Elt F) fs) ((out0).view.read (Elt F) fd)⌝ ∗ (out0).view.loc (thr d L) ↦{fullShare} fd))
          -∗ wp frame (wpE (defs₀ (F := F)) 𝒱₀ (thr d L) none) Set.univ (k ⟨⟩) Q)
        -∗ wp frame (wpE (defs₀ (F := F)) 𝒱₀ (thr d L) none) Set.univ
          (Scf.Loop.for k0_t2_loop (k0_t2_ok L k1 h2) ⟨⟩
            (k0_t2_body (F := F) L utM (Memref.isWhole_whole _) tailM (Memref.isWhole_whole _) cpadM (Memref.isWhole_whole _) ut2M (Memref.isWhole_whole _) ct2M (Memref.isWhole_whole _) in0 (Memref.isWhole_whole _) in1 (Memref.isWhole_whole _) out0 (Memref.isWhole_whole _) out1 (Memref.isWhole_whole _) tin (Memref.isWhole_whole _) tout (Memref.isWhole_whole _) a13 a14 a15 a16 r0 r1 r2 r3 v4 (cols 0) (cols 1) (cols 2) (cols 3) (cols 4) (cols 5) (cols 6) (cols 7) (cols 8) (cols 9) (cols 10) (cols 11) (cols 12) (cols 13) (cols 14) (cols 15) k1 h2) >>= k) Q) := by
  iintro ⟨Hs, %fd, Hd⟩ Hk
  iapply (Scf.wp_for_bind frame (wpE (defs₀ (F := F)) 𝒱₀ (thr d L) none) Set.univ _ _ _ (k0_t2_ok L k1 h2) _ _
    (fun g _ => GInv (F := F) d L in0 out0 g 0 fs) (fun g _ => trip2 d L a13 a14 a15 a16 r0 r1 r2 r3 hc k1 h2 g fs)) $$ [Hs Hd]
  · isplitl [Hs]; · iexact Hs
    iexists fd
    isplitr; · ipureintro; exact Moved.zero _ _
    iexact Hd
  iintro %_ H
  iapply Hk
  iexact H

/-- The group loop over the second input block. -/
theorem wp_groups3 (d : Dev nD) (L : grid0.Coords) (a13 a14 a15 a16 r0 r1 r2 r3 : DmaSems sig S_) {v4 : IVec S16 32} {cols : Fin 16 → IVec S16 32} (hc : ColsOK v4 cols)
    (k1 : Fin (k0_t1_loop L).trips) (h5 : k0_cond5 L k1 = 1#1) (fs : Buf (Elt F) ((in1).view.loc (thr d L))) {α : Type} {Q : α → sProp 𝕄}
    {k : Unit → Prog (TpuEff nD τ sig (Elt F) Λ₀ (thr d L).2) α} :
    iprop(((in1).view.loc (thr d L) ↦{fullShare} fs) ∗ (∃ fd, (out1).view.loc (thr d L) ↦{fullShare} fd))
      ⊢ iprop((iprop(((in1).view.loc (thr d L) ↦{fullShare} fs)
            ∗ (∃ fd, ⌜Moved 96 0 ((in1).view.read (Elt F) fs) ((out1).view.read (Elt F) fd)⌝ ∗ (out1).view.loc (thr d L) ↦{fullShare} fd))
          -∗ wp frame (wpE (defs₀ (F := F)) 𝒱₀ (thr d L) none) Set.univ (k ⟨⟩) Q)
        -∗ wp frame (wpE (defs₀ (F := F)) 𝒱₀ (thr d L) none) Set.univ
          (Scf.Loop.for k0_t3_loop (k0_t3_ok L k1 h5) ⟨⟩
            (k0_t3_body (F := F) L utM (Memref.isWhole_whole _) tailM (Memref.isWhole_whole _) cpadM (Memref.isWhole_whole _) ut2M (Memref.isWhole_whole _) ct2M (Memref.isWhole_whole _) in0 (Memref.isWhole_whole _) in1 (Memref.isWhole_whole _) out0 (Memref.isWhole_whole _) out1 (Memref.isWhole_whole _) tin (Memref.isWhole_whole _) tout (Memref.isWhole_whole _) a13 a14 a15 a16 r0 r1 r2 r3 v4 (cols 0) (cols 1) (cols 2) (cols 3) (cols 4) (cols 5) (cols 6) (cols 7) (cols 8) (cols 9) (cols 10) (cols 11) (cols 12) (cols 13) (cols 14) (cols 15) k1 h5) >>= k) Q) := by
  iintro ⟨Hs, %fd, Hd⟩ Hk
  iapply (Scf.wp_for_bind frame (wpE (defs₀ (F := F)) 𝒱₀ (thr d L) none) Set.univ _ _ _ (k0_t3_ok L k1 h5) _ _
    (fun g _ => GInv (F := F) d L in1 out1 g 0 fs) (fun g _ => trip3 d L a13 a14 a15 a16 r0 r1 r2 r3 hc k1 h5 g fs)) $$ [Hs Hd]
  · isplitl [Hs]; · iexact Hs
    iexists fd
    isplitr; · ipureintro; exact Moved.zero _ _
    iexact Hd
  iintro %_ H
  iapply Hk
  iexact H

/-- The group loop over the last columns. -/
theorem wp_groups7 (d : Dev nD) (L : grid0.Coords) (a13 a14 a15 a16 r0 r1 r2 r3 : DmaSems sig S_) {v4 : IVec S16 32} {cols : Fin 16 → IVec S16 32} (hc : ColsOK v4 cols)
    (h13 : k0_cond13 L = 1#1) (fs : Buf (Elt F) ((tin).view.loc (thr d L))) {α : Type} {Q : α → sProp 𝕄}
    {k : Unit → Prog (TpuEff nD τ sig (Elt F) Λ₀ (thr d L).2) α} :
    iprop(((tin).view.loc (thr d L) ↦{fullShare} fs) ∗ (∃ fd, (tout).view.loc (thr d L) ↦{fullShare} fd))
      ⊢ iprop((iprop(((tin).view.loc (thr d L) ↦{fullShare} fs)
            ∗ (∃ fd, ⌜Moved 4 0 ((tin).view.read (Elt F) fs) ((tout).view.read (Elt F) fd)⌝ ∗ (tout).view.loc (thr d L) ↦{fullShare} fd))
          -∗ wp frame (wpE (defs₀ (F := F)) 𝒱₀ (thr d L) none) Set.univ (k ⟨⟩) Q)
        -∗ wp frame (wpE (defs₀ (F := F)) 𝒱₀ (thr d L) none) Set.univ
          (Scf.Loop.for k0_t7_loop (k0_t7_ok L h13) ⟨⟩
            (k0_t7_body (F := F) L utM (Memref.isWhole_whole _) tailM (Memref.isWhole_whole _) cpadM (Memref.isWhole_whole _) ut2M (Memref.isWhole_whole _) ct2M (Memref.isWhole_whole _) in0 (Memref.isWhole_whole _) in1 (Memref.isWhole_whole _) out0 (Memref.isWhole_whole _) out1 (Memref.isWhole_whole _) tin (Memref.isWhole_whole _) tout (Memref.isWhole_whole _) a13 a14 a15 a16 r0 r1 r2 r3 v4 (cols 0) (cols 1) (cols 2) (cols 3) (cols 4) (cols 5) (cols 6) (cols 7) (cols 8) (cols 9) (cols 10) (cols 11) (cols 12) (cols 13) (cols 14) (cols 15) h13) >>= k) Q) := by
  iintro ⟨Hs, %fd, Hd⟩ Hk
  iapply (Scf.wp_for_bind frame (wpE (defs₀ (F := F)) 𝒱₀ (thr d L) none) Set.univ _ _ _ (k0_t7_ok L h13) _ _
    (fun g _ => GInv (F := F) d L tin tout g 0 fs) (fun g _ => trip7 d L a13 a14 a15 a16 r0 r1 r2 r3 hc h13 g fs)) $$ [Hs Hd]
  · isplitl [Hs]; · iexact Hs
    iexists fd
    isplitr; · ipureintro; exact Moved.zero _ _
    iexact Hd
  iintro %_ H
  iapply Hk
  iexact H

/-- The group loop over the category table. -/
theorem wp_groups8 (d : Dev nD) (L : grid0.Coords) (a13 a14 a15 a16 r0 r1 r2 r3 : DmaSems sig S_) {v4 : IVec S16 32} {cols : Fin 16 → IVec S16 32} (hc : ColsOK v4 cols)
    (h14 : k0_cond14 L = 1#1) (fs : Buf (Elt F) ((in0).view.loc (thr d L))) {α : Type} {Q : α → sProp 𝕄}
    {k : Unit → Prog (TpuEff nD τ sig (Elt F) Λ₀ (thr d L).2) α} :
    iprop(((in0).view.loc (thr d L) ↦{fullShare} fs) ∗ (∃ fd, (out0).view.loc (thr d L) ↦{fullShare} fd))
      ⊢ iprop((iprop(((in0).view.loc (thr d L) ↦{fullShare} fs)
            ∗ (∃ fd, ⌜Moved 64 0 ((in0).view.read (Elt F) fs) ((out0).view.read (Elt F) fd)⌝ ∗ (out0).view.loc (thr d L) ↦{fullShare} fd))
          -∗ wp frame (wpE (defs₀ (F := F)) 𝒱₀ (thr d L) none) Set.univ (k ⟨⟩) Q)
        -∗ wp frame (wpE (defs₀ (F := F)) 𝒱₀ (thr d L) none) Set.univ
          (Scf.Loop.for k0_t8_loop (k0_t8_ok L h14) ⟨⟩
            (k0_t8_body (F := F) L utM (Memref.isWhole_whole _) tailM (Memref.isWhole_whole _) cpadM (Memref.isWhole_whole _) ut2M (Memref.isWhole_whole _) ct2M (Memref.isWhole_whole _) in0 (Memref.isWhole_whole _) in1 (Memref.isWhole_whole _) out0 (Memref.isWhole_whole _) out1 (Memref.isWhole_whole _) tin (Memref.isWhole_whole _) tout (Memref.isWhole_whole _) a13 a14 a15 a16 r0 r1 r2 r3 v4 (cols 0) (cols 1) (cols 2) (cols 3) (cols 4) (cols 5) (cols 6) (cols 7) (cols 8) (cols 9) (cols 10) (cols 11) (cols 12) (cols 13) (cols 14) (cols 15) h14) >>= k) Q) := by
  iintro ⟨Hs, %fd, Hd⟩ Hk
  iapply (Scf.wp_for_bind frame (wpE (defs₀ (F := F)) 𝒱₀ (thr d L) none) Set.univ _ _ _ (k0_t8_ok L h14) _ _
    (fun g _ => GInv (F := F) d L in0 out0 g 0 fs) (fun g _ => trip8 d L a13 a14 a15 a16 r0 r1 r2 r3 hc h14 g fs)) $$ [Hs Hd]
  · isplitl [Hs]; · iexact Hs
    iexists fd
    isplitr; · ipureintro; exact Moved.zero _ _
    iexact Hd
  iintro %_ H
  iapply Hk
  iexact H

end Cert.Proof.KI
-- ==== Proof.PackPair.lean ====
/-
  One trip of the packing kernel's pair loop: an even block through the first pair of buffers and an odd one, where there
  is one left, through the second.
-/
module

public import proofs.«01_k».proof.Proof.PackLoop
public import proofs.«01_k».proof.Proof.PackMoves

@[expose] public section

set_option pp.deepTerms false
set_option pp.deepTerms.threshold 2

noncomputable section

namespace Cert.Proof.KI

open Cert.KernelIdeal Cert.KernelIdeal.Gen Cert.Proof.Moves

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.ValueIdx

variable {F : FTy → Type} [FloatOps F]

local notation "𝕄" => MT nD τ sig (HIx 2) (Elt F) ℕ UU ℕ

section Pair

variable (d : Dev nD) (L : grid0.Coords) (a13 a14 a15 a16 r0 r1 r2 r3 : DmaSems sig S_) (q0 q1 : PosShare TreeShare) (u : Buf (Elt F) (utLoc d)) (f0 : Buf (Elt F) (ut2Loc d))
  (O : CellTallies nD τ sig (HIx 2)) (W : Waits sig (HIx 2))

/-- What the pair loop keeps before trip `k`. -/
def PInv (k : ℕ) : sProp 𝕄 :=
  iprop(MayWaits (thr d L) none O
    ∗ InSlot (F := F) d L (k < tr (wid L)) in0 a13.sem q0 u (wid L + 32 * (2 * k)) ∗ InIdle (F := F) d L in1 a14.sem q1 u
    ∗ OutSlot (F := F) d L 0 out0 a15.sem u f0 k ∗ OutSlot (F := F) d L 1 out1 a16.sem u f0 (min k 10) ∗ OweN (F := F) (thr d L) O W)

set_option cleanup.letToHave false in
set_option maxHeartbeats 2000000 in
theorem trip1 {v4 : IVec S16 32} {cols : Fin 16 → IVec S16 32} (hc : ColsOK v4 cols) (k : Fin (k0_t1_loop L).trips) :
    PInv (F := F) d L a13 a14 a15 a16 q0 q1 u f0 O W k.val
      ⊢ wp frame (wpE (defs₀ (F := F)) 𝒱₀ (thr d L) none) Set.univ
          (k0_t1_body (F := F) L utM (Memref.isWhole_whole _) tailM (Memref.isWhole_whole _) cpadM (Memref.isWhole_whole _) ut2M (Memref.isWhole_whole _) ct2M (Memref.isWhole_whole _) in0 (Memref.isWhole_whole _) in1 (Memref.isWhole_whole _) out0 (Memref.isWhole_whole _) out1 (Memref.isWhole_whole _) tin (Memref.isWhole_whole _) tout (Memref.isWhole_whole _) a13 a14 a15 a16 r0 r1 r2 r3 v4 (cols 0) (cols 1) (cols 2) (cols 3) (cols 4) (cols 5) (cols 6) (cols 7) (cols 8) (cols 9) (cols 10) (cols 11) (cols 12) (cols 13) (cols 14) (cols 15) k ())
          fun _ => PInv (F := F) d L a13 a14 a15 a16 q0 q1 u f0 O W (k.val + 1) := by
  have hk := t1_lt L k
  have hk11 := t1_lt11 L k
  have hw := wid_lt L
  have hnt : 2 * k.val + 2 < nm (wid L) ↔ k.val + 1 < tr (wid L) := by unfold nm tr; split <;> omega
  have hke : 2 * k.val < nm (wid L) := by unfold tr at hk; unfold nm; split at hk <;> split <;> omega
  have hwid : wid L = 2 * (L 1).val + (L 0).val := rfl
  have hne : wid L + 32 * (2 * k.val + 0) < 651 := by unfold nm at hke; split at hke <;> omega
  have hno : 2 * k.val + 1 < nm (wid L) → k.val < 10 ∧ wid L + 32 * (2 * k.val + 1) < 651 := by unfold nm; split <;> omega
  have hno' : ¬ 2 * k.val + 1 < nm (wid L) → k.val = 10 := by unfold nm; split <;> omega
  unfold k0_t1_body
  simp only [Prog.lift, Prog.bind_op, Prog.bind_ret, Prog.pure_eq_ret, Prog.bind_assoc]
  unfold PInv
  iintro ⟨#Hmw, Hi0, Hi1, Ho0, Ho1, HO⟩
  -- the odd block starts coming in
  iapply (wp_ifFire (F := F) d L (b := in1) (Memref.isWhole_whole _) (by decide) (2 * k.val + 1 < nm (wid L)) (cond1_iff L k) (wid L + 32 * (2 * k.val + 1))
    ((k0_off2_eq L k).trans (by rw [hwid]; congr 2; omega))) $$ Hi1
  iintro Hi1
  -- the even block arrives
  rw [dif_pos ((cond2_iff L k).2 hke)]
  ihave Hi0 := (Entails.of_eq (inSlot_pos (F := F) d L hk)) $$ Hi0
  iapply (wp_waitIn (F := F) d L) $$ [Hi0 HO]
  · isplitr; · iexact Hmw
    isplitl [Hi0]; · iexact Hi0
    iexact HO
  iintro ⟨⟨%fs, %hB, Hb0⟩, Hu0, Hs0, HO⟩
  iapply (wp_ifDrain (F := F) d L (cond3_iff k.val hk11)) $$ [Ho0 HO]
  · isplitr; · iexact Hmw
    isplitl [Ho0]; · iexact Ho0
    iexact HO
  unfold OutIdle
  iintro ⟨⟨Ht0, Hd0, Hf0, Hq0⟩, HO⟩
  iapply (wp_groups2 (F := F) d L a13 a14 a15 a16 r0 r1 r2 r3 hc k ((cond2_iff L k).2 hke) fs) $$ [Hb0 Hf0]
  · isplitl [Hb0]; · iexact Hb0
    iexact Hf0
  iintro ⟨Hb0, Hf0⟩
  iapply (wp_send (F := F) d L (b := out0) (Memref.isWhole_whole _) 0 k.val (by decide) hne hk11 hB
    ((k0_off19_eq L k).trans (by rw [hwid]; congr 1; omega))) $$ [Hf0 Ht0 Hd0 Hq0]
  · isplitl [Hf0]; · iexact Hf0
    isplitl [Ht0]; · iexact Ht0
    isplitl [Hd0]; · iexact Hd0
    iexact Hq0
  iintro Ho0
  -- the next even block starts coming in
  iapply (wp_ifFire (F := F) d L (b := in0) (q := q0) (u := u) (Memref.isWhole_whole _) (by decide) (k.val + 1 < tr (wid L)) ((cond4_iff L k).trans hnt) (wid L + 32 * (2 * (k.val + 1)))
    ((k0_off20_eq L k).trans (by rw [hwid]; congr 2; omega))) $$ [Hb0 Hu0 Hs0]
  · unfold InIdle
    isplitl [Hb0]; · iexists fs; iexact Hb0
    isplitl [Hu0]; · iexact Hu0
    iexact Hs0
  iintro Hi0
  -- the odd block arrives
  by_cases h5 : 2 * k.val + 1 < nm (wid L)
  · obtain ⟨hk10, hne1⟩ := hno h5
    rw [dif_pos ((cond5_iff L k).2 h5)]
    ihave Hi1 := (Entails.of_eq (inSlot_pos (F := F) d L h5)) $$ Hi1
    iapply (wp_waitIn (F := F) d L) $$ [Hi1 HO]
    · isplitr; · iexact Hmw
      isplitl [Hi1]; · iexact Hi1
      iexact HO
    iintro ⟨⟨%fs1, %hB1, Hb1⟩, Hu1, Hs1, HO⟩
    rw [show min k.val 10 = k.val by omega, show min (k.val + 1) 10 = k.val + 1 by omega]
    iapply (wp_ifDrain (F := F) d L (cond6_iff k.val hk11)) $$ [Ho1 HO]
    · isplitr; · iexact Hmw
      isplitl [Ho1]; · iexact Ho1
      iexact HO
    unfold OutIdle
    iintro ⟨⟨Ht1, Hd1, Hf1, Hq1⟩, HO⟩
    iapply (wp_groups3 (F := F) d L a13 a14 a15 a16 r0 r1 r2 r3 hc k ((cond5_iff L k).2 h5) fs1) $$ [Hb1 Hf1]
    · isplitl [Hb1]; · iexact Hb1
      iexact Hf1
    iintro ⟨Hb1, Hf1⟩
    iapply (wp_send (F := F) d L (b := out1) (Memref.isWhole_whole _) 1 k.val (by decide) hne1 hk11 hB1
      ((k0_off37_eq L k).trans (by rw [hwid]; congr 1; omega))) $$ [Hf1 Ht1 Hd1 Hq1]
    · isplitl [Hf1]; · iexact Hf1
      isplitl [Ht1]; · iexact Ht1
      isplitl [Hd1]; · iexact Hd1
      iexact Hq1
    iintro Ho1
    rw [wp_ret]
    imodintro
    isplitr; · iexact Hmw
    isplitl [Hi0]; · iexact Hi0
    isplitl [Hb1 Hu1 Hs1]
    · unfold InIdle
      isplitl [Hb1]; · iexists fs1; iexact Hb1
      isplitl [Hu1]; · iexact Hu1
      iexact Hs1
    isplitl [Ho0]; · iexact Ho0
    isplitl [Ho1]; · iexact Ho1
    iexact HO
  · rw [dif_neg (fun h => h5 ((cond5_iff L k).1 h)), wp_ret]
    ihave Hi1 := (Entails.of_eq (inSlot_neg (F := F) d L h5)) $$ Hi1
    have hk10 := hno' h5
    rw [show min (k.val + 1) 10 = min k.val 10 by omega]
    imodintro
    isplitr; · iexact Hmw
    isplitl [Hi0]; · iexact Hi0
    isplitl [Hi1]; · iexact Hi1
    isplitl [Ho0]; · iexact Ho0
    isplitl [Ho1]; · iexact Ho1
    iexact HO

end Pair

end Cert.Proof.KI
-- ==== Proof.Take.lean ====
/-
  A tile's own buffers and semaphores, a few named ones taken out of the rest.
-/
module

public import proofs.«01_k».proof.Proof.Setup

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-- Elements of a set, listed, taken out of a separating conjunction over it. -/
theorem bigSep_take {ι : Type} [DecidableEq ι] (Φ : ι → sProp 𝕄) : ∀ (l : List ι) (S : Finset ι), l.Nodup → (∀ x ∈ l, x ∈ S) →
    bigSep S Φ = l.foldr (fun x r => iprop(Φ x ∗ r)) (bigSep (S \ l.toFinset) Φ)
  | [], S, _, _ => by simp
  | x :: l, S, hn, hm => by
    have hx := List.nodup_cons.mp hn
    rw [SparseCore.bigSep_erase' (hm x List.mem_cons_self),
      bigSep_take Φ l (S.erase x) hx.2 (fun y hy => Finset.mem_erase.mpr ⟨fun e => hx.1 (e ▸ hy), hm y (List.mem_cons_of_mem _ hy)⟩)]
    rw [List.foldr_cons, show S.erase x \ l.toFinset = S \ (x :: l).toFinset by
      ext y; simp only [Finset.mem_sdiff, Finset.mem_erase, List.toFinset_cons, Finset.mem_insert]; tauto]

/-- The transfer semaphores `l`, out of the tile's own. -/
theorem ownSems0_take (d : Dev nD) (L : grid0.Coords) (l : List (DmaSem sig)) (hn : l.Nodup) (hs : ∀ s ∈ l, (SemLoc.dma s : SemLoc sig).isScoped .scVector = true) :
    (ownSems0 (thr d L) : sProp 𝕄)
      = l.foldr (fun s r => iprop(semVal (thr d L, .dma s) 0 ∗ r))
          (bigSep (ownCells (thr d L) \ (l.map fun s => ((thr d L, .dma s) : GSem nD τ sig)).toFinset) fun g => semVal g 0) := by
  unfold SparseCore.Cfg.ownSems0
  rw [bigSep_take _ (l.map fun s => ((thr d L, .dma s) : GSem nD τ sig)) _
    (hn.map fun a b h => by simpa using h)
    (fun x hx => by obtain ⟨s, hs', rfl⟩ := List.mem_map.mp hx; exact mem_ownCells.mpr ⟨rfl, hs s hs'⟩), List.foldr_map]

/-- The buffers `l`, out of the tile's own. -/
theorem ownBufs_take (d : Dev nD) (L : grid0.Coords) (l : List (Ref sig .scVector)) (hn : l.Nodup)
    (hs : ∀ b ∈ l, ((Proc.scVector (cV L) (jV L)).devRef b).owner = .proc (.scVector (cV L) (jV L))) :
    (ownBufs (thr d L) : sProp 𝕄)
      = l.foldr (fun b r => iprop((∃ f, (thr d L).loc b ↦{fullShare} f) ∗ r))
          (bigSep (ownRefs (τ := τ) (.scVector (cV L) (jV L)) \ (l.map fun b => (Proc.scVector (cV L) (jV L)).devRef b).toFinset)
            fun b => iprop(∃ f, ((d, b) : Loc nD τ sig) ↦{fullShare} f)) := by
  unfold SparseCore.Cfg.ownBufs
  refine (bigSep_take _ (l.map fun b => (Proc.scVector (cV L) (jV L)).devRef b) _
    (hn.map fun a b h => Proc.devRef_injective _ h)
    (fun x hx => by obtain ⟨s, hs', rfl⟩ := List.mem_map.mp hx; exact SparseCore.Cfg.mem_ownRefs_of_owner (hs s hs'))).trans ?_
  rw [List.foldr_map]

end Cert.Proof.KI
-- ==== Proof.Copy.lean ====
/-
  A transfer and the wait that follows it at once.
-/
module

public import proofs.«01_k».proof.Proof.PackSlots
public import proofs.«01_k».proof.Proof.Take

@[expose] public section

noncomputable section

namespace Cert.Proof.KI

open Cert.KernelIdeal Cert.KernelIdeal.Gen Cert.Proof.Moves

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.ValueIdx

variable {F : FTy → Type} [FloatOps F]

local notation "𝕄" => MT nD τ sig (HIx 2) (Elt F) ℕ UU ℕ

/-- A transfer within the tile's memories followed by its wait: the destination is written with what the source holds. -/
theorem wp_copyN {c : Thread nD τ} {Λ : Labels} {defs : Defs nD τ sig (Elt F) Λ} {𝒱' : Variants} {bd : Option 𝒱'.V} {α : Type} {Q : α → sProp 𝕄}
    {sp sp' sp1 sp2 : Space} {κ2 : Kind} {s s1 s2 : Shape} {e e1 e2 : EltTy} {src : Memref sig c.2.kind sp s e} {dst : Memref sig c.2.kind sp' s e} {sem : DmaSem sig}
    {hsrc : src.view.WordExact} {hdst : dst.view.WordExact} {hsem : (DmaTarget.here dst : DmaTarget nD τ sig c.2 sp' s e).Typed sp (.dma sem)}
    {srcw : Memref sig c.2.kind sp1 s1 e1} {dstw : Memref sig κ2 sp2 s2 e2} {hsrcw : srcw.view.WordExact} {hdstw : dstw.view.WordExact}
    {k : PUnit → Prog (TpuEff nD τ sig (Elt F) Λ c.2) α} (N : ℕ) (hN : dst.view.dmaCredit = N) (hNw : dstw.view.dmaCredit = N) (hN0 : 0 < N)
    {q : PosShare TreeShare} {Ss : Finset (Idx (src.view.loc c))} (hSs : src.view.set ⊆ Ss) {fs : Buf (Elt F) (src.view.loc c)}
    {Sd : Finset (Idx (dst.view.loc c))} (hSd : dst.view.set ⊆ Sd) {fd : Buf (Elt F) (dst.view.loc c)}
    {O : CellTallies nD τ sig (HIx 2)} {W : Waits sig (HIx 2)} :
    iprop(MayWaits c none O ∗ (src.view.loc c ↦[Ss]{q} fs) ∗ (dst.view.loc c ↦[Sd]{fullShare} fd) ∗ semVal (c, .dma sem) 0 ∗ OweN (F := F) c O W)
      ⊢ iprop((iprop((src.view.loc c ↦[Ss]{q} fs) ∗ (dst.view.loc c ↦[Sd]{fullShare} dst.view.write (Elt F) fd (src.view.read (Elt F) fs) Finset.univ)
            ∗ semVal (c, .dma sem) 0 ∗ OweN (F := F) c O W) -∗ wp frame (wpE defs 𝒱' c bd) Set.univ (k ⟨⟩) Q)
          -∗ wp frame (wpE defs 𝒱' c bd) Set.univ
            (.op (.enqueueDma src (.here dst) (.dma sem) hsrc hdst hsem) fun _ => .op (.waitDma2 sem srcw dstw hsrcw hdstw) k) Q) := by
  iintro ⟨#Hmw, Hs, Hd, Hv, HO⟩ Hk
  ihave Hss := (pointsTo_split_subset (q := q) (f := fs) hSs).1 $$ Hs
  icases Hss with ⟨Hss, Hsr⟩
  iapply (wp_dmaLocal EC 𝒱' c bd (src := src) (dst := dst) (sm := .dma sem) (via := .same) none N hN hN0 hSd) $$ [Hss Hd Hv]
  · isplitl [Hss]; · iexact Hss
    isplitl [Hd]; · iexact Hd
    iexact Hv
  iintro Hfl
  iapply (wp_waitN hNw) $$ [Hfl HO]
  · isplitr; · iexact Hmw
    isplitl [Hfl]; · iexact Hfl
    iexact HO
  iintro ⟨⟨Hd, Hss⟩, Hv, HO⟩
  iapply Hk
  isplitl [Hss Hsr]
  · iapply (pointsTo_split_subset (q := q) (f := fs) hSs).2
    isplitl [Hss] <;> iassumption
  isplitl [Hd]; · iexact Hd
  isplitl [Hv]; · iexact Hv
  iexact HO

end Cert.Proof.KI
-- ==== Proof.PackEnds.lean ====
/-
  A tile's run of the packing kernel: the pair loop over its blocks, then, on the first tile, the last columns of the user
  table, and, on the last tile, the category table.
-/
module

public import proofs.«01_k».proof.Proof.PackPair
public import proofs.«01_k».proof.Proof.Copy

@[expose] public section

noncomputable section

namespace Cert.Proof.KI

open Cert.KernelIdeal Cert.KernelIdeal.Gen Cert.Proof.Moves

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.ValueIdx

variable {F : FTy → Type} [FloatOps F]

local notation "𝕄" => MT nD τ sig (HIx 2) (Elt F) ℕ UU ℕ

/-- The lanes' numbers. -/
abbrev lanes : IVec S16 32 := iota .scVector S16 32 [0] iota_S16_d0_w32_scVector

theorem lanes_apply (l : Fin 16) : lanes (ix1 l) = BitVec.ofNat 32 l.val := by
  show BitVec.ofNat 32 (0 * 16 + l.val) = _; rw [Nat.zero_mul, Nat.zero_add]

/-- The sixteen lane vectors of the scatters' columns, as the kernel computes them. -/
abbrev packCols : Fin 16 → IVec S16 32 :=
  ![k0_pay104, k0_pay105, k0_pay106, k0_pay107, k0_pay108, (k0_pay110 k0_pay109), (k0_pay111 lanes), (k0_pay112 lanes), (k0_pay113 lanes), (k0_pay114 lanes), (k0_pay115 lanes), (k0_pay116 lanes), (k0_pay118 (k0_pay117 lanes)), (k0_pay119 lanes), (k0_pay120 lanes), (k0_pay121 lanes)]

theorem packCols_ok : ColsOK k0_pay103 packCols := by
  refine ⟨?_, ?_⟩
  · have key : ∀ l : Fin 16, (IntOp.shrui .vector (BitVec.ofNat 32 l.val) 3#32).toNat = l.val / 8 := by decide +kernel
    intro l
    rw [← key l, ← lanes_apply l]
    rfl
  · have key : ∀ (a l : Fin 16), ((BitVec.ofNat 32 l.val &&& 7#32) * 16#32 + BitVec.ofNat 32 a.val).toNat = (l.val % 8) * 16 + a.val := by decide +kernel
    have hp : ∀ a : Fin 16, packCols a = fun x => (lanes x &&& 7#32) * 16#32 + BitVec.ofNat 32 a.val := by
      intro a; fin_cases a <;> rfl
    intro a l
    rw [hp, ← key a l, ← lanes_apply l]

section Body

variable (d : Dev nD) (L : grid0.Coords) (a13 a14 a15 a16 r0 r1 r2 r3 : DmaSems sig S_) (q0 q1 : PosShare TreeShare) (u : Buf (Elt F) (utLoc d)) (f0 : Buf (Elt F) (ut2Loc d))
  (tl : Buf (Elt F) (tailLoc d)) (cp : Buf (Elt F) (cpadLoc d)) (c0 : Buf (Elt F) (ct2Loc d))
  (O : CellTallies nD τ sig (HIx 2)) (W : Waits sig (HIx 2))

/-- The rows of the packed table the last columns go to: the first tile's. -/
abbrev tailW (w : ℕ) : Finset S125000x128.Idx := if w = 0 then tailCells else ∅

/-- The last columns of the transposed table, held by the first tile. -/
def TailRes (w : ℕ) : sProp 𝕄 := if w = 0 then tailLoc d ↦{fullShare} tl else iprop(emp)
/-- The category table and its packed copy, held by the last tile. -/
def CatRes (w : ℕ) : sProp 𝕄 := if w = 31 then iprop((cpadLoc d ↦{fullShare} cp) ∗ ct2Loc d ↦{fullShare} c0) else iprop(emp)

variable {tl u} in
set_option maxHeartbeats 4000000 in
theorem wp_ifTail (htl : ∀ (x : S16x64.Idx) (y : S16x1000000.Idx), (y 0).val = (x 0).val → (y 1).val = 999936 + (x 1).val → tl x = u y)
    {v4 : IVec S16 32} {cols : Fin 16 → IVec S16 32} (hc : ColsOK v4 cols) {α : Type} {Q : α → sProp 𝕄}
    {h1 : tailM.view.WordExact} {h2 : tin.view.WordExact} {h3} {h4 : tailM.view.WordExact} {h5 : tin.view.WordExact} {h6 : tout.view.WordExact} {h7} {h8} {h9 : tout.view.WordExact} {h10}
    {K : Prog (TpuEff nD τ sig (Elt F) Λ₀ (thr d L).2) α} :
    iprop(MayWaits (thr d L) none O ∗ TailRes (F := F) d tl (wid L) ∗ (ut2Loc d ↦[tailW (wid L)]{fullShare} f0)
        ∗ (∃ fd, tin.view.loc (thr d L) ↦{fullShare} fd) ∗ (∃ fd, tout.view.loc (thr d L) ↦{fullShare} fd)
        ∗ semVal (thr d L, .dma r0.sem) 0 ∗ semVal (thr d L, .dma r1.sem) 0 ∗ OweN (F := F) (thr d L) O W)
      ⊢ iprop((iprop(TailRes (F := F) d tl (wid L) ∗ (ut2Loc d ↦[tailW (wid L)]{fullShare} (packU u : Buf (Elt F) (ut2Loc d)))
          ∗ (∃ fd, tin.view.loc (thr d L) ↦{fullShare} fd) ∗ (∃ fd, tout.view.loc (thr d L) ↦{fullShare} fd)
          ∗ semVal (thr d L, .dma r0.sem) 0 ∗ semVal (thr d L, .dma r1.sem) 0 ∗ OweN (F := F) (thr d L) O W)
            -∗ wp frame (wpE (defs₀ (F := F)) 𝒱₀ (thr d L) none) Set.univ K Q)
        -∗ wp frame (wpE (defs₀ (F := F)) 𝒱₀ (thr d L) none) Set.univ
          (dite (k0_cond13 L = 1#1) (fun h =>
            .op (.enqueueDma tailM (.here tin) (.dma r0.sem) h1 h2 h3) fun _ => .op (.waitDma2 r0.sem tailM tin h4 h5) fun _ =>
            Scf.Loop.for k0_t7_loop (k0_t7_ok L h) ⟨⟩
              (k0_t7_body (F := F) L utM (Memref.isWhole_whole _) tailM (Memref.isWhole_whole _) cpadM (Memref.isWhole_whole _) ut2M (Memref.isWhole_whole _) ct2M (Memref.isWhole_whole _) in0 (Memref.isWhole_whole _) in1 (Memref.isWhole_whole _) out0 (Memref.isWhole_whole _) out1 (Memref.isWhole_whole _) tin (Memref.isWhole_whole _) tout (Memref.isWhole_whole _) a13 a14 a15 a16 r0 r1 r2 r3 v4 (cols 0) (cols 1) (cols 2) (cols 3) (cols 4) (cols 5) (cols 6) (cols 7) (cols 8) (cols 9) (cols 10) (cols 11) (cols 12) (cols 13) (cols 14) (cols 15) h) >>= fun _ =>
            .op (.enqueueDma tout (.here (ut2M.slice (Rect.unit (s := S125000x128) ![124992, 0] S8x128.size inb_S125000x128_S8x128_124992_0) (fun _ => rfl))) (.dma r1.sem) h6 h7 h8) fun _ =>
            .op (.waitDma2 r1.sem tout (ut2M.slice (Rect.unit (s := S125000x128) ![124992, 0] S8x128.size inb_S125000x128_S8x128_124992_0) (fun _ => rfl)) h9 h10) fun _ => K)
          (fun _ => K)) Q) := by
  by_cases hw : wid L = 0
  · rw [dif_pos ((cond13_iff L).2 hw)]
    unfold TailRes tailW
    rw [if_pos hw, if_pos hw]
    iintro ⟨#Hmw, Ht, Hu, ⟨%fi, Hi⟩, ⟨%fo, Ho⟩, Hr0, Hr1, HO⟩ Hk
    iapply (wp_copyN (c := thr d L) (src := tailM) (dst := tin) (tin.view.dmaCredit) rfl rfl (by decide) (Finset.subset_univ _) (Finset.subset_univ _)) $$ [Ht Hi Hr0 HO]
    · isplitr; · iexact Hmw
      isplitl [Ht]; · iexact Ht
      isplitl [Hi]; · iexact Hi
      isplitl [Hr0]; · iexact Hr0
      iexact HO
    iintro ⟨Ht, Hi, Hr0, HO⟩
    iapply (wp_groups7 (F := F) d L a13 a14 a15 a16 r0 r1 r2 r3 hc ((cond13_iff L).2 hw) _) $$ [Hi Ho]
    · isplitl [Hi]; · iexact Hi
      iexists fo; iexact Ho
    iintro ⟨Hi, %fd, %hM, Ho⟩
    iapply (wp_copyN (c := thr d L) (src := tout) (dst := ut2M.slice (Rect.unit (s := S125000x128) ![124992, 0] S8x128.size inb_S125000x128_S8x128_124992_0) (fun _ => rfl))
      ((ut2M.slice (Rect.unit (s := S125000x128) ![124992, 0] S8x128.size inb_S125000x128_S8x128_124992_0) (fun _ => rfl)).view.dmaCredit) rfl rfl (by decide)
      (Finset.subset_univ _) (Finset.Subset.refl _) (fd := f0)) $$ [Ho Hu Hr1 HO]
    · isplitr; · iexact Hmw
      isplitl [Ho]; · iexact Ho
      isplitl [Hu]; · rw [set_tail]; iexact Hu
      isplitl [Hr1]; · iexact Hr1
      iexact HO
    iintro ⟨Ho, Hu, Hr1, HO⟩
    iapply Hk
    isplitl [Ht]; · iexact Ht
    isplitl [Hu]
    · rw [← set_tail]
      iapply (Entails.of_eq (pointsTo_congr ?_)) $$ Hu
      intro i hi
      obtain ⟨x, rfl⟩ : ∃ x, i = (ut2M.slice (Rect.unit (s := S125000x128) ![124992, 0] S8x128.size inb_S125000x128_S8x128_124992_0) (fun _ => rfl)).view.emb x := by
        obtain ⟨x, -, hx⟩ := Finset.mem_map.mp hi
        exact ⟨x, hx.symm⟩
      rw [View.write_emb_of_mem _ _ (Finset.mem_univ x), cast_eq]
      have hx0 : (x 0).val < 8 := (x 0).isLt
      have hx1 : (x 1).val < 128 := (x 1).isLt
      rw [hM x (ix2 ⟨(x 1).val % 16, by omega⟩ ⟨8 * (x 0).val + (x 1).val / 16, by omega⟩) rfl rfl (.inl (by omega))]
      rw [View.read_write_univ]
      refine htl _ _ ?_ ?_
      · show ((Rect.unit (s := S125000x128) ![124992, 0] S8x128.size inb_S125000x128_S8x128_124992_0).emb x 1).val % 16 = _
        rw [emb_unit]; show (0 + (x 1).val) % 16 = (x 1).val % 16; rw [Nat.zero_add]
      · show 8 * ((Rect.unit (s := S125000x128) ![124992, 0] S8x128.size inb_S125000x128_S8x128_124992_0).emb x 0).val
          + ((Rect.unit (s := S125000x128) ![124992, 0] S8x128.size inb_S125000x128_S8x128_124992_0).emb x 1).val / 16 = _
        rw [emb_unit, emb_unit]; show 8 * (124992 + (x 0).val) + (0 + (x 1).val) / 16 = 999936 + (8 * (x 0).val + (x 1).val / 16); omega
    isplitl [Hi]; · iexists _; iexact Hi
    isplitl [Ho]; · iexists _; iexact Ho
    isplitl [Hr0]; · iexact Hr0
    isplitl [Hr1]; · iexact Hr1
    iexact HO
  · rw [dif_neg (fun h => hw ((cond13_iff L).1 h))]
    unfold tailW
    rw [if_neg hw, pointsTo_congr (g := (packU u : Buf (Elt F) (ut2Loc d))) (fun i hi => absurd hi (Finset.notMem_empty i))]
    iintro ⟨-, H⟩ Hk
    iapply Hk
    iexact H

set_option maxHeartbeats 4000000 in
theorem wp_ifCat
    {v4 : IVec S16 32} {cols : Fin 16 → IVec S16 32} (hc : ColsOK v4 cols) {α : Type} {Q : α → sProp 𝕄}
    {h1 : cpadM.view.WordExact} {h2} {h3} {h4 : cpadM.view.WordExact} {h5} {h6} {h7 : ct2M.view.WordExact} {h8} {h9} {h10 : ct2M.view.WordExact}
    {K : Prog (TpuEff nD τ sig (Elt F) Λ₀ (thr d L).2) α} :
    iprop(MayWaits (thr d L) none O ∗ CatRes (F := F) d cp c0 (wid L)
        ∗ (∃ fd, in0.view.loc (thr d L) ↦{fullShare} fd) ∗ (∃ fd, out0.view.loc (thr d L) ↦{fullShare} fd)
        ∗ semVal (thr d L, .dma r2.sem) 0 ∗ semVal (thr d L, .dma r3.sem) 0 ∗ OweN (F := F) (thr d L) O W)
      ⊢ iprop((iprop(CatRes (F := F) d cp (packC cp : Buf (Elt F) (ct2Loc d)) (wid L)
          ∗ (∃ fd, in0.view.loc (thr d L) ↦{fullShare} fd) ∗ (∃ fd, out0.view.loc (thr d L) ↦{fullShare} fd)
          ∗ semVal (thr d L, .dma r2.sem) 0 ∗ semVal (thr d L, .dma r3.sem) 0 ∗ OweN (F := F) (thr d L) O W)
            -∗ wp frame (wpE (defs₀ (F := F)) 𝒱₀ (thr d L) none) Set.univ K Q)
        -∗ wp frame (wpE (defs₀ (F := F)) 𝒱₀ (thr d L) none) Set.univ
          (dite (k0_cond14 L = 1#1) (fun h =>
            .op (.enqueueDma cpadM (.here (in0.slice (Rect.unit (s := S16x1536) ![0, 0] S16x1024.size inb_S16x1536_S16x1024_0_0) (fun _ => rfl))) (.dma r2.sem) h1 h2 h3) fun _ =>
            .op (.waitDma2 r2.sem cpadM (in0.slice (Rect.unit (s := S16x1536) ![0, 0] S16x1024.size inb_S16x1536_S16x1024_0_0) (fun _ => rfl)) h4 h5) fun _ =>
            Scf.Loop.for k0_t8_loop (k0_t8_ok L h) ⟨⟩
              (k0_t8_body (F := F) L utM (Memref.isWhole_whole _) tailM (Memref.isWhole_whole _) cpadM (Memref.isWhole_whole _) ut2M (Memref.isWhole_whole _) ct2M (Memref.isWhole_whole _) in0 (Memref.isWhole_whole _) in1 (Memref.isWhole_whole _) out0 (Memref.isWhole_whole _) out1 (Memref.isWhole_whole _) tin (Memref.isWhole_whole _) tout (Memref.isWhole_whole _) a13 a14 a15 a16 r0 r1 r2 r3 v4 (cols 0) (cols 1) (cols 2) (cols 3) (cols 4) (cols 5) (cols 6) (cols 7) (cols 8) (cols 9) (cols 10) (cols 11) (cols 12) (cols 13) (cols 14) (cols 15) h) >>= fun _ =>
            .op (.enqueueDma (out0.slice (Rect.unit (s := S192x128) ![0, 0] S128x128.size inb_S192x128_S128x128_0_0) (fun _ => rfl)) (.here ct2M) (.dma r3.sem) h6 h7 h8) fun _ =>
            .op (.waitDma2 r3.sem (out0.slice (Rect.unit (s := S192x128) ![0, 0] S128x128.size inb_S192x128_S128x128_0_0) (fun _ => rfl)) ct2M h9 h10) fun _ => K)
          (fun _ => K)) Q) := by
  by_cases hw : wid L = 31
  · rw [dif_pos ((cond14_iff L).2 hw)]
    unfold CatRes
    rw [if_pos hw, if_pos hw]
    iintro ⟨#Hmw, ⟨Ht, Hu⟩, ⟨%fi, Hi⟩, ⟨%fo, Ho⟩, Hr0, Hr1, HO⟩ Hk
    iapply (wp_copyN (c := thr d L) (src := cpadM) (dst := in0.slice (Rect.unit (s := S16x1536) ![0, 0] S16x1024.size inb_S16x1536_S16x1024_0_0) (fun _ => rfl))
      ((in0.slice (Rect.unit (s := S16x1536) ![0, 0] S16x1024.size inb_S16x1536_S16x1024_0_0) (fun _ => rfl)).view.dmaCredit) rfl rfl (by decide)
      (Finset.subset_univ _) (Finset.subset_univ _)) $$ [Ht Hi Hr0 HO]
    · isplitr; · iexact Hmw
      isplitl [Ht]; · iexact Ht
      isplitl [Hi]; · iexact Hi
      isplitl [Hr0]; · iexact Hr0
      iexact HO
    iintro ⟨Ht, Hi, Hr0, HO⟩
    iapply (wp_groups8 (F := F) d L a13 a14 a15 a16 r0 r1 r2 r3 hc ((cond14_iff L).2 hw) _) $$ [Hi Ho]
    · isplitl [Hi]; · iexact Hi
      iexists fo; iexact Ho
    iintro ⟨Hi, %fd, %hM, Ho⟩
    iapply (wp_copyN (c := thr d L) (src := out0.slice (Rect.unit (s := S192x128) ![0, 0] S128x128.size inb_S192x128_S128x128_0_0) (fun _ => rfl)) (dst := ct2M)
      (ct2M.view.dmaCredit) rfl rfl (by decide) (Finset.subset_univ _) (Finset.subset_univ _) (fd := c0)) $$ [Ho Hu Hr1 HO]
    · isplitr; · iexact Hmw
      isplitl [Ho]; · iexact Ho
      isplitl [Hu]; · iexact Hu
      isplitl [Hr1]; · iexact Hr1
      iexact HO
    iintro ⟨Ho, Hu, Hr1, HO⟩
    iapply Hk
    isplitl [Ht Hu]
    · isplitl [Ht]; · iexact Ht
      iapply (Entails.of_eq (pointsTo_congr ?_)) $$ Hu
      intro x _
      rw [show x = ct2M.view.emb x from rfl, View.write_emb_of_mem _ _ (Finset.mem_univ x), cast_eq, View.read_apply, cast_eq]
      have hx0 : (x 0).val < 128 := (x 0).isLt
      have hx1 : (x 1).val < 128 := (x 1).isLt
      have e0 : ((Rect.unit (s := S192x128) ![0, 0] S128x128.size inb_S192x128_S128x128_0_0).emb x 0).val = (x 0).val := by
        rw [emb_unit]; exact Nat.zero_add _
      have e1 : ((Rect.unit (s := S192x128) ![0, 0] S128x128.size inb_S192x128_S128x128_0_0).emb x 1).val = (x 1).val := by
        rw [emb_unit]; exact Nat.zero_add _
      let y : S16x1024.Idx := ix2 ⟨(x 1).val % 16, by omega⟩ ⟨8 * (x 0).val + (x 1).val / 16, by omega⟩
      have hy := hM ((Rect.unit (s := S192x128) ![0, 0] S128x128.size inb_S192x128_S128x128_0_0).emb x)
        ((Rect.unit (s := S16x1536) ![0, 0] S16x1024.size inb_S16x1536_S16x1024_0_0).emb y)
        (by rw [emb_unit, e1]; exact Nat.zero_add _) (by rw [emb_unit, e0, e1]; exact Nat.zero_add _) (.inl (by rw [e0]; omega))
      rw [View.read_apply, cast_eq, View.read_apply, cast_eq] at hy
      have hz := View.write_emb_of_mem (v := (in0.slice (Rect.unit (s := S16x1536) ![0, 0] S16x1024.size inb_S16x1536_S16x1024_0_0) (fun _ => rfl)).view) fi
        (cpadM.view.read (Elt F) cp) (Finset.mem_univ y)
      rw [cast_eq] at hz
      exact hy.trans hz
    isplitl [Hi]; · iexists _; iexact Hi
    isplitl [Ho]; · iexists _; iexact Ho
    isplitl [Hr0]; · iexact Hr0
    isplitl [Hr1]; · iexact Hr1
    iexact HO
  · rw [dif_neg (fun h => hw ((cond14_iff L).1 h))]
    unfold CatRes
    rw [if_neg hw, if_neg hw]
    iintro ⟨-, H⟩ Hk
    iapply Hk
    iexact H

end Body

end Cert.Proof.KI
-- ==== Proof.PackBody.lean ====
/-
  A tile's whole run of the packing kernel.
-/
module

public import proofs.«01_k».proof.Proof.PackEnds

@[expose] public section

noncomputable section

namespace Cert.Proof.KI

open Cert.KernelIdeal Cert.KernelIdeal.Gen Cert.Proof.Moves

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.ValueIdx

variable {F : FTy → Type} [FloatOps F]

local notation "𝕄" => MT nD τ sig (HIx 2) (Elt F) ℕ UU ℕ

section Body

variable (d : Dev nD) (L : grid0.Coords) (q0 q1 : PosShare TreeShare) (u : Buf (Elt F) (utLoc d)) (f0 : Buf (Elt F) (ut2Loc d))
  (tl : Buf (Elt F) (tailLoc d)) (cp : Buf (Elt F) (cpadLoc d)) (c0 : Buf (Elt F) (ct2Loc d))
  (O : CellTallies nD τ sig (HIx 2)) (W : Waits sig (HIx 2))

/-- What a tile is handed for the packing: read shares of the transposed table, its rows of the packed one (at `f0`), the
    first tile the last columns and the last tile the category table and its packed copy (at `c0`). -/
def PackRes (w : ℕ) : sProp 𝕄 :=
  iprop((utLoc d ↦{q0} u) ∗ (utLoc d ↦{q1} u) ∗ (ut2Loc d ↦[tileCells w]{fullShare} f0) ∗ TailRes (F := F) d tl w ∗ CatRes (F := F) d cp c0 w)

/-- A tile's rows are its blocks' of either parity, and the last ones. -/
theorem tile_rows (w : ℕ) (f : Buf (Elt F) (ut2Loc d)) :
    (ut2Loc d ↦[tileCells w]{fullShare} f : sProp 𝕄)
      ⊣⊢ iprop((ut2Loc d ↦[slotCells w 0 0 11]{fullShare} f) ∗ (ut2Loc d ↦[slotCells w 1 0 11]{fullShare} f) ∗ (ut2Loc d ↦[tailW w]{fullShare} f)) := by
  rw [tile_split]
  constructor
  · iintro H
    ihave H := (pointsTo_union (tail_disj w)).1 $$ H
    icases H with ⟨H, Ht⟩
    ihave H := (pointsTo_union (slots_disj w)).1 $$ H
    icases H with ⟨H0, H1⟩
    isplitl [H0]; · iexact H0
    isplitl [H1]; · iexact H1
    iexact Ht
  · iintro ⟨H0, H1, Ht⟩
    iapply (pointsTo_union (tail_disj w)).2
    isplitr [Ht]
    · iapply (pointsTo_union (slots_disj w)).2
      isplitl [H0] <;> iassumption
    · iexact Ht

theorem outIdle_start (p : ℕ) (b : Memref sig .scVector .vmem S192x128 .f32) (s : DmaSem sig) :
    iprop((ut2Loc d ↦[slotCells (wid L) p 0 11]{fullShare} f0) ∗ (∃ fo, b.view.loc (thr d L) ↦{fullShare} fo) ∗ semVal (thr d L, .dma s) 0)
      ⊢ (OutSlot (F := F) d L p b s u f0 0 : sProp 𝕄) := by
  unfold OutSlot OutIdle
  rw [slot_empty (wid L) p 0, pointsTo_empty]
  iintro ⟨H, Hb, Hs⟩
  isplitl [H]; · iexact H
  isplitr; · itrivial
  isplitl [Hb]; · iexact Hb
  iexact Hs

set_option cleanup.letToHave false in
set_option maxHeartbeats 4000000 in
theorem pack_body (hF : (K (F := F)).Facts) (hO : ∀ g, O g none = 0)
    (htl : ∀ (x : S16x64.Idx) (y : S16x1000000.Idx), (y 0).val = (x 0).val → (y 1).val = 999936 + (x 1).val → tl x = u y) :
    iprop(levAts (K (F := F)).L (K (F := F)).lev ∗ emp ∗ PackRes (F := F) d q0 q1 u f0 tl cp c0 (wid L)
        ∗ scopedBufs (thr d L) ∗ scopedSems0 (thr d L) ∗ owes (thr d L) O W)
      ⊢ wp frame (wpE (defs₀ (F := F)) 𝒱₀ (thr d L) none) Set.univ
          (cc0_pack_k (F := F) L utM (Memref.isWhole_whole _) tailM (Memref.isWhole_whole _) cpadM (Memref.isWhole_whole _) ut2M (Memref.isWhole_whole _) ct2M (Memref.isWhole_whole _) in0 (Memref.isWhole_whole _) in1 (Memref.isWhole_whole _) out0 (Memref.isWhole_whole _) out1 (Memref.isWhole_whole _) tin (Memref.isWhole_whole _) tout (Memref.isWhole_whole _) cc0_scratch6 cc0_scratch7 cc0_scratch8 cc0_scratch9 cc0_scoped0 cc0_scoped1 cc0_scoped2 cc0_scoped3)
          fun _ => iprop(PackRes (F := F) d q0 q1 u (packU u) tl cp (packC cp) (wid L)
            ∗ scopedBufs (thr d L) ∗ scopedSems0 (thr d L) ∗ ∃ W', ⌜∀ p ∈ W', p ∈ W ∨ p.2 = none⌝ ∗ owes (thr d L) O W') := by
  have hw := wid_lt L
  have htr : 1 ≤ tr (wid L) := by unfold tr; split <;> omega
  have hwid : wid L = 2 * (L 1).val + (L 0).val := rfl
  simp only [cc0_pack_k_eq_skeleton]; unfold cc0_pack_k_skel
  simp only [k0_part13_eq_skeleton, k0_part14_eq_skeleton, k0_part15_eq_skeleton]
  unfold k0_part13_skel k0_part14_skel k0_part15_skel
  simp only [Prog.lift, Prog.bind_op, Prog.bind_ret, Prog.pure_eq_ret, Prog.bind_assoc]
  rw [(K (F := F)).scopedBufs_V hF d (cV L) (jV L), SparseCore.Cfg.scopedSems0_V (Val := Elt F) d (cV L) (jV L),
    ownSems0_take d L [cc0_scratch6.sem, cc0_scratch7.sem, cc0_scratch8.sem, cc0_scratch9.sem, cc0_scoped0.sem, cc0_scoped1.sem, cc0_scoped2.sem, cc0_scoped3.sem] (by decide) (by decide),
    ownBufs_take d L [cc0_scratch0, cc0_scratch1, cc0_scratch2, cc0_scratch3, cc0_scratch4, cc0_scratch5] (by decide) (by intro b hb; fin_cases hb <;> rfl)]
  simp only [List.foldr]
  unfold PackRes
  iintro ⟨#Hlv, -, ⟨Hu0, Hu1, Hr, Htl, Hcp⟩, ⟨Hb0, Hb1, Ho0, Ho1, Hti, Hto, Hbufs⟩, ⟨Hs0, Hs1, Hs2, Hs3, Hr0, Hr1, Hr2, Hr3, Hsems⟩, HO⟩
  ihave Hmw := (show levAts (K (F := F)).L (K (F := F)).lev ⊢ Transfers.MayWaits (thr d L) (none : HIx 2) O from
    (K (F := F)).mayWaits_none (thr := thr d L) hO) $$ Hlv
  icases Hmw with #Hmw
  ihave Hr := (tile_rows (F := F) d (wid L) f0).1 $$ Hr
  icases Hr with ⟨Hc0, Hc1, Hct⟩
  ihave Ho0 := (outIdle_start (F := F) d L u f0 0 out0 cc0_scratch8.sem) $$ [Hc0 Ho0 Hs2]
  · isplitl [Hc0]; · iexact Hc0
    isplitl [Ho0]; · iexact Ho0
    iexact Hs2
  ihave Ho1 := (outIdle_start (F := F) d L u f0 1 out1 cc0_scratch9.sem) $$ [Hc1 Ho1 Hs3]
  · isplitl [Hc1]; · iexact Hc1
    isplitl [Ho1]; · iexact Ho1
    iexact Hs3
  -- the first block starts coming in
  iapply (wp_fireIn (F := F) d L (b := in0) (q := q0) (u := u) (Memref.isWhole_whole _) (by decide) (wid L)
    ((k0_off1_eq L).trans (by rw [hwid]; congr 2; omega))) $$ [Hb0 Hu0 Hs0]
  · isplitl [Hu0]; · iexact Hu0
    isplitl [Hb0]; · iexact Hb0
    iexact Hs0
  iintro Hi0
  -- the pair loop
  iapply (Scf.wp_for_bind frame (wpE (defs₀ (F := F)) 𝒱₀ (thr d L) none) Set.univ _ _ _ (k0_t1_ok L) _ _
    (fun k _ => PInv (F := F) d L cc0_scratch6 cc0_scratch7 cc0_scratch8 cc0_scratch9 q0 q1 u f0 O W k)
    (fun k _ => trip1 (F := F) d L cc0_scratch6 cc0_scratch7 cc0_scratch8 cc0_scratch9 cc0_scoped0 cc0_scoped1 cc0_scoped2 cc0_scoped3 q0 q1 u f0 O W packCols_ok k)) $$ [Hi0 Hb1 Hu1 Hs1 Ho0 Ho1 HO]
  · unfold PInv
    isplitr; · iexact Hmw
    isplitl [Hi0]
    · iapply (Entails.of_eq (inSlot_pos (F := F) d L (show 0 < tr (wid L) from htr)).symm) $$ Hi0
    isplitl [Hb1 Hu1 Hs1]
    · unfold InIdle
      isplitl [Hb1]; · iexact Hb1
      isplitl [Hu1]; · iexact Hu1
      iexact Hs1
    isplitl [Ho0]; · iexact Ho0
    isplitl [Ho1]; · iexact Ho1
    unfold OweN
    iexists W
    isplitr; · ipureintro; exact fun p hp => .inl hp
    iexact HO
  iintro %_ H
  -- the remainder loop has no trip
  iapply (Scf.wp_for_bind frame (wpE (defs₀ (F := F)) 𝒱₀ (thr d L) none) Set.univ _ _ _ (k0_t4_ok L) _ _
    (fun _ _ => PInv (F := F) d L cc0_scratch6 cc0_scratch7 cc0_scratch8 cc0_scratch9 q0 q1 u f0 O W (k0_t1_loop L).trips)
    (fun k _ => absurd k.isLt (fun hlt => Nat.not_lt_zero _ (lt_of_lt_of_eq hlt (trips_t4 L))))) $$ H
  iintro %_ H
  unfold PInv
  rw [trips_t1]
  icases H with ⟨-, Hi0, Hi1, Ho0, Ho1, HO⟩
  ihave Hi0 := (Entails.of_eq (inSlot_neg (F := F) d L (show ¬ tr (wid L) < tr (wid L) by omega))) $$ Hi0
  unfold InIdle
  icases Hi0 with ⟨Hb0, Hu0, Hs0⟩
  icases Hi1 with ⟨Hb1, Hu1, Hs1⟩
  rw [show min (tr (wid L)) 10 = 10 by unfold tr; split <;> omega]
  iapply (wp_drain (F := F) d L htr) $$ [Ho0 HO]
  · isplitr; · iexact Hmw
    isplitl [Ho0]; · iexact Ho0
    iexact HO
  iintro ⟨Ho0, HO⟩
  iapply (wp_drain (F := F) d L (show 1 ≤ 10 by omega)) $$ [Ho1 HO]
  · isplitr; · iexact Hmw
    isplitl [Ho1]; · iexact Ho1
    iexact HO
  iintro ⟨Ho1, HO⟩
  unfold OutIdle
  rw [slot_full0 (wid L) hw, slot_full1 (wid L) hw]
  icases Ho0 with ⟨-, Hc0, Ho0, Hs2⟩
  icases Ho1 with ⟨-, Hc1, Ho1, Hs3⟩
  -- the last columns
  iapply (wp_ifTail (F := F) d L cc0_scratch6 cc0_scratch7 cc0_scratch8 cc0_scratch9 cc0_scoped0 cc0_scoped1 cc0_scoped2 cc0_scoped3 f0 O W htl packCols_ok) $$ [Htl Hct Hti Hto Hr0 Hr1 HO]
  · isplitr; · iexact Hmw
    isplitl [Htl]; · iexact Htl
    isplitl [Hct]; · iexact Hct
    isplitl [Hti]; · iexact Hti
    isplitl [Hto]; · iexact Hto
    isplitl [Hr0]; · iexact Hr0
    isplitl [Hr1]; · iexact Hr1
    iexact HO
  iintro ⟨Htl, Hct, Hti, Hto, Hr0, Hr1, HO⟩
  -- the category table
  iapply (wp_ifCat (F := F) d L cc0_scratch6 cc0_scratch7 cc0_scratch8 cc0_scratch9 cc0_scoped0 cc0_scoped1 cc0_scoped2 cc0_scoped3 cp c0 O W packCols_ok) $$ [Hcp Hb0 Ho0 Hr2 Hr3 HO]
  · isplitr; · iexact Hmw
    isplitl [Hcp]; · iexact Hcp
    isplitl [Hb0]; · iexact Hb0
    isplitl [Ho0]; · iexact Ho0
    isplitl [Hr2]; · iexact Hr2
    isplitl [Hr3]; · iexact Hr3
    iexact HO
  iintro ⟨Hcp, Hb0, Ho0, Hr2, Hr3, HO⟩
  rw [wp_ret]
  imodintro
  isplitl [Hu0 Hu1 Hc0 Hc1 Hct Htl Hcp]
  · isplitl [Hu0]; · iexact Hu0
    isplitl [Hu1]; · iexact Hu1
    isplitl [Hc0 Hc1 Hct]
    · iapply (tile_rows (F := F) d (wid L) (packU u)).2
      isplitl [Hc0]; · iexact Hc0
      isplitl [Hc1]; · iexact Hc1
      iexact Hct
    isplitl [Htl]; · iexact Htl
    iexact Hcp
  isplitl [Hb0 Hb1 Ho0 Ho1 Hti Hto Hbufs]
  · isplitl [Hb0]; · iexact Hb0
    isplitl [Hb1]; · iexact Hb1
    isplitl [Ho0]; · iexact Ho0
    isplitl [Ho1]; · iexact Ho1
    isplitl [Hti]; · iexact Hti
    isplitl [Hto]; · iexact Hto
    iexact Hbufs
  isplitl [Hs0 Hs1 Hs2 Hs3 Hr0 Hr1 Hr2 Hr3 Hsems]
  · isplitl [Hs0]; · iexact Hs0
    isplitl [Hs1]; · iexact Hs1
    isplitl [Hs2]; · iexact Hs2
    isplitl [Hs3]; · iexact Hs3
    isplitl [Hr0]; · iexact Hr0
    isplitl [Hr1]; · iexact Hr1
    isplitl [Hr2]; · iexact Hr2
    isplitl [Hr3]; · iexact Hr3
    iexact Hsems
  unfold OweN
  iexact HO

end Body

end Cert.Proof.KI
-- ==== Proof.UserGroups.lean ====
/-
  What one trip of the fetching kernel's extraction loops keeps, and the lane arithmetic of its indexed loads.
-/
module

public import proofs.«01_k».proof.Proof.Setup

@[expose] public section

noncomputable section

namespace Cert.Proof.KI

open Cert.KernelIdeal Cert.KernelIdeal.Gen Cert.Proof.Moves

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

/-- Word `b` of the fetched ids, kept as four rows of 128. -/
def idAt (d : Dev nD) (L : grid1.Coords) (fi : Buf (Elt F) (idxM.view.loc (thr d L))) (b : ℕ) : BitVec 32 :=
  fi (ix2 (⟨b / 128 % 4, by omega⟩ : Fin 4) (⟨b % 128, by omega⟩ : Fin 128))

/-- Where row `b`'s sixteen words start inside the fetched packed row. -/
def colOf (d : Dev nD) (L : grid1.Coords) (fi : Buf (Elt F) (idxM.view.loc (thr d L))) (b : ℕ) : ℕ := (idAt (F := F) d L fi b).toNat % 8 * 16

/-- What an extraction loop keeps: the ids, the fetched rows, and an output block whose first `g` groups of columns are picked. -/
abbrev XInv (d : Dev nD) (L : grid1.Coords) (g : ℕ) (fi : Buf (Elt F) (idxM.view.loc (thr d L))) (fs : Buf (Elt F) (rowsM.view.loc (thr d L))) : sProp 𝕄 :=
  iprop((idxM.view.loc (thr d L) ↦{fullShare} fi) ∗ (rowsM.view.loc (thr d L) ↦{fullShare} fs)
    ∗ (∃ fd, ⌜Picked (colOf (F := F) d L fi) g 0 (rowsM.view.read (Elt F) fs) (outM.view.read (Elt F) fd)⌝ ∗ outM.view.loc (thr d L) ↦{fullShare} fd))

theorem off2_eq : ∀ g : Fin k1_t1_loop.trips, k1_off2 g = ![g.val / 8, 16 * (g.val % 8)] := by decide +kernel
theorem off20_eq : ∀ g : Fin k1_t2_loop.trips, k1_off20 g = ![g.val / 8, 16 * (g.val % 8)] := by decide +kernel

/-- The sixteen ids a group loads. -/
theorem ld_ids (d : Dev nD) (L : grid1.Coords) (fi : Buf (Elt F) (idxM.view.loc (thr d L))) {off : Fin 2 → ℕ} {inb : ∀ b, off b + S1x16.size b ≤ S4x128.size b}
    (g : ℕ) (hg : g < 32) (hoff : off = ![g / 8, 16 * (g % 8)]) (l : Fin 16) :
    (idxM.access (Rect.unit (s := S4x128) off S1x16.size inb)).read (Elt F) fi (ix2 (0 : Fin 1) l) = idAt (F := F) d L fi (16 * g + l.val) := by
  subst hoff
  rw [read_access_apply]
  show fi _ = fi _
  congr 1
  funext b
  apply Fin.ext
  match b with
  | 0 => show g / 8 + 1 * 0 = (16 * g + l.val) / 128 % 4; omega
  | 1 => show 16 * (g % 8) + 1 * l.val = (16 * g + l.val) % 128; omega

/-- The lanes' first columns: sixteen times the id's place in its packed row. -/
theorem base_of {v ids : IVec S16 32} {w : BitVec 32} (hv : v = muli (andi ids (broadcast S16 7#32)) (broadcast S16 16#32)) (l : Fin 16)
    (hw : ids (ix1 l) = w) : (v (ix1 l)).toNat = w.toNat % 8 * 16 := by
  subst hv
  have e : (muli (andi ids (broadcast S16 7#32)) (broadcast S16 16#32)) (ix1 l) = (ids (ix1 l) &&& 7#32) * 16#32 := rfl
  rw [e, hw, BitVec.toNat_mul, BitVec.toNat_and]
  have h7 : w.toNat &&& (7#32).toNat = w.toNat % 8 := Nat.and_two_pow_sub_one_eq_mod w.toNat 3
  rw [h7]
  show w.toNat % 8 * 16 % 2 ^ 32 = _
  omega

theorem col_of {v cl : IVec S16 32} {w : BitVec 32} {f n : ℕ} (hcl : cl = addi v (broadcast S16 w)) (hw : w.toNat = f) (hf : f < 16) (l : Fin 16)
    (hv : (v (ix1 l)).toNat = n % 8 * 16) : (cl (ix1 l)).toNat = n % 8 * 16 + f := by
  subst hcl
  have e : (addi v (broadcast S16 w)) (ix1 l) = v (ix1 l) + w := rfl
  rw [e, BitVec.toNat_add, hv, hw]
  omega

theorem rowl_of {v3 v : IVec S16 32} {w : BitVec 32} {g : ℕ} (hg : g < 32) (hv : v = addi (broadcast S16 w) v3) (hw : w.toNat = 16 * g)
    (h3 : ∀ l : Fin 16, (v3 (ix1 l)).toNat = l.val) (l : Fin 16) : (v (ix1 l)).toNat = 16 * g + l.val := by
  subst hv
  have e : (addi (broadcast S16 w) v3) (ix1 l) = w + v3 (ix1 l) := rfl
  rw [e, BitVec.toNat_add, h3, hw]
  omega

/-- An extraction's places lie in the fetched rows. -/
theorem in_rows {v cl : IVec S16 32} {g f : ℕ} {n : Fin 16 → ℕ} (hg : g < 32) (hf : f < 16) (hv : ∀ l : Fin 16, (v (ix1 l)).toNat = 16 * g + l.val)
    (hc : ∀ l : Fin 16, (cl (ix1 l)).toNat = n l % 8 * 16 + f) (b : Fin 2) (x : S16.Idx) :
    ((![v, cl] : Fin 2 → IVec S16 32) b x).toNat < S512x128.size b := by
  obtain ⟨l, rfl⟩ : ∃ l : Fin 16, x = ix1 l := ⟨x 0, by funext b; match b with | 0 => rfl⟩
  match b with
  | 0 => show (v (ix1 l)).toNat < 512; rw [hv]; omega
  | 1 => show (cl (ix1 l)).toNat < 128; rw [hc]; omega

theorem idsOf (ld : Vec F S1x16 .i32) (l : Fin 16) : (shapeCast S16 ld shapeCasts_S1x16_S16) (ix1 l) = ld (ix2 0 l) :=
  shapeCast_1a_a_apply ..

/-- The side condition of an indexed load, of its columns as the loop's. -/
theorem in_cols (d : Dev nD) (L : grid1.Coords) (fi : Buf (Elt F) (idxM.view.loc (thr d L))) {v cl : IVec S16 32} {g f : ℕ} (hg : g < 32) (hf : f < 16)
    (hv : ∀ l : Fin 16, (v (ix1 l)).toNat = 16 * g + l.val) (hc : ∀ l : Fin 16, (cl (ix1 l)).toNat = colOf (F := F) d L fi (16 * g + l.val) + f) (b : Fin 2) (x : S16.Idx) :
    ((![v, cl] : Fin 2 → IVec S16 32) b x).toNat < S512x128.size b :=
  in_rows (n := fun l => (idAt (F := F) d L fi (16 * g + l.val)).toNat) hg hf hv hc b x

theorem rowPay (v : Vec F S16 .f32) (l : Fin 16) : (shapeCast S1x16 v shapeCasts_S16_S1x16) (ix2 0 l) = v (ix1 l) :=
  shapeCast_a_1a_apply ..

end Cert.Proof.KI
-- ==== Proof.RowBatch.lean ====
/-
  An indirect gather whose rows are part of a batch: several gathers outstanding on one semaphore.  Every row the list
  names is one transfer of the batch; the batch hands all rows back at its last wait.
-/
module

public import proofs.«01_k».proof.Proof.Setup

@[expose] public section

noncomputable section

namespace Cert.Proof.Moves

open Idealize.ShloMosaic
open Idealize.ShloMosaic.SparseCore
open Idealize.SL Idealize.SL.RA Idealize.SL.BI
open scoped Idealize.SL.BI
open Idealize.SL.BI.BIBase Idealize.SL.BI.Laws Idealize.SL.ProofMode Idealize.SL.Sem
open Idealize.ShloMosaic.Transfers

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- The transfers from the `j`-th on are the next `r` and those from the `(j + r)`-th on. -/
theorem pending_block {n j r : ℕ} (h : j + r ≤ n) (Φ : Fin n → sProp 𝕄) :
    bigSep (pending j) Φ = iprop((bigSep Finset.univ fun t : Fin r => Φ ⟨j + t.val, by omega⟩) ∗ bigSep (pending (j + r)) Φ) := by
  let g : Fin r ↪ Fin n := ⟨fun t => ⟨j + t.val, by omega⟩, fun x y hxy => by
    have := congrArg Fin.val hxy; exact Fin.ext (by simpa using this)⟩
  have hs : pending (n := n) j = Finset.univ.map g ∪ pending (j + r) := by
    ext t
    simp only [pending, Finset.mem_filter, Finset.mem_univ, true_and, Finset.mem_union, Finset.mem_map]
    constructor
    · intro ht
      by_cases h' : j + r ≤ t.val
      · exact .inr h'
      · exact .inl ⟨⟨t.val - j, by omega⟩, Fin.ext (by show j + (t.val - j) = t.val; omega)⟩
    · rintro (⟨x, rfl⟩ | h')
      · show j ≤ j + x.val; omega
      · omega
  have hd : Disjoint (Finset.univ.map g) (pending (n := n) (j + r)) := by
    refine Finset.disjoint_left.mpr fun t ht ht' => ?_
    obtain ⟨x, -, rfl⟩ := Finset.mem_map.mp ht
    have h1 : j + r ≤ j + x.val := (Finset.mem_filter.mp ht').2
    have := x.isLt
    omega
  rw [hs, BI.bigSep_union hd, BI.bigSep_map]; rfl

/-- What one row of an indirect gather hands back when it has landed: row `j` of the destination, written with the row
    of the source the list's entry `j` names; that entry's share; and the row's piece of the source's share. -/
def rowBack (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (j : Fin (s.size hg.axis')) : sProp 𝕄 :=
  iprop(((dst.view.loc c ↦[(dst.view.slice (s.rowRect hg.axis' j)).set]{fullShare}
        ((dst.view.slice (s.rowRect hg.axis' j)).write (Elt F) fd (fun i => src.view.read (Elt F) fs (hg.rowIdx (r j) i)) Finset.univ))
      ∗ (offs.view.loc c ↦[{offs.view.emb (si.rowMajor.symm (j.cast hn.symm))}]{qo} fo))
    ∗ (src.view.loc c ↦[src.view.set]{pieceOf q _ ho j} fs))

instance rowBack_storable [Infinite Name] {src : Memref sig c.2.kind sp s₀ e} {dst : Memref sig c.2.kind .vmem s e} {hg : s₀.Gathers a s}
    {offs : Memref sig c.2.kind .vmem si .i32} {hn : si.numel = s.size hg.axis'} {ho : 0 < s.size hg.axis'}
    {q qo : PosShare TreeShare} {fs : Buf (Elt F) (src.view.loc c)} {fd : Buf (Elt F) (dst.view.loc c)} {fo : Buf (Elt F) (offs.view.loc c)}
    {r : Fin (s.size hg.axis') → Fin (s₀.size hg.axis)} (j : Fin (s.size hg.axis')) :
    Storable (upEmb : UEmb _ 𝕄) (rowBack (Name := Name) (U := U) (Lvl := Lvl) (Ix := Ix) c src dst hg offs hn ho q qo fs fd fo r j) := by
  unfold rowBack; infer_instance

theorem entries_bij {o : ℕ} (hn : si.numel = o) : Function.Bijective fun j : Fin o => si.rowMajor.symm (j.cast hn.symm) :=
  si.rowMajor.symm.bijective.comp (finCongr hn.symm).bijective

/-- All rows landed are the destination written with the gather's payload, and the source's and the list's shares. -/
theorem rowBack_join {src : Memref sig c.2.kind sp s₀ e} {dst : Memref sig c.2.kind .vmem s e} {hg : s₀.Gathers a s}
    {offs : Memref sig c.2.kind .vmem si .i32} {hn : si.numel = s.size hg.axis'} {ho : 0 < s.size hg.axis'}
    {q qo : PosShare TreeShare} {fs : Buf (Elt F) (src.view.loc c)} {fd : Buf (Elt F) (dst.view.loc c)} {fo : Buf (Elt F) (offs.view.loc c)}
    {r : Fin (s.size hg.axis') → Fin (s₀.size hg.axis)} :
    (bigSep Finset.univ fun j => rowBack (Name := Name) (U := U) (Lvl := Lvl) (Ix := Ix) c src dst hg offs hn ho q qo fs fd fo r j)
      ⊢ iprop((dst.view.loc c ↦[dst.view.set]{fullShare} (dst.view.write (Elt F) fd (gatherPayload hg (src.view.read (Elt F) fs) r) Finset.univ))
          ∗ (src.view.loc c ↦[src.view.set]{q} fs) ∗ (offs.view.loc c ↦[offs.view.set]{qo} fo)) := by
  have hj : (bigSep Finset.univ fun j => dst.view.loc c ↦[(dst.view.slice (s.rowRect hg.axis' j)).set]{fullShare}
        ((dst.view.slice (s.rowRect hg.axis' j)).write (Elt F) fd (fun i => src.view.read (Elt F) fs (hg.rowIdx (r j) i)) Finset.univ) : sProp 𝕄) ⊢ _
    := pointsTo_rows_write (Ix := Ix) (Name := Name) (U := U) (Lvl := Lvl) c dst.view hg.axis' fd
    (fun j i => src.view.read (Elt F) fs (hg.rowIdx (r j) i)) (gatherPayload hg (src.view.read (Elt F) fs) r)
    (fun j i => by unfold gatherPayload; rw [Shape.Gathers.idx_rowRect_emb])
  unfold rowBack
  iintro H
  ihave H := bigSep_sep_out _ _ _ $$ H
  icases H with ⟨H, Hs⟩
  ihave H := bigSep_sep_out _ _ _ $$ H
  icases H with ⟨Hd, Ho⟩
  isplitl [Hd]
  · iapply hj $$ Hd
  isplitl [Hs]
  · iapply (Entails.of_eq (pointsTo_piecesOf (src.view.set) fs ho q).symm) $$ Hs
  · iapply (Entails.of_eq (pointsTo_entries c offs.view _ (entries_bij hn) qo fo).symm) $$ Ho

set_option maxHeartbeats 1000000 in
/-- The next gather of a batch: each of its rows is one of the batch's transfers, in order from `j₀`. -/
theorem wp_gatherRows [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n : ℕ} {D : Fin n → sProp 𝕄} {j₀ j₁ u : ℕ}
    (ι : Ix) (N : ℕ) (hN : ∀ j, (dst.slice (s.rowRect hg.axis' j) (s.stride_rowRect hg.axis' j)).view.dmaCredit = N)
    (ho : 0 < s.size hg.axis') (hin : ∀ x, (offs.view.read (Elt F) fo x).toNat < s₀.size hg.axis)
    (hj : j₁ = j₀ + s.size hg.axis') (hj₁ : j₁ ≤ n) (hu : u ≤ j₀ * N)
    (hD : ∀ j : Fin (s.size hg.axis'), rowBack (Name := Name) (U := U) (Lvl := Lvl) (Ix := Ix) c src dst hg offs hn ho q qo fs fd fo
      (rows (offs.view.read (Elt F) fo) hn hin) j ⊢ D ⟨j₀ + j.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D j₀ u)
      ⊢ iprop((Batch EC c (.dma sem) ι N D j₁ u -∗ wp frame (wpE defs 𝒱 c bd) Set.univ (k ⟨⟩) Q)
          -∗ wp frame (wpE defs 𝒱 c bd) Set.univ (enqueueIndirectGather hp src dst hg offs hn sem hsrc he hsp hr >>= k) Q) := by
  subst hj
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsum : ∑ j, (dst.slice (s.rowRect hg.axis' j) (s.stride_rowRect hg.axis' j)).view.dmaCredit = s.size hg.axis' * N := by
    rw [Finset.sum_congr rfl fun j _ => hN j, Finset.sum_const, Finset.card_univ, Fintype.card_fin, smul_eq_mul]
  unfold Batch
  iintro ⟨Hs, Hd, Ho, ⟨%γ, %γ₀, %κ, #Hinv, HI, H0, Hcr⟩⟩ Hk
  ihave HI := (Entails.of_eq (pending_block hj₁ fun t => count EC (γ t) 0)) $$ HI
  icases HI with ⟨Hγ, HI⟩
  ihave Hd := (Entails.of_eq (pointsTo_rows c dst.view hg.axis' fullShare fd)) $$ Hd
  ihave Ho := (Entails.of_eq (pointsTo_entries c offs.view S.entry (entries_bij hn) qo fo)) $$ Ho
  ihave Hs := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd Ho Hs Hγ]
  · have hrow : ∀ j : Fin (s.size hg.axis'), iprop(inv κ (batchBody EC (c, SemLoc.dma sem) N D γ γ₀)
          ∗ ((((dst.view.loc c ↦[(dst.view.slice (s.rowRect hg.axis' j)).set]{fullShare} fd) ∗ S.heldEntry qo fo j)
          ∗ (src.view.loc c ↦[src.view.set]{pieceOf q _ ho j} fs)) ∗ count EC (γ ⟨j₀ + j.val, by omega⟩) 0))
        ⊢ iprop(S.heldEntry qo fo j ∗ (S.heldEntry qo fo j -∗ rowRes c (rd j))) := fun j => by
      iintro ⟨#Hinv, ⟨⟨Hr, He⟩, Hq⟩, Hγj⟩
      isplitl [He]; · iexact He
      iintro He
      unfold rowRes
      iexists pieceOf q _ ho j, fs, iprop((dst.view.loc c ↦[(dst.view.slice (s.rowRect hg.axis' j)).set]{fullShare}
        ((dst.view.slice (s.rowRect hg.axis' j)).write (Elt F) fd (fun i => src.view.read (Elt F) fs (hg.rowIdx (r j) i)) Finset.univ)) ∗ S.heldEntry qo fo j)
      isplitl [Hq]; · iexact Hq
      isplitl [Hr He]
      · iapply writeUpdate_frame
        isplitl [Hr]
        · iapply (pointsTo_writeUpdate c (v := dst.view.slice (s.rowRect hg.axis' j)) subset_rfl) $$ Hr
        · iexact He
      · have hc := batch_creditUpdate EC (g := (c, SemLoc.dma sem)) (γ := γ) (γ₀ := γ₀) (ι := κ) (N := N) ⟨j₀ + j.val, by omega⟩ (hD j)
        rw [← hN j] at hc ⊢
        iapply hc
        isplitr; · iexact Hinv
        iexact Hγj
    unfold Stream.res
    ihave H := bigSep_sep_in _ _ _ $$ [Hd Ho]; · isplitl [Hd] <;> iassumption
    ihave H := bigSep_sep_in _ _ _ $$ [H Hs]; · isplitl [H] <;> iassumption
    ihave H := bigSep_sep_in _ _ _ $$ [H Hγ]; · isplitl [H] <;> iassumption
    iapply (bigSep_mono_pers Finset.univ _ _ _ fun j _ => hrow j)
    isplitr; · iexact Hinv
    iexact H
  iintro Hcr'
  iapply Hk
  iexists γ, γ₀, κ
  isplitr; · iexact Hinv
  isplitl [HI]; · iexact HI
  isplitl [H0]; · iexact H0
  rw [show (j₀ + s.size hg.axis') * N - u = (j₀ * N - u) + s.size hg.axis' * N by rw [Nat.add_mul]; omega, ← tallyAt_add]
  icombine Hcr Hcr' as H
  iexact H

end Cert.Proof.Moves
-- ==== Proof.UserGather.lean ====
/-
  The fetching kernel's four indirect gathers, outstanding together on one semaphore: 512 row transfers of one batch.
-/
module

public import proofs.«01_k».proof.Proof.UserGroups
public import proofs.«01_k».proof.Proof.RowBatch
public import proofs.«01_k».proof.Proof.Copy

@[expose] public section

noncomputable section

namespace Cert.Proof.KI

open Cert.KernelIdeal Cert.KernelIdeal.Gen Cert.Proof.Moves

open Idealize.ShloMosaic
open Idealize.ShloMosaic.SparseCore (S V T rows gatherPayload)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.ValueIdx

variable {F : FTy → Type} [FloatOps F]

local notation "𝕄" => MT nD τ sig (HIx 2) (Elt F) ℕ UU ℕ

/-- Word `b` of the packed rows' list, kept as four rows of 128. -/
def ridAt (d : Dev nD) (L : grid1.Coords) (fr : Buf (Elt F) (ridxM.view.loc (thr d L))) (b : ℕ) : BitVec 32 :=
  fr (ix2 (⟨b / 128 % 4, by omega⟩ : Fin 4) (⟨b % 128, by omega⟩ : Fin 128))

theorem dst_inb (k : Fin 4) : ∀ a, (![128 * k.val, 0] : Fin 2 → ℕ) a + S128x128.size a ≤ S512x128.size a := by
  revert k; decide
theorem off_inb (k : Fin 4) : ∀ a, (![k.val, 0] : Fin 2 → ℕ) a + S1x128.size a ≤ S4x128.size a := by
  revert k; decide

/-- The 128 rows gather `k` writes; -/
abbrev dstK (k : Fin 4) : Memref sig .scVector .vmem S128x128 .f32 :=
  rowsM.slice (Rect.unit (s := S512x128) ![128 * k.val, 0] S128x128.size (dst_inb k)) (fun _ => rfl)
/-- and its list. -/
abbrev offK (k : Fin 4) : Memref sig .scVector .vmem S128 .i32 :=
  (ridxM.slice (Rect.unit (s := S4x128) ![k.val, 0] S1x128.size (off_inb k)) (fun _ => rfl)).squeeze S128 squeezes_S1x128_S128

theorem offK_emb (k : Fin 4) (l : Fin 128) : (offK k).view.emb (ix1 l) = (ix2 k l : S4x128.Idx) := by
  revert k l; decide +kernel

theorem offK_read (d : Dev nD) (L : grid1.Coords) (fr : Buf (Elt F) (ridxM.view.loc (thr d L))) (k : Fin 4) (l : Fin 128) :
    (offK k).view.read (Elt F) fr (ix1 l) = ridAt (F := F) d L fr (128 * k.val + l.val) := by
  rw [View.read_apply, offK_emb]
  show fr _ = fr _
  congr 1
  funext b
  apply Fin.ext
  match b with
  | 0 => show k.val = (128 * k.val + l.val) / 128 % 4; omega
  | 1 => show l.val = (128 * k.val + l.val) % 128; omega

theorem four_eq (Φ : Fin 4 → sProp 𝕄) : bigSep Finset.univ Φ = iprop(Φ 0 ∗ Φ 1 ∗ Φ 2 ∗ Φ 3) := by
  rw [bigSep_univ_succ, bigSep_univ_succ, bigSep_univ_succ, bigSep_univ_succ, show (Finset.univ : Finset (Fin 0)) = ∅ from rfl, BI.bigSep_empty]
  rw [show ∀ P : sProp 𝕄, iprop(P ∗ BI.emp) = P from fun P => equiv_iff.mp BI.sep_emp]
  rfl
theorem pending_univ (Φ : Fin 512 → sProp 𝕄) : bigSep Finset.univ Φ = bigSep (pending 0) Φ := bigSep_pending_zero _
theorem pending_none : (pending (0 + 128 + 128 + 128 + 128) : Finset (Fin 512)) = ∅ := by
  ext t; simp only [pending, Finset.mem_filter, Finset.mem_univ, true_and, Finset.notMem_empty, iff_false]; omega

section

variable (d : Dev nD) (L : grid1.Coords) {R : ℕ} (tab : Memref sig .scVector .hbm ⟨2, ![R, 128]⟩ .f32)
  (hg : (⟨2, ![R, 128]⟩ : Shape).Gathers 0 S128x128) (q : PosShare TreeShare)
  (hinb : ∀ a, (![0, 0] : Fin 2 → ℕ) a + (⟨2, ![R, 128]⟩ : Shape).size a ≤ (⟨2, ![R, 128]⟩ : Shape).size a)
  (ft : Buf (Elt F) (tab.view.loc (thr d L))) (fd : Buf (Elt F) (rowsM.view.loc (thr d L))) (fr : Buf (Elt F) (ridxM.view.loc (thr d L)))

/-- The table, as the gathers name it: a slice of all of it. -/
abbrev srcT : Memref sig .scVector .hbm ⟨2, ![R, 128]⟩ .f32 := tab.slice (Rect.unit (s := ⟨2, ![R, 128]⟩) ![0, 0] (⟨2, ![R, 128]⟩ : Shape).size hinb) (fun _ => rfl)

theorem list_in (hin : ∀ b < 512, (ridAt (F := F) d L fr b).toNat < R) (k : Fin 4) (x : S128.Idx) :
    ((offK k).view.read (Elt F) fr x).toNat < R := by
  obtain ⟨l, rfl⟩ : ∃ l : Fin 128, x = ix1 l := ⟨x 0, by funext b; match b with | 0 => rfl⟩
  rw [offK_read (F := F) d L fr k l]
  exact hin _ (by omega)

/-- What row transfer `j` of gather `k` hands back. -/
def gatherD (hin : ∀ b < 512, (ridAt (F := F) d L fr b).toNat < R) (k : Fin 4) (j : Fin 128) : sProp 𝕄 :=
  rowBack (Name := ℕ) (U := UU) (Lvl := ℕ) (Ix := HIx 2) (F := F) (thr d L) (srcT tab hinb) (dstK k) hg (offK k) rfl (by decide : 0 < 128) (pieceOf q 4 (by decide) k) fullShare ft fd fr
    (rows (o := 128) (z := R) ((offK k).view.read (Elt F) fr) rfl (list_in (F := F) d L fr hin k)) j

/-- The batch's deliveries: the four gathers' rows in order. -/
def batchD (hin : ∀ b < 512, (ridAt (F := F) d L fr b).toNat < R) (t : Fin 512) : sProp 𝕄 :=
  gatherD (F := F) d L tab hg q hinb ft fd fr hin ⟨t.val / 128, by omega⟩ ⟨t.val % 128, by omega⟩

instance (hin : ∀ b < 512, (ridAt (F := F) d L fr b).toNat < R) (t : Fin 512) :
    Storable (upEmb : UEmb _ 𝕄) (batchD (F := F) d L tab hg q hinb ft fd fr hin t) := by
  unfold batchD gatherD; exact rowBack_storable (Name := ℕ) (U := UU) (Lvl := ℕ) (Ix := HIx 2) (F := F) (thr d L) _

theorem batchD_at (hin : ∀ b < 512, (ridAt (F := F) d L fr b).toNat < R) (k : Fin 4) (j : Fin 128) (h : 128 * k.val + j.val < 512) :
    batchD (F := F) d L tab hg q hinb ft fd fr hin ⟨128 * k.val + j.val, h⟩ = gatherD (F := F) d L tab hg q hinb ft fd fr hin k j := by
  unfold batchD
  congr 1
  · exact Fin.ext (by show (128 * k.val + j.val) / 128 = k.val; omega)
  · exact Fin.ext (by show (128 * k.val + j.val) % 128 = j.val; omega)

/-- All of the batch is each gather's rows. -/
theorem batchD_split (hin : ∀ b < 512, (ridAt (F := F) d L fr b).toNat < R) :
    bigSep Finset.univ (batchD (F := F) d L tab hg q hinb ft fd fr hin)
      = bigSep Finset.univ fun k : Fin 4 => bigSep Finset.univ fun j : Fin 128 => gatherD (F := F) d L tab hg q hinb ft fd fr hin k j := by
  have hb : ∀ (k : Fin 4) (a : ℕ) (ha : a = 128 * k.val) (h : ∀ j : Fin 128, a + j.val < 512),
      (bigSep Finset.univ fun j : Fin 128 => batchD (F := F) d L tab hg q hinb ft fd fr hin ⟨a + j.val, h j⟩)
      = bigSep Finset.univ fun j : Fin 128 => gatherD (F := F) d L tab hg q hinb ft fd fr hin k j := fun k a ha h => by
    subst ha
    exact BI.bigSep_congr fun j _ => batchD_at (F := F) d L tab hg q hinb ft fd fr hin k j (h j)
  rw [four_eq, ← hb 0 0 rfl (by omega), ← hb 1 (0 + 128) rfl (by omega), ← hb 2 (0 + 128 + 128) rfl (by omega), ← hb 3 (0 + 128 + 128 + 128) rfl (by omega),
    pending_univ, pending_block (r := 128) (by decide), pending_block (j := 0 + 128) (r := 128) (by decide),
    pending_block (j := 0 + 128 + 128) (r := 128) (by decide), pending_block (j := 0 + 128 + 128 + 128) (r := 128) (by decide), pending_none,
    BI.bigSep_empty]
  rw [show ∀ P : sProp 𝕄, iprop(P ∗ BI.emp) = P from fun P => equiv_iff.mp BI.sep_emp]

/-- What the four gathers leave in the fetched rows' buffer: row `b` is the table's row named by word `b` of the list. -/
def fetched {V : Type} (T : (⟨2, ![R, 128]⟩ : Shape).Idx → V) (rid : ℕ → BitVec 32) (hin : ∀ b < 512, (rid b).toNat < R) : S512x128.Idx → V := fun x =>
  T (ix2 (⟨(rid (x 0).val).toNat, hin _ (x 0).isLt⟩ : Fin R) (x 1))

theorem rows_val {z : ℕ} (idx : S128.Idx → BitVec 32) (h : ∀ x, (idx x).toNat < z) (j : Fin 128) :
    (rows (F := F) (si := S128) (o := 128) (z := z) idx rfl h j).val = (idx (ix1 j)).toNat := by
  have hz : S128.rowMajor.symm (Fin.cast (show 128 = S128.numel from rfl) j) = ix1 j := by
    rw [Equiv.symm_apply_eq]
    exact Fin.ext (Shape.rowMajor_val_one (d := ![128]) (ix1 j)).symm
  exact congrArg (fun x => (idx x).toNat) hz

theorem dst_emb (k : Fin 4) (y : S128x128.Idx) : (dstK k).view.emb y = (ix2 (⟨128 * k.val + (y 0).val, by have := (y 0).isLt; change _ < 128 at this; omega⟩ : Fin 512) (y 1) : S512x128.Idx) := by
  funext b
  apply Fin.ext
  match b with
  | 0 => show 128 * k.val + 1 * (y 0).val = 128 * k.val + (y 0).val; omega
  | 1 => show 0 + 1 * (y 1).val = (y 1).val; omega

theorem fetched_on (hin : ∀ b < 512, (ridAt (F := F) d L fr b).toNat < R) (k : Fin 4) (x : Idx (rowsM.view.loc (thr d L))) (hx : x ∈ (dstK k).view.set) :
    (dstK k).view.write (Elt F) fd (gatherPayload hg ((srcT tab hinb).view.read (Elt F) ft) (rows (o := 128) (z := R) ((offK k).view.read (Elt F) fr) rfl (list_in (F := F) d L fr hin k))) Finset.univ x
      = fetched (tab.view.read (Elt F) ft) (ridAt (F := F) d L fr) hin x := by
  obtain ⟨y, -, rfl⟩ := Finset.mem_map.1 hx
  rw [View.write_emb_of_mem _ _ (Finset.mem_univ y), dst_emb]
  show (srcT tab hinb).view.read (Elt F) ft _ = _
  show _ = tab.view.read (Elt F) ft _
  rw [View.read_apply, View.read_apply]
  have hidx : hg.idx (rows (o := 128) (z := R) ((offK k).view.read (Elt F) fr) rfl (list_in (F := F) d L fr hin k)) y
      = (ix2 (⟨(ridAt (F := F) d L fr (128 * k.val + (y 0).val)).toNat, hin _ (by have := (y 0).isLt; change _ < 128 at this; omega)⟩ : Fin R) (y 1) : (⟨2, ![R, 128]⟩ : Shape).Idx) := by
    funext b
    match b with
    | 0 =>
      have hv : (rows (F := F) (si := S128) (o := 128) (z := R) ((offK k).view.read (Elt F) fr) rfl (list_in (F := F) d L fr hin k) (y 0)).val
          = (ridAt (F := F) d L fr (128 * k.val + (y 0).val)).toNat := by
        exact (rows_val (F := F) _ (list_in (F := F) d L fr hin k) (y 0)).trans (by rw [offK_read (F := F) d L fr k (y 0)])
      exact (Shape.Gathers.idx_axis hg _ y).trans (Fin.ext hv)
    | 1 => exact Fin.ext (Shape.Gathers.idx_of_ne hg _ y 1 Nat.one_ne_zero)
  have hs : ∀ z, (srcT tab hinb).view.emb z = tab.view.emb z := fun z => by
    show tab.view.emb _ = _
    congr 1
    funext b
    apply Fin.ext
    match b with
    | 0 => show 0 + 1 * (z 0).val = (z 0).val; omega
    | 1 => show 0 + 1 * (z 1).val = (z 1).val; omega
  rw [hidx, hs]

theorem mem_dst (k : Fin 4) (x : S512x128.Idx) : x ∈ ((dstK k).view.set : Finset S512x128.Idx) ↔ (x 0).val / 128 = k.val := by
  rw [show (dstK k).view.set = (Rect.unit (s := S512x128) ![128 * k.val, 0] S128x128.size (dst_inb k)).set from View.set_slice_whole ..]
  rw [Rect.mem_set_unit, Fin.forall_fin_two]
  have h1 : (x 1).val < 128 := (x 1).isLt
  show (128 * k.val ≤ (x 0).val ∧ (x 0).val < 128 * k.val + 128) ∧ (0 ≤ (x 1).val ∧ (x 1).val < 0 + 128) ↔ _
  omega

theorem mem_off (k : Fin 4) (x : S4x128.Idx) : x ∈ ((offK k).view.set : Finset S4x128.Idx) ↔ x 0 = k := by
  constructor
  · intro h
    obtain ⟨y, -, rfl⟩ := Finset.mem_map.1 h
    obtain ⟨l, rfl⟩ : ∃ l : Fin 128, y = ix1 l := ⟨y 0, by funext b; match b with | 0 => rfl⟩
    show ((offK k).view.emb (ix1 l) : S4x128.Idx) 0 = k
    rw [offK_emb]
    rfl
  · intro h
    have : x = (offK k).view.emb (ix1 (n := 128) (x 1)) := by
      refine Eq.trans ?_ (offK_emb k (x 1)).symm
      subst h; funext b; match b with | 0 => rfl | 1 => rfl
    rw [this]; exact View.emb_mem_set _ _

/-- Any cut of a buffer into four sets is the whole of it. -/
theorem cut4 {ℓ : Loc nD τ sig} (K : Fin 4 → Finset (Idx ℓ)) (key : Idx ℓ → Fin 4) (hK : ∀ k x, x ∈ K k ↔ key x = k)
    (q : PosShare TreeShare) (f : Buf (Elt F) ℓ) :
    (ℓ ↦{q} f : sProp 𝕄) = bigSep Finset.univ fun k => ℓ ↦[K k]{q} f := by
  rw [← pointsTo_biUnion Finset.univ K (fun a _ b _ hab => Finset.disjoint_left.2 fun x ha hb => hab (((hK a x).1 ha).symm.trans ((hK b x).1 hb)))]
  congr 1
  symm
  refine Finset.eq_univ_iff_forall.2 fun x => Finset.mem_biUnion.2 ⟨key x, Finset.mem_univ _, (hK _ _).2 rfl⟩

theorem cutRows (f : Buf (Elt F) (rowsM.view.loc (thr d L))) :
    (rowsM.view.loc (thr d L) ↦{fullShare} f : sProp 𝕄) = bigSep Finset.univ fun k : Fin 4 => rowsM.view.loc (thr d L) ↦[(dstK k).view.set]{fullShare} f :=
  cut4 (F := F) (ℓ := rowsM.view.loc (thr d L)) (fun k => (dstK k).view.set)
    (fun x => (⟨(show S512x128.Idx from x) 0 / 128, by have := ((show S512x128.Idx from x) 0).isLt; change _ < 512 at this; omega⟩ : Fin 4))
    (fun k x => ⟨fun h => Fin.ext ((mem_dst k x).1 h), fun h => (mem_dst k x).2 (congrArg Fin.val h)⟩) fullShare f
theorem cutList (f : Buf (Elt F) (ridxM.view.loc (thr d L))) :
    (ridxM.view.loc (thr d L) ↦{fullShare} f : sProp 𝕄) = bigSep Finset.univ fun k : Fin 4 => ridxM.view.loc (thr d L) ↦[(offK k).view.set]{fullShare} f :=
  cut4 (F := F) (ℓ := ridxM.view.loc (thr d L)) (fun k => (offK k).view.set) (fun x => (show S4x128.Idx from x) 0) (fun k x => mem_off k x) fullShare f

/-- What a row's transfer credits. -/
abbrev rowN : ℕ := ((dstK 0).slice (S128x128.rowRect (0 : Fin 2) (0 : Fin 128)) (S128x128.stride_rowRect (0 : Fin 2) (0 : Fin 128))).view.dmaCredit
theorem rowN_pos : 0 < rowN := by decide
theorem dst_credit (k : Fin 4) : (dstK k).view.dmaCredit = 128 * rowN := by revert k; decide +kernel
theorem row_credit (k : Fin 4) (j : Fin 128) : ((dstK k).slice (S128x128.rowRect (0 : Fin 2) j) (S128x128.stride_rowRect (0 : Fin 2) j)).view.dmaCredit = rowN := rfl

end

section

variable (d : Dev nD) (L : grid1.Coords) {R : ℕ} (tab : Memref sig .scVector .hbm ⟨2, ![R, 128]⟩ .f32)
  (hg : (⟨2, ![R, 128]⟩ : Shape).Gathers 0 S128x128) (q : PosShare TreeShare)
  (hinb : ∀ a, (![0, 0] : Fin 2 → ℕ) a + (⟨2, ![R, 128]⟩ : Shape).size a ≤ (⟨2, ![R, 128]⟩ : Shape).size a)
  (ft : Buf (Elt F) (tab.view.loc (thr d L))) (fd : Buf (Elt F) (rowsM.view.loc (thr d L))) (fr : Buf (Elt F) (ridxM.view.loc (thr d L)))

/-- The delivered rows of one gather, together. -/
theorem gather_join (hin : ∀ b < 512, (ridAt (F := F) d L fr b).toNat < R) (k : Fin 4) :
    (bigSep Finset.univ fun j : Fin 128 => gatherD (F := F) d L tab hg q hinb ft fd fr hin k j)
      ⊢ iprop((rowsM.view.loc (thr d L) ↦[(dstK k).view.set]{fullShare} (fetched (tab.view.read (Elt F) ft) (ridAt (F := F) d L fr) hin : Buf (Elt F) (rowsM.view.loc (thr d L))))
          ∗ (tab.view.loc (thr d L) ↦[(srcT tab hinb).view.set]{pieceOf q 4 (by decide) k} ft)
          ∗ (ridxM.view.loc (thr d L) ↦[(offK k).view.set]{fullShare} fr)) := by
  have hj := rowBack_join (Name := ℕ) (U := UU) (Lvl := ℕ) (Ix := HIx 2) (F := F) (c := thr d L) (src := srcT tab hinb) (dst := dstK k) (hg := hg) (offs := offK k) (hn := rfl) (ho := (by decide : 0 < 128))
    (q := pieceOf q 4 (by decide) k) (qo := fullShare) (fs := ft) (fd := fd) (fo := fr)
    (r := rows (o := 128) (z := R) ((offK k).view.read (Elt F) fr) rfl (list_in (F := F) d L fr hin k))
  refine (show _ ⊢ _ from hj).trans (sep_mono_left ?_)
  exact Entails.of_eq (pointsTo_congr fun x hx => fetched_on (F := F) d L tab hg hinb ft fd fr hin k x hx)

set_option maxHeartbeats 1000000 in
/-- One of the four gathers, issued. -/
theorem wp_gatherK (hin : ∀ b < 512, (ridAt (F := F) d L fr b).toNat < R) (k : Fin 4) {sem : DmaSem sig} {α : Type}
    {hp : (thr d L).2.kind = .scVector} {hn : S128.numel = S128x128.size hg.axis'} {hsrc : (srcT tab hinb).view.WordExact} {he : EltTy.bits .f32 = 32} {hsp : Space.hbm = .hbm ∨ Space.hbm = .shared}
    {hr : (⟨2, ![R, 128]⟩ : Shape).StreamRows 0} {kk : PUnit → Prog (TpuEff nD τ sig (Elt F) Λ₀ (thr d L).2) α} {Q : α → sProp 𝕄} :
    iprop((tab.view.loc (thr d L) ↦[(srcT tab hinb).view.set]{pieceOf q 4 (by decide) k} ft) ∗ (rowsM.view.loc (thr d L) ↦[(dstK k).view.set]{fullShare} fd)
        ∗ (ridxM.view.loc (thr d L) ↦[(offK k).view.set]{fullShare} fr) ∗ Batch EC (thr d L) (.dma sem) none rowN (batchD (F := F) d L tab hg q hinb ft fd fr hin) (128 * k.val) 0)
      ⊢ iprop((Batch EC (thr d L) (.dma sem) none rowN (batchD (F := F) d L tab hg q hinb ft fd fr hin) (128 * k.val + 128) 0 -∗ wp frame (wpE (defs₀ (F := F)) 𝒱₀ (thr d L) none) Set.univ (kk ⟨⟩) Q)
          -∗ wp frame (wpE (defs₀ (F := F)) 𝒱₀ (thr d L) none) Set.univ
            (SparseCore.enqueueIndirectGather hp (srcT tab hinb) (dstK k) hg (offK k) hn sem hsrc he hsp hr >>= kk) Q) :=
  wp_gatherRows (Name := ℕ) (U := UU) (Lvl := ℕ) (Ix := HIx 2) (F := F) EC 𝒱₀ (thr d L) none (src := srcT tab hinb) (dst := dstK k) (hg := hg) (offs := offK k) (hn := hn) none rowN
    (fun j => row_credit k j) (by decide : 0 < 128) (list_in (F := F) d L fr hin k) rfl (by show 128 * k.val + 128 ≤ 512; omega) (Nat.zero_le _)
    (fun j => Entails.of_eq (batchD_at (F := F) d L tab hg q hinb ft fd fr hin k j (by have := j.isLt; change _ < 128 at this; omega)).symm)

set_option maxHeartbeats 2000000 in
/-- The four gathers, issued together on a free semaphore and all waited for: the buffer of fetched rows holds, row by row,
    the table's rows the list names. -/
theorem wp_fetch (hin : ∀ b < 512, (ridAt (F := F) d L fr b).toNat < R) {sem : DmaSem sig} {α : Type} {O : CellTallies nD τ sig (HIx 2)} {W : Waits sig (HIx 2)}
    {hp0 hp1 hp2 hp3 : (thr d L).2.kind = .scVector} {hn0 hn1 hn2 hn3 : S128.numel = S128x128.size hg.axis'} {hs0 hs1 hs2 hs3 : (srcT tab hinb).view.WordExact}
    {he0 he1 he2 he3 : EltTy.bits .f32 = 32} {hsp0 hsp1 hsp2 hsp3 : Space.hbm = .hbm ∨ Space.hbm = .shared}
    {hr0 hr1 hr2 hr3 : (⟨2, ![R, 128]⟩ : Shape).StreamRows 0} {w0 w1 w2 w3 : (srcT tab hinb).view.WordExact}
    {x0 : (dstK 0).view.WordExact} {x1 : (dstK 1).view.WordExact} {x2 : (dstK 2).view.WordExact} {x3 : (dstK 3).view.WordExact}
    {kk : PUnit → Prog (TpuEff nD τ sig (Elt F) Λ₀ (thr d L).2) α} {Q : α → sProp 𝕄} :
    iprop(MayWaits (thr d L) none O ∗ (tab.view.loc (thr d L) ↦[(srcT tab hinb).view.set]{q} ft) ∗ (rowsM.view.loc (thr d L) ↦{fullShare} fd)
        ∗ (ridxM.view.loc (thr d L) ↦{fullShare} fr) ∗ semVal (thr d L, .dma sem) 0 ∗ OweN (F := F) (thr d L) O W)
      ⊢ iprop((iprop((tab.view.loc (thr d L) ↦[(srcT tab hinb).view.set]{q} ft)
            ∗ (rowsM.view.loc (thr d L) ↦{fullShare} (fetched (tab.view.read (Elt F) ft) (ridAt (F := F) d L fr) hin : Buf (Elt F) (rowsM.view.loc (thr d L))))
            ∗ (ridxM.view.loc (thr d L) ↦{fullShare} fr) ∗ semVal (thr d L, .dma sem) 0 ∗ OweN (F := F) (thr d L) O W)
          -∗ wp frame (wpE (defs₀ (F := F)) 𝒱₀ (thr d L) none) Set.univ (kk ⟨⟩) Q)
          -∗ wp frame (wpE (defs₀ (F := F)) 𝒱₀ (thr d L) none) Set.univ
            (SparseCore.enqueueIndirectGather hp0 (srcT tab hinb) (dstK 0) hg (offK 0) hn0 sem hs0 he0 hsp0 hr0 >>= fun _ =>
             SparseCore.enqueueIndirectGather hp1 (srcT tab hinb) (dstK 1) hg (offK 1) hn1 sem hs1 he1 hsp1 hr1 >>= fun _ =>
             SparseCore.enqueueIndirectGather hp2 (srcT tab hinb) (dstK 2) hg (offK 2) hn2 sem hs2 he2 hsp2 hr2 >>= fun _ =>
             SparseCore.enqueueIndirectGather hp3 (srcT tab hinb) (dstK 3) hg (offK 3) hn3 sem hs3 he3 hsp3 hr3 >>= fun _ =>
             SparseCore.waitIndirectGather sem (srcT tab hinb) (dstK 0) w0 x0 >>= fun _ =>
             SparseCore.waitIndirectGather sem (srcT tab hinb) (dstK 1) w1 x1 >>= fun _ =>
             SparseCore.waitIndirectGather sem (srcT tab hinb) (dstK 2) w2 x2 >>= fun _ =>
             SparseCore.waitIndirectGather sem (srcT tab hinb) (dstK 3) w3 x3 >>= kk) Q) := by
  iintro ⟨#Hmw, Ht, Hd, Hr, Hsem, HO⟩ Hk
  unfold OweN
  icases HO with ⟨%W', %hW', HO⟩
  imod (batch_alloc' EC (thr d L) none rowN (batchD (F := F) d L tab hg q hinb ft fd fr hin)) $$ Hsem with HB
  ihave Ht := (Entails.of_eq ((pointsTo_piecesOf (srcT tab hinb).view.set ft (by decide : 0 < 4) q).trans (four_eq (F := F) _))) $$ Ht
  icases Ht with ⟨Ht0, Ht1, Ht2, Ht3⟩
  ihave Hd := (Entails.of_eq ((cutRows (F := F) d L fd).trans (four_eq (F := F) _))) $$ Hd
  icases Hd with ⟨Hd0, Hd1, Hd2, Hd3⟩
  ihave Hr := (Entails.of_eq ((cutList (F := F) d L fr).trans (four_eq (F := F) _))) $$ Hr
  icases Hr with ⟨Hr0, Hr1, Hr2, Hr3⟩
  iapply (wp_gatherK (F := F) d L tab hg q hinb ft fd fr hin 0) $$ [Ht0 Hd0 Hr0 HB]
  · isplitl [Ht0]; · iexact Ht0
    isplitl [Hd0]; · iexact Hd0
    isplitl [Hr0]; · iexact Hr0
    iexact HB
  iintro HB
  iapply (wp_gatherK (F := F) d L tab hg q hinb ft fd fr hin 1) $$ [Ht1 Hd1 Hr1 HB]
  · isplitl [Ht1]; · iexact Ht1
    isplitl [Hd1]; · iexact Hd1
    isplitl [Hr1]; · iexact Hr1
    iexact HB
  iintro HB
  iapply (wp_gatherK (F := F) d L tab hg q hinb ft fd fr hin 2) $$ [Ht2 Hd2 Hr2 HB]
  · isplitl [Ht2]; · iexact Ht2
    isplitl [Hd2]; · iexact Hd2
    isplitl [Hr2]; · iexact Hr2
    iexact HB
  iintro HB
  iapply (wp_gatherK (F := F) d L tab hg q hinb ft fd fr hin 3) $$ [Ht3 Hd3 Hr3 HB]
  · isplitl [Ht3]; · iexact Ht3
    isplitl [Hd3]; · iexact Hd3
    isplitl [Hr3]; · iexact Hr3
    iexact HB
  iintro HB
  iapply (wp_waitBatchMulO EC 𝒱₀ (thr d L) none none (q := 128) (dst_credit 0) (by show 0 + 128 * rowN ≤ rowN * 512; omega)) $$ [HB HO]
  · isplitl [HB]; · iexact HB
    isplitl [HO]; · iexact HO
    iapply (MayWaits.elim (SemLoc.dma sem)) $$ Hmw
  iintro ⟨HB, HO⟩
  iapply (wp_waitBatchMulO EC 𝒱₀ (thr d L) none none (q := 128) (dst_credit 1) (by show 0 + 128 * rowN + 128 * rowN ≤ rowN * 512; omega)) $$ [HB HO]
  · isplitl [HB]; · iexact HB
    isplitl [HO]; · iexact HO
    iapply (MayWaits.elim (SemLoc.dma sem)) $$ Hmw
  iintro ⟨HB, HO⟩
  iapply (wp_waitBatchMulO EC 𝒱₀ (thr d L) none none (q := 128) (dst_credit 2) (by show 0 + 128 * rowN + 128 * rowN + 128 * rowN ≤ rowN * 512; omega)) $$ [HB HO]
  · isplitl [HB]; · iexact HB
    isplitl [HO]; · iexact HO
    iapply (MayWaits.elim (SemLoc.dma sem)) $$ Hmw
  iintro ⟨HB, HO⟩
  iapply (wp_waitBatchAllO EC 𝒱₀ (thr d L) none none (dst_credit 3) rowN_pos (by show 0 + 128 * rowN + 128 * rowN + 128 * rowN + 128 * rowN = rowN * 512; omega)) $$ [HB HO]
  · isplitl [HB]; · iexact HB
    isplitl [HO]; · iexact HO
    iapply (MayWaits.elim (SemLoc.dma sem)) $$ Hmw
  iintro ⟨HD, Hsem, HO⟩
  ihave HD := (Entails.of_eq (batchD_split (F := F) d L tab hg q hinb ft fd fr hin)) $$ HD
  ihave HD := (show _ ⊢ _ from bigSep_mono (s := Finset.univ) fun k _ => gather_join (F := F) d L tab hg q hinb ft fd fr hin k) $$ HD
  ihave HD := bigSep_sep_out _ _ _ $$ HD
  icases HD with ⟨Hd, HD⟩
  ihave HD := bigSep_sep_out _ _ _ $$ HD
  icases HD with ⟨Ht, Hr⟩
  iapply Hk
  isplitl [Ht]; · iapply (Entails.of_eq (pointsTo_piecesOf (srcT tab hinb).view.set ft (Nat.succ_pos 3) q).symm) $$ Ht
  isplitl [Hd]
  · iapply (Entails.of_eq (cutRows (F := F) d L _).symm) $$ Hd
  isplitl [Hr]
  · iapply (Entails.of_eq (cutList (F := F) d L fr).symm) $$ Hr
  isplitl [Hsem]; · iexact Hsem
  iexists _; isplitr
  swap; · iexact HO
  ipureintro; intro p hp
  simp only [Finset.mem_insert] at hp
  rcases hp with rfl | rfl | rfl | rfl | hp
  · exact .inr rfl
  · exact .inr rfl
  · exact .inr rfl
  · exact .inr rfl
  · exact hW' p hp

end

end Cert.Proof.KI
-- ==== Proof.UserSteps.lean ====
/-
  The fetching kernel's first steps: the ids brought in, and the packed rows' list computed from them.
-/
module

public import proofs.«01_k».proof.Proof.UserGather

@[expose] public section

noncomputable section

namespace Cert.Proof.KI

open Cert.KernelIdeal Cert.KernelIdeal.Gen Cert.Proof.Moves

open Idealize.ShloMosaic
open Idealize.ShloMosaic.SparseCore (S V T rows gatherPayload)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.ValueIdx

variable {F : FTy → Type} [FloatOps F]

local notation "𝕄" => MT nD τ sig (HIx 2) (Elt F) ℕ UU ℕ

/-- Row `r` of the ids' buffer. -/
abbrev idxK (r : Fin 4) : Memref sig .scVector .vmem S128 .i32 :=
  (idxM.slice (Rect.unit (s := S4x128) ![r.val, 0] S1x128.size (off_inb r)) (fun _ => rfl)).squeeze S128 squeezes_S1x128_S128

theorem idxK_emb (k : Fin 4) (l : Fin 128) : (idxK k).view.emb (ix1 l) = (ix2 k l : S4x128.Idx) := by
  revert k l; decide +kernel

theorem idx_pos (r : Fin 4) : 0 < (idxK r).view.dmaCredit := by revert r; decide

/-- The ids' buffer with its first `r` rows in. -/
def IdsInv (d : Dev nD) (L : grid1.Coords) (U : ℕ → BitVec 32) (r : ℕ) : sProp 𝕄 :=
  iprop(∃ fd, ⌜∀ b < 128 * r, idAt (F := F) d L fd b = U b⌝ ∗ idxM.view.loc (thr d L) ↦{fullShare} fd)

/-- One of the four copies that bring the ids in. -/
theorem wp_idStep (d : Dev nD) (L : grid1.Coords) (ids : Memref sig .scVector .hbm S16384 .i32) (r : Fin 4) {q : PosShare TreeShare} {fu : Buf (Elt F) (ids.view.loc (thr d L))}
    (U : ℕ → BitVec 32) {off : Fin 1 → ℕ} {inb : ∀ a, off a + S128.size a ≤ S16384.size a} {n : ℕ} (hn : n = r.val)
    (hU : ∀ l : Fin 128, (ids.slice (Rect.unit (s := S16384) off S128.size inb) (fun _ => rfl)).view.read (Elt F) fu (ix1 l) = U (128 * r.val + l.val)) {sem : DmaSem sig}
    {O : CellTallies nD τ sig (HIx 2)} {W : Waits sig (HIx 2)} {α : Type} {Q : α → sProp 𝕄}
    {hsrc : (ids.slice (Rect.unit (s := S16384) off S128.size inb) (fun _ => rfl)).view.WordExact} {hdst : (idxK r).view.WordExact}
    {hsem : (DmaTarget.here (idxK r) : DmaTarget nD τ sig (thr d L).2 .vmem S128 .i32).Typed .hbm (.dma sem)}
    {sp1 : Space} {s1 : Shape} {e1 : EltTy} {srcw : Memref sig (thr d L).2.kind sp1 s1 e1} {hsrcw : srcw.view.WordExact} {hdstw : (idxK r).view.WordExact}
    {k : PUnit → Prog (TpuEff nD τ sig (Elt F) Λ₀ (thr d L).2) α} :
    iprop(MayWaits (thr d L) none O ∗ (ids.view.loc (thr d L) ↦{q} fu) ∗ IdsInv (F := F) d L U n ∗ semVal (thr d L, .dma sem) 0 ∗ OweN (F := F) (thr d L) O W)
      ⊢ iprop((iprop((ids.view.loc (thr d L) ↦{q} fu) ∗ IdsInv (F := F) d L U (n + 1) ∗ semVal (thr d L, .dma sem) 0 ∗ OweN (F := F) (thr d L) O W)
            -∗ wp frame (wpE (defs₀ (F := F)) 𝒱₀ (thr d L) none) Set.univ (k ⟨⟩) Q)
          -∗ wp frame (wpE (defs₀ (F := F)) 𝒱₀ (thr d L) none) Set.univ
            (.op (.enqueueDma (ids.slice (Rect.unit (s := S16384) off S128.size inb) (fun _ => rfl)) (.here (idxK r)) (.dma sem) hsrc hdst hsem) fun _ => .op (.waitDma2 sem srcw (idxK r) hsrcw hdstw) k) Q) := by
  subst hn
  unfold IdsInv
  iintro ⟨#Hmw, Hs, ⟨%fd, %hfd, Hd⟩, Hsem, HO⟩ Hk
  iapply (wp_copyN (F := F) (c := thr d L) (idxK r).view.dmaCredit rfl rfl (idx_pos r) (Ss := Finset.univ) (Finset.subset_univ _) (Sd := Finset.univ) (Finset.subset_univ _) (fd := fd)) $$ [Hs Hd Hsem HO]
  · isplitr; · iexact Hmw
    isplitl [Hs]; · iexact Hs
    isplitl [Hd]; · iexact Hd
    isplitl [Hsem]; · iexact Hsem
    iexact HO
  iintro ⟨Hs, Hd, Hsem, HO⟩
  iapply Hk
  isplitl [Hs]; · iexact Hs
  isplitr [Hsem HO]
  swap
  · isplitl [Hsem]; · iexact Hsem
    iexact HO
  iexists _
  isplitr
  swap; · iexact Hd
  ipureintro
  intro b hb
  have h4 := r.isLt
  by_cases hr : b / 128 = r.val
  · have hx : (ix2 (⟨b / 128 % 4, by omega⟩ : Fin 4) (⟨b % 128, by omega⟩ : Fin 128) : S4x128.Idx) = (idxK r).view.emb (ix1 (⟨b % 128, by omega⟩ : Fin 128)) := by
      rw [idxK_emb]
      congr 1
      exact Fin.ext (by show b / 128 % 4 = r.val; omega)
    unfold idAt
    rw [hx]
    refine (View.write_emb_of_mem _ _ (Finset.mem_univ _)).trans ?_
    refine (hU _).trans ?_
    congr 1
    show 128 * r.val + b % 128 = b
    omega
  · unfold idAt
    refine (View.write_of_not_mem _ _ _ ?_).trans (hfd b (by omega))
    intro hm
    obtain ⟨y, -, hy⟩ := Finset.mem_map.1 hm
    obtain ⟨l, rfl⟩ : ∃ l : Fin 128, y = ix1 l := ⟨y 0, by funext b; match b with | 0 => rfl⟩
    rw [idxK_emb] at hy
    have h0 := congrArg (fun x : S4x128.Idx => (x 0).val) hy
    have h0' : r.val = b / 128 % 4 := h0
    omega

/-- The packed rows' list with its first `n` groups of sixteen computed. -/
def ShInv (d : Dev nD) (L : grid1.Coords) (fi : Buf (Elt F) (idxM.view.loc (thr d L))) (n : ℕ) : sProp 𝕄 :=
  iprop((idxM.view.loc (thr d L) ↦{fullShare} fi)
    ∗ ∃ fr, ⌜∀ b < 16 * n, (ridAt (F := F) d L fr b).toNat = (idAt (F := F) d L fi b).toNat / 8⌝ ∗ ridxM.view.loc (thr d L) ↦{fullShare} fr)

theorem shPay (ld : Vec F S1x16 .i32) (l : Fin 16) :
    ((shapeCast S1x16 (shrui (shapeCast S16 ld shapeCasts_S1x16_S16) (broadcast S16 3#32)) shapeCasts_S16_S1x16) (ix2 (0 : Fin 1) l)).toNat = (ld (ix2 (0 : Fin 1) l)).toNat / 8 := by
  have e : (shapeCast S1x16 (shrui (shapeCast S16 ld shapeCasts_S1x16_S16) (broadcast S16 3#32)) shapeCasts_S16_S1x16) (ix2 (0 : Fin 1) l)
      = shrui (shapeCast S16 ld shapeCasts_S1x16_S16) (broadcast S16 3#32) (ix1 l) := shapeCast_a_1a_apply ..
  have e2 : (shapeCast S16 ld shapeCasts_S1x16_S16) (ix1 l) = ld (ix2 (0 : Fin 1) l) := shapeCast_1a_a_apply ..
  have e3 : shrui (shapeCast S16 ld shapeCasts_S1x16_S16) (broadcast S16 3#32) (ix1 l) = (shapeCast S16 ld shapeCasts_S1x16_S16) (ix1 l) >>> 3#32 := rfl
  rw [e, e3, e2]
  show (ld (ix2 (0 : Fin 1) l) >>> 3).toNat = _
  rw [BitVec.toNat_ushiftRight, Nat.shiftRight_eq_div_pow]

/-- One group of the list. -/
theorem wp_shiftStep (d : Dev nD) (L : grid1.Coords) (fi : Buf (Elt F) (idxM.view.loc (thr d L))) (n : ℕ) (hn : n < 32) {off : Fin 2 → ℕ} {inb : ∀ b, off b + S1x16.size b ≤ S4x128.size b}
    (hoff : off = ![n / 8, 16 * (n % 8)]) {pay : Vec F S1x16 .i32 → Vec F S1x16 .i32} (hpay : ∀ ld (l : Fin 16), (pay ld (ix2 (0 : Fin 1) l)).toNat = (ld (ix2 (0 : Fin 1) l)).toNat / 8)
    {hl : idxM.view.LoadsAt (Rect.unit (s := S4x128) off S1x16.size inb).toLoadRect} {hl2 : ridxM.view.LoadsAt (Rect.unit (s := S4x128) off S1x16.size inb).toLoadRect}
    {hx : (ridxM.access (Rect.unit (s := S4x128) off S1x16.size inb)).Stores Finset.univ}
    {hm : (Finset.univ : Finset (Rect.unit (s := S4x128) off S1x16.size inb).shape.Idx) = Finset.univ ∨ ∀ b, (Rect.unit (s := S4x128) off S1x16.size inb).stride b = 1}
    {α : Type} {Q : α → sProp 𝕄} {k : Vec F S1x16 .i32 → Vec F S1x16 .i32 → PUnit → Prog (TpuEff nD τ sig (Elt F) Λ₀ (thr d L).2) α} :
    ShInv (F := F) d L fi n
      ⊢ iprop((∀ v v', ShInv (F := F) d L fi (n + 1) -∗ wp frame (wpE (defs₀ (F := F)) 𝒱₀ (thr d L) none) Set.univ (k v v' ⟨⟩) Q)
          -∗ wp frame (wpE (defs₀ (F := F)) 𝒱₀ (thr d L) none) Set.univ
            (.op (.load idxM (Rect.unit (s := S4x128) off S1x16.size inb).toLoadRect hl) fun v =>
             .op (.load ridxM (Rect.unit (s := S4x128) off S1x16.size inb).toLoadRect hl2) fun v' =>
             .op (.store ridxM (Rect.unit (s := S4x128) off S1x16.size inb) (pay v) Finset.univ hx hm) (k v v')) Q) := by
  unfold ShInv
  iintro ⟨Hi, %fr, %hfr, Hr⟩ Hk
  iapply (wp_load_rect (defs := defs₀ (F := F)) 𝒱₀ (thr d L) none Set.univ (m := idxM) (r := Rect.unit (s := S4x128) off S1x16.size inb) (hl := hl) (S := Finset.univ) (q := fullShare) (f := fi) (Finset.subset_univ _)) $$ Hi
  iintro Hi
  iapply (wp_load_rect (defs := defs₀ (F := F)) 𝒱₀ (thr d L) none Set.univ (m := ridxM) (r := Rect.unit (s := S4x128) off S1x16.size inb) (hl := hl2) (S := Finset.univ) (q := fullShare) (f := fr) (Finset.subset_univ _)) $$ Hr
  iintro Hr
  iapply (wp_store (defs := defs₀ (F := F)) 𝒱₀ (thr d L) none Set.univ (m := ridxM) (r := Rect.unit (s := S4x128) off S1x16.size inb) (Mk := Finset.univ) (hx := hx) (hm := hm) (S := Finset.univ) (f := fr)
    (Finset.subset_univ _)) $$ Hr
  iintro Hr
  iapply Hk
  isplitl [Hi]; · iexact Hi
  iexists _
  isplitr
  swap; · iexact Hr
  ipureintro
  intro b hb
  by_cases hin : 16 * n ≤ b
  · have hx : (ix2 (⟨b / 128 % 4, by omega⟩ : Fin 4) (⟨b % 128, by omega⟩ : Fin 128) : S4x128.Idx)
        = (Rect.unit (s := S4x128) off S1x16.size inb).emb (ix2 (0 : Fin 1) (⟨b - 16 * n, by omega⟩ : Fin 16)) := by
      subst hoff
      funext c
      apply Fin.ext
      match c with
      | 0 => show b / 128 % 4 = n / 8 + 1 * 0; omega
      | 1 => show b % 128 = 16 * (n % 8) + 1 * (b - 16 * n); omega
    unfold ridAt
    rw [hx]
    have hw := (View.read_slice_write_emb (Val := Elt F) (v := ridxM.view) (Rect.unit (s := S4x128) off S1x16.size inb) fr (pay ((idxM.access (Rect.unit (s := S4x128) off S1x16.size inb)).read (Elt F) fi)) (Finset.mem_univ (ix2 (0 : Fin 1) (⟨b - 16 * n, by omega⟩ : Fin 16))))
    refine (congrArg BitVec.toNat (show _ = _ from hw)).trans ?_
    rw [hpay, ld_ids (F := F) d L fi n hn hoff]
    show (idAt (F := F) d L fi (16 * n + (b - 16 * n))).toNat / 8 = _
    rw [show 16 * n + (b - 16 * n) = b by omega]
  · refine Eq.trans ?_ (hfr b (by omega))
    unfold ridAt
    congr 1
    refine (View.read_slice_write_of_not_mem (v := ridxM.view) (Rect.unit (s := S4x128) off S1x16.size inb) fr _ Finset.univ ?_)
    intro hmem
    obtain ⟨z, -, hz⟩ := Finset.mem_map.mp hmem
    subst hoff
    have z1 : (z 1).val < 16 := (z 1).isLt
    have z0 : (z 0).val < 1 := (z 0).isLt
    have e0 := congrArg (fun x : S4x128.Idx => (x 0).val) hz
    have e1 := congrArg (fun x : S4x128.Idx => (x 1).val) hz
    have e0' : n / 8 + 1 * (z 0).val = b / 128 % 4 := e0
    have e1' : 16 * (n % 8) + 1 * (z 1).val = b % 128 := e1
    omega

end Cert.Proof.KI
-- ==== Proof.UserOut.lean ====
/-
  The fetching kernel's last steps: the picked columns go out, and what they hold.
-/
module

public import proofs.«01_k».proof.Proof.UserSteps

@[expose] public section

noncomputable section

namespace Cert.Proof.KI

open Cert.KernelIdeal Cert.KernelIdeal.Gen Cert.Proof.Moves

open Idealize.ShloMosaic
open Idealize.ShloMosaic.SparseCore (S V T rows gatherPayload)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.ValueIdx

variable {F : FTy → Type} [FloatOps F]

local notation "𝕄" => MT nD τ sig (HIx 2) (Elt F) ℕ UU ℕ

/-- A packed table's rows picked by the ids: entry `(f, b)` is entry `f` of the record that id `b` names. -/
def pickT {V : Type} (R : ℕ) (hR : 0 < R) (T : (⟨2, ![R, 128]⟩ : Shape).Idx → V) (ids : S16384.Idx → BitVec 32) : S16x16384.Idx → V := fun x =>
  T (ix2 (⟨(ids (ix1 (x 1))).toNat / 8 % R, Nat.mod_lt _ hR⟩ : Fin R)
    (⟨(ids (ix1 (x 1))).toNat % 8 * 16 + (x 0).val, by have := (x 0).isLt; change (x 0).val < 16 at this; omega⟩ : Fin 128))

/-- Id `b` of tile `w`'s chunk. -/
def idsW (ids : S16384.Idx → BitVec 32) (w b : ℕ) : BitVec 32 := if h : 512 * w + b < 16384 then ids (ix1 (⟨512 * w + b, h⟩ : Fin 16384)) else 0#32

/-- The columns of tile `w`'s chunk. -/
def colCells (w : ℕ) : Finset S16x16384.Idx := Finset.univ.filter fun x => 512 * w ≤ (x 1).val ∧ (x 1).val < 512 * w + 512

theorem ids_at (d : Dev nD) (L : grid1.Coords) (ids : Memref sig .scVector .hbm S16384 .i32) (fu : Buf (Elt F) (ids.view.loc (thr d L))) (r : Fin 4)
    {off : Fin 1 → ℕ} {inb : ∀ a, off a + S128.size a ≤ S16384.size a} (hoff : off = ![512 * wid L + 128 * r.val]) (l : Fin 128) :
    (ids.slice (Rect.unit (s := S16384) off S128.size inb) (fun _ => rfl)).view.read (Elt F) fu (ix1 l) = idsW (ids.view.read (Elt F) fu) (wid L) (128 * r.val + l.val) := by
  subst hoff
  have hw := wid_lt L
  have hr := r.isLt
  have hl := l.isLt
  have e : (ids.slice (Rect.unit (s := S16384) ![512 * wid L + 128 * r.val] S128.size inb) (fun _ => rfl)).view.read (Elt F) fu (ix1 l)
      = ids.view.read (Elt F) fu ((Rect.unit (s := S16384) ![512 * wid L + 128 * r.val] S128.size inb).emb (ix1 l)) := rfl
  rw [e, idsW, dif_pos (by omega)]
  congr 1
  funext c
  apply Fin.ext
  match c with
  | 0 => show 512 * wid L + 128 * r.val + 1 * l.val = 512 * wid L + (128 * r.val + l.val); omega

theorem off1_at (L : grid1.Coords) (r : Fin 4) : k1_off1 L (BitVec.ofNat 32 (128 * r.val)) = ![512 * wid L + 128 * r.val] := by
  have hw : wid L = 2 * (L 1).val + (L 0).val := rfl
  rw [hw, k1_off1_eq]
  congr 1
  have h4 := r.isLt
  omega

/-- The tile's columns of a gathered output. -/
abbrev colK (L : grid1.Coords) (um : Memref sig .scVector .hbm S16x16384 .f32) : Memref sig .scVector .hbm S16x512 .f32 :=
  um.slice (Rect.unit (s := S16x16384) (k1_off19 L) S16x512.size (k1_off19_inb L)) (fun _ => rfl)

theorem col_inb (L : grid1.Coords) : ∀ a, (![0, 512 * wid L] : Fin 2 → ℕ) a + S16x512.size a ≤ S16x16384.size a := by
  have hw := wid_lt L
  intro a
  match a with
  | 0 => show 0 + 16 ≤ 16; omega
  | 1 => show 512 * wid L + 512 ≤ 16384; omega

theorem off19_at (L : grid1.Coords) : k1_off19 L = ![0, 512 * wid L] := by
  have hw : wid L = 2 * (L 1).val + (L 0).val := rfl
  rw [hw, k1_off19_eq]
  congr 2
  omega

theorem col_emb (L : grid1.Coords) {off : Fin 2 → ℕ} {inb : ∀ a, off a + S16x512.size a ≤ S16x16384.size a} (hoff : off = ![0, 512 * wid L]) (y : S16x512.Idx) :
    ((Rect.unit (s := S16x16384) off S16x512.size inb).emb y 0).val = (y 0).val ∧ ((Rect.unit (s := S16x16384) off S16x512.size inb).emb y 1).val = 512 * wid L + (y 1).val := by
  subst hoff
  exact ⟨by show 0 + 1 * (y 0).val = _; omega, by show 512 * wid L + 1 * (y 1).val = _; omega⟩

theorem col_set (L : grid1.Coords) {off : Fin 2 → ℕ} {inb : ∀ a, off a + S16x512.size a ≤ S16x16384.size a} (hoff : off = ![0, 512 * wid L]) :
    (Rect.unit (s := S16x16384) off S16x512.size inb).set = colCells (wid L) := by
  subst hoff
  ext x
  rw [Rect.mem_set_unit, colCells, Finset.mem_filter]
  have h0 := (x 0).isLt
  change (x 0).val < 16 at h0
  constructor
  · intro h
    have h1 := h 1
    change 512 * wid L ≤ (x 1).val ∧ (x 1).val < 512 * wid L + 512 at h1
    exact ⟨Finset.mem_univ _, h1⟩
  · rintro ⟨-, h⟩ a
    match a with
    | 0 => exact ⟨Nat.zero_le _, by show (x 0).val < 0 + 16; omega⟩
    | 1 => exact h

theorem out_pos : 0 < outM.view.dmaCredit := by decide

/-- The picked columns go out. -/
theorem wp_outStep (d : Dev nD) (L : grid1.Coords) (um : Memref sig .scVector .hbm S16x16384 .f32) (fo : Buf (Elt F) (outM.view.loc (thr d L))) (f0 g : Buf (Elt F) (um.view.loc (thr d L)))
    (hg : ∀ x ∈ (colK L um).view.set, (colK L um).view.write (Elt F) f0 (outM.view.read (Elt F) fo) Finset.univ x = g x) {sem : DmaSem sig} {O : CellTallies nD τ sig (HIx 2)} {W : Waits sig (HIx 2)} {α : Type} {Q : α → sProp 𝕄}
    {hsrc : outM.view.WordExact} {hdst : (colK L um).view.WordExact}
    {hsem : (DmaTarget.here (colK L um) : DmaTarget nD τ sig (thr d L).2 .hbm S16x512 .f32).Typed .vmem (.dma sem)}
    {sp1 : Space} {s1 : Shape} {e1 : EltTy} {srcw : Memref sig (thr d L).2.kind sp1 s1 e1} {hsrcw : srcw.view.WordExact} {hdstw : (colK L um).view.WordExact}
    {k : PUnit → Prog (TpuEff nD τ sig (Elt F) Λ₀ (thr d L).2) α} :
    iprop(MayWaits (thr d L) none O ∗ (outM.view.loc (thr d L) ↦{fullShare} fo) ∗ (um.view.loc (thr d L) ↦[(colK L um).view.set]{fullShare} f0) ∗ semVal (thr d L, .dma sem) 0 ∗ OweN (F := F) (thr d L) O W)
      ⊢ iprop((iprop((outM.view.loc (thr d L) ↦{fullShare} fo) ∗ (um.view.loc (thr d L) ↦[(colK L um).view.set]{fullShare} g) ∗ semVal (thr d L, .dma sem) 0 ∗ OweN (F := F) (thr d L) O W)
            -∗ wp frame (wpE (defs₀ (F := F)) 𝒱₀ (thr d L) none) Set.univ (k ⟨⟩) Q)
          -∗ wp frame (wpE (defs₀ (F := F)) 𝒱₀ (thr d L) none) Set.univ
            (.op (.enqueueDma outM (.here (colK L um)) (.dma sem) hsrc hdst hsem) fun _ => .op (.waitDma2 sem srcw (colK L um) hsrcw hdstw) k) Q) := by
  iintro ⟨#Hmw, Hs, Hd, Hsem, HO⟩ Hk
  iapply (wp_copyN (F := F) (c := thr d L) (colK L um).view.dmaCredit rfl rfl (Nat.lt_of_lt_of_eq out_pos rfl) (Ss := Finset.univ) (Finset.subset_univ _) (Sd := (colK L um).view.set) (Finset.Subset.refl _) (fd := f0)) $$ [Hs Hd Hsem HO]
  · isplitr; · iexact Hmw
    isplitl [Hs]; · iexact Hs
    isplitl [Hd]; · iexact Hd
    isplitl [Hsem]; · iexact Hsem
    iexact HO
  iintro ⟨Hs, Hd, Hsem, HO⟩
  iapply Hk
  isplitl [Hs]; · iexact Hs
  isplitl [Hd]
  · ihave Hd := (Entails.of_eq (pointsTo_congr (Val := Elt F) (q := fullShare) hg)) $$ Hd
    iexact Hd
  isplitl [Hsem]; · iexact Hsem
  iexact HO

/-- The fetched and picked entries are the picked table's. -/
theorem out_val (d : Dev nD) (L : grid1.Coords) {V : Type} {R : ℕ} (hR : 0 < R) (T : (⟨2, ![R, 128]⟩ : Shape).Idx → V) (ids : S16384.Idx → BitVec 32) (hids : ∀ x, (ids x).toNat < 8 * R)
    (fi : Buf (Elt F) (idxM.view.loc (thr d L))) (rid : ℕ → BitVec 32) (hin : ∀ b < 512, (rid b).toNat < R) (hfi : ∀ b < 512, idAt (F := F) d L fi b = idsW ids (wid L) b)
    (hrid : ∀ b < 512, (rid b).toNat = (idAt (F := F) d L fi b).toNat / 8) (O : S16x512.Idx → V)
    (hp : Picked (dR := ![512, 128]) (dO := ![16, 512]) (colOf (F := F) d L fi) 32 0 (fetched T rid hin) O) (y : S16x512.Idx) (x : S16x16384.Idx) (h0 : (x 0).val = (y 0).val) (h1 : (x 1).val = 512 * wid L + (y 1).val) :
    pickT R hR T ids x = O y := by
  have hw := wid_lt L
  have y0 : (y 0).val < 16 := (y 0).isLt
  have y1 : (y 1).val < 512 := (y 1).isLt
  have hU : idAt (F := F) d L fi (y 1).val = ids (ix1 (x 1)) := by
    rw [hfi _ y1, idsW, dif_pos (by omega)]
    congr 2
    exact Fin.ext h1.symm
  have hcol : colOf (F := F) d L fi (y 1).val = (ids (ix1 (x 1))).toNat % 8 * 16 := by unfold colOf; rw [hU]
  have hl := hids (ix1 (x 1))
  refine ((hp y (ix2 (⟨(y 1).val, y1⟩ : Fin 512) (⟨(ids (ix1 (x 1))).toNat % 8 * 16 + (y 0).val, by omega⟩ : Fin 128)) rfl ?_ (.inl (by show _ < 16 * 32; omega))).trans ?_).symm
  · show _ = colOf (F := F) d L fi (y 1).val + (y 0).val
    rw [hcol]
  · unfold fetched pickT
    congr 1
    funext c
    apply Fin.ext
    match c with
    | 0 =>
      show (rid (y 1).val).toNat = (ids (ix1 (x 1))).toNat / 8 % R
      rw [hrid _ y1, hU, Nat.mod_eq_of_lt (by omega)]
    | 1 => show _ % 8 * 16 + (y 0).val = _ % 8 * 16 + (x 0).val; omega

theorem src_univ {R : ℕ} (hinb : ∀ a, (![0, 0] : Fin 2 → ℕ) a + (⟨2, ![R, 128]⟩ : Shape).size a ≤ (⟨2, ![R, 128]⟩ : Shape).size a) :
    (Rect.unit (s := (⟨2, ![R, 128]⟩ : Shape)) ![0, 0] (⟨2, ![R, 128]⟩ : Shape).size hinb).set = Finset.univ := by
  ext x
  rw [Rect.mem_set_unit]
  refine ⟨fun _ => Finset.mem_univ _, fun _ a => ?_⟩
  match a with
  | 0 => exact ⟨Nat.zero_le _, (Nat.zero_add _).symm ▸ (x 0).isLt⟩
  | 1 => exact ⟨Nat.zero_le _, (Nat.zero_add _).symm ▸ (x 1).isLt⟩

end Cert.Proof.KI
-- ==== Proof.UserTrip1.lean ====
/-
  One trip of the fetching kernel's first extraction loop: sixteen indexed loads out of the fetched rows, each stored as part of a row of the output.
-/
module

public import proofs.«01_k».proof.Proof.UserGroups

@[expose] public section

noncomputable section

namespace Cert.Proof.KI

open Cert.KernelIdeal Cert.KernelIdeal.Gen Cert.Proof.Moves

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

set_option cleanup.letToHave false in
set_option maxHeartbeats 4000000 in
/-- A trip of the extraction loop. -/
theorem utrip1 (d : Dev nD) (L : grid1.Coords) (a12 r0 r1 r2 r3 r4 r5 r6 r7 r8 r9 : DmaSems sig S_) (v2 : BitVec 32) {v3 : IVec S16 32} (h3 : ∀ l : Fin 16, (v3 (ix1 l)).toNat = l.val)
    (g : Fin k1_t1_loop.trips) (fi : Buf (Elt F) (idxM.view.loc (thr d L))) (fs : Buf (Elt F) (rowsM.view.loc (thr d L))) :
    XInv (F := F) d L g.val fi fs
      ⊢ wp frame (wpE (defs₀ (F := F)) 𝒱₀ (thr d L) none) Set.univ
          (k1_t1_body (F := F) L uidM (Memref.isWhole_whole _) cidM (Memref.isWhole_whole _) ut2M (Memref.isWhole_whole _) ct2M (Memref.isWhole_whole _) uM (Memref.isWhole_whole _) cM (Memref.isWhole_whole _) idxM (Memref.isWhole_whole _) ridxM (Memref.isWhole_whole _) rowsM (Memref.isWhole_whole _) outM (Memref.isWhole_whole _) a12 r0 r1 r2 r3 r4 r5 r6 r7 r8 r9 v2 v3 g ())
          fun _ => XInv (F := F) d L (g.val + 1) fi fs := by
  have hg : g.val < 32 := g.isLt
  have hw : (Scalar.muli (Scf.iv 0#32 1#32 g) 16#32).toNat = 16 * g.val := by
    revert g; decide +kernel
  iintro ⟨Hi, H⟩
  unfold k1_t1_body
  simp only [k1_part1_eq_skeleton, k1_part2_eq_skeleton, k1_part3_eq_skeleton, k1_part4_eq_skeleton]
  unfold k1_part1_skel k1_part2_skel k1_part3_skel k1_part4_skel
  simp only [Prog.lift, Prog.bind_op, Prog.bind_ret, Prog.pure_eq_ret, Prog.bind_assoc]
  iapply (wp_load_rect (defs := defs₀ (F := F)) 𝒱₀ (thr d L) none Set.univ (m := idxM) (r := Rect.unit (s := S4x128) (k1_off2 g) S1x16.size (k1_off2_inb g)) (hl := View.loadsAt_vmem h_S1x16) (S := Finset.univ) (q := fullShare) (f := fi) (Finset.subset_univ _)) $$ Hi
  iintro Hi
  have hb : ∀ l : Fin 16, ((k1_pay3 (F := F) ((idxM.access (Rect.unit (s := S4x128) (k1_off2 g) S1x16.size (k1_off2_inb g))).read (Elt F) fi)) (ix1 l)).toNat
      = (idAt (F := F) d L fi (16 * g.val + l.val)).toNat % 8 * 16 := fun l => base_of rfl l ((idsOf (F := F) _ l).trans (ld_ids (F := F) d L fi g.val hg (off2_eq g) l))
  have hr : ∀ l : Fin 16, ((k1_pay4 v3 0#32 1#32 g) (ix1 l)).toNat = 16 * g.val + l.val := fun l => rowl_of hg rfl hw h3 l
  have e0 : ∀ l : Fin 16, ((k1_pay5 (F := F) ((idxM.access (Rect.unit (s := S4x128) (k1_off2 g) S1x16.size (k1_off2_inb g))).read (Elt F) fi)) (ix1 l)).toNat = colOf (F := F) d L fi (16 * g.val + l.val) + 0 := fun l => col_of rfl rfl (by decide) l (hb l)
  generalize k1_pay5 (F := F) ((idxM.access (Rect.unit (s := S4x128) (k1_off2 g) S1x16.size (k1_off2_inb g))).read (Elt F) fi) = v501 at e0 ⊢
  generalize k1_pay3 (F := F) ((idxM.access (Rect.unit (s := S4x128) (k1_off2 g) S1x16.size (k1_off2_inb g))).read (Elt F) fi) = v496 at hb ⊢
  generalize k1_pay4 v3 0#32 1#32 g = v499 at hr ⊢
  have c0 : k1_chk1 v499 v501 := in_cols (F := F) d L fi hg (by decide) hr e0
  rw [wp_assume_of _ _ _ _ c0]
  iapply (wp_extractRow (defs := defs₀ (F := F)) 𝒱₀ (thr d L) none Set.univ (row := v499) (cl := v501) (src := rowsM) (dst := outM) (dR := ![512, 128]) (dO := ![16, 512]) (colOf (F := F) d L fi) g.val 0 fs _ rfl (k1_off3_eq g) rowPay hr e0) $$ H
  iintro %_ %_ H
  have e1 : ∀ l : Fin 16, ((k1_pay6 v496) (ix1 l)).toNat = colOf (F := F) d L fi (16 * g.val + l.val) + 1 := fun l => col_of rfl rfl (by decide) l (hb l)
  have c1 : k1_chk2 v499 (k1_pay6 v496) := in_cols (F := F) d L fi hg (by decide) hr e1
  rw [wp_assume_of _ _ _ _ c1]
  iapply (wp_extractRow (defs := defs₀ (F := F)) 𝒱₀ (thr d L) none Set.univ (row := v499) (cl := (k1_pay6 v496)) (src := rowsM) (dst := outM) (dR := ![512, 128]) (dO := ![16, 512]) (colOf (F := F) d L fi) g.val 1 fs _ rfl (k1_off4_eq g) rowPay hr e1) $$ H
  iintro %_ %_ H
  have e2 : ∀ l : Fin 16, ((k1_pay7 v496) (ix1 l)).toNat = colOf (F := F) d L fi (16 * g.val + l.val) + 2 := fun l => col_of rfl rfl (by decide) l (hb l)
  have c2 : k1_chk3 v499 (k1_pay7 v496) := in_cols (F := F) d L fi hg (by decide) hr e2
  rw [wp_assume_of _ _ _ _ c2]
  iapply (wp_extractRow (defs := defs₀ (F := F)) 𝒱₀ (thr d L) none Set.univ (row := v499) (cl := (k1_pay7 v496)) (src := rowsM) (dst := outM) (dR := ![512, 128]) (dO := ![16, 512]) (colOf (F := F) d L fi) g.val 2 fs _ rfl (k1_off5_eq g) rowPay hr e2) $$ H
  iintro %_ %_ H
  have e3 : ∀ l : Fin 16, ((k1_pay8 v496) (ix1 l)).toNat = colOf (F := F) d L fi (16 * g.val + l.val) + 3 := fun l => col_of rfl rfl (by decide) l (hb l)
  have c3 : k1_chk4 v499 (k1_pay8 v496) := in_cols (F := F) d L fi hg (by decide) hr e3
  rw [wp_assume_of _ _ _ _ c3]
  iapply (wp_extractRow (defs := defs₀ (F := F)) 𝒱₀ (thr d L) none Set.univ (row := v499) (cl := (k1_pay8 v496)) (src := rowsM) (dst := outM) (dR := ![512, 128]) (dO := ![16, 512]) (colOf (F := F) d L fi) g.val 3 fs _ rfl (k1_off6_eq g) rowPay hr e3) $$ H
  iintro %_ %_ H
  have e4 : ∀ l : Fin 16, ((k1_pay9 v496) (ix1 l)).toNat = colOf (F := F) d L fi (16 * g.val + l.val) + 4 := fun l => col_of rfl rfl (by decide) l (hb l)
  have c4 : k1_chk5 v499 (k1_pay9 v496) := in_cols (F := F) d L fi hg (by decide) hr e4
  rw [wp_assume_of _ _ _ _ c4]
  iapply (wp_extractRow (defs := defs₀ (F := F)) 𝒱₀ (thr d L) none Set.univ (row := v499) (cl := (k1_pay9 v496)) (src := rowsM) (dst := outM) (dR := ![512, 128]) (dO := ![16, 512]) (colOf (F := F) d L fi) g.val 4 fs _ rfl (k1_off7_eq g) rowPay hr e4) $$ H
  iintro %_ %_ H
  have e5 : ∀ l : Fin 16, ((k1_pay10 v496) (ix1 l)).toNat = colOf (F := F) d L fi (16 * g.val + l.val) + 5 := fun l => col_of rfl rfl (by decide) l (hb l)
  have c5 : k1_chk6 v499 (k1_pay10 v496) := in_cols (F := F) d L fi hg (by decide) hr e5
  rw [wp_assume_of _ _ _ _ c5]
  iapply (wp_extractRow (defs := defs₀ (F := F)) 𝒱₀ (thr d L) none Set.univ (row := v499) (cl := (k1_pay10 v496)) (src := rowsM) (dst := outM) (dR := ![512, 128]) (dO := ![16, 512]) (colOf (F := F) d L fi) g.val 5 fs _ rfl (k1_off8_eq g) rowPay hr e5) $$ H
  iintro %_ %_ H
  have e6 : ∀ l : Fin 16, ((k1_pay11 v496) (ix1 l)).toNat = colOf (F := F) d L fi (16 * g.val + l.val) + 6 := fun l => col_of rfl rfl (by decide) l (hb l)
  have c6 : k1_chk7 v499 (k1_pay11 v496) := in_cols (F := F) d L fi hg (by decide) hr e6
  rw [wp_assume_of _ _ _ _ c6]
  iapply (wp_extractRow (defs := defs₀ (F := F)) 𝒱₀ (thr d L) none Set.univ (row := v499) (cl := (k1_pay11 v496)) (src := rowsM) (dst := outM) (dR := ![512, 128]) (dO := ![16, 512]) (colOf (F := F) d L fi) g.val 6 fs _ rfl (k1_off9_eq g) rowPay hr e6) $$ H
  iintro %_ %_ H
  have e7 : ∀ l : Fin 16, ((k1_pay12 v496) (ix1 l)).toNat = colOf (F := F) d L fi (16 * g.val + l.val) + 7 := fun l => col_of rfl rfl (by decide) l (hb l)
  have c7 : k1_chk8 v499 (k1_pay12 v496) := in_cols (F := F) d L fi hg (by decide) hr e7
  rw [wp_assume_of _ _ _ _ c7]
  iapply (wp_extractRow (defs := defs₀ (F := F)) 𝒱₀ (thr d L) none Set.univ (row := v499) (cl := (k1_pay12 v496)) (src := rowsM) (dst := outM) (dR := ![512, 128]) (dO := ![16, 512]) (colOf (F := F) d L fi) g.val 7 fs _ rfl (k1_off10_eq g) rowPay hr e7) $$ H
  iintro %_ %_ H
  have e8 : ∀ l : Fin 16, ((k1_pay13 v496) (ix1 l)).toNat = colOf (F := F) d L fi (16 * g.val + l.val) + 8 := fun l => col_of rfl rfl (by decide) l (hb l)
  have c8 : k1_chk9 v499 (k1_pay13 v496) := in_cols (F := F) d L fi hg (by decide) hr e8
  rw [wp_assume_of _ _ _ _ c8]
  iapply (wp_extractRow (defs := defs₀ (F := F)) 𝒱₀ (thr d L) none Set.univ (row := v499) (cl := (k1_pay13 v496)) (src := rowsM) (dst := outM) (dR := ![512, 128]) (dO := ![16, 512]) (colOf (F := F) d L fi) g.val 8 fs _ rfl (k1_off11_eq g) rowPay hr e8) $$ H
  iintro %_ %_ H
  have e9 : ∀ l : Fin 16, ((k1_pay14 v496) (ix1 l)).toNat = colOf (F := F) d L fi (16 * g.val + l.val) + 9 := fun l => col_of rfl rfl (by decide) l (hb l)
  have c9 : k1_chk10 v499 (k1_pay14 v496) := in_cols (F := F) d L fi hg (by decide) hr e9
  rw [wp_assume_of _ _ _ _ c9]
  iapply (wp_extractRow (defs := defs₀ (F := F)) 𝒱₀ (thr d L) none Set.univ (row := v499) (cl := (k1_pay14 v496)) (src := rowsM) (dst := outM) (dR := ![512, 128]) (dO := ![16, 512]) (colOf (F := F) d L fi) g.val 9 fs _ rfl (k1_off12_eq g) rowPay hr e9) $$ H
  iintro %_ %_ H
  have e10 : ∀ l : Fin 16, ((k1_pay15 v496) (ix1 l)).toNat = colOf (F := F) d L fi (16 * g.val + l.val) + 10 := fun l => col_of rfl rfl (by decide) l (hb l)
  have c10 : k1_chk11 v499 (k1_pay15 v496) := in_cols (F := F) d L fi hg (by decide) hr e10
  rw [wp_assume_of _ _ _ _ c10]
  iapply (wp_extractRow (defs := defs₀ (F := F)) 𝒱₀ (thr d L) none Set.univ (row := v499) (cl := (k1_pay15 v496)) (src := rowsM) (dst := outM) (dR := ![512, 128]) (dO := ![16, 512]) (colOf (F := F) d L fi) g.val 10 fs _ rfl (k1_off13_eq g) rowPay hr e10) $$ H
  iintro %_ %_ H
  have e11 : ∀ l : Fin 16, ((k1_pay16 v496) (ix1 l)).toNat = colOf (F := F) d L fi (16 * g.val + l.val) + 11 := fun l => col_of rfl rfl (by decide) l (hb l)
  have c11 : k1_chk12 v499 (k1_pay16 v496) := in_cols (F := F) d L fi hg (by decide) hr e11
  rw [wp_assume_of _ _ _ _ c11]
  iapply (wp_extractRow (defs := defs₀ (F := F)) 𝒱₀ (thr d L) none Set.univ (row := v499) (cl := (k1_pay16 v496)) (src := rowsM) (dst := outM) (dR := ![512, 128]) (dO := ![16, 512]) (colOf (F := F) d L fi) g.val 11 fs _ rfl (k1_off14_eq g) rowPay hr e11) $$ H
  iintro %_ %_ H
  have e12 : ∀ l : Fin 16, ((k1_pay17 v496) (ix1 l)).toNat = colOf (F := F) d L fi (16 * g.val + l.val) + 12 := fun l => col_of rfl rfl (by decide) l (hb l)
  have c12 : k1_chk13 v499 (k1_pay17 v496) := in_cols (F := F) d L fi hg (by decide) hr e12
  rw [wp_assume_of _ _ _ _ c12]
  iapply (wp_extractRow (defs := defs₀ (F := F)) 𝒱₀ (thr d L) none Set.univ (row := v499) (cl := (k1_pay17 v496)) (src := rowsM) (dst := outM) (dR := ![512, 128]) (dO := ![16, 512]) (colOf (F := F) d L fi) g.val 12 fs _ rfl (k1_off15_eq g) rowPay hr e12) $$ H
  iintro %_ %_ H
  have e13 : ∀ l : Fin 16, ((k1_pay18 v496) (ix1 l)).toNat = colOf (F := F) d L fi (16 * g.val + l.val) + 13 := fun l => col_of rfl rfl (by decide) l (hb l)
  have c13 : k1_chk14 v499 (k1_pay18 v496) := in_cols (F := F) d L fi hg (by decide) hr e13
  rw [wp_assume_of _ _ _ _ c13]
  iapply (wp_extractRow (defs := defs₀ (F := F)) 𝒱₀ (thr d L) none Set.univ (row := v499) (cl := (k1_pay18 v496)) (src := rowsM) (dst := outM) (dR := ![512, 128]) (dO := ![16, 512]) (colOf (F := F) d L fi) g.val 13 fs _ rfl (k1_off16_eq g) rowPay hr e13) $$ H
  iintro %_ %_ H
  have e14 : ∀ l : Fin 16, ((k1_pay68 v496 14#32) (ix1 l)).toNat = colOf (F := F) d L fi (16 * g.val + l.val) + 14 := fun l => col_of rfl rfl (by decide) l (hb l)
  have c14 : k1_chk15 v499 (k1_pay68 v496 14#32) := in_cols (F := F) d L fi hg (by decide) hr e14
  rw [wp_assume_of _ _ _ _ c14]
  iapply (wp_extractRow (defs := defs₀ (F := F)) 𝒱₀ (thr d L) none Set.univ (row := v499) (cl := (k1_pay68 v496 14#32)) (src := rowsM) (dst := outM) (dR := ![512, 128]) (dO := ![16, 512]) (colOf (F := F) d L fi) g.val 14 fs _ rfl (k1_off17_eq g) rowPay hr e14) $$ H
  iintro %_ %_ H
  have e15 : ∀ l : Fin 16, ((k1_pay69 v496) (ix1 l)).toNat = colOf (F := F) d L fi (16 * g.val + l.val) + 15 := fun l => col_of rfl rfl (by decide) l (hb l)
  have c15 : k1_chk16 v499 (k1_pay69 v496) := in_cols (F := F) d L fi hg (by decide) hr e15
  rw [wp_assume_of _ _ _ _ c15]
  iapply (wp_extractRow (defs := defs₀ (F := F)) 𝒱₀ (thr d L) none Set.univ (row := v499) (cl := (k1_pay69 v496)) (src := rowsM) (dst := outM) (dR := ![512, 128]) (dO := ![16, 512]) (colOf (F := F) d L fi) g.val 15 fs _ rfl (k1_off18_eq g) rowPay hr e15) $$ H
  iintro %_ %_ H
  rw [wp_ret]
  imodintro
  icases H with ⟨Hs, %fd, %hM, Hd⟩
  unfold XInv
  isplitl [Hi]; · iexact Hi
  isplitl [Hs]; · iexact Hs
  iexists fd
  isplitr; · ipureintro; exact hM.next rfl
  iexact Hd

end Cert.Proof.KI
-- ==== Proof.UserTrip2.lean ====
/-
  One trip of the fetching kernel's second extraction loop: sixteen indexed loads out of the fetched rows, each stored as part of a row of the output.
-/
module

public import proofs.«01_k».proof.Proof.UserGroups

@[expose] public section

noncomputable section

namespace Cert.Proof.KI

open Cert.KernelIdeal Cert.KernelIdeal.Gen Cert.Proof.Moves

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

set_option cleanup.letToHave false in
set_option maxHeartbeats 4000000 in
/-- A trip of the extraction loop. -/
theorem utrip2 (d : Dev nD) (L : grid1.Coords) (a12 r0 r1 r2 r3 r4 r5 r6 r7 r8 r9 : DmaSems sig S_) {v3 : IVec S16 32} (h3 : ∀ l : Fin 16, (v3 (ix1 l)).toNat = l.val)
    (g : Fin k1_t2_loop.trips) (fi : Buf (Elt F) (idxM.view.loc (thr d L))) (fs : Buf (Elt F) (rowsM.view.loc (thr d L))) :
    XInv (F := F) d L g.val fi fs
      ⊢ wp frame (wpE (defs₀ (F := F)) 𝒱₀ (thr d L) none) Set.univ
          (k1_t2_body (F := F) L uidM (Memref.isWhole_whole _) cidM (Memref.isWhole_whole _) ut2M (Memref.isWhole_whole _) ct2M (Memref.isWhole_whole _) uM (Memref.isWhole_whole _) cM (Memref.isWhole_whole _) idxM (Memref.isWhole_whole _) ridxM (Memref.isWhole_whole _) rowsM (Memref.isWhole_whole _) outM (Memref.isWhole_whole _) a12 r0 r1 r2 r3 r4 r5 r6 r7 r8 r9 v3 g ())
          fun _ => XInv (F := F) d L (g.val + 1) fi fs := by
  have hg : g.val < 32 := g.isLt
  have hw : (Scalar.muli (Scf.iv 0#32 1#32 g) 16#32).toNat = 16 * g.val := by
    revert g; decide +kernel
  iintro ⟨Hi, H⟩
  unfold k1_t2_body
  simp only [k1_part5_eq_skeleton, k1_part6_eq_skeleton, k1_part7_eq_skeleton, k1_part8_eq_skeleton]
  unfold k1_part5_skel k1_part6_skel k1_part7_skel k1_part8_skel
  simp only [Prog.lift, Prog.bind_op, Prog.bind_ret, Prog.pure_eq_ret, Prog.bind_assoc]
  iapply (wp_load_rect (defs := defs₀ (F := F)) 𝒱₀ (thr d L) none Set.univ (m := idxM) (r := Rect.unit (s := S4x128) (k1_off20 g) S1x16.size (k1_off20_inb g)) (hl := View.loadsAt_vmem h_S1x16) (S := Finset.univ) (q := fullShare) (f := fi) (Finset.subset_univ _)) $$ Hi
  iintro Hi
  have hb : ∀ l : Fin 16, ((k1_pay19 (F := F) ((idxM.access (Rect.unit (s := S4x128) (k1_off20 g) S1x16.size (k1_off20_inb g))).read (Elt F) fi)) (ix1 l)).toNat
      = (idAt (F := F) d L fi (16 * g.val + l.val)).toNat % 8 * 16 := fun l => base_of rfl l ((idsOf (F := F) _ l).trans (ld_ids (F := F) d L fi g.val hg (off20_eq g) l))
  have hr : ∀ l : Fin 16, ((k1_pay20 v3 0#32 1#32 g) (ix1 l)).toNat = 16 * g.val + l.val := fun l => rowl_of hg rfl hw h3 l
  have e0 : ∀ l : Fin 16, ((k1_pay21 (F := F) ((idxM.access (Rect.unit (s := S4x128) (k1_off20 g) S1x16.size (k1_off20_inb g))).read (Elt F) fi)) (ix1 l)).toNat = colOf (F := F) d L fi (16 * g.val + l.val) + 0 := fun l => col_of rfl rfl (by decide) l (hb l)
  generalize k1_pay21 (F := F) ((idxM.access (Rect.unit (s := S4x128) (k1_off20 g) S1x16.size (k1_off20_inb g))).read (Elt F) fi) = v501 at e0 ⊢
  generalize k1_pay19 (F := F) ((idxM.access (Rect.unit (s := S4x128) (k1_off20 g) S1x16.size (k1_off20_inb g))).read (Elt F) fi) = v496 at hb ⊢
  generalize k1_pay20 v3 0#32 1#32 g = v499 at hr ⊢
  have c0 : k1_chk17 v499 v501 := in_cols (F := F) d L fi hg (by decide) hr e0
  rw [wp_assume_of _ _ _ _ c0]
  iapply (wp_extractRow (defs := defs₀ (F := F)) 𝒱₀ (thr d L) none Set.univ (row := v499) (cl := v501) (src := rowsM) (dst := outM) (dR := ![512, 128]) (dO := ![16, 512]) (colOf (F := F) d L fi) g.val 0 fs _ rfl (k1_off21_eq g) rowPay hr e0) $$ H
  iintro %_ %_ H
  have e1 : ∀ l : Fin 16, ((k1_pay22 v496) (ix1 l)).toNat = colOf (F := F) d L fi (16 * g.val + l.val) + 1 := fun l => col_of rfl rfl (by decide) l (hb l)
  have c1 : k1_chk18 v499 (k1_pay22 v496) := in_cols (F := F) d L fi hg (by decide) hr e1
  rw [wp_assume_of _ _ _ _ c1]
  iapply (wp_extractRow (defs := defs₀ (F := F)) 𝒱₀ (thr d L) none Set.univ (row := v499) (cl := (k1_pay22 v496)) (src := rowsM) (dst := outM) (dR := ![512, 128]) (dO := ![16, 512]) (colOf (F := F) d L fi) g.val 1 fs _ rfl (k1_off22_eq g) rowPay hr e1) $$ H
  iintro %_ %_ H
  have e2 : ∀ l : Fin 16, ((k1_pay23 v496) (ix1 l)).toNat = colOf (F := F) d L fi (16 * g.val + l.val) + 2 := fun l => col_of rfl rfl (by decide) l (hb l)
  have c2 : k1_chk19 v499 (k1_pay23 v496) := in_cols (F := F) d L fi hg (by decide) hr e2
  rw [wp_assume_of _ _ _ _ c2]
  iapply (wp_extractRow (defs := defs₀ (F := F)) 𝒱₀ (thr d L) none Set.univ (row := v499) (cl := (k1_pay23 v496)) (src := rowsM) (dst := outM) (dR := ![512, 128]) (dO := ![16, 512]) (colOf (F := F) d L fi) g.val 2 fs _ rfl (k1_off23_eq g) rowPay hr e2) $$ H
  iintro %_ %_ H
  have e3 : ∀ l : Fin 16, ((k1_pay24 v496) (ix1 l)).toNat = colOf (F := F) d L fi (16 * g.val + l.val) + 3 := fun l => col_of rfl rfl (by decide) l (hb l)
  have c3 : k1_chk20 v499 (k1_pay24 v496) := in_cols (F := F) d L fi hg (by decide) hr e3
  rw [wp_assume_of _ _ _ _ c3]
  iapply (wp_extractRow (defs := defs₀ (F := F)) 𝒱₀ (thr d L) none Set.univ (row := v499) (cl := (k1_pay24 v496)) (src := rowsM) (dst := outM) (dR := ![512, 128]) (dO := ![16, 512]) (colOf (F := F) d L fi) g.val 3 fs _ rfl (k1_off24_eq g) rowPay hr e3) $$ H
  iintro %_ %_ H
  have e4 : ∀ l : Fin 16, ((k1_pay25 v496) (ix1 l)).toNat = colOf (F := F) d L fi (16 * g.val + l.val) + 4 := fun l => col_of rfl rfl (by decide) l (hb l)
  have c4 : k1_chk21 v499 (k1_pay25 v496) := in_cols (F := F) d L fi hg (by decide) hr e4
  rw [wp_assume_of _ _ _ _ c4]
  iapply (wp_extractRow (defs := defs₀ (F := F)) 𝒱₀ (thr d L) none Set.univ (row := v499) (cl := (k1_pay25 v496)) (src := rowsM) (dst := outM) (dR := ![512, 128]) (dO := ![16, 512]) (colOf (F := F) d L fi) g.val 4 fs _ rfl (k1_off25_eq g) rowPay hr e4) $$ H
  iintro %_ %_ H
  have e5 : ∀ l : Fin 16, ((k1_pay26 v496) (ix1 l)).toNat = colOf (F := F) d L fi (16 * g.val + l.val) + 5 := fun l => col_of rfl rfl (by decide) l (hb l)
  have c5 : k1_chk22 v499 (k1_pay26 v496) := in_cols (F := F) d L fi hg (by decide) hr e5
  rw [wp_assume_of _ _ _ _ c5]
  iapply (wp_extractRow (defs := defs₀ (F := F)) 𝒱₀ (thr d L) none Set.univ (row := v499) (cl := (k1_pay26 v496)) (src := rowsM) (dst := outM) (dR := ![512, 128]) (dO := ![16, 512]) (colOf (F := F) d L fi) g.val 5 fs _ rfl (k1_off26_eq g) rowPay hr e5) $$ H
  iintro %_ %_ H
  have e6 : ∀ l : Fin 16, ((k1_pay27 v496) (ix1 l)).toNat = colOf (F := F) d L fi (16 * g.val + l.val) + 6 := fun l => col_of rfl rfl (by decide) l (hb l)
  have c6 : k1_chk23 v499 (k1_pay27 v496) := in_cols (F := F) d L fi hg (by decide) hr e6
  rw [wp_assume_of _ _ _ _ c6]
  iapply (wp_extractRow (defs := defs₀ (F := F)) 𝒱₀ (thr d L) none Set.univ (row := v499) (cl := (k1_pay27 v496)) (src := rowsM) (dst := outM) (dR := ![512, 128]) (dO := ![16, 512]) (colOf (F := F) d L fi) g.val 6 fs _ rfl (k1_off27_eq g) rowPay hr e6) $$ H
  iintro %_ %_ H
  have e7 : ∀ l : Fin 16, ((k1_pay28 v496) (ix1 l)).toNat = colOf (F := F) d L fi (16 * g.val + l.val) + 7 := fun l => col_of rfl rfl (by decide) l (hb l)
  have c7 : k1_chk24 v499 (k1_pay28 v496) := in_cols (F := F) d L fi hg (by decide) hr e7
  rw [wp_assume_of _ _ _ _ c7]
  iapply (wp_extractRow (defs := defs₀ (F := F)) 𝒱₀ (thr d L) none Set.univ (row := v499) (cl := (k1_pay28 v496)) (src := rowsM) (dst := outM) (dR := ![512, 128]) (dO := ![16, 512]) (colOf (F := F) d L fi) g.val 7 fs _ rfl (k1_off28_eq g) rowPay hr e7) $$ H
  iintro %_ %_ H
  have e8 : ∀ l : Fin 16, ((k1_pay29 v496) (ix1 l)).toNat = colOf (F := F) d L fi (16 * g.val + l.val) + 8 := fun l => col_of rfl rfl (by decide) l (hb l)
  have c8 : k1_chk25 v499 (k1_pay29 v496) := in_cols (F := F) d L fi hg (by decide) hr e8
  rw [wp_assume_of _ _ _ _ c8]
  iapply (wp_extractRow (defs := defs₀ (F := F)) 𝒱₀ (thr d L) none Set.univ (row := v499) (cl := (k1_pay29 v496)) (src := rowsM) (dst := outM) (dR := ![512, 128]) (dO := ![16, 512]) (colOf (F := F) d L fi) g.val 8 fs _ rfl (k1_off29_eq g) rowPay hr e8) $$ H
  iintro %_ %_ H
  have e9 : ∀ l : Fin 16, ((k1_pay30 v496) (ix1 l)).toNat = colOf (F := F) d L fi (16 * g.val + l.val) + 9 := fun l => col_of rfl rfl (by decide) l (hb l)
  have c9 : k1_chk26 v499 (k1_pay30 v496) := in_cols (F := F) d L fi hg (by decide) hr e9
  rw [wp_assume_of _ _ _ _ c9]
  iapply (wp_extractRow (defs := defs₀ (F := F)) 𝒱₀ (thr d L) none Set.univ (row := v499) (cl := (k1_pay30 v496)) (src := rowsM) (dst := outM) (dR := ![512, 128]) (dO := ![16, 512]) (colOf (F := F) d L fi) g.val 9 fs _ rfl (k1_off30_eq g) rowPay hr e9) $$ H
  iintro %_ %_ H
  have e10 : ∀ l : Fin 16, ((k1_pay31 v496) (ix1 l)).toNat = colOf (F := F) d L fi (16 * g.val + l.val) + 10 := fun l => col_of rfl rfl (by decide) l (hb l)
  have c10 : k1_chk27 v499 (k1_pay31 v496) := in_cols (F := F) d L fi hg (by decide) hr e10
  rw [wp_assume_of _ _ _ _ c10]
  iapply (wp_extractRow (defs := defs₀ (F := F)) 𝒱₀ (thr d L) none Set.univ (row := v499) (cl := (k1_pay31 v496)) (src := rowsM) (dst := outM) (dR := ![512, 128]) (dO := ![16, 512]) (colOf (F := F) d L fi) g.val 10 fs _ rfl (k1_off31_eq g) rowPay hr e10) $$ H
  iintro %_ %_ H
  have e11 : ∀ l : Fin 16, ((k1_pay32 v496) (ix1 l)).toNat = colOf (F := F) d L fi (16 * g.val + l.val) + 11 := fun l => col_of rfl rfl (by decide) l (hb l)
  have c11 : k1_chk28 v499 (k1_pay32 v496) := in_cols (F := F) d L fi hg (by decide) hr e11
  rw [wp_assume_of _ _ _ _ c11]
  iapply (wp_extractRow (defs := defs₀ (F := F)) 𝒱₀ (thr d L) none Set.univ (row := v499) (cl := (k1_pay32 v496)) (src := rowsM) (dst := outM) (dR := ![512, 128]) (dO := ![16, 512]) (colOf (F := F) d L fi) g.val 11 fs _ rfl (k1_off32_eq g) rowPay hr e11) $$ H
  iintro %_ %_ H
  have e12 : ∀ l : Fin 16, ((k1_pay33 v496) (ix1 l)).toNat = colOf (F := F) d L fi (16 * g.val + l.val) + 12 := fun l => col_of rfl rfl (by decide) l (hb l)
  have c12 : k1_chk29 v499 (k1_pay33 v496) := in_cols (F := F) d L fi hg (by decide) hr e12
  rw [wp_assume_of _ _ _ _ c12]
  iapply (wp_extractRow (defs := defs₀ (F := F)) 𝒱₀ (thr d L) none Set.univ (row := v499) (cl := (k1_pay33 v496)) (src := rowsM) (dst := outM) (dR := ![512, 128]) (dO := ![16, 512]) (colOf (F := F) d L fi) g.val 12 fs _ rfl (k1_off33_eq g) rowPay hr e12) $$ H
  iintro %_ %_ H
  have e13 : ∀ l : Fin 16, ((k1_pay34 v496) (ix1 l)).toNat = colOf (F := F) d L fi (16 * g.val + l.val) + 13 := fun l => col_of rfl rfl (by decide) l (hb l)
  have c13 : k1_chk30 v499 (k1_pay34 v496) := in_cols (F := F) d L fi hg (by decide) hr e13
  rw [wp_assume_of _ _ _ _ c13]
  iapply (wp_extractRow (defs := defs₀ (F := F)) 𝒱₀ (thr d L) none Set.univ (row := v499) (cl := (k1_pay34 v496)) (src := rowsM) (dst := outM) (dR := ![512, 128]) (dO := ![16, 512]) (colOf (F := F) d L fi) g.val 13 fs _ rfl (k1_off34_eq g) rowPay hr e13) $$ H
  iintro %_ %_ H
  have e14 : ∀ l : Fin 16, ((k1_pay1 v496 14#32) (ix1 l)).toNat = colOf (F := F) d L fi (16 * g.val + l.val) + 14 := fun l => col_of rfl rfl (by decide) l (hb l)
  have c14 : k1_chk31 v499 (k1_pay1 v496 14#32) := in_cols (F := F) d L fi hg (by decide) hr e14
  rw [wp_assume_of _ _ _ _ c14]
  iapply (wp_extractRow (defs := defs₀ (F := F)) 𝒱₀ (thr d L) none Set.univ (row := v499) (cl := (k1_pay1 v496 14#32)) (src := rowsM) (dst := outM) (dR := ![512, 128]) (dO := ![16, 512]) (colOf (F := F) d L fi) g.val 14 fs _ rfl (k1_off35_eq g) rowPay hr e14) $$ H
  iintro %_ %_ H
  have e15 : ∀ l : Fin 16, ((k1_pay2 v496) (ix1 l)).toNat = colOf (F := F) d L fi (16 * g.val + l.val) + 15 := fun l => col_of rfl rfl (by decide) l (hb l)
  have c15 : k1_chk32 v499 (k1_pay2 v496) := in_cols (F := F) d L fi hg (by decide) hr e15
  rw [wp_assume_of _ _ _ _ c15]
  iapply (wp_extractRow (defs := defs₀ (F := F)) 𝒱₀ (thr d L) none Set.univ (row := v499) (cl := (k1_pay2 v496)) (src := rowsM) (dst := outM) (dR := ![512, 128]) (dO := ![16, 512]) (colOf (F := F) d L fi) g.val 15 fs _ rfl (k1_off36_eq g) rowPay hr e15) $$ H
  iintro %_ %_ H
  rw [wp_ret]
  imodintro
  icases H with ⟨Hs, %fd, %hM, Hd⟩
  unfold XInv
  isplitl [Hi]; · iexact Hi
  isplitl [Hs]; · iexact Hs
  iexists fd
  isplitr; · ipureintro; exact hM.next rfl
  iexact Hd

end Cert.Proof.KI
-- ==== Proof.UserBody.lean ====
/-
  A tile's whole run of the fetching kernel.
-/
module

public import proofs.«01_k».proof.Proof.UserOut
public import proofs.«01_k».proof.Proof.UserTrip1
public import proofs.«01_k».proof.Proof.UserTrip2
public import proofs.«01_k».proof.Proof.PackBody

@[expose] public section

noncomputable section

namespace Cert.Proof.KI

open Cert.KernelIdeal Cert.KernelIdeal.Gen Cert.Proof.Moves

open Idealize.ShloMosaic
open Idealize.ShloMosaic.SparseCore (S V T rows gatherPayload)
open Idealize.ShloMosaic.SparseCore.Cfg (Pay tileRest ownBufs ownSems0 ownCells ownRefs mem_ownCells mem_ownRefs HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.ValueIdx

variable {F : FTy → Type} [FloatOps F]

local notation "𝕄" => MT nD τ sig (HIx 2) (Elt F) ℕ UU ℕ

theorem idsW_lt {ids : S16384.Idx → BitVec 32} {n : ℕ} (h : ∀ x, (ids x).toNat < n) (w b : ℕ) : (idsW ids w b).toNat < n := by
  unfold idsW
  split
  · exact h _
  · exact Nat.lt_of_le_of_lt (Nat.zero_le _) (h (ix1 (⟨0, by decide⟩ : Fin 16384)))

theorem lanes_toNat (l : Fin 16) : (lanes (ix1 l)).toNat = l.val := by
  rw [lanes_apply, BitVec.toNat_ofNat, Nat.mod_eq_of_lt (by have := l.isLt; omega)]

abbrev uidLoc (d : Dev nD) : Loc nD τ sig := (SparseCore.T d).loc main_arg0
abbrev cidLoc (d : Dev nD) : Loc nD τ sig := (SparseCore.T d).loc main_arg1
abbrev uLoc (d : Dev nD) : Loc nD τ sig := (SparseCore.T d).loc main_v5_0
abbrev cLoc (d : Dev nD) : Loc nD τ sig := (SparseCore.T d).loc main_v5_1

/-- The picked user records. -/
abbrev pickU {V : Type} (T : S125000x128.Idx → V) (ids : S16384.Idx → BitVec 32) : S16x16384.Idx → V := pickT 125000 (by decide) T ids
/-- The picked category records. -/
abbrev pickC {V : Type} (T : S128x128.Idx → V) (ids : S16384.Idx → BitVec 32) : S16x16384.Idx → V := pickT 128 (by decide) T ids

section Body

variable (d : Dev nD) (L : grid1.Coords) (q0 q1 q2 q3 : PosShare TreeShare) (uid : Buf (Elt F) (uidLoc d)) (cid : Buf (Elt F) (cidLoc d)) (t1 : Buf (Elt F) (ut2Loc d)) (t2 : Buf (Elt F) (ct2Loc d))
  (fu : Buf (Elt F) (uLoc d)) (fc : Buf (Elt F) (cLoc d)) (O : CellTallies nD τ sig (HIx 2)) (W : Waits sig (HIx 2))

/-- What a tile is handed for the fetching: read shares of the ids and of the packed tables, its columns of the two outputs. -/
def UserRes (w : ℕ) : sProp 𝕄 :=
  iprop((uidLoc d ↦{q0} uid) ∗ (cidLoc d ↦{q1} cid) ∗ (ut2Loc d ↦{q2} t1) ∗ (ct2Loc d ↦{q3} t2)
    ∗ (uLoc d ↦[colCells w]{fullShare} fu) ∗ (cLoc d ↦[colCells w]{fullShare} fc))

theorem src1_set (hinb : ∀ a, (![0, 0] : Fin 2 → ℕ) a + S125000x128.size a ≤ S125000x128.size a) : (srcT (R := 125000) ut2M hinb).view.set = Finset.univ :=
  (View.set_slice_whole _ _).trans (src_univ hinb)
theorem src2_set (hinb : ∀ a, (![0, 0] : Fin 2 → ℕ) a + S128x128.size a ≤ S128x128.size a) : (srcT (R := 128) ct2M hinb).view.set = Finset.univ :=
  (View.set_slice_whole _ _).trans (src_univ hinb)
theorem colU_set : (colK L uM).view.set = colCells (wid L) := (View.set_slice_whole _ _).trans (col_set L (off19_at L))
theorem colC_set : (colK L cM).view.set = colCells (wid L) := (View.set_slice_whole _ _).trans (col_set L (off19_at L))

set_option maxHeartbeats 16000000 in
set_option maxRecDepth 65536 in
/-- A tile's run of the fetching kernel. -/
theorem user_body (hF : (K (F := F)).Facts) (hO : ∀ g, O g none = 0) (huid : ∀ x, (uid x).toNat < 8 * 125000) (hcid : ∀ x, (cid x).toNat < 8 * 128) :
    iprop(levAts (K (F := F)).L (K (F := F)).lev ∗ emp ∗ UserRes (F := F) d q0 q1 q2 q3 uid cid t1 t2 fu fc (wid L)
        ∗ scopedBufs (thr d L) ∗ scopedSems0 (thr d L) ∗ owes (thr d L) O W)
      ⊢ wp frame (wpE (defs₀ (F := F)) 𝒱₀ (thr d L) none) Set.univ
          (cc1_user_k (F := F) L uidM (Memref.isWhole_whole _) cidM (Memref.isWhole_whole _) ut2M (Memref.isWhole_whole _) ct2M (Memref.isWhole_whole _) uM (Memref.isWhole_whole _) cM (Memref.isWhole_whole _) idxM (Memref.isWhole_whole _) ridxM (Memref.isWhole_whole _) rowsM (Memref.isWhole_whole _) outM (Memref.isWhole_whole _) cc1_scratch4 cc1_scoped0 cc1_scoped1 cc1_scoped2 cc1_scoped3 cc1_scoped4 cc1_scoped5 cc1_scoped6 cc1_scoped7 cc1_scoped8 cc1_scoped9)
          fun _ => iprop(UserRes (F := F) d q0 q1 q2 q3 uid cid t1 t2 (pickU t1 uid : Buf (Elt F) (uLoc d)) (pickC t2 cid : Buf (Elt F) (cLoc d)) (wid L)
            ∗ scopedBufs (thr d L) ∗ scopedSems0 (thr d L) ∗ ∃ W', ⌜∀ p ∈ W', p ∈ W ∨ p.2 = none⌝ ∗ owes (thr d L) O W') := by
  simp only [cc1_user_k_eq_skeleton]; unfold cc1_user_k_skel
  rw [(K (F := F)).scopedBufs_V hF d (cV L) (jV L), SparseCore.Cfg.scopedSems0_V (Val := Elt F) d (cV L) (jV L),
    ownSems0_take d L [cc1_scratch4.sem, cc1_scoped0.sem, cc1_scoped1.sem, cc1_scoped2.sem, cc1_scoped3.sem, cc1_scoped4.sem, cc1_scoped5.sem, cc1_scoped6.sem, cc1_scoped7.sem, cc1_scoped8.sem, cc1_scoped9.sem] (by decide) (by decide),
    ownBufs_take d L [cc1_scratch0, cc1_scratch1, cc1_scratch2, cc1_scratch3] (by decide) (by intro b hb; fin_cases hb <;> rfl)]
  simp only [List.foldr]
  unfold UserRes
  iintro ⟨#Hlv, -, ⟨Huid, Hcid, Ht1, Ht2, Hu, Hc⟩, ⟨Hidx, Hrid, Hrows, Hout, Hbufs⟩, ⟨Hg, Hr0, Hr1, Hr2, Hr3, Hr4, Hr5, Hr6, Hr7, Hr8, Hr9, Hsems⟩, HO⟩
  ihave Hmw := (show levAts (K (F := F)).L (K (F := F)).lev ⊢ Transfers.MayWaits (thr d L) (none : HIx 2) O from
    (K (F := F)).mayWaits_none (thr := thr d L) hO) $$ Hlv
  icases Hmw with #Hmw
  ihave HO := (show (owes (thr d L) O W : sProp 𝕄) ⊢ OweN (F := F) (thr d L) O W from by
    unfold OweN
    iintro H
    iexists W
    isplitr; · ipureintro; exact fun p hp => .inl hp
    iexact H) $$ HO
  -- user ids
  ihave Hids := (show (iprop(∃ fd, idxM.view.loc (thr d L) ↦{fullShare} fd) : sProp 𝕄) ⊢ IdsInv (F := F) d L (idsW uid (wid L)) 0 from by
    unfold IdsInv
    iintro ⟨%fd, H⟩
    iexists fd
    isplitr; · ipureintro; intro b hb; omega
    iexact H) $$ Hidx
  simp only [k1_part9_eq_skeleton]; unfold k1_part9_skel
  simp only [Prog.lift, Prog.bind_op, Prog.bind_ret, Prog.pure_eq_ret, Prog.bind_assoc]
  iapply (wp_idStep (F := F) d L uidM 0 (q := q0) (fu := uid) (idsW uid (wid L)) (off := k1_off1 L 0#32) (n := 0) rfl
    (fun l => ids_at (F := F) d L uidM uid 0 (show k1_off1 L 0#32 = _ from off1_at L 0) l)) $$ [Huid Hids Hr0 HO]
  · isplitr; · iexact Hmw
    isplitl [Huid]; · iexact Huid
    isplitl [Hids]; · iexact Hids
    isplitl [Hr0]; · iexact Hr0
    iexact HO
  iintro ⟨Huid, Hids, Hr0, HO⟩
  iapply (wp_idStep (F := F) d L uidM 1 (q := q0) (fu := uid) (idsW uid (wid L)) (off := k1_off1 L 128#32) (n := 1) rfl
    (fun l => ids_at (F := F) d L uidM uid 1 (show k1_off1 L 128#32 = _ from off1_at L 1) l)) $$ [Huid Hids Hr1 HO]
  · isplitr; · iexact Hmw
    isplitl [Huid]; · iexact Huid
    isplitl [Hids]; · iexact Hids
    isplitl [Hr1]; · iexact Hr1
    iexact HO
  iintro ⟨Huid, Hids, Hr1, HO⟩
  simp only [k1_part10_eq_skeleton]; unfold k1_part10_skel
  simp only [Prog.lift, Prog.bind_op, Prog.bind_ret, Prog.pure_eq_ret, Prog.bind_assoc]
  iapply (wp_idStep (F := F) d L uidM 2 (q := q0) (fu := uid) (idsW uid (wid L)) (off := k1_off1 L 256#32) (n := 2) rfl
    (fun l => ids_at (F := F) d L uidM uid 2 (show k1_off1 L 256#32 = _ from off1_at L 2) l)) $$ [Huid Hids Hr2 HO]
  · isplitr; · iexact Hmw
    isplitl [Huid]; · iexact Huid
    isplitl [Hids]; · iexact Hids
    isplitl [Hr2]; · iexact Hr2
    iexact HO
  iintro ⟨Huid, Hids, Hr2, HO⟩
  iapply (wp_idStep (F := F) d L uidM 3 (q := q0) (fu := uid) (idsW uid (wid L)) (off := k1_off1 L 384#32) (n := 3) rfl
    (fun l => ids_at (F := F) d L uidM uid 3 (show k1_off1 L 384#32 = _ from off1_at L 3) l)) $$ [Huid Hids Hr3 HO]
  · isplitr; · iexact Hmw
    isplitl [Huid]; · iexact Huid
    isplitl [Hids]; · iexact Hids
    isplitl [Hr3]; · iexact Hr3
    iexact HO
  iintro ⟨Huid, Hids, Hr3, HO⟩
  unfold IdsInv
  icases Hids with ⟨%fiU, %hfiU, Hi⟩
  ihave Hsh := (show (iprop((idxM.view.loc (thr d L) ↦{fullShare} fiU) ∗ ∃ fd, ridxM.view.loc (thr d L) ↦{fullShare} fd) : sProp 𝕄) ⊢ ShInv (F := F) d L fiU 0 from by
    unfold ShInv
    iintro ⟨Hi, %fd, H⟩
    isplitl [Hi]; · iexact Hi
    iexists fd
    isplitr; · ipureintro; intro b hb; omega
    iexact H) $$ [Hi Hrid]
  · isplitl [Hi]; · iexact Hi
    iexact Hrid
  -- the packed rows' list
  iapply (wp_shiftStep (F := F) d L fiU 0 (by decide) (off := ![0, 0]) rfl (fun ld l => shPay ld l)) $$ Hsh
  iintro %_ %_ Hsh
  iapply (wp_shiftStep (F := F) d L fiU 1 (by decide) (off := ![0, 16]) rfl (fun ld l => shPay ld l)) $$ Hsh
  iintro %_ %_ Hsh
  simp only [k1_part11_eq_skeleton]; unfold k1_part11_skel
  simp only [Prog.lift, Prog.bind_op, Prog.bind_ret, Prog.pure_eq_ret, Prog.bind_assoc]
  iapply (wp_shiftStep (F := F) d L fiU 2 (by decide) (off := ![0, 32]) rfl (fun ld l => shPay ld l)) $$ Hsh
  iintro %_ %_ Hsh
  iapply (wp_shiftStep (F := F) d L fiU 3 (by decide) (off := ![0, 48]) rfl (fun ld l => shPay ld l)) $$ Hsh
  iintro %_ %_ Hsh
  iapply (wp_shiftStep (F := F) d L fiU 4 (by decide) (off := ![0, 64]) rfl (fun ld l => shPay ld l)) $$ Hsh
  iintro %_ %_ Hsh
  iapply (wp_shiftStep (F := F) d L fiU 5 (by decide) (off := ![0, 80]) rfl (fun ld l => shPay ld l)) $$ Hsh
  iintro %_ %_ Hsh
  simp only [k1_part12_eq_skeleton]; unfold k1_part12_skel
  simp only [Prog.lift, Prog.bind_op, Prog.bind_ret, Prog.pure_eq_ret, Prog.bind_assoc]
  iapply (wp_shiftStep (F := F) d L fiU 6 (by decide) (off := ![0, 96]) rfl (fun ld l => shPay ld l)) $$ Hsh
  iintro %_ %_ Hsh
  iapply (wp_shiftStep (F := F) d L fiU 7 (by decide) (off := ![0, 112]) rfl (fun ld l => shPay ld l)) $$ Hsh
  iintro %_ %_ Hsh
  iapply (wp_shiftStep (F := F) d L fiU 8 (by decide) (off := ![1, 0]) rfl (fun ld l => shPay ld l)) $$ Hsh
  iintro %_ %_ Hsh
  iapply (wp_shiftStep (F := F) d L fiU 9 (by decide) (off := ![1, 16]) rfl (fun ld l => shPay ld l)) $$ Hsh
  iintro %_ %_ Hsh
  simp only [k1_part13_eq_skeleton]; unfold k1_part13_skel
  simp only [Prog.lift, Prog.bind_op, Prog.bind_ret, Prog.pure_eq_ret, Prog.bind_assoc]
  iapply (wp_shiftStep (F := F) d L fiU 10 (by decide) (off := ![1, 32]) rfl (fun ld l => shPay ld l)) $$ Hsh
  iintro %_ %_ Hsh
  iapply (wp_shiftStep (F := F) d L fiU 11 (by decide) (off := ![1, 48]) rfl (fun ld l => shPay ld l)) $$ Hsh
  iintro %_ %_ Hsh
  iapply (wp_shiftStep (F := F) d L fiU 12 (by decide) (off := ![1, 64]) rfl (fun ld l => shPay ld l)) $$ Hsh
  iintro %_ %_ Hsh
  iapply (wp_shiftStep (F := F) d L fiU 13 (by decide) (off := ![1, 80]) rfl (fun ld l => shPay ld l)) $$ Hsh
  iintro %_ %_ Hsh
  simp only [k1_part14_eq_skeleton]; unfold k1_part14_skel
  simp only [Prog.lift, Prog.bind_op, Prog.bind_ret, Prog.pure_eq_ret, Prog.bind_assoc]
  iapply (wp_shiftStep (F := F) d L fiU 14 (by decide) (off := ![1, 96]) rfl (fun ld l => shPay ld l)) $$ Hsh
  iintro %_ %_ Hsh
  iapply (wp_shiftStep (F := F) d L fiU 15 (by decide) (off := ![1, 112]) rfl (fun ld l => shPay ld l)) $$ Hsh
  iintro %_ %_ Hsh
  iapply (wp_shiftStep (F := F) d L fiU 16 (by decide) (off := ![2, 0]) rfl (fun ld l => shPay ld l)) $$ Hsh
  iintro %_ %_ Hsh
  iapply (wp_shiftStep (F := F) d L fiU 17 (by decide) (off := ![2, 16]) rfl (fun ld l => shPay ld l)) $$ Hsh
  iintro %_ %_ Hsh
  iapply (wp_shiftStep (F := F) d L fiU 18 (by decide) (off := ![2, 32]) rfl (fun ld l => shPay ld l)) $$ Hsh
  iintro %_ %_ Hsh
  simp only [k1_part15_eq_skeleton]; unfold k1_part15_skel
  simp only [Prog.lift, Prog.bind_op, Prog.bind_ret, Prog.pure_eq_ret, Prog.bind_assoc]
  iapply (wp_shiftStep (F := F) d L fiU 19 (by decide) (off := ![2, 48]) rfl (fun ld l => shPay ld l)) $$ Hsh
  iintro %_ %_ Hsh
  iapply (wp_shiftStep (F := F) d L fiU 20 (by decide) (off := ![2, 64]) rfl (fun ld l => shPay ld l)) $$ Hsh
  iintro %_ %_ Hsh
  iapply (wp_shiftStep (F := F) d L fiU 21 (by decide) (off := ![2, 80]) rfl (fun ld l => shPay ld l)) $$ Hsh
  iintro %_ %_ Hsh
  iapply (wp_shiftStep (F := F) d L fiU 22 (by decide) (off := ![2, 96]) rfl (fun ld l => shPay ld l)) $$ Hsh
  iintro %_ %_ Hsh
  simp only [k1_part16_eq_skeleton]; unfold k1_part16_skel
  simp only [Prog.lift, Prog.bind_op, Prog.bind_ret, Prog.pure_eq_ret, Prog.bind_assoc]
  iapply (wp_shiftStep (F := F) d L fiU 23 (by decide) (off := ![2, 112]) rfl (fun ld l => shPay ld l)) $$ Hsh
  iintro %_ %_ Hsh
  iapply (wp_shiftStep (F := F) d L fiU 24 (by decide) (off := ![3, 0]) rfl (fun ld l => shPay ld l)) $$ Hsh
  iintro %_ %_ Hsh
  iapply (wp_shiftStep (F := F) d L fiU 25 (by decide) (off := ![3, 16]) rfl (fun ld l => shPay ld l)) $$ Hsh
  iintro %_ %_ Hsh
  iapply (wp_shiftStep (F := F) d L fiU 26 (by decide) (off := ![3, 32]) rfl (fun ld l => shPay ld l)) $$ Hsh
  iintro %_ %_ Hsh
  simp only [k1_part17_eq_skeleton]; unfold k1_part17_skel
  simp only [Prog.lift, Prog.bind_op, Prog.bind_ret, Prog.pure_eq_ret, Prog.bind_assoc]
  iapply (wp_shiftStep (F := F) d L fiU 27 (by decide) (off := ![3, 48]) rfl (fun ld l => shPay ld l)) $$ Hsh
  iintro %_ %_ Hsh
  iapply (wp_shiftStep (F := F) d L fiU 28 (by decide) (off := ![3, 64]) rfl (fun ld l => shPay ld l)) $$ Hsh
  iintro %_ %_ Hsh
  iapply (wp_shiftStep (F := F) d L fiU 29 (by decide) (off := ![3, 80]) rfl (fun ld l => shPay ld l)) $$ Hsh
  iintro %_ %_ Hsh
  iapply (wp_shiftStep (F := F) d L fiU 30 (by decide) (off := ![3, 96]) rfl (fun ld l => shPay ld l)) $$ Hsh
  iintro %_ %_ Hsh
  iapply (wp_shiftStep (F := F) d L fiU 31 (by decide) (off := ![3, 112]) rfl (fun ld l => shPay ld l)) $$ Hsh
  iintro %_ %_ Hsh
  -- the rows fetched
  simp only [k1_part18_eq_skeleton]; unfold k1_part18_skel
  simp only [Prog.lift, Prog.bind_op, Prog.bind_ret, Prog.pure_eq_ret, Prog.bind_assoc]
  simp only [k1_part19_eq_skeleton]; unfold k1_part19_skel
  simp only [Prog.lift, Prog.bind_op, Prog.bind_ret, Prog.pure_eq_ret, Prog.bind_assoc]
  unfold ShInv
  icases Hsh with ⟨Hi, %frU, %hfrU, Hr⟩
  have hinU : ∀ b < 512, (ridAt (F := F) d L frU b).toNat < 125000 := by
    intro b hb
    rw [hfrU b hb, hfiU b hb]
    have := idsW_lt huid (wid L) b
    omega
  icases Hrows with ⟨%fdU, Hrows⟩
  ihave Ht1 := (Entails.of_eq (congrArg (fun S => ((ut2M).view.loc (thr d L) ↦[S]{q2} t1 : sProp 𝕄)) (src1_set inb_S125000x128_S125000x128_0_0).symm)) $$ Ht1
  iapply (wp_fetch (F := F) d L (R := 125000) ut2M gathers_S125000x128_S128x128 q2 inb_S125000x128_S125000x128_0_0 t1 fdU frU hinU) $$ [Ht1 Hrows Hr Hg HO]
  · isplitr; · iexact Hmw
    isplitl [Ht1]; · iexact Ht1
    isplitl [Hrows]; · iexact Hrows
    isplitl [Hr]; · iexact Hr
    isplitl [Hg]; · iexact Hg
    iexact HO
  iintro ⟨Ht1, Hrows, Hr, Hg, HO⟩
  ihave Ht1 := (Entails.of_eq (congrArg (fun S => ((ut2M).view.loc (thr d L) ↦[S]{q2} t1 : sProp 𝕄)) (src1_set inb_S125000x128_S125000x128_0_0))) $$ Ht1
  -- the entries picked
  icases Hout with ⟨%foU, Hout⟩
  iapply (Scf.wp_for_bind frame (wpE (defs₀ (F := F)) 𝒱₀ (thr d L) none) Set.univ _ _ _ k1_t1_ok _ _
    (fun k _ => XInv (F := F) d L k fiU (fetched (ut2M.view.read (Elt F) t1) (ridAt (F := F) d L frU) hinU : Buf (Elt F) (rowsM.view.loc (thr d L))))
    (fun k _ => utrip1 (F := F) d L cc1_scratch4 cc1_scoped0 cc1_scoped1 cc1_scoped2 cc1_scoped3 cc1_scoped4 cc1_scoped5 cc1_scoped6 cc1_scoped7 cc1_scoped8 cc1_scoped9 _ lanes_toNat k fiU (fetched (ut2M.view.read (Elt F) t1) (ridAt (F := F) d L frU) hinU : Buf (Elt F) (rowsM.view.loc (thr d L))))) $$ [Hi Hrows Hout]
  · unfold XInv
    isplitl [Hi]; · iexact Hi
    isplitl [Hrows]; · iexact Hrows
    iexists foU
    isplitr; · ipureintro; exact Picked.zero _ _ _
    iexact Hout
  iintro %_ H
  unfold XInv
  icases H with ⟨Hi, Hrows, %fpU, %hpU, Hout⟩
  ihave Hu := (Entails.of_eq (congrArg (fun S => ((uM).view.loc (thr d L) ↦[S]{fullShare} fu : sProp 𝕄)) (colU_set L).symm)) $$ Hu
  iapply (wp_outStep (F := F) d L uM fpU fu (pickU t1 uid : Buf (Elt F) (uLoc d)) (fun x hx => by
      obtain ⟨y, -, rfl⟩ := Finset.mem_map.1 hx
      refine (View.write_emb_of_mem _ _ (Finset.mem_univ _)).trans ?_
      exact (out_val (F := F) d L (by decide) t1 uid huid fiU (ridAt (F := F) d L frU) hinU hfiU hfrU (outM.view.read (Elt F) fpU) hpU y _
        (col_emb L (off19_at L) y).1 (col_emb L (off19_at L) y).2).symm)) $$ [Hout Hu Hr4 HO]
  · isplitr; · iexact Hmw
    isplitl [Hout]; · iexact Hout
    isplitl [Hu]; · iexact Hu
    isplitl [Hr4]; · iexact Hr4
    iexact HO
  iintro ⟨Hout, Hu, Hr4, HO⟩
  ihave Hu := (Entails.of_eq (congrArg (fun S => ((uM).view.loc (thr d L) ↦[S]{fullShare} (pickU t1 uid : Buf (Elt F) (uLoc d)) : sProp 𝕄)) (colU_set L))) $$ Hu
  ihave Hidx := (show (idxM.view.loc (thr d L) ↦{fullShare} fiU : sProp 𝕄) ⊢ iprop(∃ fd, idxM.view.loc (thr d L) ↦{fullShare} fd) from by
    iintro H
    iexists _
    iexact H) $$ Hi
  ihave Hrid := (show (ridxM.view.loc (thr d L) ↦{fullShare} frU : sProp 𝕄) ⊢ iprop(∃ fd, ridxM.view.loc (thr d L) ↦{fullShare} fd) from by
    iintro H
    iexists _
    iexact H) $$ Hr
  ihave Hrows := (show (rowsM.view.loc (thr d L) ↦{fullShare} (fetched (ut2M.view.read (Elt F) t1) (ridAt (F := F) d L frU) hinU : Buf (Elt F) (rowsM.view.loc (thr d L))) : sProp 𝕄) ⊢ iprop(∃ fd, rowsM.view.loc (thr d L) ↦{fullShare} fd) from by
    iintro H
    iexists _
    iexact H) $$ Hrows
  ihave Hout := (show (outM.view.loc (thr d L) ↦{fullShare} fpU : sProp 𝕄) ⊢ iprop(∃ fd, outM.view.loc (thr d L) ↦{fullShare} fd) from by
    iintro H
    iexists _
    iexact H) $$ Hout
  -- category ids
  ihave Hids := (show (iprop(∃ fd, idxM.view.loc (thr d L) ↦{fullShare} fd) : sProp 𝕄) ⊢ IdsInv (F := F) d L (idsW cid (wid L)) 0 from by
    unfold IdsInv
    iintro ⟨%fd, H⟩
    iexists fd
    isplitr; · ipureintro; intro b hb; omega
    iexact H) $$ Hidx
  simp only [k1_part20_eq_skeleton]; unfold k1_part20_skel
  simp only [Prog.lift, Prog.bind_op, Prog.bind_ret, Prog.pure_eq_ret, Prog.bind_assoc]
  iapply (wp_idStep (F := F) d L cidM 0 (q := q1) (fu := cid) (idsW cid (wid L)) (off := k1_off1 L 0#32) (n := 0) rfl
    (fun l => ids_at (F := F) d L cidM cid 0 (show k1_off1 L 0#32 = _ from off1_at L 0) l)) $$ [Hcid Hids Hr5 HO]
  · isplitr; · iexact Hmw
    isplitl [Hcid]; · iexact Hcid
    isplitl [Hids]; · iexact Hids
    isplitl [Hr5]; · iexact Hr5
    iexact HO
  iintro ⟨Hcid, Hids, Hr5, HO⟩
  iapply (wp_idStep (F := F) d L cidM 1 (q := q1) (fu := cid) (idsW cid (wid L)) (off := k1_off1 L 128#32) (n := 1) rfl
    (fun l => ids_at (F := F) d L cidM cid 1 (show k1_off1 L 128#32 = _ from off1_at L 1) l)) $$ [Hcid Hids Hr6 HO]
  · isplitr; · iexact Hmw
    isplitl [Hcid]; · iexact Hcid
    isplitl [Hids]; · iexact Hids
    isplitl [Hr6]; · iexact Hr6
    iexact HO
  iintro ⟨Hcid, Hids, Hr6, HO⟩
  iapply (wp_idStep (F := F) d L cidM 2 (q := q1) (fu := cid) (idsW cid (wid L)) (off := k1_off1 L 256#32) (n := 2) rfl
    (fun l => ids_at (F := F) d L cidM cid 2 (show k1_off1 L 256#32 = _ from off1_at L 2) l)) $$ [Hcid Hids Hr7 HO]
  · isplitr; · iexact Hmw
    isplitl [Hcid]; · iexact Hcid
    isplitl [Hids]; · iexact Hids
    isplitl [Hr7]; · iexact Hr7
    iexact HO
  iintro ⟨Hcid, Hids, Hr7, HO⟩
  simp only [k1_part21_eq_skeleton]; unfold k1_part21_skel
  simp only [Prog.lift, Prog.bind_op, Prog.bind_ret, Prog.pure_eq_ret, Prog.bind_assoc]
  iapply (wp_idStep (F := F) d L cidM 3 (q := q1) (fu := cid) (idsW cid (wid L)) (off := k1_off1 L 384#32) (n := 3) rfl
    (fun l => ids_at (F := F) d L cidM cid 3 (show k1_off1 L 384#32 = _ from off1_at L 3) l)) $$ [Hcid Hids Hr8 HO]
  · isplitr; · iexact Hmw
    isplitl [Hcid]; · iexact Hcid
    isplitl [Hids]; · iexact Hids
    isplitl [Hr8]; · iexact Hr8
    iexact HO
  iintro ⟨Hcid, Hids, Hr8, HO⟩
  unfold IdsInv
  icases Hids with ⟨%fiC, %hfiC, Hi⟩
  ihave Hsh := (show (iprop((idxM.view.loc (thr d L) ↦{fullShare} fiC) ∗ ∃ fd, ridxM.view.loc (thr d L) ↦{fullShare} fd) : sProp 𝕄) ⊢ ShInv (F := F) d L fiC 0 from by
    unfold ShInv
    iintro ⟨Hi, %fd, H⟩
    isplitl [Hi]; · iexact Hi
    iexists fd
    isplitr; · ipureintro; intro b hb; omega
    iexact H) $$ [Hi Hrid]
  · isplitl [Hi]; · iexact Hi
    iexact Hrid
  -- the packed rows' list
  iapply (wp_shiftStep (F := F) d L fiC 0 (by decide) (off := ![0, 0]) rfl (fun ld l => shPay ld l)) $$ Hsh
  iintro %_ %_ Hsh
  iapply (wp_shiftStep (F := F) d L fiC 1 (by decide) (off := ![0, 16]) rfl (fun ld l => shPay ld l)) $$ Hsh
  iintro %_ %_ Hsh
  iapply (wp_shiftStep (F := F) d L fiC 2 (by decide) (off := ![0, 32]) rfl (fun ld l => shPay ld l)) $$ Hsh
  iintro %_ %_ Hsh
  simp only [k1_part22_eq_skeleton]; unfold k1_part22_skel
  simp only [Prog.lift, Prog.bind_op, Prog.bind_ret, Prog.pure_eq_ret, Prog.bind_assoc]
  iapply (wp_shiftStep (F := F) d L fiC 3 (by decide) (off := ![0, 48]) rfl (fun ld l => shPay ld l)) $$ Hsh
  iintro %_ %_ Hsh
  iapply (wp_shiftStep (F := F) d L fiC 4 (by decide) (off := ![0, 64]) rfl (fun ld l => shPay ld l)) $$ Hsh
  iintro %_ %_ Hsh
  iapply (wp_shiftStep (F := F) d L fiC 5 (by decide) (off := ![0, 80]) rfl (fun ld l => shPay ld l)) $$ Hsh
  iintro %_ %_ Hsh
  iapply (wp_shiftStep (F := F) d L fiC 6 (by decide) (off := ![0, 96]) rfl (fun ld l => shPay ld l)) $$ Hsh
  iintro %_ %_ Hsh
  simp only [k1_part23_eq_skeleton]; unfold k1_part23_skel
  simp only [Prog.lift, Prog.bind_op, Prog.bind_ret, Prog.pure_eq_ret, Prog.bind_assoc]
  iapply (wp_shiftStep (F := F) d L fiC 7 (by decide) (off := ![0, 112]) rfl (fun ld l => shPay ld l)) $$ Hsh
  iintro %_ %_ Hsh
  iapply (wp_shiftStep (F := F) d L fiC 8 (by decide) (off := ![1, 0]) rfl (fun ld l => shPay ld l)) $$ Hsh
  iintro %_ %_ Hsh
  iapply (wp_shiftStep (F := F) d L fiC 9 (by decide) (off := ![1, 16]) rfl (fun ld l => shPay ld l)) $$ Hsh
  iintro %_ %_ Hsh
  iapply (wp_shiftStep (F := F) d L fiC 10 (by decide) (off := ![1, 32]) rfl (fun ld l => shPay ld l)) $$ Hsh
  iintro %_ %_ Hsh
  iapply (wp_shiftStep (F := F) d L fiC 11 (by decide) (off := ![1, 48]) rfl (fun ld l => shPay ld l)) $$ Hsh
  iintro %_ %_ Hsh
  simp only [k1_part24_eq_skeleton]; unfold k1_part24_skel
  simp only [Prog.lift, Prog.bind_op, Prog.bind_ret, Prog.pure_eq_ret, Prog.bind_assoc]
  iapply (wp_shiftStep (F := F) d L fiC 12 (by decide) (off := ![1, 64]) rfl (fun ld l => shPay ld l)) $$ Hsh
  iintro %_ %_ Hsh
  iapply (wp_shiftStep (F := F) d L fiC 13 (by decide) (off := ![1, 80]) rfl (fun ld l => shPay ld l)) $$ Hsh
  iintro %_ %_ Hsh
  iapply (wp_shiftStep (F := F) d L fiC 14 (by decide) (off := ![1, 96]) rfl (fun ld l => shPay ld l)) $$ Hsh
  iintro %_ %_ Hsh
  iapply (wp_shiftStep (F := F) d L fiC 15 (by decide) (off := ![1, 112]) rfl (fun ld l => shPay ld l)) $$ Hsh
  iintro %_ %_ Hsh
  simp only [k1_part25_eq_skeleton]; unfold k1_part25_skel
  simp only [Prog.lift, Prog.bind_op, Prog.bind_ret, Prog.pure_eq_ret, Prog.bind_assoc]
  iapply (wp_shiftStep (F := F) d L fiC 16 (by decide) (off := ![2, 0]) rfl (fun ld l => shPay ld l)) $$ Hsh
  iintro %_ %_ Hsh
  iapply (wp_shiftStep (F := F) d L fiC 17 (by decide) (off := ![2, 16]) rfl (fun ld l => shPay ld l)) $$ Hsh
  iintro %_ %_ Hsh
  iapply (wp_shiftStep (F := F) d L fiC 18 (by decide) (off := ![2, 32]) rfl (fun ld l => shPay ld l)) $$ Hsh
  iintro %_ %_ Hsh
  iapply (wp_shiftStep (F := F) d L fiC 19 (by decide) (off := ![2, 48]) rfl (fun ld l => shPay ld l)) $$ Hsh
  iintro %_ %_ Hsh
  simp only [k1_part26_eq_skeleton]; unfold k1_part26_skel
  simp only [Prog.lift, Prog.bind_op, Prog.bind_ret, Prog.pure_eq_ret, Prog.bind_assoc]
  iapply (wp_shiftStep (F := F) d L fiC 20 (by decide) (off := ![2, 64]) rfl (fun ld l => shPay ld l)) $$ Hsh
  iintro %_ %_ Hsh
  iapply (wp_shiftStep (F := F) d L fiC 21 (by decide) (off := ![2, 80]) rfl (fun ld l => shPay ld l)) $$ Hsh
  iintro %_ %_ Hsh
  iapply (wp_shiftStep (F := F) d L fiC 22 (by decide) (off := ![2, 96]) rfl (fun ld l => shPay ld l)) $$ Hsh
  iintro %_ %_ Hsh
  iapply (wp_shiftStep (F := F) d L fiC 23 (by decide) (off := ![2, 112]) rfl (fun ld l => shPay ld l)) $$ Hsh
  iintro %_ %_ Hsh
  iapply (wp_shiftStep (F := F) d L fiC 24 (by decide) (off := ![3, 0]) rfl (fun ld l => shPay ld l)) $$ Hsh
  iintro %_ %_ Hsh
  simp only [k1_part27_eq_skeleton]; unfold k1_part27_skel
  simp only [Prog.lift, Prog.bind_op, Prog.bind_ret, Prog.pure_eq_ret, Prog.bind_assoc]
  iapply (wp_shiftStep (F := F) d L fiC 25 (by decide) (off := ![3, 16]) rfl (fun ld l => shPay ld l)) $$ Hsh
  iintro %_ %_ Hsh
  iapply (wp_shiftStep (F := F) d L fiC 26 (by decide) (off := ![3, 32]) rfl (fun ld l => shPay ld l)) $$ Hsh
  iintro %_ %_ Hsh
  iapply (wp_shiftStep (F := F) d L fiC 27 (by decide) (off := ![3, 48]) rfl (fun ld l => shPay ld l)) $$ Hsh
  iintro %_ %_ Hsh
  iapply (wp_shiftStep (F := F) d L fiC 28 (by decide) (off := ![3, 64]) rfl (fun ld l => shPay ld l)) $$ Hsh
  iintro %_ %_ Hsh
  simp only [k1_part28_eq_skeleton]; unfold k1_part28_skel
  simp only [Prog.lift, Prog.bind_op, Prog.bind_ret, Prog.pure_eq_ret, Prog.bind_assoc]
  iapply (wp_shiftStep (F := F) d L fiC 29 (by decide) (off := ![3, 80]) rfl (fun ld l => shPay ld l)) $$ Hsh
  iintro %_ %_ Hsh
  iapply (wp_shiftStep (F := F) d L fiC 30 (by decide) (off := ![3, 96]) rfl (fun ld l => shPay ld l)) $$ Hsh
  iintro %_ %_ Hsh
  iapply (wp_shiftStep (F := F) d L fiC 31 (by decide) (off := ![3, 112]) rfl (fun ld l => shPay ld l)) $$ Hsh
  iintro %_ %_ Hsh
  -- the rows fetched
  simp only [k1_part29_eq_skeleton]; unfold k1_part29_skel
  simp only [Prog.lift, Prog.bind_op, Prog.bind_ret, Prog.pure_eq_ret, Prog.bind_assoc]
  unfold ShInv
  icases Hsh with ⟨Hi, %frC, %hfrC, Hr⟩
  have hinC : ∀ b < 512, (ridAt (F := F) d L frC b).toNat < 128 := by
    intro b hb
    rw [hfrC b hb, hfiC b hb]
    have := idsW_lt hcid (wid L) b
    omega
  icases Hrows with ⟨%fdC, Hrows⟩
  ihave Ht2 := (Entails.of_eq (congrArg (fun S => ((ct2M).view.loc (thr d L) ↦[S]{q3} t2 : sProp 𝕄)) (src2_set inb_S128x128_S128x128_0_0).symm)) $$ Ht2
  iapply (wp_fetch (F := F) d L (R := 128) ct2M gathers_S128x128_S128x128 q3 inb_S128x128_S128x128_0_0 t2 fdC frC hinC) $$ [Ht2 Hrows Hr Hg HO]
  · isplitr; · iexact Hmw
    isplitl [Ht2]; · iexact Ht2
    isplitl [Hrows]; · iexact Hrows
    isplitl [Hr]; · iexact Hr
    isplitl [Hg]; · iexact Hg
    iexact HO
  iintro ⟨Ht2, Hrows, Hr, Hg, HO⟩
  ihave Ht2 := (Entails.of_eq (congrArg (fun S => ((ct2M).view.loc (thr d L) ↦[S]{q3} t2 : sProp 𝕄)) (src2_set inb_S128x128_S128x128_0_0))) $$ Ht2
  -- the entries picked
  icases Hout with ⟨%foC, Hout⟩
  iapply (Scf.wp_for_bind frame (wpE (defs₀ (F := F)) 𝒱₀ (thr d L) none) Set.univ _ _ _ k1_t2_ok _ _
    (fun k _ => XInv (F := F) d L k fiC (fetched (ct2M.view.read (Elt F) t2) (ridAt (F := F) d L frC) hinC : Buf (Elt F) (rowsM.view.loc (thr d L))))
    (fun k _ => utrip2 (F := F) d L cc1_scratch4 cc1_scoped0 cc1_scoped1 cc1_scoped2 cc1_scoped3 cc1_scoped4 cc1_scoped5 cc1_scoped6 cc1_scoped7 cc1_scoped8 cc1_scoped9 lanes_toNat k fiC (fetched (ct2M.view.read (Elt F) t2) (ridAt (F := F) d L frC) hinC : Buf (Elt F) (rowsM.view.loc (thr d L))))) $$ [Hi Hrows Hout]
  · unfold XInv
    isplitl [Hi]; · iexact Hi
    isplitl [Hrows]; · iexact Hrows
    iexists foC
    isplitr; · ipureintro; exact Picked.zero _ _ _
    iexact Hout
  iintro %_ H
  unfold XInv
  icases H with ⟨Hi, Hrows, %fpC, %hpC, Hout⟩
  ihave Hc := (Entails.of_eq (congrArg (fun S => ((cM).view.loc (thr d L) ↦[S]{fullShare} fc : sProp 𝕄)) (colC_set L).symm)) $$ Hc
  iapply (wp_outStep (F := F) d L cM fpC fc (pickC t2 cid : Buf (Elt F) (cLoc d)) (fun x hx => by
      obtain ⟨y, -, rfl⟩ := Finset.mem_map.1 hx
      refine (View.write_emb_of_mem _ _ (Finset.mem_univ _)).trans ?_
      exact (out_val (F := F) d L (by decide) t2 cid hcid fiC (ridAt (F := F) d L frC) hinC hfiC hfrC (outM.view.read (Elt F) fpC) hpC y _
        (col_emb L (off19_at L) y).1 (col_emb L (off19_at L) y).2).symm)) $$ [Hout Hc Hr9 HO]
  · isplitr; · iexact Hmw
    isplitl [Hout]; · iexact Hout
    isplitl [Hc]; · iexact Hc
    isplitl [Hr9]; · iexact Hr9
    iexact HO
  iintro ⟨Hout, Hc, Hr9, HO⟩
  ihave Hc := (Entails.of_eq (congrArg (fun S => ((cM).view.loc (thr d L) ↦[S]{fullShare} (pickC t2 cid : Buf (Elt F) (cLoc d)) : sProp 𝕄)) (colC_set L))) $$ Hc
  ihave Hidx := (show (idxM.view.loc (thr d L) ↦{fullShare} fiC : sProp 𝕄) ⊢ iprop(∃ fd, idxM.view.loc (thr d L) ↦{fullShare} fd) from by
    iintro H
    iexists _
    iexact H) $$ Hi
  ihave Hrid := (show (ridxM.view.loc (thr d L) ↦{fullShare} frC : sProp 𝕄) ⊢ iprop(∃ fd, ridxM.view.loc (thr d L) ↦{fullShare} fd) from by
    iintro H
    iexists _
    iexact H) $$ Hr
  ihave Hrows := (show (rowsM.view.loc (thr d L) ↦{fullShare} (fetched (ct2M.view.read (Elt F) t2) (ridAt (F := F) d L frC) hinC : Buf (Elt F) (rowsM.view.loc (thr d L))) : sProp 𝕄) ⊢ iprop(∃ fd, rowsM.view.loc (thr d L) ↦{fullShare} fd) from by
    iintro H
    iexists _
    iexact H) $$ Hrows
  ihave Hout := (show (outM.view.loc (thr d L) ↦{fullShare} fpC : sProp 𝕄) ⊢ iprop(∃ fd, outM.view.loc (thr d L) ↦{fullShare} fd) from by
    iintro H
    iexists _
    iexact H) $$ Hout
  rw [wp_ret]
  imodintro
  isplitl [Huid Hcid Ht1 Ht2 Hu Hc]
  · isplitl [Huid]; · iexact Huid
    isplitl [Hcid]; · iexact Hcid
    isplitl [Ht1]; · iexact Ht1
    isplitl [Ht2]; · iexact Ht2
    isplitl [Hu]; · iexact Hu
    iexact Hc
  isplitl [Hidx Hrid Hrows Hout Hbufs]
  · isplitl [Hidx]; · iexact Hidx
    isplitl [Hrid]; · iexact Hrid
    isplitl [Hrows]; · iexact Hrows
    isplitl [Hout]; · iexact Hout
    iexact Hbufs
  isplitl [Hg Hr0 Hr1 Hr2 Hr3 Hr4 Hr5 Hr6 Hr7 Hr8 Hr9 Hsems]
  · isplitl [Hg]; · iexact Hg
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    iexact Hsems
  unfold OweN
  iexact HO

end Body

end Cert.Proof.KI
-- ==== Proof.Split.lean ====
/-
  The arrays of the two SparseCore calls, whole, are the thirty-two tiles' parts of them: what each tile writes is split by
  its cells, what every tile reads by shares.
-/
module

public import proofs.«01_k».proof.Proof.PackBody
public import proofs.«01_k».proof.Proof.UserBody

@[expose] public section

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## The tiles -/

/-- Over two cores of sixteen subcores each, the tiles by their number. -/
theorem bigSep_tiles {a b : ℕ} (ha : a = 2) (hb : b = 16) (Φ : ℕ → sProp 𝕄) :
    (bigSep Finset.univ fun c : Fin a => bigSep Finset.univ fun i : Fin b => Φ (2 * i.val + c.val)) = bigSep Finset.univ fun w : Fin 32 => Φ w.val := by
  subst ha hb
  rw [bigSep_univ_equiv ((Equiv.prodComm (Fin 2) (Fin 16)).trans (finProdFinEquiv (m := 16) (n := 2))) (fun w : Fin 32 => Φ w.val),
    bigSep_univ_prod]
  refine bigSep_congr fun c _ => bigSep_congr fun i _ => congrArg Φ ?_
  show 2 * i.val + c.val = c.val + 2 * i.val
  omega

/-- What one tile alone holds. -/
theorem bigSep_only (k : ℕ) (hk : k < 32) (A : sProp 𝕄) :
    (bigSep Finset.univ fun w : Fin 32 => if w.val = k then A else iprop(emp)) = A := by
  rw [SparseCore.bigSep_erase' (Finset.mem_univ (⟨k, hk⟩ : Fin 32)), if_pos rfl,
    bigSep_congr (Ψ := fun _ => iprop(emp)) (fun w hw => if_neg fun h => (Finset.mem_erase.mp hw).1 (Fin.ext h)), show (bigSep (Finset.univ.erase (⟨k, hk⟩ : Fin 32)) fun _ => (iprop(emp) : sProp 𝕄)) = iprop(emp) from bigSep_emp_const _]
  have h1 : (iprop(A ∗ emp) : sProp 𝕄) ⊢ A := by iintro ⟨H, -⟩; iexact H
  have h2 : A ⊢ (iprop(A ∗ emp) : sProp 𝕄) := by
    iintro H
    isplitl [H]; · iexact H
    iempintro
  exact BI.Entails.antisymm h1 h2

/-- The share of a tile in an array all of them read. -/
def sh (w : ℕ) : PosShare TreeShare := pieceOf fullShare 32 (by decide) (Fin.ofNat 32 w)

theorem shares (ℓ : Loc nD τ sig) (f : Buf (Elt F) ℓ) : (ℓ ↦{fullShare} f : sProp 𝕄) = bigSep Finset.univ fun w : Fin 32 => ℓ ↦{sh w.val} f :=
  (pointsTo_piecesOf Finset.univ f (by decide : 0 < 32) fullShare).trans
    (bigSep_congr fun w _ => by rw [sh, show Fin.ofNat 32 w.val = w from Fin.ext (Nat.mod_eq_of_lt w.isLt)])

theorem shares2 (ℓ : Loc nD τ sig) (f : Buf (Elt F) ℓ) :
    (ℓ ↦{fullShare} f : sProp 𝕄)
      = iprop((bigSep Finset.univ fun w : Fin 32 => ℓ ↦{(sh w.val).left} f) ∗ bigSep Finset.univ fun w : Fin 32 => ℓ ↦{(sh w.val).right} f) := by
  rw [shares, ← bigSep_sep']
  refine bigSep_congr fun w _ => ?_
  exact BI.Entails.antisymm (pointsTo_share (PosShare.mem_left_op_right _)).1 (pointsTo_share (PosShare.mem_left_op_right _)).2

theorem sep_regroup (A B C : sProp 𝕄) : iprop(A ∗ B ∗ C) = iprop((A ∗ B) ∗ C) := by
  have h1 : iprop(A ∗ B ∗ C) ⊢ iprop((A ∗ B) ∗ C) := by
    iintro ⟨HA, HB, HC⟩
    isplitl [HA HB]
    · isplitl [HA]; · iexact HA
      iexact HB
    iexact HC
  have h2 : iprop((A ∗ B) ∗ C) ⊢ iprop(A ∗ B ∗ C) := by
    iintro ⟨⟨HA, HB⟩, HC⟩
    isplitl [HA]; · iexact HA
    isplitl [HB]; · iexact HB
    iexact HC
  exact BI.Entails.antisymm h1 h2

/-! ## The cells -/

theorem tiles_disj : ∀ i ∈ (Finset.univ : Finset (Fin 32)), ∀ j ∈ (Finset.univ : Finset (Fin 32)), i ≠ j → Disjoint (tileCells i.val) (tileCells j.val) := by
  intro i _ j _ h
  have h' : i.val ≠ j.val := fun e => h (Fin.ext e)
  rw [Finset.disjoint_left]; intro x; rw [mem_tileCells, mem_tileCells]; omega
theorem tiles_cover : (Finset.univ : Finset (Fin 32)).biUnion (fun w => tileCells w.val) = Finset.univ := by
  ext x
  simp only [Finset.mem_biUnion, Finset.mem_univ, true_and, iff_true, mem_tileCells]
  by_cases h : (x 0).val < 124992
  · exact ⟨⟨(x 0).val / 192 % 32, Nat.mod_lt _ (by decide)⟩, .inl ⟨h, rfl⟩⟩
  · exact ⟨⟨0, by decide⟩, .inr ⟨rfl, Nat.le_of_not_lt h⟩⟩

theorem mem_colCells {w : ℕ} {x : S16x16384.Idx} : x ∈ colCells w ↔ 512 * w ≤ (x 1).val ∧ (x 1).val < 512 * w + 512 := by simp [colCells]
theorem cols_disj : ∀ i ∈ (Finset.univ : Finset (Fin 32)), ∀ j ∈ (Finset.univ : Finset (Fin 32)), i ≠ j → Disjoint (colCells i.val) (colCells j.val) := by
  intro i _ j _ h
  have h' : i.val ≠ j.val := fun e => h (Fin.ext e)
  rw [Finset.disjoint_left]; intro x; rw [mem_colCells, mem_colCells]; omega
theorem cols_cover : (Finset.univ : Finset (Fin 32)).biUnion (fun w => colCells w.val) = Finset.univ := by
  ext x
  simp only [Finset.mem_biUnion, Finset.mem_univ, true_and, iff_true, mem_colCells]
  have hx : (x 1).val < 16384 := (x 1).isLt
  exact ⟨⟨(x 1).val / 512, by omega⟩, by show 512 * ((x 1).val / 512) ≤ (x 1).val; omega, by show (x 1).val < 512 * ((x 1).val / 512) + 512; omega⟩

theorem ut2_tiles (d : Dev nD) (f : Buf (Elt F) (ut2Loc d)) :
    (ut2Loc d ↦{fullShare} f : sProp 𝕄) = bigSep Finset.univ fun w : Fin 32 => ut2Loc d ↦[tileCells w.val]{fullShare} f := by
  rw [← pointsTo_biUnion Finset.univ (ℓ := ut2Loc d) (fun w : Fin 32 => tileCells w.val) tiles_disj]
  exact congrArg (fun I => (ut2Loc d ↦[I]{fullShare} f : sProp 𝕄)) tiles_cover.symm
theorem u_tiles (d : Dev nD) (f : Buf (Elt F) (uLoc d)) :
    (uLoc d ↦{fullShare} f : sProp 𝕄) = bigSep Finset.univ fun w : Fin 32 => uLoc d ↦[colCells w.val]{fullShare} f := by
  rw [← pointsTo_biUnion Finset.univ (ℓ := uLoc d) (fun w : Fin 32 => colCells w.val) cols_disj]
  exact congrArg (fun I => (uLoc d ↦[I]{fullShare} f : sProp 𝕄)) cols_cover.symm
theorem c_tiles (d : Dev nD) (f : Buf (Elt F) (cLoc d)) :
    (cLoc d ↦{fullShare} f : sProp 𝕄) = bigSep Finset.univ fun w : Fin 32 => cLoc d ↦[colCells w.val]{fullShare} f := by
  rw [← pointsTo_biUnion Finset.univ (ℓ := cLoc d) (fun w : Fin 32 => colCells w.val) cols_disj]
  exact congrArg (fun I => (cLoc d ↦[I]{fullShare} f : sProp 𝕄)) cols_cover.symm

/-! ## The two calls' arrays -/

section
variable (d : Dev nD) (u : Buf (Elt F) (utLoc d)) (f0 : Buf (Elt F) (ut2Loc d)) (tl : Buf (Elt F) (tailLoc d)) (cp : Buf (Elt F) (cpadLoc d))
  (c0 : Buf (Elt F) (ct2Loc d))

/-- The first call's arrays. -/
def PackAll : sProp 𝕄 :=
  iprop((utLoc d ↦{fullShare} u) ∗ (ut2Loc d ↦{fullShare} f0) ∗ (tailLoc d ↦{fullShare} tl) ∗ (cpadLoc d ↦{fullShare} cp) ∗ ct2Loc d ↦{fullShare} c0)

/-- Tile `w`'s part of them. -/
def PackPart (w : ℕ) : sProp 𝕄 := PackRes d (sh w).left (sh w).right u f0 tl cp c0 w

theorem pack_parts : (bigSep Finset.univ fun w : Fin 32 => PackPart (F := F) d u f0 tl cp c0 w.val) = PackAll d u f0 tl cp c0 := by
  unfold PackPart PackRes TailRes CatRes PackAll
  rw [bigSep_sep', bigSep_sep', bigSep_sep', bigSep_sep', bigSep_only 0 (by decide), bigSep_only 31 (by decide), ← ut2_tiles, shares2 (utLoc d) u]
  exact sep_regroup _ _ _
end

section
variable (d : Dev nD) (uid : Buf (Elt F) (uidLoc d)) (cid : Buf (Elt F) (cidLoc d)) (t1 : Buf (Elt F) (ut2Loc d)) (t2 : Buf (Elt F) (ct2Loc d))
  (fu : Buf (Elt F) (uLoc d)) (fc : Buf (Elt F) (cLoc d))

/-- The second call's arrays. -/
def UserAll : sProp 𝕄 :=
  iprop((uidLoc d ↦{fullShare} uid) ∗ (cidLoc d ↦{fullShare} cid) ∗ (ut2Loc d ↦{fullShare} t1) ∗ (ct2Loc d ↦{fullShare} t2)
    ∗ (uLoc d ↦{fullShare} fu) ∗ cLoc d ↦{fullShare} fc)

/-- Tile `w`'s part of them. -/
def UserPart (w : ℕ) : sProp 𝕄 := UserRes d (sh w) (sh w) (sh w) (sh w) uid cid t1 t2 fu fc w

theorem user_parts : (bigSep Finset.univ fun w : Fin 32 => UserPart (F := F) d uid cid t1 t2 fu fc w.val) = UserAll d uid cid t1 t2 fu fc := by
  unfold UserPart UserRes UserAll
  rw [bigSep_sep', bigSep_sep', bigSep_sep', bigSep_sep', bigSep_sep', ← shares (uidLoc d) uid, ← shares (cidLoc d) cid, ← shares (ut2Loc d) t1,
    ← shares (ct2Loc d) t2, ← u_tiles, ← c_tiles]
end

end Cert.Proof.KI
-- ==== Proof.Mlp.lean ====
/-
  The TensorCore call. The three-layer network runs once, over whole arrays: its body loads the eleven operands and
  stores one row of results. Here the body's run, its proof data over any contents of the arrays, and the call as a
  region of the program: entered with every array held, left with the result's array at the network's value.
-/
module

public import proofs.«01_k».proof.Proof.Setup
public import proofs.«01_k».proof.Proof.Gen.KernelIdeal.Launch
public import Idealize.ShloMosaic.Lib.Pipeline.RegionArraysS
public import Idealize.ShloMosaic.Lib.Tactic
public import Idealize.ShloMosaic.Lib.Pipeline.ValueKit

@[expose] public section

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 2) (Elt F) ℕ UU ℕ

/-- A box of a shape's own size starts at the origin: its places are the shape's. -/
theorem emb_all {s : Shape} {off : Fin s.rank → ℕ} (inb : ∀ a, off a + s.size a ≤ s.size a) (x : s.Idx) : (Rect.unit off s.size inb).emb x = x :=
  funext fun a => Fin.ext (by
    have h := inb a
    show off a + 1 * (x a).val = (x a).val
    omega)

/-- A load of a whole buffer reads its contents. -/
theorem load_all (b : Ref sig .tc) {off : Fin b.ty.shape.rank → ℕ} (inb : ∀ a, off a + b.ty.shape.size a ≤ b.ty.shape.size a)
    (f : b.ty.Contents (Elt F)) :
    (Memref.whole b : Memref sig .tc _ _ _).view.readAt (Elt F) (Rect.unit (s := b.ty.shape) off b.ty.shape.size inb).toLoadRect f = f :=
  funext fun x => congrArg f (emb_all inb x)

/-- A store of a whole buffer leaves the value stored. -/
theorem store_all (b : Ref sig .tc) {off : Fin b.ty.shape.rank → ℕ} (inb : ∀ a, off a + b.ty.shape.size a ≤ b.ty.shape.size a)
    (f w : b.ty.Contents (Elt F)) :
    (Memref.whole b : Memref sig .tc _ _ _).view.writes (Elt F) f [⟨Rect.unit (s := b.ty.shape) off b.ty.shape.size inb, w⟩] = w := by
  funext x
  have h := View.write_emb_of_mem (v := (Memref.whole b : Memref sig .tc _ _ _).view.slice (Rect.unit (s := b.ty.shape) off b.ty.shape.size inb)) (Val := Elt F) f w (Finset.mem_univ x)
  rw [View.writes_singleton]
  refine Eq.trans (congrArg _ ?_) h
  exact (emb_all inb x).symm

/-- The network's row of results, from its eleven operands. -/
def mlpVal (u c : Vec F S16x16384 .f32) (n : Vec F S8x16384 .f32) (w1u w1c : Vec F S64x16 .f32) (w1n : Vec F S64x8 .f32)
    (b1 : Vec F S64x1 .f32) (w2 : Vec F S32x64 .f32) (b2 : Vec F S32x1 .f32) (w3 : Vec F S1x32 .f32) (b3 : Vec F S1x1 .f32) :
    FVec F S1x16384 .f32 :=
  k2_pay1 (k2_pay2 w1u u w1c c w1n n b1 w2 b2 w3) b3

/-- The body's run from its staging buffers: the operands' as they were, the result's at the network's value. -/
theorem mlp_run (c : Dev nD) (f0 : Vec F S16x16384 .f32) (f1 : Vec F S16x16384 .f32) (f2 : Vec F S8x16384 .f32) (f3 : Vec F S64x16 .f32) (f4 : Vec F S64x16 .f32) (f5 : Vec F S64x8 .f32) (f6 : Vec F S64x1 .f32) (f7 : Vec F S32x64 .f32) (f8 : Vec F S32x1 .f32) (f9 : Vec F S1x32 .f32) (f10 : Vec F S1x1 .f32) (f11 : Vec F S1x16384 .f32) (Q : PUnit → sProp 𝕄) :
    iprop(((Memref.whole cc2_stg0_0 : Memref sig .tc .vmem S16x16384 .f32).view.loc (c.tc : Thread nD τ) ↦{fullShare} f0) ∗ ((Memref.whole cc2_stg1_0 : Memref sig .tc .vmem S16x16384 .f32).view.loc (c.tc : Thread nD τ) ↦{fullShare} f1) ∗ ((Memref.whole cc2_stg2_0 : Memref sig .tc .vmem S8x16384 .f32).view.loc (c.tc : Thread nD τ) ↦{fullShare} f2) ∗ ((Memref.whole cc2_stg3_0 : Memref sig .tc .vmem S64x16 .f32).view.loc (c.tc : Thread nD τ) ↦{fullShare} f3) ∗ ((Memref.whole cc2_stg4_0 : Memref sig .tc .vmem S64x16 .f32).view.loc (c.tc : Thread nD τ) ↦{fullShare} f4) ∗ ((Memref.whole cc2_stg5_0 : Memref sig .tc .vmem S64x8 .f32).view.loc (c.tc : Thread nD τ) ↦{fullShare} f5) ∗ ((Memref.whole cc2_stg6_0 : Memref sig .tc .vmem S64x1 .f32).view.loc (c.tc : Thread nD τ) ↦{fullShare} f6) ∗ ((Memref.whole cc2_stg7_0 : Memref sig .tc .vmem S32x64 .f32).view.loc (c.tc : Thread nD τ) ↦{fullShare} f7) ∗ ((Memref.whole cc2_stg8_0 : Memref sig .tc .vmem S32x1 .f32).view.loc (c.tc : Thread nD τ) ↦{fullShare} f8) ∗ ((Memref.whole cc2_stg9_0 : Memref sig .tc .vmem S1x32 .f32).view.loc (c.tc : Thread nD τ) ↦{fullShare} f9) ∗ ((Memref.whole cc2_stg10_0 : Memref sig .tc .vmem S1x1 .f32).view.loc (c.tc : Thread nD τ) ↦{fullShare} f10) ∗ ((Memref.whole cc2_stg11_0 : Memref sig .tc .vmem S1x16384 .f32).view.loc (c.tc : Thread nD τ) ↦{fullShare} (f11))
        ∗ (iprop(((Memref.whole cc2_stg0_0 : Memref sig .tc .vmem S16x16384 .f32).view.loc (c.tc : Thread nD τ) ↦{fullShare} f0) ∗ ((Memref.whole cc2_stg1_0 : Memref sig .tc .vmem S16x16384 .f32).view.loc (c.tc : Thread nD τ) ↦{fullShare} f1) ∗ ((Memref.whole cc2_stg2_0 : Memref sig .tc .vmem S8x16384 .f32).view.loc (c.tc : Thread nD τ) ↦{fullShare} f2) ∗ ((Memref.whole cc2_stg3_0 : Memref sig .tc .vmem S64x16 .f32).view.loc (c.tc : Thread nD τ) ↦{fullShare} f3) ∗ ((Memref.whole cc2_stg4_0 : Memref sig .tc .vmem S64x16 .f32).view.loc (c.tc : Thread nD τ) ↦{fullShare} f4) ∗ ((Memref.whole cc2_stg5_0 : Memref sig .tc .vmem S64x8 .f32).view.loc (c.tc : Thread nD τ) ↦{fullShare} f5) ∗ ((Memref.whole cc2_stg6_0 : Memref sig .tc .vmem S64x1 .f32).view.loc (c.tc : Thread nD τ) ↦{fullShare} f6) ∗ ((Memref.whole cc2_stg7_0 : Memref sig .tc .vmem S32x64 .f32).view.loc (c.tc : Thread nD τ) ↦{fullShare} f7) ∗ ((Memref.whole cc2_stg8_0 : Memref sig .tc .vmem S32x1 .f32).view.loc (c.tc : Thread nD τ) ↦{fullShare} f8) ∗ ((Memref.whole cc2_stg9_0 : Memref sig .tc .vmem S1x32 .f32).view.loc (c.tc : Thread nD τ) ↦{fullShare} f9) ∗ ((Memref.whole cc2_stg10_0 : Memref sig .tc .vmem S1x1 .f32).view.loc (c.tc : Thread nD τ) ↦{fullShare} f10) ∗ ((Memref.whole cc2_stg11_0 : Memref sig .tc .vmem S1x16384 .f32).view.loc (c.tc : Thread nD τ) ↦{fullShare} (mlpVal f0 f1 f2 f3 f4 f5 f6 f7 f8 f9 f10))) -∗ Q ⟨⟩))
      ⊢ wp frame (wpE (defs₀ (F := F)) Variants.none (c.tc : Thread nD τ) none) Set.univ
          (cc2__mlp_body (Memref.whole cc2_stg0_0) (Memref.isWhole_whole _) (Memref.whole cc2_stg1_0) (Memref.isWhole_whole _) (Memref.whole cc2_stg2_0) (Memref.isWhole_whole _) (Memref.whole cc2_stg3_0) (Memref.isWhole_whole _) (Memref.whole cc2_stg4_0) (Memref.isWhole_whole _) (Memref.whole cc2_stg5_0) (Memref.isWhole_whole _) (Memref.whole cc2_stg6_0) (Memref.isWhole_whole _) (Memref.whole cc2_stg7_0) (Memref.isWhole_whole _) (Memref.whole cc2_stg8_0) (Memref.isWhole_whole _) (Memref.whole cc2_stg9_0) (Memref.isWhole_whole _) (Memref.whole cc2_stg10_0) (Memref.isWhole_whole _) (Memref.whole cc2_stg11_0) (Memref.isWhole_whole _)) Q := by
  rw [cc2__mlp_body_eq_skeleton]
  unfold cc2__mlp_body_skel
  rw [k2_part1_eq_skeleton]
  unfold k2_part1_skel
  iintro ⟨H0, H1, H2, H3, H4, H5, H6, H7, H8, H9, H10, H11, Hk⟩
  sl_exec!
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  have e : (Memref.whole cc2_stg11_0 : Memref sig .tc .vmem S1x16384 .f32).view.writes (Elt F) (Memref.whole cc2_stg11_0 : Memref sig .tc .vmem S1x16384 .f32).view.junk
      (mlp_run.sl.H11_1 f0 f1 f2 f3 f4 f5 f6 f7 f8 f9 f10) = mlpVal f0 f1 f2 f3 f4 f5 f6 f7 f8 f9 f10 := by
    delta mlp_run.sl.H11_1
    refine (store_all cc2_stg11_0 inb_S1x16384_S1x16384_0_0 _ _).trans ?_
    unfold mlpVal
    rw [show (Memref.whole cc2_stg0_0 : Memref sig .tc .vmem S16x16384 .f32).view.readAt (Elt F) (Rect.unit (s := S16x16384) ![0, 0] S16x16384.size inb_S16x16384_S16x16384_0_0).toLoadRect f0 = f0 from load_all cc2_stg0_0 _ f0, show (Memref.whole cc2_stg1_0 : Memref sig .tc .vmem S16x16384 .f32).view.readAt (Elt F) (Rect.unit (s := S16x16384) ![0, 0] S16x16384.size inb_S16x16384_S16x16384_0_0).toLoadRect f1 = f1 from load_all cc2_stg1_0 _ f1, show (Memref.whole cc2_stg2_0 : Memref sig .tc .vmem S8x16384 .f32).view.readAt (Elt F) (Rect.unit (s := S8x16384) ![0, 0] S8x16384.size inb_S8x16384_S8x16384_0_0).toLoadRect f2 = f2 from load_all cc2_stg2_0 _ f2, show (Memref.whole cc2_stg3_0 : Memref sig .tc .vmem S64x16 .f32).view.readAt (Elt F) (Rect.unit (s := S64x16) ![0, 0] S64x16.size inb_S64x16_S64x16_0_0).toLoadRect f3 = f3 from load_all cc2_stg3_0 _ f3, show (Memref.whole cc2_stg4_0 : Memref sig .tc .vmem S64x16 .f32).view.readAt (Elt F) (Rect.unit (s := S64x16) ![0, 0] S64x16.size inb_S64x16_S64x16_0_0).toLoadRect f4 = f4 from load_all cc2_stg4_0 _ f4, show (Memref.whole cc2_stg5_0 : Memref sig .tc .vmem S64x8 .f32).view.readAt (Elt F) (Rect.unit (s := S64x8) ![0, 0] S64x8.size inb_S64x8_S64x8_0_0).toLoadRect f5 = f5 from load_all cc2_stg5_0 _ f5, show (Memref.whole cc2_stg6_0 : Memref sig .tc .vmem S64x1 .f32).view.readAt (Elt F) (Rect.unit (s := S64x1) ![0, 0] S64x1.size inb_S64x1_S64x1_0_0).toLoadRect f6 = f6 from load_all cc2_stg6_0 _ f6, show (Memref.whole cc2_stg7_0 : Memref sig .tc .vmem S32x64 .f32).view.readAt (Elt F) (Rect.unit (s := S32x64) ![0, 0] S32x64.size inb_S32x64_S32x64_0_0).toLoadRect f7 = f7 from load_all cc2_stg7_0 _ f7, show (Memref.whole cc2_stg8_0 : Memref sig .tc .vmem S32x1 .f32).view.readAt (Elt F) (Rect.unit (s := S32x1) ![0, 0] S32x1.size inb_S32x1_S32x1_0_0).toLoadRect f8 = f8 from load_all cc2_stg8_0 _ f8, show (Memref.whole cc2_stg9_0 : Memref sig .tc .vmem S1x32 .f32).view.readAt (Elt F) (Rect.unit (s := S1x32) ![0, 0] S1x32.size inb_S1x32_S1x32_0_0).toLoadRect f9 = f9 from load_all cc2_stg9_0 _ f9, show (Memref.whole cc2_stg10_0 : Memref sig .tc .vmem S1x1 .f32).view.readAt (Elt F) (Rect.unit (s := S1x1) ![0, 0] S1x1.size inb_S1x1_S1x1_0_0).toLoadRect f10 = f10 from load_all cc2_stg10_0 _ f10]
  ihave H11' := (Entails.of_eq (congrArg (fun f => ((Memref.whole cc2_stg11_0 : Memref sig .tc .vmem S1x16384 .f32).view.loc (c.tc : Thread nD τ) ↦{fullShare} f : sProp 𝕄)) e)) $$ H11
  iexact H11'

/-! ## The call's proof data -/

variable (Vd : Dev nD → Valuation τ sig (Elt F))

/-- The network's row of results, from arrays held at a valuation. -/
def mlpOf (W : Valuation τ sig (Elt F)) : Vec F S1x16384 .f32 :=
  mlpVal (W (Proc.devRef .tc main_v5_0)) (W (Proc.devRef .tc main_v5_1)) (W (Proc.devRef .tc main_v8)) (W (Proc.devRef .tc main_v9)) (W (Proc.devRef .tc main_v7)) (W (Proc.devRef .tc main_v10)) (W (Proc.devRef .tc main_v11)) (W (Proc.devRef .tc main_arg7)) (W (Proc.devRef .tc main_v12)) (W (Proc.devRef .tc main_arg9)) (W (Proc.devRef .tc main_v13))

/-- What the pipeline's buffers hold after the body: the operands' as fetched, the result's the row. -/
def mlpDat (c : Dev nD) : Dat τ (Elt F) (HIx 2) ℕ UU ℕ cfg2 c where
  A w := Vd c (Proc.devRef .tc (Pipeline.arrRef spec2 w))
  after w _ := match w with
    | ⟨0, _⟩ => Vd c (Proc.devRef .tc main_v5_0)
    | ⟨1, _⟩ => Vd c (Proc.devRef .tc main_v5_1)
    | ⟨2, _⟩ => Vd c (Proc.devRef .tc main_v8)
    | ⟨3, _⟩ => Vd c (Proc.devRef .tc main_v9)
    | ⟨4, _⟩ => Vd c (Proc.devRef .tc main_v7)
    | ⟨5, _⟩ => Vd c (Proc.devRef .tc main_v10)
    | ⟨6, _⟩ => Vd c (Proc.devRef .tc main_v11)
    | ⟨7, _⟩ => Vd c (Proc.devRef .tc main_arg7)
    | ⟨8, _⟩ => Vd c (Proc.devRef .tc main_v12)
    | ⟨9, _⟩ => Vd c (Proc.devRef .tc main_arg9)
    | ⟨10, _⟩ => Vd c (Proc.devRef .tc main_v13)
    | ⟨11, _⟩ => mlpOf (Vd c)
  Φ _ := Pipeline.scopedRest (Ix := HIx 2) (Name := ℕ) (U := UU) (Lvl := ℕ) (Val := Elt F) spec2 c
  q _ := fullShare
  owed _ := 0

abbrev adm : (p : Fin 1) → (pcfgs (F := F) p).Adm := fun p => (cfgs p).toPCfg_adm

def mlpDats : (p : Fin 1) → (c : Dev nD) → Dat τ (Elt F) (HIx 2) ℕ UU ℕ (Pipeline.pin (pcfgs (F := F)) adm p) c
  | ⟨0, _⟩ => fun c => mlpDat Vd c

theorem before0 (c : Dev nD) (d : (cfg2.win 0).block.Idx → Elt F (cfg2.win 0).elt) :
    (mlpDat Vd c).before 0 t2_0 d = Vd c (Proc.devRef .tc main_v5_0) := by
  unfold Dat.before; rw [if_pos (by decide)]
  funext x
  exact congrArg (Vd c (Proc.devRef .tc main_v5_0)) (funext fun a => Fin.ext (by show 0 * _ + 1 * (x a).val = (x a).val; omega))
theorem before1 (c : Dev nD) (d : (cfg2.win 1).block.Idx → Elt F (cfg2.win 1).elt) :
    (mlpDat Vd c).before 1 t2_0 d = Vd c (Proc.devRef .tc main_v5_1) := by
  unfold Dat.before; rw [if_pos (by decide)]
  funext x
  exact congrArg (Vd c (Proc.devRef .tc main_v5_1)) (funext fun a => Fin.ext (by show 0 * _ + 1 * (x a).val = (x a).val; omega))
theorem before2 (c : Dev nD) (d : (cfg2.win 2).block.Idx → Elt F (cfg2.win 2).elt) :
    (mlpDat Vd c).before 2 t2_0 d = Vd c (Proc.devRef .tc main_v8) := by
  unfold Dat.before; rw [if_pos (by decide)]
  funext x
  exact congrArg (Vd c (Proc.devRef .tc main_v8)) (funext fun a => Fin.ext (by show 0 * _ + 1 * (x a).val = (x a).val; omega))
theorem before3 (c : Dev nD) (d : (cfg2.win 3).block.Idx → Elt F (cfg2.win 3).elt) :
    (mlpDat Vd c).before 3 t2_0 d = Vd c (Proc.devRef .tc main_v9) := by
  unfold Dat.before; rw [if_pos (by decide)]
  funext x
  exact congrArg (Vd c (Proc.devRef .tc main_v9)) (funext fun a => Fin.ext (by show 0 * _ + 1 * (x a).val = (x a).val; omega))
theorem before4 (c : Dev nD) (d : (cfg2.win 4).block.Idx → Elt F (cfg2.win 4).elt) :
    (mlpDat Vd c).before 4 t2_0 d = Vd c (Proc.devRef .tc main_v7) := by
  unfold Dat.before; rw [if_pos (by decide)]
  funext x
  exact congrArg (Vd c (Proc.devRef .tc main_v7)) (funext fun a => Fin.ext (by show 0 * _ + 1 * (x a).val = (x a).val; omega))
theorem before5 (c : Dev nD) (d : (cfg2.win 5).block.Idx → Elt F (cfg2.win 5).elt) :
    (mlpDat Vd c).before 5 t2_0 d = Vd c (Proc.devRef .tc main_v10) := by
  unfold Dat.before; rw [if_pos (by decide)]
  funext x
  exact congrArg (Vd c (Proc.devRef .tc main_v10)) (funext fun a => Fin.ext (by show 0 * _ + 1 * (x a).val = (x a).val; omega))
theorem before6 (c : Dev nD) (d : (cfg2.win 6).block.Idx → Elt F (cfg2.win 6).elt) :
    (mlpDat Vd c).before 6 t2_0 d = Vd c (Proc.devRef .tc main_v11) := by
  unfold Dat.before; rw [if_pos (by decide)]
  funext x
  exact congrArg (Vd c (Proc.devRef .tc main_v11)) (funext fun a => Fin.ext (by show 0 * _ + 1 * (x a).val = (x a).val; omega))
theorem before7 (c : Dev nD) (d : (cfg2.win 7).block.Idx → Elt F (cfg2.win 7).elt) :
    (mlpDat Vd c).before 7 t2_0 d = Vd c (Proc.devRef .tc main_arg7) := by
  unfold Dat.before; rw [if_pos (by decide)]
  funext x
  exact congrArg (Vd c (Proc.devRef .tc main_arg7)) (funext fun a => Fin.ext (by show 0 * _ + 1 * (x a).val = (x a).val; omega))
theorem before8 (c : Dev nD) (d : (cfg2.win 8).block.Idx → Elt F (cfg2.win 8).elt) :
    (mlpDat Vd c).before 8 t2_0 d = Vd c (Proc.devRef .tc main_v12) := by
  unfold Dat.before; rw [if_pos (by decide)]
  funext x
  exact congrArg (Vd c (Proc.devRef .tc main_v12)) (funext fun a => Fin.ext (by show 0 * _ + 1 * (x a).val = (x a).val; omega))
theorem before9 (c : Dev nD) (d : (cfg2.win 9).block.Idx → Elt F (cfg2.win 9).elt) :
    (mlpDat Vd c).before 9 t2_0 d = Vd c (Proc.devRef .tc main_arg9) := by
  unfold Dat.before; rw [if_pos (by decide)]
  funext x
  exact congrArg (Vd c (Proc.devRef .tc main_arg9)) (funext fun a => Fin.ext (by show 0 * _ + 1 * (x a).val = (x a).val; omega))
theorem before10 (c : Dev nD) (d : (cfg2.win 10).block.Idx → Elt F (cfg2.win 10).elt) :
    (mlpDat Vd c).before 10 t2_0 d = Vd c (Proc.devRef .tc main_v13) := by
  unfold Dat.before; rw [if_pos (by decide)]
  funext x
  exact congrArg (Vd c (Proc.devRef .tc main_v13)) (funext fun a => Fin.ext (by show 0 * _ + 1 * (x a).val = (x a).val; omega))

set_option maxHeartbeats 4000000 in
/-- The body's obligation: the staging buffers taken apart, the body's run, its result put together again. -/
theorem mlp_obligation (c : Dev nD) : BodyObligation (mlpDat Vd c) (defs₀ (F := F)) 𝒱₀ none Set.univ := fun t => by
  obtain rfl := fin_N2 t
  rw [bigSep_W2, bigSep_W2]
  simp only [owns_whole_eq]
  rw [show (mlpDat Vd c).Φ t2_0.castSucc = (mlpDat Vd c).Φ t2_0.succ from rfl,
    show (mlpDat Vd c).owesAt none t2_0.succ = (mlpDat Vd c).owesAt none t2_0.castSucc from rfl]
  iintro ⟨HΦ, Howes, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %g7, %hg7, H7⟩, ⟨%d8, %g8, %hg8, H8⟩, ⟨%d9, %g9, %hg9, H9⟩, ⟨%d10, %g10, %hg10, H10⟩, ⟨%d11, %g11, -, H11⟩⟩
  rw [before0] at hg0; subst hg0
  rw [before1] at hg1; subst hg1
  rw [before2] at hg2; subst hg2
  rw [before3] at hg3; subst hg3
  rw [before4] at hg4; subst hg4
  rw [before5] at hg5; subst hg5
  rw [before6] at hg6; subst hg6
  rw [before7] at hg7; subst hg7
  rw [before8] at hg8; subst hg8
  rw [before9] at hg9; subst hg9
  rw [before10] at hg10; subst hg10
  iapply (mlp_run (F := F) c _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, H9, H10, H11⟩
  isplitl [HΦ]; · iexact HΦ
  isplitl [Howes]; · iexact Howes
  isplitl [H0]; · iexists _; isplitr; swap; (· iexact H0); ipureintro; dsimp only [mlpDat]
  isplitl [H1]; · iexists _; isplitr; swap; (· iexact H1); ipureintro; dsimp only [mlpDat]
  isplitl [H2]; · iexists _; isplitr; swap; (· iexact H2); ipureintro; dsimp only [mlpDat]
  isplitl [H3]; · iexists _; isplitr; swap; (· iexact H3); ipureintro; dsimp only [mlpDat]
  isplitl [H4]; · iexists _; isplitr; swap; (· iexact H4); ipureintro; dsimp only [mlpDat]
  isplitl [H5]; · iexists _; isplitr; swap; (· iexact H5); ipureintro; dsimp only [mlpDat]
  isplitl [H6]; · iexists _; isplitr; swap; (· iexact H6); ipureintro; dsimp only [mlpDat]
  isplitl [H7]; · iexists _; isplitr; swap; (· iexact H7); ipureintro; dsimp only [mlpDat]
  isplitl [H8]; · iexists _; isplitr; swap; (· iexact H8); ipureintro; dsimp only [mlpDat]
  isplitl [H9]; · iexists _; isplitr; swap; (· iexact H9); ipureintro; dsimp only [mlpDat]
  isplitl [H10]; · iexists _; isplitr; swap; (· iexact H10); ipureintro; dsimp only [mlpDat]
  iexists _; isplitr; swap; (· iexact H11); ipureintro; rfl

/-- The result's array after the call is the network's row. -/
theorem mlp_out (c : Dev nD) : (mlpDat Vd c).arrAt 11 cfg2.N = mlpOf (Vd c) := by
  refine (mlpDat Vd c).arrAt_eq_of_covers 11 _ (by decide +kernel) fun t hf y => ?_
  obtain rfl := fin_N2 t
  exact congrArg (mlpOf (Vd c)) (funext fun a => Fin.ext (by
    show (y a).val = 0 * _ + 1 * (y a).val
    omega))

end Cert.Proof.KI
-- ==== Proof.MlpRegion.lean ====
/-
  The TensorCore call as a step of @main. Entered with every array of the program held at some contents and nothing
  owed, it is left with the same arrays, the result's at the network's row and every other as it was.
-/
module

public import proofs.«01_k».proof.Proof.Mlp

@[expose] public section

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 2) (Elt F) ℕ UU ℕ

/-- The program's arrays: the TensorCore's buffers outside the kernels' own. -/
def ucRefs : Finset (DevRef τ sig) := (StableHlo.tcRefs τ sig).filter fun b => ¬ b.isScoped

omit [FloatOps F] in
/-- The arrays at a launch memory are the arrays held at its valuation. -/
theorem unscoped_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- The arrays after the call, from the arrays before it. -/
def afterMlp (d : Dev nD) (W : Valuation τ sig (Elt F)) : Valuation τ sig (Elt F) := Pipeline.afterRegion (mlpDat (fun _ => W) d) W

theorem afterMlp_out (d : Dev nD) (W : Valuation τ sig (Elt F)) : afterMlp d W (Proc.devRef .tc main_v14) = mlpOf W :=
  (Pipeline.afterRegion_arr (mlpDat (fun _ => W) d) W winFacts2.arr_inj 11).trans (mlp_out (fun _ => W) d)

theorem afterMlp_keeps (d : Dev nD) (W : Valuation τ sig (Elt F)) (r : Ref sig .tc) (hr : r ≠ main_v14) :
    afterMlp d W (Proc.devRef .tc r) = W (Proc.devRef .tc r) :=
  Pipeline.afterRegion_keeps (mlpDat (fun _ => W) d) W winFacts2.arr_inj (fun _ => rfl) r (by
    intro w hw
    subst hw
    revert hr
    revert w
    decide)

theorem arrRefs_sub : Pipeline.arrRefs spec2 ⊆ ucRefs := by decide

/-- The call's region, over any arrays. -/
def mlpSeg (W : Valuation τ sig (Elt F)) :
    Pipeline.RegionSeg (pcfgs (F := F)) adm (mlpDats fun _ => W) none defs₀ 𝒱₀ (K (F := F)).L (K (F := F)).lev 0 :=
  Pipeline.RegionSeg.ofHeldIn (pcfgs (F := F)) adm (mlpDats fun _ => W) none defs₀ 𝒱₀ (K (F := F)).L (K (F := F)).lev 0 (fun _ => 0) ucRefs
    (fun _ => iprop(emp)) (fun _ => iprop(emp)) launch2.toP rfl (fun c => (mlp_obligation (fun _ => W) c).loose) (fun _ _ => rfl) (fun _ => rfl)
    (fun c => (mlpDat (fun _ => W) c).share_full fun _ => rfl)
    (fun c => by
      rw [show (mlpDats (fun _ => W) 0 c).Φ 0 = Pipeline.scopedRest (Ix := HIx 2) (Name := ℕ) (U := UU) (Lvl := ℕ) (Val := Elt F) spec2 c from rfl]
      iintro ⟨H, -⟩; iexact H)
    (fun c => by
      rw [show (mlpDats (fun _ => W) 0 c).Φ (Fin.last _) = Pipeline.scopedRest (Ix := HIx 2) (Name := ℕ) (U := UU) (Lvl := ℕ) (Val := Elt F) spec2 c from rfl]
      iintro H
      isplitl [H]; · iexact H
      iempintro)
    (fun _ => 0) ⟨fun _ _ _ => Finset.mem_univ _, fun _ _ _ => le_refl _, fun _ _ _ h => absurd h (lt_irrefl _)⟩
    (fun _ => iprop(emp)) (fun _ => W) (fun _ _ => rfl)

/-- The pipeline's ghost state on a core. -/
def mlpGhost (d : Dev nD) : sProp 𝕄 :=
  iprop(Pipeline.cellsGhost (Pipeline.pin (pcfgs (F := F)) adm) EP 0 d ∗ Pipeline.toksInit (Pipeline.pin (pcfgs (F := F)) adm) EP 0 d)

set_option maxHeartbeats 2000000 in
theorem mlpSeg_pre (W : Valuation τ sig (Elt F)) (d : Dev nD) :
    iprop(StableHlo.held (d : Thread nD τ) ucRefs W ∗ ((∃ Wd, owes (d : Thread nD τ) 0 Wd) ∗ emp ∗ emp)) ⊢ (mlpSeg W).pre d :=
  Pipeline.RegionSeg.ofHeldIn_pre (pcs := pcfgs (F := F)) (a := adm) (pdats := mlpDats fun _ => W) (ι := none) (defs₀ := defs₀) (𝒱₀ := 𝒱₀) (L := (K (F := F)).L) (lv := (K (F := F)).lev) (p := 0)
    (D := fun _ => 0) (X := fun _ => iprop(emp)) (Y := fun _ => iprop(emp)) (R := fun _ => iprop(emp)) (W := fun _ => W) (S := ucRefs) arrRefs_sub d

set_option maxHeartbeats 2000000 in
theorem mlpSeg_post (W : Valuation τ sig (Elt F)) (d : Dev nD) :
    (mlpSeg W).post d ⊢ iprop(StableHlo.held (d : Thread nD τ) ucRefs (afterMlp d W) ∗ ((∃ Wd, owes (d : Thread nD τ) 0 Wd) ∗ emp ∗ emp)) :=
  Pipeline.RegionSeg.ofHeldIn_post (pcs := pcfgs (F := F)) (a := adm) (pdats := mlpDats fun _ => W) (ι := none) (defs₀ := defs₀) (𝒱₀ := 𝒱₀) (L := (K (F := F)).L) (lv := (K (F := F)).lev) (p := 0)
    (D := fun _ => 0) (X := fun _ => iprop(emp)) (Y := fun _ => iprop(emp)) (R := fun _ => iprop(emp)) (W := fun _ => W) (S := ucRefs) arrRefs_sub d

end Cert.Proof.KI
-- ==== Proof.MlpCall.lean ====
/-
  The TensorCore call as the launch runs it: from every array held, to every array at its contents after the call.
-/
module

public import proofs.«01_k».proof.Proof.MlpRegion

@[expose] public section

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 2) (Elt F) ℕ UU ℕ

set_option maxHeartbeats 400000 in
/-- A region's call, its entry and exit states weakened to what the caller holds and wants. -/
theorem region_step [∀ e, Nonempty (Elt F e)] (d : Dev nD) {W : Valuation τ sig (Elt F)}
    (R : Pipeline.RegionSeg (pcfgs (F := F)) adm (mlpDats fun _ => W) none defs₀ 𝒱₀ (K (F := F)).L (K (F := F)).lev 0) {A B : sProp 𝕄}
    (hA : A ⊢ R.pre d) (hB : R.post d ⊢ B) (Q : PUnit → sProp 𝕄) :
    iprop((iprop(boundary (d.tc : Thread nD τ) ∗ B) -∗ Q ⟨⟩) ∗ boundary (d.tc : Thread nD τ) ∗ A ∗ levAts (K (F := F)).L (K (F := F)).lev ∗ mlpGhost (F := F) d)
      ⊢ wp frame (wpE (D (F := F)) 𝒱 (T d) none) Set.univ
          (Prog.lift (.customCall (Pipeline.entry 0) ()) : Prog (TpuEff nD τ sig (Elt F) (ΛP (F := F)) .tc) PUnit) Q := by
  have h := Pipeline.RegionSeg.wp (pcfgs (F := F)) adm (mlpDats fun _ => W) none cellOf_inj EP defs₀ 𝒱₀ (K (F := F)).L (K (F := F)).lev
    R d none (fun u hu => nomatch hu) (fun _ => .ret ⟨⟩) Q
  show _ ⊢ wp frame (wpE (D (F := F)) 𝒱 (T d) none) Set.univ
          (.op (.customCall (Pipeline.entry 0) ()) fun _ => .ret ⟨⟩ : Prog (TpuEff nD τ sig (Elt F) (ΛP (F := F)) .tc) PUnit) Q
  refine BI.Entails.trans ?_ h
  refine BI.sep_mono (BI.wand_intro ?_) (BI.sep_mono (BI.Entails.refl _) (BI.sep_mono hA (BI.Entails.refl _)))
  rw [wp_ret]
  have hk : iprop((iprop(boundary (d.tc : Thread nD τ) ∗ B) -∗ Q ⟨⟩) ∗ boundary (d.tc : Thread nD τ) ∗ B) ⊢ (iprop(|={Set.univ}=> Q ⟨⟩) : sProp 𝕄) := by
    iintro ⟨Hk, Hb, HB⟩
    imodintro
    iapply Hk
    isplitl [Hb]; · iexact Hb
    iexact HB
  exact BI.Entails.trans (BI.sep_mono (BI.Entails.refl _) (BI.sep_mono (BI.Entails.refl _) hB)) hk

/-- The call: every array held, nothing owed; afterwards the arrays at `afterMlp`. -/
theorem wp_mlp [∀ e, Nonempty (Elt F e)] (d : Dev nD) (W : Valuation τ sig (Elt F)) (Q : PUnit → sProp 𝕄) :
    iprop((iprop(boundary (d.tc : Thread nD τ) ∗ (StableHlo.held (d : Thread nD τ) ucRefs (afterMlp d W) ∗ ((∃ Wd, owes (d : Thread nD τ) 0 Wd) ∗ emp ∗ emp))) -∗ Q ⟨⟩)
        ∗ boundary (d.tc : Thread nD τ) ∗ (StableHlo.held (d : Thread nD τ) ucRefs W ∗ ((∃ Wd, owes (d : Thread nD τ) 0 Wd) ∗ emp ∗ emp))
        ∗ levAts (K (F := F)).L (K (F := F)).lev ∗ mlpGhost (F := F) d)
      ⊢ wp frame (wpE (D (F := F)) 𝒱 (T d) none) Set.univ
          (Prog.lift (.customCall (Pipeline.entry 0) ()) : Prog (TpuEff nD τ sig (Elt F) (ΛP (F := F)) .tc) PUnit) Q :=
  region_step d (mlpSeg W) (mlpSeg_pre W d) (mlpSeg_post W d) Q

end Cert.Proof.KI
-- ==== Proof.Host.lean ====
/-
  @main's lines of host operations, and what every array holds between them: from the launch memory, through the two
  SparseCore calls and the TensorCore call, to the end.
-/
module

public import proofs.«01_k».proof.Proof.Split
public import proofs.«01_k».proof.Proof.MlpCall

@[expose] public section

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The lines -/

/-- Before the SparseCore calls. -/
def ops0 : List (HloOp τ sig (Elt F)) :=
  [StableHlo.unary main_arg3 main_v0 ((transpose S16x1000000 [1, 0] · transposes_S1000000x16_S16x1000000_1_0) : (⟨S1000000x16, .f32⟩ : BufTy).Contents (Elt F) → (⟨S16x1000000, .f32⟩ : BufTy).Contents (Elt F)),
   StableHlo.unary main_arg4 main_v1 ((transpose S8x1000 [1, 0] · transposes_S1000x8_S8x1000_1_0) : (⟨S1000x8, .f32⟩ : BufTy).Contents (Elt F) → (⟨S8x1000, .f32⟩ : BufTy).Contents (Elt F)),
   StableHlo.nullary main_c (constantI S_ 32 0#32),
   StableHlo.TRef.unary (.of main_c : StableHlo.TRef sig ⟨S_, .i32⟩) main_call0.v0 (sitofp .f32),
   StableHlo.TRef.binary (.of main_v1 : StableHlo.TRef sig ⟨S8x1000, .f32⟩) main_call0.v0 main_call0.v1 (fun x v => pad S16x1024 ![0, 0] ![8, 24] ![0, 0] x v pads_S8x1000_S16x1024_080_0240 h_S_),
   StableHlo.unary main_v0 main_v3 ((extractStridedSlice S16x64 ![0, 999936] · slices_S16x1000000_S16x64_0_999936) : (⟨S16x1000000, .f32⟩ : BufTy).Contents (Elt F) → (⟨S16x64, .f32⟩ : BufTy).Contents (Elt F))]

/-- Between them and the TensorCore call. -/
def ops1 : List (HloOp τ sig (Elt F)) :=
  [StableHlo.unary main_arg5 main_v6 ((extractStridedSlice S64x8 ![0, 16] · slices_S64x32_S64x8_0_16) : (⟨S64x32, .f32⟩ : BufTy).Contents (Elt F) → (⟨S64x8, .f32⟩ : BufTy).Contents (Elt F)),
   StableHlo.nullary main_c_0 (constantI S_ 32 0#32),
   StableHlo.TRef.unary (.of main_c_0 : StableHlo.TRef sig ⟨S_, .i32⟩) main_call1.v0 (sitofp .f32),
   StableHlo.TRef.binary (.of main_v6 : StableHlo.TRef sig ⟨S64x8, .f32⟩) main_call1.v0 main_call1.v1 (fun x v => pad S64x16 ![0, 0] ![0, 8] ![0, 0] x v pads_S64x8_S64x16_000_080 h_S_),
   StableHlo.unary main_arg2 main_v8 ((transpose S8x16384 [1, 0] · transposes_S16384x8_S8x16384_1_0) : (⟨S16384x8, .f32⟩ : BufTy).Contents (Elt F) → (⟨S8x16384, .f32⟩ : BufTy).Contents (Elt F)),
   StableHlo.unary main_arg5 main_v9 ((extractStridedSlice S64x16 ![0, 0] · slices_S64x32_S64x16_0_0) : (⟨S64x32, .f32⟩ : BufTy).Contents (Elt F) → (⟨S64x16, .f32⟩ : BufTy).Contents (Elt F)),
   StableHlo.unary main_arg5 main_v10 ((extractStridedSlice S64x8 ![0, 24] · slices_S64x32_S64x8_0_24) : (⟨S64x32, .f32⟩ : BufTy).Contents (Elt F) → (⟨S64x8, .f32⟩ : BufTy).Contents (Elt F)),
   StableHlo.reshape main_arg6 main_v11 (rfl : (.f32 : EltTy) = .f32) shapeCasts_S64_S64x1,
   StableHlo.reshape main_arg8 main_v12 (rfl : (.f32 : EltTy) = .f32) shapeCasts_S32_S32x1,
   StableHlo.reshape main_arg10 main_v13 (rfl : (.f32 : EltTy) = .f32) shapeCasts_S1_S1x1]

/-- After it. -/
def ops2 : List (HloOp τ sig (Elt F)) := [StableHlo.reshape main_v14 main_v15 (rfl : (.f32 : EltTy) = .f32) shapeCasts_S1x16384_S16384]

theorem main_chain (d : Dev nD) :
    main (F := F) d = StableHlo.seq ops0 >>= fun _ => sc.run d 0 >>= fun _ => sc.run d 1 >>= fun _ => StableHlo.seq ops1 >>= fun _ =>
      Prog.lift (.customCall (SparseCore.inner (Pipeline.entry 0)) ()) >>= fun _ => StableHlo.seq ops2 >>= fun _ => pure ⟨⟩ := rfl

theorem ops0_sub : ∀ op ∈ ops0 (F := F), op.bufs ⊆ ucRefs :=
  List.forall_iff_forall_mem.mp ⟨show ({Proc.devRef .tc main_arg3, Proc.devRef .tc main_v0} : Finset (DevRef τ sig)) ⊆ ucRefs by decide,
    show ({Proc.devRef .tc main_arg4, Proc.devRef .tc main_v1} : Finset (DevRef τ sig)) ⊆ ucRefs by decide,
    show ({Proc.devRef .tc main_c} : Finset (DevRef τ sig)) ⊆ ucRefs by decide,
    show ({Proc.devRef .tc main_c, Proc.devRef .tc main_call0_v0} : Finset (DevRef τ sig)) ⊆ ucRefs by decide,
    show ({Proc.devRef .tc main_v1, Proc.devRef .tc main_call0_v0, Proc.devRef .tc main_v2} : Finset (DevRef τ sig)) ⊆ ucRefs by decide,
    show ({Proc.devRef .tc main_v0, Proc.devRef .tc main_v3} : Finset (DevRef τ sig)) ⊆ ucRefs by decide⟩
theorem ops1_sub : ∀ op ∈ ops1 (F := F), op.bufs ⊆ ucRefs :=
  List.forall_iff_forall_mem.mp ⟨show ({Proc.devRef .tc main_arg5, Proc.devRef .tc main_v6} : Finset (DevRef τ sig)) ⊆ ucRefs by decide,
    show ({Proc.devRef .tc main_c_0} : Finset (DevRef τ sig)) ⊆ ucRefs by decide,
    show ({Proc.devRef .tc main_c_0, Proc.devRef .tc main_call1_v0} : Finset (DevRef τ sig)) ⊆ ucRefs by decide,
    show ({Proc.devRef .tc main_v6, Proc.devRef .tc main_call1_v0, Proc.devRef .tc main_v7} : Finset (DevRef τ sig)) ⊆ ucRefs by decide,
    show ({Proc.devRef .tc main_arg2, Proc.devRef .tc main_v8} : Finset (DevRef τ sig)) ⊆ ucRefs by decide,
    show ({Proc.devRef .tc main_arg5, Proc.devRef .tc main_v9} : Finset (DevRef τ sig)) ⊆ ucRefs by decide,
    show ({Proc.devRef .tc main_arg5, Proc.devRef .tc main_v10} : Finset (DevRef τ sig)) ⊆ ucRefs by decide,
    show ({Proc.devRef .tc main_arg6, Proc.devRef .tc main_v11} : Finset (DevRef τ sig)) ⊆ ucRefs by decide,
    show ({Proc.devRef .tc main_arg8, Proc.devRef .tc main_v12} : Finset (DevRef τ sig)) ⊆ ucRefs by decide,
    show ({Proc.devRef .tc main_arg10, Proc.devRef .tc main_v13} : Finset (DevRef τ sig)) ⊆ ucRefs by decide⟩
theorem ops2_sub : ∀ op ∈ ops2 (F := F), op.bufs ⊆ ucRefs :=
  List.forall_iff_forall_mem.mp (show ({Proc.devRef .tc main_v14, Proc.devRef .tc main_v15} : Finset (DevRef τ sig)) ⊆ ucRefs by decide)
theorem ops0_fresh : ∀ op ∈ ops0 (F := F), op.fresh = ∅ := List.forall_iff_forall_mem.mp ⟨rfl, rfl, rfl, rfl, rfl, rfl⟩
theorem ops1_fresh : ∀ op ∈ ops1 (F := F), op.fresh = ∅ := List.forall_iff_forall_mem.mp ⟨rfl, rfl, rfl, rfl, rfl, rfl, rfl, rfl, rfl, rfl⟩
theorem ops2_fresh : ∀ op ∈ ops2 (F := F), op.fresh = ∅ := List.forall_iff_forall_mem.mp rfl

/-! ## The arrays between them -/

/-- The arrays after the packing call, from those before it. -/
def afterPack (V : Valuation τ sig (Elt F)) : Valuation τ sig (Elt F) :=
  Function.update (Function.update V (Proc.devRef .tc main_v4_0) (packU (V (Proc.devRef .tc main_v0))))
    (Proc.devRef .tc main_v4_1) (packC (V (Proc.devRef .tc main_v2)))
/-- The arrays after the gathering call, from those before it. -/
def afterUser (V : Valuation τ sig (Elt F)) : Valuation τ sig (Elt F) :=
  Function.update (Function.update V (Proc.devRef .tc main_v5_0) (pickU (V (Proc.devRef .tc main_v4_0)) (V (Proc.devRef .tc main_arg0))))
    (Proc.devRef .tc main_v5_1) (pickC (V (Proc.devRef .tc main_v4_1)) (V (Proc.devRef .tc main_arg1)))

variable (m : (ℓ : Loc nD τ sig) → Buf (Elt F) ℓ) (d : Dev nD)

/-- At the launch. -/
def V0 : Valuation τ sig (Elt F) := fun b => m (d, b)
def V1 : Valuation τ sig (Elt F) := StableHlo.after ops0 (V0 m d)
def V2 : Valuation τ sig (Elt F) := afterPack (V1 m d)
def V3 : Valuation τ sig (Elt F) := afterUser (V2 m d)
def V4 : Valuation τ sig (Elt F) := StableHlo.after ops1 (V3 m d)
def V5 : Valuation τ sig (Elt F) := afterMlp d (V4 m d)
/-- At the end. -/
def V6 : Valuation τ sig (Elt F) := StableHlo.after ops2 (V5 m d)

end Cert.Proof.KI
-- ==== Proof.Reads.lean ====
/-
  What the arrays hold between @main's lines, read through the operations: what the SparseCore calls are handed, and that
  the arguments keep their contents.
-/
module

public import proofs.«01_k».proof.Proof.Host
public import Idealize.ShloMosaic.Lib.Pipeline.Value

@[expose] public section

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section
variable (m : (ℓ : Loc nD τ sig) → Buf (Elt F) ℓ) (d : Dev nD)

theorem afterPack_keeps (V : Valuation τ sig (Elt F)) (b : DevRef τ sig) (h0 : b ≠ Proc.devRef .tc main_v4_0) (h1 : b ≠ Proc.devRef .tc main_v4_1) :
    afterPack V b = V b := by
  unfold afterPack; rw [Function.update_of_ne h1, Function.update_of_ne h0]
theorem afterPack_u (V : Valuation τ sig (Elt F)) : afterPack V (Proc.devRef .tc main_v4_0) = packU (V (Proc.devRef .tc main_v0)) := by
  unfold afterPack; rw [Function.update_of_ne (by decide), Function.update_self]
theorem afterPack_c (V : Valuation τ sig (Elt F)) : afterPack V (Proc.devRef .tc main_v4_1) = packC (V (Proc.devRef .tc main_v2)) := by
  unfold afterPack; rw [Function.update_self]
theorem afterUser_keeps (V : Valuation τ sig (Elt F)) (b : DevRef τ sig) (h0 : b ≠ Proc.devRef .tc main_v5_0) (h1 : b ≠ Proc.devRef .tc main_v5_1) :
    afterUser V b = V b := by
  unfold afterUser; rw [Function.update_of_ne h1, Function.update_of_ne h0]
theorem afterUser_u (V : Valuation τ sig (Elt F)) :
    afterUser V (Proc.devRef .tc main_v5_0) = pickU (V (Proc.devRef .tc main_v4_0)) (V (Proc.devRef .tc main_arg0)) := by
  unfold afterUser; rw [Function.update_of_ne (by decide), Function.update_self]
theorem afterUser_c (V : Valuation τ sig (Elt F)) :
    afterUser V (Proc.devRef .tc main_v5_1) = pickC (V (Proc.devRef .tc main_v4_1)) (V (Proc.devRef .tc main_arg1)) := by
  unfold afterUser; rw [Function.update_self]

/-! ## Before the SparseCore calls -/

theorem V1_v0 : V1 m d (Proc.devRef .tc main_v0) = transpose S16x1000000 [1, 0] (V0 m d (Proc.devRef .tc main_arg3)) transposes_S1000000x16_S16x1000000_1_0 := by
  unfold V1 ops0; after_results_simp
theorem V1_v3 : V1 m d (Proc.devRef .tc main_v3) = extractStridedSlice S16x64 ![0, 999936] (V1 m d (Proc.devRef .tc main_v0)) slices_S16x1000000_S16x64_0_999936 := by
  unfold V1 ops0; after_results_simp
theorem V1_v2 : V1 m d (Proc.devRef .tc main_v2)
    = pad S16x1024 ![0, 0] ![8, 24] ![0, 0] (transpose S8x1000 [1, 0] (V0 m d (Proc.devRef .tc main_arg4)) transposes_S1000x8_S8x1000_1_0)
        (sitofp (F := F) .f32 (constantI S_ 32 0#32)) pads_S8x1000_S16x1024_080_0240 h_S_ := by
  unfold V1 ops0; after_results_simp; rfl
theorem V1_arg (r : Ref sig .tc) (h : r ∉ [main_v0, main_v1, main_c, main_call0_v0, main_v2, main_v3]) : V1 m d (Proc.devRef .tc r) = V0 m d (Proc.devRef .tc r) :=
  StableHlo.after_of_writes_sub (W := [main_v0, main_v1, main_c, main_call0_v0, main_v2, main_v3]) ops0 _
    ⟨show ({Proc.devRef .tc main_v0} : Finset (DevRef τ sig)) ⊆ ([main_v0, main_v1, main_c, main_call0_v0, main_v2, main_v3].map (Proc.devRef .tc)).toFinset by decide,
      show ({Proc.devRef .tc main_v1} : Finset (DevRef τ sig)) ⊆ ([main_v0, main_v1, main_c, main_call0_v0, main_v2, main_v3].map (Proc.devRef .tc)).toFinset by decide,
      show ({Proc.devRef .tc main_c} : Finset (DevRef τ sig)) ⊆ ([main_v0, main_v1, main_c, main_call0_v0, main_v2, main_v3].map (Proc.devRef .tc)).toFinset by decide,
      show ({Proc.devRef .tc main_call0_v0} : Finset (DevRef τ sig)) ⊆ ([main_v0, main_v1, main_c, main_call0_v0, main_v2, main_v3].map (Proc.devRef .tc)).toFinset by decide,
      show ({Proc.devRef .tc main_v2} : Finset (DevRef τ sig)) ⊆ ([main_v0, main_v1, main_c, main_call0_v0, main_v2, main_v3].map (Proc.devRef .tc)).toFinset by decide,
      show ({Proc.devRef .tc main_v3} : Finset (DevRef τ sig)) ⊆ ([main_v0, main_v1, main_c, main_call0_v0, main_v2, main_v3].map (Proc.devRef .tc)).toFinset by decide⟩ h

/-- The last columns, as handed to the first tile, are the table's. -/
theorem tail_eq (x : S16x64.Idx) (y : S16x1000000.Idx) (h0 : (y 0).val = (x 0).val) (h1 : (y 1).val = 999936 + (x 1).val) :
    V1 m d (Proc.devRef .tc main_v3) x = V1 m d (Proc.devRef .tc main_v0) y := by
  rw [V1_v3]
  refine extractStridedSlice_apply _ _ _ x y fun a => ?_
  match a with
  | 0 => exact h0.trans (Nat.zero_add _).symm
  | 1 => exact h1

/-! ## Before the TensorCore call -/

theorem V4_arr (r : Ref sig .tc) (h : r ∉ [main_v6, main_c_0, main_call1_v0, main_v7, main_v8, main_v9, main_v10, main_v11, main_v12, main_v13]) : V4 m d (Proc.devRef .tc r) = V3 m d (Proc.devRef .tc r) :=
  StableHlo.after_of_writes_sub (W := [main_v6, main_c_0, main_call1_v0, main_v7, main_v8, main_v9, main_v10, main_v11, main_v12, main_v13]) ops1 _
    ⟨show ({Proc.devRef .tc main_v6} : Finset (DevRef τ sig)) ⊆ ([main_v6, main_c_0, main_call1_v0, main_v7, main_v8, main_v9, main_v10, main_v11, main_v12, main_v13].map (Proc.devRef .tc)).toFinset by decide,
      show ({Proc.devRef .tc main_c_0} : Finset (DevRef τ sig)) ⊆ ([main_v6, main_c_0, main_call1_v0, main_v7, main_v8, main_v9, main_v10, main_v11, main_v12, main_v13].map (Proc.devRef .tc)).toFinset by decide,
      show ({Proc.devRef .tc main_call1_v0} : Finset (DevRef τ sig)) ⊆ ([main_v6, main_c_0, main_call1_v0, main_v7, main_v8, main_v9, main_v10, main_v11, main_v12, main_v13].map (Proc.devRef .tc)).toFinset by decide,
      show ({Proc.devRef .tc main_v7} : Finset (DevRef τ sig)) ⊆ ([main_v6, main_c_0, main_call1_v0, main_v7, main_v8, main_v9, main_v10, main_v11, main_v12, main_v13].map (Proc.devRef .tc)).toFinset by decide,
      show ({Proc.devRef .tc main_v8} : Finset (DevRef τ sig)) ⊆ ([main_v6, main_c_0, main_call1_v0, main_v7, main_v8, main_v9, main_v10, main_v11, main_v12, main_v13].map (Proc.devRef .tc)).toFinset by decide,
      show ({Proc.devRef .tc main_v9} : Finset (DevRef τ sig)) ⊆ ([main_v6, main_c_0, main_call1_v0, main_v7, main_v8, main_v9, main_v10, main_v11, main_v12, main_v13].map (Proc.devRef .tc)).toFinset by decide,
      show ({Proc.devRef .tc main_v10} : Finset (DevRef τ sig)) ⊆ ([main_v6, main_c_0, main_call1_v0, main_v7, main_v8, main_v9, main_v10, main_v11, main_v12, main_v13].map (Proc.devRef .tc)).toFinset by decide,
      show ({Proc.devRef .tc main_v11} : Finset (DevRef τ sig)) ⊆ ([main_v6, main_c_0, main_call1_v0, main_v7, main_v8, main_v9, main_v10, main_v11, main_v12, main_v13].map (Proc.devRef .tc)).toFinset by decide,
      show ({Proc.devRef .tc main_v12} : Finset (DevRef τ sig)) ⊆ ([main_v6, main_c_0, main_call1_v0, main_v7, main_v8, main_v9, main_v10, main_v11, main_v12, main_v13].map (Proc.devRef .tc)).toFinset by decide,
      show ({Proc.devRef .tc main_v13} : Finset (DevRef τ sig)) ⊆ ([main_v6, main_c_0, main_call1_v0, main_v7, main_v8, main_v9, main_v10, main_v11, main_v12, main_v13].map (Proc.devRef .tc)).toFinset by decide⟩ h

/-- An argument keeps its contents up to the TensorCore call. -/
theorem V3_arg (r : Ref sig .tc) (h : r ∉ [main_v0, main_v1, main_c, main_call0_v0, main_v2, main_v3, main_v4_0, main_v4_1, main_v5_0, main_v5_1]) :
    V3 m d (Proc.devRef .tc r) = V0 m d (Proc.devRef .tc r) := by
  have hne : ∀ x : Ref sig .tc, x ∈ [main_v0, main_v1, main_c, main_call0_v0, main_v2, main_v3, main_v4_0, main_v4_1, main_v5_0, main_v5_1] →
      (Proc.devRef .tc r : DevRef τ sig) ≠ Proc.devRef .tc x := fun x hx e => h ((Proc.devRef_injective _ e : r = x) ▸ hx)
  unfold V3 V2
  rw [afterUser_keeps _ _ (hne _ (by decide)) (hne _ (by decide)), afterPack_keeps _ _ (hne _ (by decide)) (hne _ (by decide)), V1_arg]
  exact fun hr => h (List.mem_append_left [main_v4_0, main_v4_1, main_v5_0, main_v5_1] hr)

theorem V4_v8 : V4 m d (Proc.devRef .tc main_v8) = transpose S8x16384 [1, 0] (V3 m d (Proc.devRef .tc main_arg2)) transposes_S16384x8_S8x16384_1_0 := by
  unfold V4 ops1; after_results_simp
theorem V4_v9 : V4 m d (Proc.devRef .tc main_v9) = extractStridedSlice S64x16 ![0, 0] (V3 m d (Proc.devRef .tc main_arg5)) slices_S64x32_S64x16_0_0 := by
  unfold V4 ops1; after_results_simp
theorem V4_v10 : V4 m d (Proc.devRef .tc main_v10) = extractStridedSlice S64x8 ![0, 24] (V3 m d (Proc.devRef .tc main_arg5)) slices_S64x32_S64x8_0_24 := by
  unfold V4 ops1; after_results_simp
theorem V4_v7 : V4 m d (Proc.devRef .tc main_v7)
    = pad S64x16 ![0, 0] ![0, 8] ![0, 0] (extractStridedSlice S64x8 ![0, 16] (V3 m d (Proc.devRef .tc main_arg5)) slices_S64x32_S64x8_0_16)
        (sitofp (F := F) .f32 (constantI S_ 32 0#32)) pads_S64x8_S64x16_000_080 h_S_ := by
  unfold V4 ops1; after_results_simp; rfl
theorem V4_v11 : V4 m d (Proc.devRef .tc main_v11) = shapeCast S64x1 (V3 m d (Proc.devRef .tc main_arg6)) shapeCasts_S64_S64x1 := by
  unfold V4 ops1; after_results_simp; rfl
theorem V4_v12 : V4 m d (Proc.devRef .tc main_v12) = shapeCast S32x1 (V3 m d (Proc.devRef .tc main_arg8)) shapeCasts_S32_S32x1 := by
  unfold V4 ops1; after_results_simp; rfl
theorem V4_v13 : V4 m d (Proc.devRef .tc main_v13) = shapeCast S1x1 (V3 m d (Proc.devRef .tc main_arg10)) shapeCasts_S1_S1x1 := by
  unfold V4 ops1; after_results_simp; rfl

/-! ## At the end -/

theorem V6_v15 : V6 m d (Proc.devRef .tc main_v15) = shapeCast S16384 (mlpOf (V4 m d)) shapeCasts_S1x16384_S16384 := by
  have h : V6 m d (Proc.devRef .tc main_v15) = shapeCast S16384 (V5 m d (Proc.devRef .tc main_v14)) shapeCasts_S1x16384_S16384 := by
    unfold V6 ops2; after_results_simp; rfl
  rw [h]; unfold V5; rw [afterMlp_out]

/-- An argument keeps its contents. -/
theorem V6_arg (r : Ref sig .tc) (h : r ∉ [main_v0, main_v1, main_c, main_call0_v0, main_v2, main_v3, main_v4_0, main_v4_1, main_v5_0, main_v5_1])
    (h' : r ∉ [main_v6, main_c_0, main_call1_v0, main_v7, main_v8, main_v9, main_v10, main_v11, main_v12, main_v13]) (h14 : r ≠ main_v14) (h15 : r ∉ [main_v15]) : V6 m d (Proc.devRef .tc r) = V0 m d (Proc.devRef .tc r) := by
  have e : V6 m d (Proc.devRef .tc r) = V5 m d (Proc.devRef .tc r) :=
    StableHlo.after_of_writes_sub (W := [main_v15]) ops2 _ (show ({Proc.devRef .tc main_v15} : Finset (DevRef τ sig)) ⊆ ([main_v15].map (Proc.devRef .tc)).toFinset by decide) h15
  rw [e]; unfold V5
  rw [afterMlp_keeps d _ r h14, V4_arr m d r h', V3_arg m d r h]

end

end Cert.Proof.KI
-- ==== Proof.Payload.lean ====
/-
  What the handshakes of the two SparseCore calls carry: a tile is handed its part of the call's arrays and hands it back
  with its rows or columns written. Each tile's kernel meets that, and a core's operands are its tiles' parts.
-/
module

public import proofs.«01_k».proof.Proof.PackBody
public import proofs.«01_k».proof.Proof.UserBody
public import proofs.«01_k».proof.Proof.Split
public import proofs.«01_k».proof.Proof.Reads

@[expose] public section

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The parts are storable -/

instance pack_storable (d : Dev nD) (u : Buf (Elt F) (utLoc d)) (f0 : Buf (Elt F) (ut2Loc d)) (tl : Buf (Elt F) (tailLoc d)) (cp : Buf (Elt F) (cpadLoc d))
    (c0 : Buf (Elt F) (ct2Loc d)) (w : ℕ) : BI.Storable (upEmb : UEmb _ 𝕄) (PackPart d u f0 tl cp c0 w) := by
  unfold PackPart PackRes TailRes CatRes
  split_ifs <;> infer_instance
instance user_storable (d : Dev nD) (uid : Buf (Elt F) (uidLoc d)) (cid : Buf (Elt F) (cidLoc d)) (t1 : Buf (Elt F) (ut2Loc d)) (t2 : Buf (Elt F) (ct2Loc d))
    (fu : Buf (Elt F) (uLoc d)) (fc : Buf (Elt F) (cLoc d)) (w : ℕ) : BI.Storable (upEmb : UEmb _ 𝕄) (UserPart d uid cid t1 t2 fu fc w) := by
  unfold UserPart UserRes; infer_instance

variable (m : (ℓ : Loc nD τ sig) → Buf (Elt F) ℓ)

/-! ## The parts of the two calls -/

/-- Tile `w`'s part at the packing call's start. -/
def packIn (d : Dev nD) (w : ℕ) : sProp 𝕄 :=
  PackPart d (V1 m d (Proc.devRef .tc main_v0)) (V1 m d (Proc.devRef .tc main_v4_0)) (V1 m d (Proc.devRef .tc main_v3)) (V1 m d (Proc.devRef .tc main_v2))
    (V1 m d (Proc.devRef .tc main_v4_1)) w
/-- And at its end. -/
def packOut (d : Dev nD) (w : ℕ) : sProp 𝕄 :=
  PackPart d (V1 m d (Proc.devRef .tc main_v0)) (packU (V1 m d (Proc.devRef .tc main_v0))) (V1 m d (Proc.devRef .tc main_v3)) (V1 m d (Proc.devRef .tc main_v2))
    (packC (V1 m d (Proc.devRef .tc main_v2))) w
/-- Tile `w`'s part at the gathering call's start. -/
def userIn (d : Dev nD) (w : ℕ) : sProp 𝕄 :=
  UserPart d (V2 m d (Proc.devRef .tc main_arg0)) (V2 m d (Proc.devRef .tc main_arg1)) (V2 m d (Proc.devRef .tc main_v4_0)) (V2 m d (Proc.devRef .tc main_v4_1))
    (V2 m d (Proc.devRef .tc main_v5_0)) (V2 m d (Proc.devRef .tc main_v5_1)) w
/-- And at its end. -/
def userOut (d : Dev nD) (w : ℕ) : sProp 𝕄 :=
  UserPart d (V2 m d (Proc.devRef .tc main_arg0)) (V2 m d (Proc.devRef .tc main_arg1)) (V2 m d (Proc.devRef .tc main_v4_0)) (V2 m d (Proc.devRef .tc main_v4_1))
    (pickU (V2 m d (Proc.devRef .tc main_v4_0)) (V2 m d (Proc.devRef .tc main_arg0)) : Buf (Elt F) (uLoc d))
    (pickC (V2 m d (Proc.devRef .tc main_v4_1)) (V2 m d (Proc.devRef .tc main_arg1)) : Buf (Elt F) (cLoc d)) w

instance (d : Dev nD) (w : ℕ) : BI.Storable (upEmb : UEmb _ 𝕄) (packIn m d w) := by unfold packIn; infer_instance
instance (d : Dev nD) (w : ℕ) : BI.Storable (upEmb : UEmb _ 𝕄) (packOut m d w) := by unfold packOut; infer_instance
instance (d : Dev nD) (w : ℕ) : BI.Storable (upEmb : UEmb _ 𝕄) (userIn m d w) := by unfold userIn; infer_instance
instance (d : Dev nD) (w : ℕ) : BI.Storable (upEmb : UEmb _ 𝕄) (userOut m d w) := by unfold userOut; infer_instance

/-- A call's part for a tile, at its start and at its end. -/
def goP (q : Fin 2) (d : Dev nD) (w : ℕ) : sProp 𝕄 := match q with | 0 => packIn m d w | 1 => userIn m d w
def tdP (q : Fin 2) (d : Dev nD) (w : ℕ) : sProp 𝕄 := match q with | 0 => packOut m d w | 1 => userOut m d w

instance (q : Fin 2) (d : Dev nD) (w : ℕ) : BI.Storable (upEmb : UEmb _ 𝕄) (goP m q d w) := by unfold goP; split <;> infer_instance
instance (q : Fin 2) (d : Dev nD) (w : ℕ) : BI.Storable (upEmb : UEmb _ 𝕄) (tdP m q d w) := by unfold tdP; split <;> infer_instance

/-- What the handshakes carry. -/
def P : (K (F := F)).Pay (nD := nD) (Val := Elt F) (Name := ℕ) (U := UU) where
  st q d c := bigSep Finset.univ fun i : Fin ((K (F := F)).nSub q) => goP m q d (2 * i.val + c.val)
  dn q d c := bigSep Finset.univ fun i : Fin ((K (F := F)).nSub q) => tdP m q d (2 * i.val + c.val)
  go q d c i := goP m q d (2 * i.val + c.val)
  td q d c i := tdP m q d (2 * i.val + c.val)
  x := fun _ _ => iprop(emp)

instance P_storable : (P (F := F) m).IsStorable where
  st q d c := (inferInstance : BI.Storable (upEmb : UEmb _ 𝕄) (bigSep Finset.univ fun i : Fin ((K (F := F)).nSub q) => goP m q d (2 * i.val + c.val)))
  dn q d c := (inferInstance : BI.Storable (upEmb : UEmb _ 𝕄) (bigSep Finset.univ fun i : Fin ((K (F := F)).nSub q) => tdP m q d (2 * i.val + c.val)))
  go q d c i := (inferInstance : BI.Storable (upEmb : UEmb _ 𝕄) (goP m q d (2 * i.val + c.val)))
  td q d c i := (inferInstance : BI.Storable (upEmb : UEmb _ 𝕄) (tdP m q d (2 * i.val + c.val)))

theorem split_parts (q : Fin 2) : (K (F := F)).VecSplit' (P m) q := by
  intro d c
  have h (A B : sProp 𝕄) : A ⊢ iprop(|={Set.univ}=> (A ∗ (B -∗ B))) := by
    iintro H; imodintro
    isplitl [H]; · iexact H
    iintro H; iexact H
  exact h _ _

/-- All of a call's parts are its arrays. -/
theorem st0 (d : Dev nD) : (bigSep Finset.univ fun c : Fin ((K (F := F)).nCore 0) => (P m).st 0 d c)
    = PackAll d (V1 m d (Proc.devRef .tc main_v0)) (V1 m d (Proc.devRef .tc main_v4_0)) (V1 m d (Proc.devRef .tc main_v3)) (V1 m d (Proc.devRef .tc main_v2)) (V1 m d (Proc.devRef .tc main_v4_1)) :=
  (bigSep_tiles rfl rfl (packIn m d)).trans (pack_parts ..)
theorem dn0 (d : Dev nD) : (bigSep Finset.univ fun c : Fin ((K (F := F)).nCore 0) => (P m).dn 0 d c)
    = PackAll d (V1 m d (Proc.devRef .tc main_v0)) (packU (V1 m d (Proc.devRef .tc main_v0))) (V1 m d (Proc.devRef .tc main_v3)) (V1 m d (Proc.devRef .tc main_v2)) (packC (V1 m d (Proc.devRef .tc main_v2))) :=
  (bigSep_tiles rfl rfl (packOut m d)).trans (pack_parts ..)
theorem st1 (d : Dev nD) : (bigSep Finset.univ fun c : Fin ((K (F := F)).nCore 1) => (P m).st 1 d c)
    = UserAll d (V2 m d (Proc.devRef .tc main_arg0)) (V2 m d (Proc.devRef .tc main_arg1)) (V2 m d (Proc.devRef .tc main_v4_0)) (V2 m d (Proc.devRef .tc main_v4_1))
        (V2 m d (Proc.devRef .tc main_v5_0)) (V2 m d (Proc.devRef .tc main_v5_1)) :=
  (bigSep_tiles rfl rfl (userIn m d)).trans (user_parts ..)
theorem dn1 (d : Dev nD) : (bigSep Finset.univ fun c : Fin ((K (F := F)).nCore 1) => (P m).dn 1 d c)
    = UserAll d (V2 m d (Proc.devRef .tc main_arg0)) (V2 m d (Proc.devRef .tc main_arg1)) (V2 m d (Proc.devRef .tc main_v4_0)) (V2 m d (Proc.devRef .tc main_v4_1))
        (pickU (V2 m d (Proc.devRef .tc main_v4_0)) (V2 m d (Proc.devRef .tc main_arg0)) : Buf (Elt F) (uLoc d))
        (pickC (V2 m d (Proc.devRef .tc main_v4_1)) (V2 m d (Proc.devRef .tc main_arg1)) : Buf (Elt F) (cLoc d)) :=
  (bigSep_tiles rfl rfl (userOut m d)).trans (user_parts ..)

/-! ## The tiles' kernels -/

/-- The ids the launch memory holds name rows of the two tables. -/
def PreOK : Prop := ∀ d : Dev nD, (∀ x, (m (uidLoc d) x).toNat < 1000000) ∧ ∀ x, (m (cidLoc d) x).toNat < 1000

theorem V2_uid (d : Dev nD) : V2 m d (Proc.devRef .tc main_arg0) = m (uidLoc d) := by
  unfold V2; rw [afterPack_keeps _ _ (by decide) (by decide), V1_arg m d main_arg0 (by decide)]; rfl
theorem V2_cid (d : Dev nD) : V2 m d (Proc.devRef .tc main_arg1) = m (cidLoc d) := by
  unfold V2; rw [afterPack_keeps _ _ (by decide) (by decide), V1_arg m d main_arg1 (by decide)]; rfl

/-- A tile's place in the grid. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_pack (c : Fin τ.nSC) (s : Fin τ.nSub) :
    defs₀ (F := F) (.scVector c s) 0 ()
      = SparseCore.onTile hcore0 hsub0 (fun c s => cc0_pack_k (F := F) (coordsV c s) utM (Memref.isWhole_whole _) tailM (Memref.isWhole_whole _) cpadM (Memref.isWhole_whole _) ut2M (Memref.isWhole_whole _) ct2M (Memref.isWhole_whole _) in0 (Memref.isWhole_whole _) in1 (Memref.isWhole_whole _) out0 (Memref.isWhole_whole _) out1 (Memref.isWhole_whole _) tin (Memref.isWhole_whole _) tout (Memref.isWhole_whole _) cc0_scratch6 cc0_scratch7 cc0_scratch8 cc0_scratch9 cc0_scoped0 cc0_scoped1 cc0_scoped2 cc0_scoped3) ⟨⟩ c s := rfl
theorem defs₀_user (c : Fin τ.nSC) (s : Fin τ.nSub) :
    defs₀ (F := F) (.scVector c s) 1 ()
      = SparseCore.onTile hcore1 hsub1 (fun c s => cc1_user_k (F := F) (coordsV c s) uidM (Memref.isWhole_whole _) cidM (Memref.isWhole_whole _) ut2M (Memref.isWhole_whole _) ct2M (Memref.isWhole_whole _) uM (Memref.isWhole_whole _) cM (Memref.isWhole_whole _) idxM (Memref.isWhole_whole _) ridxM (Memref.isWhole_whole _) rowsM (Memref.isWhole_whole _) outM (Memref.isWhole_whole _) cc1_scratch4 cc1_scoped0 cc1_scoped1 cc1_scoped2 cc1_scoped3 cc1_scoped4 cc1_scoped5 cc1_scoped6 cc1_scoped7 cc1_scoped8 cc1_scoped9) ⟨⟩ c s := rfl

/-- The waits a tile records are its copies' own, so they are among those a call allows. -/
theorem post_weaken {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  refine BI.sep_mono (BI.Entails.refl _) (BI.sep_mono (BI.Entails.refl _) (BI.sep_mono (BI.Entails.refl _) ?_))
  have h : iprop(∃ W', ⌜∀ p ∈ W', p ∈ W ∨ p.2 = none⌝ ∗ owes thr O W') ⊢ (iprop(∃ W', ⌜∀ p ∈ W', p ∈ W ∨ p.2 = none ∨ p.2 = some q⌝ ∗ owes thr O W') : sProp 𝕄) := by
    iintro ⟨%W', %hW, H⟩
    iexists W'
    isplitr; · ipureintro; exact fun p hp => (hW p hp).imp_right Or.inl
    iexact H
  exact h

set_option maxRecDepth 16384 in
theorem pack_obl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_pack]; simp only [SparseCore.onTile, hci, and_self, ↓reduceDIte]
  exact (pack_body d (coordsV ⟨_, hci.1⟩ ⟨_, hci.2⟩) _ _ _ _ _ _ _ O W facts hO (tail_eq m d)).trans (wp_mono frame _ _ fun _ => post_weaken)

set_option maxRecDepth 16384 in
theorem user_obl (hpre : PreOK m) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_user]; simp only [SparseCore.onTile, hci, and_self, ↓reduceDIte]
  exact (user_body d (coordsV ⟨_, hci.1⟩ ⟨_, hci.2⟩) _ _ _ _ _ _ _ _ _ _ O W facts hO
    (fun x => by rw [V2_uid]; exact (hpre d).1 x) (fun x => by rw [V2_cid]; exact lt_of_lt_of_le ((hpre d).2 x) (by decide))).trans (wp_mono frame _ _ fun _ => post_weaken)

end Cert.Proof.KI
-- ==== Proof.Launch.lean ====
/-
  The whole program: @main on the TensorCore runs its host operations, the two SparseCore calls and the TensorCore call,
  holding every array throughout; so the run ends with the arrays as `V6` gives them and every counter at zero.
-/
module

public import proofs.«01_k».proof.Proof.Payload
public import proofs.«01_k».proof.Proof.MlpCall

@[expose] public section

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (ρ : Dev nD → PrngReg)

/-! ## The calls' arrays among the held ones -/

def packRefs : Finset (DevRef τ sig) :=
  {Proc.devRef .tc main_v0, Proc.devRef .tc main_v4_0, Proc.devRef .tc main_v3, Proc.devRef .tc main_v2, Proc.devRef .tc main_v4_1}
def userRefs : Finset (DevRef τ sig) :=
  {Proc.devRef .tc main_arg0, Proc.devRef .tc main_arg1, Proc.devRef .tc main_v4_0, Proc.devRef .tc main_v4_1, Proc.devRef .tc main_v5_0, Proc.devRef .tc main_v5_1}

theorem packRefs_sub : packRefs ⊆ ucRefs := by decide
theorem userRefs_sub : userRefs ⊆ ucRefs := by decide

theorem held_pack (d : Dev nD) (V : Valuation τ sig (Elt F)) :
    (StableHlo.held (d.tc : Thread nD τ) packRefs V : sProp 𝕄)
      = PackAll d (V (Proc.devRef .tc main_v0)) (V (Proc.devRef .tc main_v4_0)) (V (Proc.devRef .tc main_v3)) (V (Proc.devRef .tc main_v2)) (V (Proc.devRef .tc main_v4_1)) := by
  unfold StableHlo.held packRefs PackAll
  rw [SparseCore.bigSep_insert' (by decide), SparseCore.bigSep_insert' (by decide), SparseCore.bigSep_insert' (by decide),
    SparseCore.bigSep_insert' (by decide), bigSep_singleton]
theorem held_user (d : Dev nD) (V : Valuation τ sig (Elt F)) :
    (StableHlo.held (d.tc : Thread nD τ) userRefs V : sProp 𝕄)
      = UserAll d (V (Proc.devRef .tc main_arg0)) (V (Proc.devRef .tc main_arg1)) (V (Proc.devRef .tc main_v4_0)) (V (Proc.devRef .tc main_v4_1)) (V (Proc.devRef .tc main_v5_0)) (V (Proc.devRef .tc main_v5_1)) := by
  unfold StableHlo.held userRefs UserAll
  rw [SparseCore.bigSep_insert' (by decide), SparseCore.bigSep_insert' (by decide), SparseCore.bigSep_insert' (by decide),
    SparseCore.bigSep_insert' (by decide), SparseCore.bigSep_insert' (by decide), bigSep_singleton]

/-- The arrays before the packing call: its own, and the rest. -/
theorem held_V1 (d : Dev nD) :
    (StableHlo.held (d.tc : Thread nD τ) ucRefs (V1 m d) : sProp 𝕄)
      = iprop((bigSep Finset.univ fun c : Fin ((K (F := F)).nCore 0) => (P m).st 0 d c) ∗ StableHlo.held (d.tc : Thread nD τ) (ucRefs \ packRefs) (V1 m d)) := by
  rw [StableHlo.held_sub_split _ packRefs_sub, held_pack, st0]
/-- The arrays after it. -/
theorem held_V2 (d : Dev nD) :
    (StableHlo.held (d.tc : Thread nD τ) ucRefs (V2 m d) : sProp 𝕄)
      = iprop((bigSep Finset.univ fun c : Fin ((K (F := F)).nCore 0) => (P m).dn 0 d c) ∗ StableHlo.held (d.tc : Thread nD τ) (ucRefs \ packRefs) (V1 m d)) := by
  have h0 : V2 m d (Proc.devRef .tc main_v0) = V1 m d (Proc.devRef .tc main_v0) := afterPack_keeps _ _ (by decide) (by decide)
  have h1 : V2 m d (Proc.devRef .tc main_v4_0) = packU (V1 m d (Proc.devRef .tc main_v0)) := afterPack_u _
  have h2 : V2 m d (Proc.devRef .tc main_v3) = V1 m d (Proc.devRef .tc main_v3) := afterPack_keeps _ _ (by decide) (by decide)
  have h3 : V2 m d (Proc.devRef .tc main_v2) = V1 m d (Proc.devRef .tc main_v2) := afterPack_keeps _ _ (by decide) (by decide)
  have h4 : V2 m d (Proc.devRef .tc main_v4_1) = packC (V1 m d (Proc.devRef .tc main_v2)) := afterPack_c _
  have hr : (StableHlo.held (d.tc : Thread nD τ) (ucRefs \ packRefs) (V2 m d) : sProp 𝕄) = StableHlo.held (d.tc : Thread nD τ) (ucRefs \ packRefs) (V1 m d) := by
    refine StableHlo.held_congr _ fun b hb => afterPack_keeps _ _ ?_ ?_
    · rintro rfl; exact absurd hb (by decide)
    · rintro rfl; exact absurd hb (by decide)
  rw [StableHlo.held_sub_split _ packRefs_sub, held_pack, dn0, h0, h1, h2, h3, h4, hr]
/-- The arrays before the gathering call: its own, and the rest. -/
theorem held_V2' (d : Dev nD) :
    (StableHlo.held (d.tc : Thread nD τ) ucRefs (V2 m d) : sProp 𝕄)
      = iprop((bigSep Finset.univ fun c : Fin ((K (F := F)).nCore 1) => (P m).st 1 d c) ∗ StableHlo.held (d.tc : Thread nD τ) (ucRefs \ userRefs) (V2 m d)) := by
  rw [StableHlo.held_sub_split _ userRefs_sub, held_user, st1]
/-- The arrays after it. -/
theorem held_V3 (d : Dev nD) :
    (StableHlo.held (d.tc : Thread nD τ) ucRefs (V3 m d) : sProp 𝕄)
      = iprop((bigSep Finset.univ fun c : Fin ((K (F := F)).nCore 1) => (P m).dn 1 d c) ∗ StableHlo.held (d.tc : Thread nD τ) (ucRefs \ userRefs) (V2 m d)) := by
  have h0 : V3 m d (Proc.devRef .tc main_arg0) = V2 m d (Proc.devRef .tc main_arg0) := afterUser_keeps _ _ (by decide) (by decide)
  have h1 : V3 m d (Proc.devRef .tc main_arg1) = V2 m d (Proc.devRef .tc main_arg1) := afterUser_keeps _ _ (by decide) (by decide)
  have h2 : V3 m d (Proc.devRef .tc main_v4_0) = V2 m d (Proc.devRef .tc main_v4_0) := afterUser_keeps _ _ (by decide) (by decide)
  have h3 : V3 m d (Proc.devRef .tc main_v4_1) = V2 m d (Proc.devRef .tc main_v4_1) := afterUser_keeps _ _ (by decide) (by decide)
  have h4 : V3 m d (Proc.devRef .tc main_v5_0) = pickU (V2 m d (Proc.devRef .tc main_v4_0)) (V2 m d (Proc.devRef .tc main_arg0)) := afterUser_u _
  have h5 : V3 m d (Proc.devRef .tc main_v5_1) = pickC (V2 m d (Proc.devRef .tc main_v4_1)) (V2 m d (Proc.devRef .tc main_arg1)) := afterUser_c _
  have hr : (StableHlo.held (d.tc : Thread nD τ) (ucRefs \ userRefs) (V3 m d) : sProp 𝕄) = StableHlo.held (d.tc : Thread nD τ) (ucRefs \ userRefs) (V2 m d) := by
    refine StableHlo.held_congr _ fun b hb => afterUser_keeps _ _ ?_ ?_
    · rintro rfl; exact absurd hb (by decide)
    · rintro rfl; exact absurd hb (by decide)
  rw [StableHlo.held_sub_split _ userRefs_sub, held_user, dn1, h0, h1, h2, h3, h4, h5, hr]

/-! ## The launch's own state -/

/-- The handshakes' rounds, and those of the TensorCore call's copies. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem bigSep_one {α : Type} (Φ : α → Fin 1 → sProp 𝕄) (s : Finset α) :
    (bigSep s fun a => bigSep Finset.univ fun p : Fin 1 => Φ a p) = bigSep s fun a => Φ a 0 :=
  bigSep_congr fun _ _ => bigSep_univ_of_subsingleton (0 : Fin 1)

theorem ghost_split : (bigSep Finset.univ fun d : Dev nD => mlpGhost (F := F) d)
    = iprop((bigSep Finset.univ fun d : Dev nD => Pipeline.cellsGhost (Pipeline.pin (pcfgs (F := F)) adm) EP 0 d)
      ∗ bigSep Finset.univ fun d : Dev nD => (Pipeline.toksInit (Pipeline.pin (pcfgs (F := F)) adm) EP 0 d : sProp 𝕄)) := by
  unfold mlpGhost; rw [bigSep_sep']

theorem no_own : (bigSep Finset.univ fun thr : Thread nD τ => bigSep Finset.univ fun q : Fin 2 => (P (F := F) m).x q thr) = (iprop(emp) : sProp 𝕄) := by
  show (bigSep Finset.univ fun thr : Thread nD τ => bigSep Finset.univ fun q : Fin 2 => (iprop(emp) : sProp 𝕄)) = iprop(emp)
  rw [show (bigSep (Finset.univ : Finset (Fin 2)) fun _ => (iprop(emp) : sProp 𝕄)) = iprop(emp) from bigSep_emp_const _]
  exact bigSep_emp_const _

theorem hu₀ : (ownU (u₀ (F := F)) : sProp 𝕄)
    ⊢ iprop(|={Set.univ}=> (BI.own (EH (initOf (K (F := F)).hsCells (K (F := F)).hsToks)) ∗ (bigSep Finset.univ fun d : Dev nD => mlpGhost (F := F) d)
        ∗ bigSep Finset.univ fun thr : Thread nD τ => bigSep Finset.univ fun q : Fin 2 => (P m).x q thr)) := by
  unfold u₀
  rw [no_own, ghost_split]
  iintro Hu
  ihave H := (ownU_pair (initOf (K (F := F)).hsCells (K (F := F)).hsToks) _) $$ Hu
  icases H with ⟨HH, Hr⟩
  ihave H := (own_pair_emb embR (initOf (Pipeline.cells (Pipeline.pin (pcfgs (F := F)) adm) cellOf_inj) (Pipeline.launchToks (Pipeline.pin (pcfgs (F := F)) adm) cellOf_inj)) (1 : Counters)) $$ Hr
  icases H with ⟨HP, -⟩
  ihave HP := (show (BI.own (((Emb.inl : Emb UP (UP × Counters)).trans embR) (initOf (Pipeline.cells (Pipeline.pin (pcfgs (F := F)) adm) cellOf_inj) (Pipeline.launchToks (Pipeline.pin (pcfgs (F := F)) adm) cellOf_inj))) : sProp 𝕄)
    ⊢ BI.own (EP (initOf (Pipeline.cells (Pipeline.pin (pcfgs (F := F)) adm) cellOf_inj) (Pipeline.launchToks (Pipeline.pin (pcfgs (F := F)) adm) cellOf_inj))) from Entails.of_eq rfl) $$ HP
  imod (Pipeline.fund_ghost (Pipeline.pin (pcfgs (F := F)) adm) EP cellOf_inj) $$ HP with HP
  icases HP with ⟨HA, HB⟩
  imodintro
  isplitl [HH]; · iexact HH
  isplitl [HA HB]
  · isplitl [HA]
    · rw [← bigSep_one fun d p => Pipeline.cellsGhost (Pipeline.pin (pcfgs (F := F)) adm) EP p d]; iexact HA
    · rw [← bigSep_one fun d p => Pipeline.toksInit (Pipeline.pin (pcfgs (F := F)) adm) EP p d]; iexact HB
  iempintro

/-! ## @main -/

abbrev FIN (d : Dev nD) : sProp 𝕄 := StableHlo.held (d.tc : Thread nD τ) ucRefs (V6 m d)

/-- Past both calls nothing is owed, and any waits recorded are below the end. -/
theorem tcSt_open (d : Dev nD) : (K (F := F)).tcSt (Val := Elt F) (Name := ℕ) EH d 2
    ⊢ iprop((∃ W, owes (T d) 0 W) ∗ ((∃ W, owes (T d) 0 W) -∗ (K (F := F)).tcSt (Val := Elt F) (Name := ℕ) EH d 2)) := by
  unfold SparseCore.Cfg.tcSt
  rw [(K (F := F)).Otc_end d le_rfl]
  iintro ⟨⟨%W, -, HO⟩, Hr⟩
  isplitl [HO]; · iexists W; iexact HO
  iintro ⟨%W', HO⟩
  isplitl [HO]
  · iexists W'
    isplitr
    · ipureintro
      rintro ⟨s, ι⟩ -
      cases ι with
      | none => exact Nat.zero_le _
      | some q => exact ((K (F := F)).lev_some_le _ q).trans (by have := q.isLt; show 8 * q.val + 7 ≤ 16; omega)
    · iexact HO
  · iexact Hr

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ mlpGhost (F := F) d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [main_chain, show (unscopedBufs d (fun b => m ((SparseCore.T d).loc b)) : sProp 𝕄) = StableHlo.held (d.tc : Thread nD τ) ucRefs (V0 m d) from unscoped_held (F := F) d (V0 m d)]
  iintro ⟨#Hctx, Hst, ⟨Hb, Hh, Hts, -⟩, Hg⟩
  iapply (StableHlo.wp_seq 𝒱 none Set.univ d ucRefs _ ops0 ops0_sub ops0_fresh (V0 m d)) $$ [Hb Hh]
  · isplitl [Hb] <;> iassumption
  iintro ⟨Hb, Hh⟩
  ihave Hh := (show (StableHlo.held (d.tc : Thread nD τ) ucRefs (StableHlo.after ops0 (V0 m d)) : sProp 𝕄) ⊢ _ from Entails.of_eq (held_V1 m d)) $$ Hh
  icases Hh with ⟨Hop, Hh⟩
  rw [wp_bind]
  iapply ((K (F := F)).wp_run (D (F := F)) 𝒱 (EH := EH) (P := P m) κ d 0)
  isplitr; · iexact Hctx
  isplitl [Hst]; · iexact Hst
  isplitl [Hop]; · iexact Hop
  iintro ⟨Hst, Hdn⟩
  ihave Hh := (Entails.of_eq (held_V2 m d).symm) $$ [Hdn Hh]
  · isplitl [Hdn] <;> iassumption
  ihave Hh := (Entails.of_eq (held_V2' m d)) $$ Hh
  icases Hh with ⟨Hop, Hh⟩
  rw [wp_bind]
  iapply ((K (F := F)).wp_run (D (F := F)) 𝒱 (EH := EH) (P := P m) κ d 1)
  isplitr; · iexact Hctx
  isplitl [Hst]; · iexact Hst
  isplitl [Hop]; · iexact Hop
  iintro ⟨Hst, Hdn⟩
  ihave Hh := (Entails.of_eq (held_V3 m d).symm) $$ [Hdn Hh]
  · isplitl [Hdn] <;> iassumption
  iapply (StableHlo.wp_seq 𝒱 none Set.univ d ucRefs _ ops1 ops1_sub ops1_fresh (V3 m d)) $$ [Hb Hh]
  · isplitl [Hb] <;> iassumption
  iintro ⟨Hb, Hh⟩
  ihave Hh := (show (StableHlo.held (d.tc : Thread nD τ) ucRefs (StableHlo.after ops1 (V3 m d)) : sProp 𝕄) ⊢ StableHlo.held (d.tc : Thread nD τ) ucRefs (V4 m d) from Entails.of_eq rfl) $$ Hh
  ihave Hst := (show (K (F := F)).tcSt (Val := Elt F) (Name := ℕ) EH d ((1 : Fin 2).val + 1) ⊢ _ from tcSt_open (F := F) d) $$ Hst
  icases Hst with ⟨HO, Hst⟩
  rw [wp_bind]
  ihave #Hlv := ((K (F := F)).ctx_levAts (EH := EH) (P := P m) κ) $$ Hctx
  iapply ((K (F := F)).wp_liftProg (D (F := F)) 𝒱 (SparseCore.T d) Set.univ none
    (Prog.lift (.customCall (Pipeline.entry 0) ()) : Prog (TpuEff nD τ sig (Elt F) (ΛP (F := F)) .tc) PUnit) _)
  iapply (wp_mlp d (V4 m d) _)
  isplitl [Hst Hts]
  · iintro ⟨Hb, Hh, HO, -⟩
    ihave Hh := (show (StableHlo.held (d.tc : Thread nD τ) ucRefs (afterMlp d (V4 m d)) : sProp 𝕄) ⊢ StableHlo.held (d.tc : Thread nD τ) ucRefs (V5 m d) from Entails.of_eq rfl) $$ Hh
    iapply (StableHlo.wp_seq 𝒱 none Set.univ d ucRefs _ ops2 ops2_sub ops2_fresh (V5 m d)) $$ [Hb Hh]
    · isplitl [Hb] <;> iassumption
    iintro ⟨Hb, Hh⟩
    ihave Hh := (show (StableHlo.held (d.tc : Thread nD τ) ucRefs (StableHlo.after ops2 (V5 m d)) : sProp 𝕄) ⊢ FIN m d from Entails.of_eq rfl) $$ Hh
    rw [wp_pure]
    imodintro
    isplitl [Hst HO]; · iapply Hst; iexact HO
    isplitl [Hh]; · iexact Hh
    isplitl [Hb] <;> iassumption
  isplitl [Hb]; · iexact Hb
  isplitl [Hh HO]
  · isplitl [Hh]; · iexact Hh
    isplitl [HO]; · iexact HO
    isplitr <;> iempintro
  isplitr; · iexact Hlv
  iexact Hg

/-! ## The end -/

def fq (d : Dev nD) (s' : Phys nD τ sig (Elt F)) : Prop := ∀ r : Ref sig .tc, Proc.devRef .tc r ∈ ucRefs → s'.mem.mem ((SparseCore.T d).loc r) = V6 m d (Proc.devRef .tc r)

theorem hfin (d : Dev nD) (s' : Phys nD τ sig (Elt F)) : iprop(FIN m d ∗ SI s') ⊢ (⌜fq m d s'⌝ : sProp 𝕄) := by
  have h (r : Ref sig .tc) (hr : Proc.devRef .tc r ∈ ucRefs) : iprop(FIN m d ∗ SI s') ⊢ (⌜s'.mem.mem ((SparseCore.T d).loc r) = V6 m d (Proc.devRef .tc r)⌝ : sProp 𝕄) := by
    iintro ⟨Hh, HSI⟩
    ihave H := (Entails.of_eq (StableHlo.held_sub_split (d.tc : Thread nD τ) (Finset.singleton_subset_iff.mpr hr) (V6 m d))) $$ Hh
    icases H with ⟨H, -⟩
    ihave H := (Entails.of_eq (show (StableHlo.held (d.tc : Thread nD τ) {Proc.devRef .tc r} (V6 m d) : sProp 𝕄)
      = ((SparseCore.T d).loc r ↦{fullShare} V6 m d (Proc.devRef .tc r)) from bigSep_singleton)) $$ H
    ihave H := (SI_pointsTo_agree (st := s') (ℓ := (SparseCore.T d).loc r) (I := Finset.univ) (q := fullShare) (f := V6 m d (Proc.devRef .tc r))) $$ [HSI H]
    · isplitl [HSI] <;> iassumption
    icases H with %h1
    ipureintro; exact funext fun i => h1 i (Finset.mem_univ i)
  have h2 : iprop(FIN m d ∗ SI s') ⊢ (⌜∀ p : {r : Ref sig .tc // Proc.devRef .tc r ∈ ucRefs}, s'.mem.mem ((SparseCore.T d).loc p.1) = V6 m d (Proc.devRef .tc p.1)⌝ : sProp 𝕄) := by
    iintro H
    iapply pure_forall.2
    iintro %p
    iapply (h p.1 p.2)
    iexact H
  exact h2.trans (Laws.pure_mono fun hp r hr => hp ⟨r, hr⟩)

/-- The run's end: the arrays at `V6`, every counter at zero. -/
def QC : PUnit × MemSt nD τ sig (Elt F) → Prop :=
  fun r => (∀ (d : Dev nD) (b : Ref sig .tc), Proc.devRef .tc b ∈ ucRefs → r.2.mem ((SparseCore.T d).loc b) = V6 m d (Proc.devRef .tc b)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => pack_obl m | 1 => user_obl m hpre)
    (fun q _ => SparseCore.Cfg.VecSplit.of_plain (split_parts m q))
    m ρ main (fun d => mlpGhost (F := F) d) (FIN m) (u₀ (F := F)) (sep_elim_left.trans (hu₀ m)) (hmain m ρ) (fq m) (hfin m) (QC m) (fun _ h hz => ⟨h, hz⟩)

end Cert.Proof.KI
-- ==== Proof.Frames.lean ====
/-
  The frames: under the index ranges the kernel runs to the end with its arguments unchanged and every counter at zero, at
  the formats' own floats and at the extended reals, by the one run.
-/
module

public import proofs.«01_k».proof.Proof.Launch
public import proofs.«01_k».proof.Proof.Gen.Kernel
public import proofs.«01_k».proof.Proof.Gen.Pre_in_range
public import Idealize.ShloMosaic.Lib.ReduceAll

@[expose] public section

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The index ranges, read off the precondition -/

theorem ofBool_one (p : Bool) : BitVec.ofBool p = 1#1 ↔ p = true := by cases p <;> decide

/-- A word that is not negative and signed-below `n` is below `n`. -/
theorem word_lt {v n : BitVec 32} (hn : n.toNat < 2 ^ 31) (h0 : IntOp.cmpi .sge v 0#32 = 1#1) (h1 : IntOp.cmpi .slt v n = 1#1) : v.toNat < n.toNat := by
  simp only [IntOp.cmpi, ofBool_one, BitVec.sle_eq_decide, BitVec.slt_eq_decide, decide_eq_true_eq, BitVec.toInt_eq_toNat_cond, BitVec.toNat_ofNat] at h0 h1
  omega

instance : Subsingleton Cert.Pre_in_range.S_.Idx := ⟨fun _ _ => funext fun a => a.elim0⟩

theorem ranges_of_pre {F : FTy → Type} [FloatOps F] {uid cid : IVec S16384 32} {num : FVec F S16384x8 .f32} {ut : FVec F S1000000x16 .f32} {ct : FVec F S1000x8 .f32}
    {w1 : FVec F S64x32 .f32} {b1 : FVec F S64 .f32} {w2 : FVec F S32x64 .f32} {b2 : FVec F S32 .f32} {w3 : FVec F S1x32 .f32} {b3 : FVec F S1 .f32}
    (h : Cert.Pre_in_range.fn (F := F) uid cid num ut ct w1 b1 w2 b2 w3 b3 = fun _ => 1#1) :
    (∀ x, (uid x).toNat < 1000000) ∧ ∀ x, (cid x).toNat < 1000 := by
  have e := congrFun h (fun a => a.elim0)
  unfold Cert.Pre_in_range.fn at e
  simp only [andi] at e
  obtain ⟨e, h4⟩ := IntOp.andi_eq_one.1 e
  obtain ⟨e, h3⟩ := IntOp.andi_eq_one.1 e
  obtain ⟨h1, h2⟩ := IntOp.andi_eq_one.1 e
  refine ⟨fun x => ?_, fun x => ?_⟩
  · exact word_lt (n := 1000000#32) (by decide) (Host.reduce_andi_all _ _ _ _ _ h1 x) (Host.reduce_andi_all _ _ _ _ _ h2 x)
  · exact word_lt (n := 1000#32) (by decide) (Host.reduce_andi_all _ _ _ _ _ h3 x) (Host.reduce_andi_all _ _ _ _ _ h4 x)

/-! ## The run, read at the arguments and the result -/

variable {F : FTy → Type} [FloatOps F] (m : (ℓ : Loc nD τ sig) → Buf (Elt F) ℓ)

/-- A final memory of the run has the arguments as at the start. -/
theorem args_kept {r : PUnit × MemSt nD τ sig (Elt F)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  have k (b : Ref sig .tc) (hb : Proc.devRef .tc b ∈ ucRefs) (h1 : b ∉ [main_v0, main_v1, main_c, main_call0_v0, main_v2, main_v3, main_v4_0, main_v4_1, main_v5_0, main_v5_1])
      (h2 : b ∉ [main_v6, main_c_0, main_call1_v0, main_v7, main_v8, main_v9, main_v10, main_v11, main_v12, main_v13]) (h3 : b ≠ main_v14) (h4 : b ∉ [main_v15]) :
      r.2.mem ((c.tc : Thread nD τ).loc b) = m ((c.tc : Thread nD τ).loc b) := (h.1 c b hb).trans (V6_arg m c b h1 h2 h3 h4)
  exact ⟨k main_arg0 (by decide) (by decide) (by decide) (by decide) (by decide),
    k main_arg1 (by decide) (by decide) (by decide) (by decide) (by decide),
    k main_arg2 (by decide) (by decide) (by decide) (by decide) (by decide),
    k main_arg3 (by decide) (by decide) (by decide) (by decide) (by decide),
    k main_arg4 (by decide) (by decide) (by decide) (by decide) (by decide),
    k main_arg5 (by decide) (by decide) (by decide) (by decide) (by decide),
    k main_arg6 (by decide) (by decide) (by decide) (by decide) (by decide),
    k main_arg7 (by decide) (by decide) (by decide) (by decide) (by decide),
    k main_arg8 (by decide) (by decide) (by decide) (by decide) (by decide),
    k main_arg9 (by decide) (by decide) (by decide) (by decide) (by decide),
    k main_arg10 (by decide) (by decide) (by decide) (by decide) (by decide)⟩

/-- And the result array at the run's value. -/
theorem result_is {r : PUnit × MemSt nD τ sig (Elt F)} (h : QC m r) (c : Dev nD) :
    r.2.mem ((c.tc : Thread nD τ).loc main_v15) = shapeCast S16384 (mlpOf (V4 m c)) shapeCasts_S1x16384_S16384 :=
  (h.1 c main_v15 (by decide)).trans (V6_v15 m c)

theorem frame_KernelIdeal : Cert.quiescent_KernelIdeal := fun m g hpre =>
  (θ_run Cert.KernelIdeal.defs _ _).mono (fun _ h => ⟨args_kept m h, h.2⟩) (run_main (F := Ideal) m g fun c => ranges_of_pre (hpre c))

set_option maxHeartbeats 4000000 in
/-- The two printings of the program have the same bodies, label by label. -/
theorem bodies_same : @Cert.Kernel.defs₀ Bits _ _ = @Cert.KernelIdeal.defs₀ Bits _ _ := by
  funext p l a
  match p, l, a with
  | .scVector c s, 0, _ => rfl
  | .scVector c s, 1, _ => rfl
  | .tc, 2, (t, s) => rfl
  | .tc, 0, _ => rfl
  | .tc, 1, _ => rfl
  | .scVector c s, 2, _ => rfl
  | .scScalar c, 0, _ => rfl
  | .scScalar c, 1, _ => rfl
  | .scScalar c, 2, _ => rfl

set_option maxHeartbeats 4000000 in
theorem defs_same : @Cert.Kernel.defs Bits _ _ = @Cert.KernelIdeal.defs Bits _ _ :=
  congrArg (fun d => (Cert.KernelIdeal.sc (F := Bits)).defs (Pipeline.defs (Cert.KernelIdeal.pcfgs (F := Bits)) d)) bodies_same

set_option maxHeartbeats 4000000 in
theorem frame_Kernel : Cert.quiescent_Kernel := fun m g hpre => by
  rw [defs_same]
  exact (θ_run (Cert.KernelIdeal.defs (F := Bits)) _ _).mono (fun _ h => ⟨args_kept (F := Bits) m h, h.2⟩)
    (run_main (F := Bits) m g fun c => ranges_of_pre (F := Bits) (hpre c))

end Cert.Proof.KI
-- ==== Proof.RefFrame.lean ====
/-
  The reference: a line of host operations, so its run ends with every argument kept and every counter at zero.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import Idealize.ShloMosaic.Lib.Quiescent

@[expose] public section

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

theorem frame_ReferenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof.KI
-- ==== Proof.Net.lean ====
/-
  The network over the extended reals: what the TensorCore kernel computes of one row, read entry by entry.
-/
module

public import proofs.«01_k».proof.Proof.Mlp
public import Idealize.ShloMosaic.Lib.MatmulPlain
public import Idealize.ShloMosaic.Lib.ValueLayout
public import Idealize.ShloMosaic.Lib.ValueLayoutCasts
public import Idealize.ShloMosaic.Lib.Pipeline.Value

@[expose] public section

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The network of one row -/

/-- The first layer of one row: the user's part, the category's and the numeric one against their columns of the weights. -/
def layer1 (u : Fin 16 → EReal) (c n : Fin 8 → EReal) (W : Fin 64 → Fin 32 → EReal) (b : Fin 64 → EReal) (j : Fin 64) : EReal :=
  max ((∑ i : Fin 16, u i * W j ⟨i.val, by omega⟩) + (∑ i : Fin 8, c i * W j ⟨16 + i.val, by omega⟩)
    + (∑ i : Fin 8, n i * W j ⟨24 + i.val, by omega⟩) + b j) 0

/-- The upper two layers of one row. -/
def layers23 (h : Fin 64 → EReal) (W2 : Fin 32 → Fin 64 → EReal) (b2 : Fin 32 → EReal) (W3 : Fin 32 → EReal) (b3 : EReal) : EReal :=
  (∑ k : Fin 32, max ((∑ j : Fin 64, h j * W2 k j) + b2 k) 0 * W3 k) + b3

/-! ## The operations at an entry -/

theorem prod_at {M K N : ℕ} (A : FVec Ideal ⟨2, ![M, K]⟩ .f32) (B : FVec Ideal ⟨2, ![K, N]⟩ .f32) (r : Fin M) (c : Fin N) :
    FloatOps.matmul (DotDims.plain M K N) none A B (constant ⟨2, ![M, N]⟩ .f32 0x00000000#32) (ValueIdx.ix2 r c) = ∑ k : Fin K, B (ValueIdx.ix2 k c) * A (ValueIdx.ix2 r k) := by
  rw [Ideal.matmul_plain_apply]
  have z : (constant ⟨2, ![M, N]⟩ .f32 0x00000000#32 : FVec Ideal _ .f32) (ValueIdx.ix2 r c) = 0 := Ideal.ofBits_zero_f32
  rw [z, zero_add]
  exact Finset.sum_congr rfl fun k _ => mul_comm _ _

theorem col_at {M N : ℕ} {V : Type} (hM : M ≠ 1) (v : (⟨2, ![M, 1]⟩ : Shape).Idx → V) (h : (⟨2, ![M, 1]⟩ : Shape).Broadcasts ⟨2, ![M, N]⟩) (r : Fin M) (c : Fin N) :
    broadcastTo ⟨2, ![M, N]⟩ v h (ValueIdx.ix2 r c) = v (ValueIdx.ix2 r 0) := by
  refine broadcastTo_apply v h _ _ fun a => ?_
  match a with
  | ⟨0, _⟩ => exact (if_neg hM).symm
  | ⟨1, _⟩ => exact (if_pos rfl).symm

theorem one_at {N : ℕ} {V : Type} (v : (⟨2, ![1, 1]⟩ : Shape).Idx → V) (h : (⟨2, ![1, 1]⟩ : Shape).Broadcasts ⟨2, ![1, N]⟩) (r : Fin 1) (c : Fin N) :
    broadcastTo ⟨2, ![1, N]⟩ v h (ValueIdx.ix2 r c) = v (ValueIdx.ix2 0 0) := by
  refine broadcastTo_apply v h _ _ fun a => ?_
  match a with
  | ⟨0, _⟩ => exact (if_pos rfl).symm
  | ⟨1, _⟩ => exact (if_pos rfl).symm

theorem dotU (A : FVec Ideal S64x16 .f32) (B : FVec Ideal S16x16384 .f32) (r : Fin 64) (c : Fin 16384) :
    matmul dot_S64x16_S16x16384_S64x16384_1_0_0_1_n_n none A B (constant S64x16384 .f32 0x00000000#32) (ValueIdx.ix2 r c) = ∑ k : Fin 16, B (ValueIdx.ix2 k c) * A (ValueIdx.ix2 r k) :=
  prod_at A B r c
theorem dotN (A : FVec Ideal S64x8 .f32) (B : FVec Ideal S8x16384 .f32) (r : Fin 64) (c : Fin 16384) :
    matmul dot_S64x8_S8x16384_S64x16384_1_0_0_1_n_n none A B (constant S64x16384 .f32 0x00000000#32) (ValueIdx.ix2 r c) = ∑ k : Fin 8, B (ValueIdx.ix2 k c) * A (ValueIdx.ix2 r k) :=
  prod_at A B r c
theorem dot2 (A : FVec Ideal S32x64 .f32) (B : FVec Ideal S64x16384 .f32) (r : Fin 32) (c : Fin 16384) :
    matmul dot_S32x64_S64x16384_S32x16384_1_0_0_1_n_n none A B (constant S32x16384 .f32 0x00000000#32) (ValueIdx.ix2 r c) = ∑ k : Fin 64, B (ValueIdx.ix2 k c) * A (ValueIdx.ix2 r k) :=
  prod_at A B r c
theorem dot3 (A : FVec Ideal S1x32 .f32) (B : FVec Ideal S32x16384 .f32) (r : Fin 1) (c : Fin 16384) :
    matmul dot_S1x32_S32x16384_S1x16384_1_0_0_1_n_n none A B (constant S1x16384 .f32 0x00000000#32) (ValueIdx.ix2 r c) = ∑ k : Fin 32, B (ValueIdx.ix2 k c) * A (ValueIdx.ix2 r k) :=
  prod_at A B r c

theorem zeros_at {s : Shape} (x : s.Idx) : broadcast s (Scalar.ofBits .f32 0x00000000#32 : Ideal .f32) x = (0 : EReal) := Ideal.ofBits_zero_f32

/-! ## The kernel's row -/

/-- The kernel's result at one entry, of its eleven operands. -/
theorem mlp_at (u c : FVec Ideal S16x16384 .f32) (n : FVec Ideal S8x16384 .f32) (w1u w1c : FVec Ideal S64x16 .f32) (w1n : FVec Ideal S64x8 .f32)
    (b1 : FVec Ideal S64x1 .f32) (w2 : FVec Ideal S32x64 .f32) (b2 : FVec Ideal S32x1 .f32) (w3 : FVec Ideal S1x32 .f32) (b3 : FVec Ideal S1x1 .f32) (b : Fin 16384) :
    mlpVal (F := Ideal) u c n w1u w1c w1n b1 w2 b2 w3 b3 (ValueIdx.ix2 0 b)
      = layers23 (fun j => max ((∑ i : Fin 16, u (ValueIdx.ix2 i b) * w1u (ValueIdx.ix2 j i)) + (∑ i : Fin 16, c (ValueIdx.ix2 i b) * w1c (ValueIdx.ix2 j i))
          + (∑ i : Fin 8, n (ValueIdx.ix2 i b) * w1n (ValueIdx.ix2 j i)) + b1 (ValueIdx.ix2 j 0)) 0)
        (fun k j => w2 (ValueIdx.ix2 k j)) (fun k => b2 (ValueIdx.ix2 k 0)) (fun k => w3 (ValueIdx.ix2 0 k)) (b3 (ValueIdx.ix2 0 0)) := by
  unfold mlpVal k2_pay1 k2_pay2 layers23
  simp only [shapeCast_self, ValueIdx.addf_apply, ValueIdx.maximumf_apply, zeros_at, dotU, dotN, dot2, dot3]
  rw [one_at]
  refine congrArg (· + b3 (ValueIdx.ix2 0 0)) (Finset.sum_congr rfl fun k _ => ?_)
  rw [col_at (by decide)]
  refine congrArg (fun z => max (z + b2 (ValueIdx.ix2 k 0)) 0 * w3 (ValueIdx.ix2 0 k)) (Finset.sum_congr rfl fun j _ => ?_)
  rw [col_at (by decide)]

end Cert.Proof.KI
-- ==== Proof.Cols.lean ====
/-
  The TensorCore kernel's operands read entry by entry: the picked columns are the tables' rows that the ids name, and
  the padded parts are zero.
-/
module

public import proofs.«01_k».proof.Proof.Reads
public import Idealize.ShloMosaic.Lib.ValueLayout
public import Idealize.ShloMosaic.Lib.ValueLayoutCasts
public import Idealize.ShloMosaic.Lib.KernelVsHost

@[expose] public section

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The picked columns -/

/-- The user columns: entry `i` of column `b` is entry `i` of the row that id `b` names. -/
theorem pickU_at {V : Type} (t : S16x1000000.Idx → V) (ids : S16384.Idx → BitVec 32) (i : Fin 16) (b : Fin 16384) (hb : (ids (ValueIdx.ix1 b)).toNat < 1000000) :
    pickU (packU t) ids (ValueIdx.ix2 i b) = t (ValueIdx.ix2 i ⟨(ids (ValueIdx.ix1 b)).toNat, hb⟩) := by
  show t (ValueIdx.ix2 _ _) = _
  congr 1
  funext a
  apply Fin.ext
  match a with
  | ⟨0, _⟩ => show ((ids (ValueIdx.ix1 b)).toNat % 8 * 16 + i.val) % 16 = i.val; omega
  | ⟨1, _⟩ => show 8 * ((ids (ValueIdx.ix1 b)).toNat / 8 % 125000) + ((ids (ValueIdx.ix1 b)).toNat % 8 * 16 + i.val) / 16 = (ids (ValueIdx.ix1 b)).toNat; omega

/-- The category columns, of the padded table. -/
theorem pickC_at {V : Type} (t : S16x1024.Idx → V) (ids : S16384.Idx → BitVec 32) (i : Fin 16) (b : Fin 16384) (hb : (ids (ValueIdx.ix1 b)).toNat < 1000) :
    pickC (packC t) ids (ValueIdx.ix2 i b) = t (ValueIdx.ix2 i ⟨(ids (ValueIdx.ix1 b)).toNat, by omega⟩) := by
  show t (ValueIdx.ix2 _ _) = _
  congr 1
  funext a
  apply Fin.ext
  match a with
  | ⟨0, _⟩ => show ((ids (ValueIdx.ix1 b)).toNat % 8 * 16 + i.val) % 16 = i.val; omega
  | ⟨1, _⟩ => show 8 * ((ids (ValueIdx.ix1 b)).toNat / 8 % 128) + ((ids (ValueIdx.ix1 b)).toNat % 8 * 16 + i.val) / 16 = (ids (ValueIdx.ix1 b)).toNat; omega

/-! ## The padded arrays -/

section Pads
variable {V : Type}

theorem padT_in (x : S8x1000.Idx → V) (v : S_.Idx → V) (i : Fin 16) (r : Fin 1024) (hi : i.val < 8) (hr : r.val < 1000) :
    pad S16x1024 ![0, 0] ![8, 24] ![0, 0] x v pads_S8x1000_S16x1024_080_0240 h_S_ (ValueIdx.ix2 i r) = x (ValueIdx.ix2 ⟨i.val, hi⟩ ⟨r.val, hr⟩) :=
  pad_apply_of_inside _ _ _ _ _ _ _ _ _ fun a => match a with
    | ⟨0, _⟩ => show i.val = 0 + i.val * 1 by omega
    | ⟨1, _⟩ => show r.val = 0 + r.val * 1 by omega

theorem padW_in (x : S64x8.Idx → V) (v : S_.Idx → V) (j : Fin 64) (i : Fin 16) (hi : i.val < 8) :
    pad S64x16 ![0, 0] ![0, 8] ![0, 0] x v pads_S64x8_S64x16_000_080 h_S_ (ValueIdx.ix2 j i) = x (ValueIdx.ix2 j ⟨i.val, hi⟩) :=
  pad_apply_of_inside _ _ _ _ _ _ _ _ _ fun a => match a with
    | ⟨0, _⟩ => show j.val = 0 + j.val * 1 by omega
    | ⟨1, _⟩ => show i.val = 0 + i.val * 1 by omega

theorem padW_out (x : S64x8.Idx → V) (v : S_.Idx → V) (j : Fin 64) (i : Fin 16) (hi : 8 ≤ i.val) :
    pad S64x16 ![0, 0] ![0, 8] ![0, 0] x v pads_S64x8_S64x16_000_080 h_S_ (ValueIdx.ix2 j i) = v (Shape.Idx.first h_S_) :=
  pad_apply_of_not_inside _ _ _ _ _ _ _ _ ⟨1, by decide⟩ fun h => by
    have h2 : (i.val - 0) / 1 < 8 := h.2.2
    omega

end Pads

/-- The padding value is zero. -/
theorem padding_zero (x : S_.Idx) : (sitofp (F := Ideal) .f32 (constantI S_ 32 0#32)) x = (0 : EReal) := by
  show (((0#32 : BitVec 32).toInt : ℝ) : EReal) = 0
  simp

/-! ## The operands at the TensorCore call -/

variable (m : (ℓ : Loc nD τ sig) → Buf (Elt Ideal) ℓ) (d : Dev nD)

theorem op_u (i : Fin 16) (b : Fin 16384) (hb : (V0 m d (Proc.devRef .tc main_arg0) (ValueIdx.ix1 b)).toNat < 1000000) :
    V4 m d (Proc.devRef .tc main_v5_0) (ValueIdx.ix2 i b) = V0 m d (Proc.devRef .tc main_arg3) (ValueIdx.ix2 ⟨(V0 m d (Proc.devRef .tc main_arg0) (ValueIdx.ix1 b)).toNat, hb⟩ i) := by
  rw [V4_arr m d main_v5_0 (by decide)]
  unfold V3
  rw [afterUser_u]
  unfold V2
  rw [afterPack_u, afterPack_keeps _ _ (by decide) (by decide), V1_arg m d main_arg0 (by decide), V1_v0]
  exact (pickU_at _ _ i b hb).trans (ValueIdx.transpose_ix2_apply _ _ _ _)

theorem op_c (i : Fin 16) (hi : i.val < 8) (b : Fin 16384) (hb : (V0 m d (Proc.devRef .tc main_arg1) (ValueIdx.ix1 b)).toNat < 1000) :
    V4 m d (Proc.devRef .tc main_v5_1) (ValueIdx.ix2 i b) = V0 m d (Proc.devRef .tc main_arg4) (ValueIdx.ix2 ⟨(V0 m d (Proc.devRef .tc main_arg1) (ValueIdx.ix1 b)).toNat, hb⟩ ⟨i.val, hi⟩) := by
  rw [V4_arr m d main_v5_1 (by decide)]
  unfold V3
  rw [afterUser_c]
  unfold V2
  rw [afterPack_c, afterPack_keeps _ _ (by decide) (by decide), V1_arg m d main_arg1 (by decide), V1_v2]
  exact ((pickC_at _ _ i b hb).trans (padT_in _ _ i _ hi hb)).trans (ValueIdx.transpose_ix2_apply _ _ _ _)

theorem op_n (i : Fin 8) (b : Fin 16384) : V4 m d (Proc.devRef .tc main_v8) (ValueIdx.ix2 i b) = V0 m d (Proc.devRef .tc main_arg2) (ValueIdx.ix2 b i) := by
  rw [V4_v8, V3_arg m d main_arg2 (by decide)]
  exact ValueIdx.transpose_ix2_apply _ _ _ _

theorem op_w1u (j : Fin 64) (i : Fin 16) : V4 m d (Proc.devRef .tc main_v9) (ValueIdx.ix2 j i) = V0 m d (Proc.devRef .tc main_arg5) (ValueIdx.ix2 j ⟨i.val, by omega⟩) := by
  rw [V4_v9, V3_arg m d main_arg5 (by decide)]
  exact extractStridedSlice_apply _ _ _ _ _ fun a => match a with
    | ⟨0, _⟩ => (Nat.zero_add j.val).symm
    | ⟨1, _⟩ => (Nat.zero_add i.val).symm

theorem op_w1n (j : Fin 64) (i : Fin 8) : V4 m d (Proc.devRef .tc main_v10) (ValueIdx.ix2 j i) = V0 m d (Proc.devRef .tc main_arg5) (ValueIdx.ix2 j ⟨24 + i.val, by omega⟩) := by
  rw [V4_v10, V3_arg m d main_arg5 (by decide)]
  exact extractStridedSlice_apply _ _ _ _ _ fun a => match a with
    | ⟨0, _⟩ => (Nat.zero_add j.val).symm
    | ⟨1, _⟩ => rfl

theorem op_w1c (j : Fin 64) (i : Fin 16) (hi : i.val < 8) : V4 m d (Proc.devRef .tc main_v7) (ValueIdx.ix2 j i) = V0 m d (Proc.devRef .tc main_arg5) (ValueIdx.ix2 j ⟨16 + i.val, by omega⟩) := by
  rw [V4_v7, V3_arg m d main_arg5 (by decide), padW_in _ _ j i hi]
  exact extractStridedSlice_apply _ _ _ _ _ fun a => match a with
    | ⟨0, _⟩ => (Nat.zero_add j.val).symm
    | ⟨1, _⟩ => rfl

theorem op_w1c_zero (j : Fin 64) (i : Fin 16) (hi : 8 ≤ i.val) : V4 m d (Proc.devRef .tc main_v7) (ValueIdx.ix2 j i) = (0 : EReal) := by
  rw [V4_v7, padW_out _ _ j i hi]
  exact padding_zero _

theorem op_b1 (j : Fin 64) : V4 m d (Proc.devRef .tc main_v11) (ValueIdx.ix2 j 0) = V0 m d (Proc.devRef .tc main_arg6) (ValueIdx.ix1 j) := by
  rw [V4_v11, V3_arg m d main_arg6 (by decide)]
  exact ValueIdx.shapeCast_a_a1_apply _ _ _ _
theorem op_b2 (k : Fin 32) : V4 m d (Proc.devRef .tc main_v12) (ValueIdx.ix2 k 0) = V0 m d (Proc.devRef .tc main_arg8) (ValueIdx.ix1 k) := by
  rw [V4_v12, V3_arg m d main_arg8 (by decide)]
  exact ValueIdx.shapeCast_a_a1_apply _ _ _ _
theorem op_b3 : V4 m d (Proc.devRef .tc main_v13) (ValueIdx.ix2 0 0) = V0 m d (Proc.devRef .tc main_arg10) (ValueIdx.ix1 0) := by
  rw [V4_v13, V3_arg m d main_arg10 (by decide)]
  exact ValueIdx.shapeCast_a_a1_apply _ _ _ _
theorem op_w2 : V4 m d (Proc.devRef .tc main_arg7) = V0 m d (Proc.devRef .tc main_arg7) :=
  (V4_arr m d main_arg7 (by decide)).trans (V3_arg m d main_arg7 (by decide))
theorem op_w3 : V4 m d (Proc.devRef .tc main_arg9) = V0 m d (Proc.devRef .tc main_arg9) :=
  (V4_arr m d main_arg9 (by decide)).trans (V3_arg m d main_arg9 (by decide))

end Cert.Proof.KI
-- ==== Proof.RefTake.lean ====
/-
  The reference's table look-ups read entry by entry: with every id in the table's range, the wrapping of negative ids
  and the mask of ids outside do nothing, and an entry is the table's entry in the row that the id names.
-/
module

public import proofs.«01_k».proof.Proof.Setup
public import proofs.«01_k».proof.Proof.Gen.ReferenceIdeal
public import Idealize.ShloMosaic.Lib.ReduceAll
public import Idealize.ShloMosaic.Lib.IdealHost
public import Idealize.ShloMosaic.Lib.Pipeline.Value
public import Idealize.ShloMosaic.Lib.Routing.Ops

@[expose] public section

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

/-- A word below `2 ^ 31` is not negative. -/
theorem word_nonneg {v : BitVec 32} (h : v.toNat < 2 ^ 31) : IntOp.cmpi .sge v 0#32 = 1#1 := by
  simp only [IntOp.cmpi, BitVec.sle_eq_decide, BitVec.toInt_eq_toNat_cond, BitVec.toNat_ofNat]
  have : decide ((if 2 * (0 % 2 ^ 32) < 2 ^ 32 then (((0 % 2 ^ 32 : ℕ)) : ℤ) else ((0 % 2 ^ 32 : ℕ) : ℤ) - ((2 ^ 32 : ℕ) : ℤ)) ≤ (if 2 * v.toNat < 2 ^ 32 then (v.toNat : ℤ) else (v.toNat : ℤ) - ((2 ^ 32 : ℕ) : ℤ))) = true :=
    decide_eq_true (by omega)
  rw [this]; decide

theorem word_not_neg {v : BitVec 32} (h : v.toNat < 2 ^ 31) : IntOp.cmpi .slt v 0#32 = 0#1 := by
  simp only [IntOp.cmpi, BitVec.slt_eq_decide, BitVec.toInt_eq_toNat_cond, BitVec.toNat_ofNat]
  have : decide ((if 2 * v.toNat < 2 ^ 32 then (v.toNat : ℤ) else (v.toNat : ℤ) - ((2 ^ 32 : ℕ) : ℤ)) < (if 2 * (0 % 2 ^ 32) < 2 ^ 32 then (((0 % 2 ^ 32 : ℕ)) : ℤ) else ((0 % 2 ^ 32 : ℕ) : ℤ) - ((2 ^ 32 : ℕ) : ℤ))) = false :=
    decide_eq_false (by omega)
  rw [this]; decide

theorem word_le {v n : BitVec 32} (hn : n.toNat < 2 ^ 31) (h : v.toNat ≤ n.toNat) : IntOp.cmpi .sle v n = 1#1 := by
  simp only [IntOp.cmpi, BitVec.sle_eq_decide, BitVec.toInt_eq_toNat_cond]
  have : decide ((if 2 * v.toNat < 2 ^ 32 then (v.toNat : ℤ) else (v.toNat : ℤ) - ((2 ^ 32 : ℕ) : ℤ)) ≤ (if 2 * n.toNat < 2 ^ 32 then (n.toNat : ℤ) else (n.toNat : ℤ) - ((2 ^ 32 : ℕ) : ℤ))) = true :=
    decide_eq_true (by omega)
  rw [this]; decide

/-- The ids as the look-up takes them: a negative one counted from the table's end. -/
def wrapped (ids : IVec S16384 32) (n : BitVec 32) (h h' : S_.BroadcastsInDim S16384 (![] : Fin 0 → Fin S16384.rank)) : IVec S16384 32 :=
  select (cmpi .slt ids (broadcastInDim S16384 ![] h (constantI S_ 32 0#32))) (addi ids (broadcastInDim S16384 ![] h' (constantI S_ 32 n))) ids

theorem wrapped_eq (ids : IVec S16384 32) (n : BitVec 32) (h h') (hid : ∀ x, (ids x).toNat < 2 ^ 31) : wrapped ids n h h' = ids := by
  funext x
  show Scalar.select (IntOp.cmpi .slt (ids x) 0#32) _ (ids x) = ids x
  rw [word_not_neg (hid x)]
  rfl

/-- One column of a vector. -/
theorem column_at {V : Type} {M : ℕ} (hM : M ≠ 1) (v : (⟨1, ![M]⟩ : Shape).Idx → V) (D : ℕ) (h : (⟨1, ![M]⟩ : Shape).BroadcastsInDim ⟨2, ![M, D]⟩ (![0] : Fin 1 → Fin 2)) (b : Fin M) (i : Fin D) :
    broadcastInDim ⟨2, ![M, D]⟩ ![0] h v (ValueIdx.ix2 b i) = v (ValueIdx.ix1 b) := by
  refine broadcastInDim_apply _ h v _ _ fun a => ?_
  match a with
  | ⟨0, _⟩ => exact (if_neg hM).symm

/-- A vector laid along an axis takes its own values. -/
theorem laid {V : Type} {s t : Shape} (D : Fin s.rank → Fin t.rank) (h : s.BroadcastsInDim t D) (v : s.Idx → V) (x : t.Idx) : ∃ y, broadcastInDim t D h v x = v y := ⟨_, rfl⟩

theorem both_one {s : Shape} {p q : IVec s 1} {x : s.Idx} (hp : p x = 1#1) (hq : q x = 1#1) : andi p q x = 1#1 := IntOp.andi_eq_one.2 ⟨hp, hq⟩
theorem sge_one {s : Shape} {p q : IVec s 32} {x : s.Idx} {v : BitVec 32} (hp : p x = v) (hq : q x = 0#32) (h : v.toNat < 2 ^ 31) : cmpi .sge p q x = 1#1 := by
  show IntOp.cmpi .sge (p x) (q x) = 1#1
  rw [hp, hq]; exact word_nonneg h
theorem sle_one {s : Shape} {p q : IVec s 32} {x : s.Idx} {v n : BitVec 32} (hp : p x = v) (hq : q x = n) (hn : n.toNat < 2 ^ 31) (h : v.toNat ≤ n.toNat) : cmpi .sle p q x = 1#1 := by
  show IntOp.cmpi .sle (p x) (q x) = 1#1
  rw [hp, hq]; exact word_le hn h

/-- The mask of ids in range is set everywhere. -/
theorem mask_at {N : ℕ} {s t : Shape} {ds : List (Fin t.rank)} {Z T : IVec t 32} (top : BitVec 32) (htop : top.toNat + 1 = N) (hN : N < 2 ^ 31) (ids : IVec s 32) (hid : ∀ x, (ids x).toNat < N)
    {D : Fin s.rank → Fin t.rank} (h3 h3' : s.BroadcastsInDim t D) (h7 : t.ReducesTo ds s) (h8 : 0 < S_.numel) (hZ : ∀ x, Z x = 0#32) (hT : ∀ x, T x = top) (y : s.Idx) :
    Host.reduce IntOp.andi (andi (cmpi .sge (broadcastInDim t D h3 ids) Z) (cmpi .sle (broadcastInDim t D h3' ids) T)) (constantI S_ 1 1#1) h7 h8 y = 1#1 :=
  Host.reduce_andi_one _ _ _ _ _ rfl fun x => by
    obtain ⟨y, hy⟩ := laid D h3 ids x
    have hi := hid y
    exact both_one (sge_one hy (hZ x) (by omega)) (sle_one hy (hT x) (by omega) (by omega))

theorem select_set {V : Type} {s : Shape} {p : IVec s 1} {u v : s.Idx → V} {x : s.Idx} (h : p x = 1#1) : select p u v x = u x := by
  show Scalar.select (p x) (u x) (v x) = u x
  rw [h]; rfl

/-- The rows picked, at an entry. -/
theorem picked_at {V : Type} {M N D : ℕ} (hM : M ≠ 1) (d : GatherDims ⟨2, ![N, D]⟩ ⟨2, ![M, 1]⟩ ⟨2, ![M, D]⟩) (hoff : d.offsetDims = [1]) (hcoll : d.collapsedSliceDims = [0]) (hob : d.operandBatchingDims = [])
    (hsim : d.startIndexMap = [0]) (hivd : d.indexVectorDim = 1)
    (t : (⟨2, ![N, D]⟩ : Shape).Idx → V) (ids : IVec ⟨1, ![M]⟩ 32) (h : (⟨1, ![M]⟩ : Shape).BroadcastsInDim ⟨2, ![M, 1]⟩ (![0] : Fin 1 → Fin 2)) (b : Fin M) (i : Fin D)
    (hid : (ids (ValueIdx.ix1 b)).toNat < N) (hN : N < 2 ^ 31) :
    Host.gather d t (broadcastInDim ⟨2, ![M, 1]⟩ ![0] h ids) (ValueIdx.ix2 b i) = t (ValueIdx.ix2 ⟨(ids (ValueIdx.ix1 b)).toNat, hid⟩ i) :=
  Routing.gather_row d hoff hcoll hob hsim hivd t _ b i ⟨(ids (ValueIdx.ix1 b)).toNat, hid⟩
    ((column_at hM ids 1 h b 0).trans (by simp)) hN

/-- A look-up at an entry. -/
theorem take_at {V : Type} {N D : ℕ} (top n : BitVec 32) (htop : top.toNat + 1 = N) (hN : N < 2 ^ 31)
    (d : GatherDims ⟨2, ![N, D]⟩ Cert.ReferenceIdeal.S16384x1 ⟨2, ![16384, D]⟩) (hoff : d.offsetDims = [1]) (hcoll : d.collapsedSliceDims = [0]) (hob : d.operandBatchingDims = [])
    (hsim : d.startIndexMap = [0]) (hivd : d.indexVectorDim = 1)
    (t : (⟨2, ![N, D]⟩ : Shape).Idx → V) (ids : IVec S16384 32) (hid : ∀ x, (ids x).toNat < N)
    (h1 h2 : S_.BroadcastsInDim S16384 (![] : Fin 0 → Fin S16384.rank)) (h3 h3' h3'' : S16384.BroadcastsInDim Cert.ReferenceIdeal.S16384x1 (![0] : Fin 1 → Fin Cert.ReferenceIdeal.S16384x1.rank))
    (h4 : S_.BroadcastsInDim Cert.ReferenceIdeal.S16384x1 (![] : Fin 0 → Fin Cert.ReferenceIdeal.S16384x1.rank)) (h5 : S1.BroadcastsInDim S1x1 (![1] : Fin 1 → Fin S1x1.rank))
    (h6 : S1x1.BroadcastsInDim Cert.ReferenceIdeal.S16384x1 (![0, 1] : Fin 2 → Fin Cert.ReferenceIdeal.S16384x1.rank)) (h7 : Cert.ReferenceIdeal.S16384x1.ReducesTo [1] S16384) (h8 : 0 < S_.numel)
    (h9 : S16384.BroadcastsInDim ⟨2, ![16384, D]⟩ (![0] : Fin 1 → Fin 2)) (nan : (⟨2, ![16384, D]⟩ : Shape).Idx → V) (b : Fin 16384) (i : Fin D) :
    select (broadcastInDim ⟨2, ![16384, D]⟩ ![0] h9 (Host.reduce IntOp.andi (andi (cmpi .sge (broadcastInDim Cert.ReferenceIdeal.S16384x1 ![0] h3 (wrapped ids n h1 h2)) (broadcastInDim Cert.ReferenceIdeal.S16384x1 ![] h4 (constantI S_ 32 0#32)))
        (cmpi .sle (broadcastInDim Cert.ReferenceIdeal.S16384x1 ![0] h3' (wrapped ids n h1 h2)) (broadcastInDim Cert.ReferenceIdeal.S16384x1 ![0, 1] h6 (broadcastInDim S1x1 ![1] h5 (constantI S1 32 top))))) (constantI S_ 1 1#1) h7 h8))
      (Host.gather d t (broadcastInDim Cert.ReferenceIdeal.S16384x1 ![0] h3'' (wrapped ids n h1 h2))) nan (ValueIdx.ix2 b i)
      = t (ValueIdx.ix2 ⟨(ids (ValueIdx.ix1 b)).toNat, hid _⟩ i) := by
  rw [wrapped_eq ids n h1 h2 fun x => (hid x).trans hN]
  have hmask := mask_at (Z := broadcastInDim Cert.ReferenceIdeal.S16384x1 ![] h4 (constantI S_ 32 0#32))
    (T := broadcastInDim Cert.ReferenceIdeal.S16384x1 ![0, 1] h6 (broadcastInDim S1x1 ![1] h5 (constantI S1 32 top)))
    top htop hN ids hid h3 h3' h7 h8 (fun x => rfl) (fun x => rfl)
  refine (select_set ((column_at (by decide) _ D h9 b i).trans (hmask _))).trans ?_
  exact picked_at (by decide) d hoff hcoll hob hsim hivd t ids h3'' b i (hid _) hN

end Cert.Proof.KI
-- ==== Proof.RefNet.lean ====
/-
  The reference read entry by entry: the joined row of user, category and numeric part through the three layers.
-/
module

public import proofs.«01_k».proof.Proof.Net
public import proofs.«01_k».proof.Proof.RefTake
public import proofs.«01_k».proof.Proof.Gen.ReferenceIdeal.Run
public import Idealize.ShloMosaic.Lib.StackMember

@[expose] public section

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The operations at an entry -/

theorem split32 (f : Fin 32 → EReal) :
    (∑ i : Fin 32, f i) = (∑ i : Fin 16, f ⟨i.val, by omega⟩) + (∑ i : Fin 8, f ⟨16 + i.val, by omega⟩) + ∑ i : Fin 8, f ⟨24 + i.val, by omega⟩ := by
  rw [show (∑ i : Fin 32, f i) = ∑ i : Fin (24 + 8), f i from rfl, Fin.sum_univ_add]
  rw [show (∑ i : Fin 24, f (Fin.castAdd 8 i)) = ∑ i : Fin (16 + 8), f (Fin.castAdd 8 i) from rfl, Fin.sum_univ_add]
  rfl

section Joined
variable {V : Type} (u : Cert.ReferenceIdeal.S16384x16.Idx → V) (c n : S16384x8.Idx → V) (h : Shape.Concatenates [Cert.ReferenceIdeal.S16384x16, S16384x8, S16384x8] ⟨2, ![16384, 32]⟩ 1) (b : Fin 16384)

theorem joined_u (i : Fin 16) : concatenate ⟨2, ![16384, 32]⟩ 1 [⟨Cert.ReferenceIdeal.S16384x16, u⟩, ⟨S16384x8, c⟩, ⟨S16384x8, n⟩] h (ValueIdx.ix2 b ⟨i.val, by omega⟩) = u (ValueIdx.ix2 b i) :=
  concatenate_apply_piece 1 [⟨Cert.ReferenceIdeal.S16384x16, u⟩, ⟨S16384x8, c⟩, ⟨S16384x8, n⟩] h _ 0 (Nat.succ_pos 2 : 0 < 3) Cert.ReferenceIdeal.S16384x16 u rfl rfl 0 rfl _
    (fun a ha => match a, ha with | ⟨0, _⟩, _ => rfl | ⟨1, _⟩, ha => absurd rfl ha) (Nat.zero_add _)
theorem joined_c (i : Fin 8) : concatenate ⟨2, ![16384, 32]⟩ 1 [⟨Cert.ReferenceIdeal.S16384x16, u⟩, ⟨S16384x8, c⟩, ⟨S16384x8, n⟩] h (ValueIdx.ix2 b ⟨16 + i.val, by omega⟩) = c (ValueIdx.ix2 b i) :=
  concatenate_apply_piece 1 [⟨Cert.ReferenceIdeal.S16384x16, u⟩, ⟨S16384x8, c⟩, ⟨S16384x8, n⟩] h _ 1 (by decide : 1 < 3) S16384x8 c rfl rfl 16 rfl _
    (fun a ha => match a, ha with | ⟨0, _⟩, _ => rfl | ⟨1, _⟩, ha => absurd rfl ha) rfl
theorem joined_n (i : Fin 8) : concatenate ⟨2, ![16384, 32]⟩ 1 [⟨Cert.ReferenceIdeal.S16384x16, u⟩, ⟨S16384x8, c⟩, ⟨S16384x8, n⟩] h (ValueIdx.ix2 b ⟨24 + i.val, by omega⟩) = n (ValueIdx.ix2 b i) :=
  concatenate_apply_piece 1 [⟨Cert.ReferenceIdeal.S16384x16, u⟩, ⟨S16384x8, c⟩, ⟨S16384x8, n⟩] h _ 2 (by decide : 2 < 3) S16384x8 n rfl rfl 24 rfl _
    (fun a ha => match a, ha with | ⟨0, _⟩, _ => rfl | ⟨1, _⟩, ha => absurd rfl ha) rfl

end Joined

/-- A bias laid along every row. -/
theorem bias_at {V : Type} {M N : ℕ} (v : (⟨1, ![N]⟩ : Shape).Idx → V) (h : (⟨1, ![N]⟩ : Shape).BroadcastsInDim ⟨2, ![1, N]⟩ (![1] : Fin 1 → Fin 2))
    (h' : (⟨2, ![1, N]⟩ : Shape).BroadcastsInDim ⟨2, ![M, N]⟩ (![0, 1] : Fin 2 → Fin 2)) (r : Fin M) (j : Fin N) :
    broadcastInDim ⟨2, ![M, N]⟩ ![0, 1] h' (broadcastInDim ⟨2, ![1, N]⟩ ![1] h v) (ValueIdx.ix2 r j) = v (ValueIdx.ix1 j) := by
  have hj : j.val = if N = 1 then 0 else j.val := by
    by_cases h1 : N = 1
    · rw [if_pos h1]; omega
    · rw [if_neg h1]
  refine (broadcastInDim_apply _ h' _ _ (ValueIdx.ix2 0 j) fun a => ?_).trans (broadcastInDim_apply _ h v _ _ fun a => ?_)
  · match a with
    | ⟨0, _⟩ => exact (if_pos rfl).symm
    | ⟨1, _⟩ => exact hj
  · match a with
    | ⟨0, _⟩ => exact hj

theorem floor_at {s : Shape} (h : S_.BroadcastsInDim s (![] : Fin 0 → Fin s.rank)) (x : s.Idx) :
    broadcastInDim s ![] h (constant S_ .f32 0x00000000#32 : FVec Ideal S_ .f32) x = (0 : EReal) := Ideal.ofBits_zero_f32

/-- A layer's product with the transposed weights. -/
theorem prodT_at {M K N : ℕ} (A : FVec Ideal ⟨2, ![M, K]⟩ .f32) (W : FVec Ideal ⟨2, ![N, K]⟩ .f32) (h : (⟨2, ![N, K]⟩ : Shape).Transposes [1, 0] ⟨2, ![K, N]⟩) (r : Fin M) (c : Fin N) :
    Host.dotGeneral (DotDims.plain M K N) none A (transpose ⟨2, ![K, N]⟩ [1, 0] W h) (ValueIdx.ix2 r c) = ∑ k : Fin K, A (ValueIdx.ix2 r k) * W (ValueIdx.ix2 c k) :=
  (StackMember.dotGeneral_plain_apply none A _ r c).trans (Finset.sum_congr rfl fun k _ => congrArg _ (ValueIdx.transpose_ix2_apply W h k c))

/-! ## The layers -/

open Cert.ReferenceIdeal.Facts₀ in
/-- The reference's three layers of a joined row. -/
theorem layers_at (X : FVec Ideal Cert.ReferenceIdeal.S16384x32 .f32) (W1 : FVec Ideal Cert.ReferenceIdeal.S64x32 .f32) (b1 : FVec Ideal Cert.ReferenceIdeal.S64 .f32) (W2 : FVec Ideal Cert.ReferenceIdeal.S32x64 .f32)
    (b2 : FVec Ideal Cert.ReferenceIdeal.S32 .f32) (W3 : FVec Ideal Cert.ReferenceIdeal.S1x32 .f32) (b3 : FVec Ideal Cert.ReferenceIdeal.S1 .f32) (b : Fin 16384) :
    shapeCast Cert.ReferenceIdeal.S16384 (addf (Host.dotGeneral Cert.ReferenceIdeal.dot_S16384x32_S32x1_S16384x1_1_0_0_1_n_n none
        (maximumf (addf (Host.dotGeneral Cert.ReferenceIdeal.dot_S16384x64_S64x32_S16384x32_1_0_0_1_n_n none
          (maximumf (addf (Host.dotGeneral Cert.ReferenceIdeal.dot_S16384x32_S32x64_S16384x64_1_0_0_1_n_n none X (transpose Cert.ReferenceIdeal.S32x64 [1, 0] W1 transposes_S64x32_S32x64_1_0))
              (broadcastInDim Cert.ReferenceIdeal.S16384x64 ![0, 1] bcast_S1x64_S16384x64_0_1 (broadcastInDim Cert.ReferenceIdeal.S1x64 ![1] bcast_S64_S1x64_1 b1)))
            (broadcastInDim Cert.ReferenceIdeal.S16384x64 ![] bcast_S_S16384x64 (constant Cert.ReferenceIdeal.S_ .f32 0x00000000#32)))
          (transpose Cert.ReferenceIdeal.S64x32 [1, 0] W2 transposes_S32x64_S64x32_1_0))
            (broadcastInDim Cert.ReferenceIdeal.S16384x32 ![0, 1] bcast_S1x32_S16384x32_0_1 (broadcastInDim Cert.ReferenceIdeal.S1x32 ![1] bcast_S32_S1x32_1 b2)))
          (broadcastInDim Cert.ReferenceIdeal.S16384x32 ![] bcast_S_S16384x32 (constant Cert.ReferenceIdeal.S_ .f32 0x00000000#32)))
        (transpose Cert.ReferenceIdeal.S32x1 [1, 0] W3 transposes_S1x32_S32x1_1_0))
          (broadcastInDim Cert.ReferenceIdeal.S16384x1 ![0, 1] bcast_S1x1_S16384x1_0_1 (broadcastInDim Cert.ReferenceIdeal.S1x1 ![1] bcast_S1_S1x1_1 b3)))
        shapeCasts_S16384x1_S16384 (ValueIdx.ix1 b)
      = layers23 (fun j => max ((∑ i : Fin 32, X (ValueIdx.ix2 b i) * W1 (ValueIdx.ix2 j i)) + b1 (ValueIdx.ix1 j)) 0)
          (fun k j => W2 (ValueIdx.ix2 k j)) (fun k => b2 (ValueIdx.ix1 k)) (fun k => W3 (ValueIdx.ix2 0 k)) (b3 (ValueIdx.ix1 0)) := by
  refine (shapeCast_apply _ _ _ (ValueIdx.ix2 b 0) (by
    rw [Shape.rowMajor_val_two, Shape.rowMajor_val_one]
    show b.val * 1 + 0 = b.val
    omega)).trans ?_
  unfold layers23
  refine congr (congrArg HAdd.hAdd ((prodT_at _ W3 _ b 0).trans (Finset.sum_congr rfl fun k _ => ?_))) (bias_at b3 _ _ b 0)
  refine congrArg (· * W3 (ValueIdx.ix2 0 k)) (congr (congrArg max (congr (congrArg HAdd.hAdd ((prodT_at _ W2 _ b k).trans (Finset.sum_congr rfl fun j _ => ?_))) (bias_at b2 _ _ b k))) (floor_at _ _))
  exact congrArg (· * W2 (ValueIdx.ix2 k j)) (congr (congrArg max (congr (congrArg HAdd.hAdd (prodT_at X W1 _ b j)) (bias_at b1 _ _ b j))) (floor_at _ _))

end Cert.Proof.KI
-- ==== Proof.Equation.lean ====
/-
  The value equation: what the kernel's run leaves in its result is the reference's result, row by row.
-/
module

public import proofs.«01_k».proof.Defs
public import proofs.«01_k».proof.Proof.Frames
public import proofs.«01_k».proof.Proof.RefFrame
public import proofs.«01_k».proof.Proof.Net
public import proofs.«01_k».proof.Proof.Cols
public import proofs.«01_k».proof.Proof.RefNet

@[expose] public section

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

/-- The network's answer for row `b`, of the eleven arguments: the rows that the ids name, joined with the numeric row. -/
def rowNet (uid cid : IVec S16384 32) (num : FVec Ideal S16384x8 .f32) (ut : FVec Ideal S1000000x16 .f32) (ct : FVec Ideal S1000x8 .f32)
    (w1 : FVec Ideal S64x32 .f32) (b1 : FVec Ideal S64 .f32) (w2 : FVec Ideal S32x64 .f32) (b2 : FVec Ideal S32 .f32) (w3 : FVec Ideal S1x32 .f32) (b3 : FVec Ideal S1 .f32)
    (hu : ∀ x, (uid x).toNat < 1000000) (hc : ∀ x, (cid x).toNat < 1000) (b : Fin 16384) : EReal :=
  layers23 (layer1 (fun i => ut (ValueIdx.ix2 ⟨(uid (ValueIdx.ix1 b)).toNat, hu _⟩ i)) (fun i => ct (ValueIdx.ix2 ⟨(cid (ValueIdx.ix1 b)).toNat, hc _⟩ i))
      (fun i => num (ValueIdx.ix2 b i)) (fun j i => w1 (ValueIdx.ix2 j i)) (fun j => b1 (ValueIdx.ix1 j)))
    (fun k j => w2 (ValueIdx.ix2 k j)) (fun k => b2 (ValueIdx.ix1 k)) (fun k => w3 (ValueIdx.ix2 0 k)) (b3 (ValueIdx.ix1 0))

theorem rowNet_congr {uid uid' cid cid' : IVec S16384 32} {num num' : FVec Ideal S16384x8 .f32} {ut ut' : FVec Ideal S1000000x16 .f32} {ct ct' : FVec Ideal S1000x8 .f32}
    {w1 w1' : FVec Ideal S64x32 .f32} {b1 b1' : FVec Ideal S64 .f32} {w2 w2' : FVec Ideal S32x64 .f32} {b2 b2' : FVec Ideal S32 .f32} {w3 w3' : FVec Ideal S1x32 .f32} {b3 b3' : FVec Ideal S1 .f32}
    (h0 : uid' = uid) (h1 : cid' = cid) (h2 : num' = num) (h3 : ut' = ut) (h4 : ct' = ct) (h5 : w1' = w1) (h6 : b1' = b1) (h7 : w2' = w2) (h8 : b2' = b2) (h9 : w3' = w3) (h10 : b3' = b3)
    (hu : ∀ x, (uid x).toNat < 1000000) (hc : ∀ x, (cid x).toNat < 1000) (hu' : ∀ x, (uid' x).toNat < 1000000) (hc' : ∀ x, (cid' x).toNat < 1000) (b : Fin 16384) :
    rowNet uid' cid' num' ut' ct' w1' b1' w2' b2' w3' b3' hu' hc' b = rowNet uid cid num ut ct w1 b1 w2 b2 w3 b3 hu hc b := by
  subst h0 h1 h2 h3 h4 h5 h6 h7 h8 h9 h10; rfl

/-- A sum over sixteen columns whose upper eight weights are zero. -/
theorem sum_low (f g : Fin 16 → EReal) (hg : ∀ i : Fin 16, 8 ≤ i.val → g i = 0) : (∑ i : Fin 16, f i * g i) = ∑ i : Fin 8, f ⟨i.val, by omega⟩ * g ⟨i.val, by omega⟩ := by
  rw [show (∑ i : Fin 16, f i * g i) = ∑ i : Fin (8 + 8), f i * g i from rfl, Fin.sum_univ_add]
  rw [show (∑ i : Fin 8, f (Fin.natAdd 8 i) * g (Fin.natAdd 8 i)) = 0 from Finset.sum_eq_zero fun i _ => by
    rw [hg _ (Nat.le_add_right 8 i.val), mul_zero], add_zero]
  rfl

/-- The first layer from the kernel's operands, given what their entries are. -/
theorem first_of {u c : FVec Ideal S16x16384 .f32} {n : FVec Ideal S8x16384 .f32} {w1u w1c : FVec Ideal S64x16 .f32} {w1n : FVec Ideal S64x8 .f32} {b1 : FVec Ideal S64x1 .f32} {b : Fin 16384}
    {u' : Fin 16 → EReal} {c' n' : Fin 8 → EReal} {W : FVec Ideal S64x32 .f32} {B : Fin 64 → EReal}
    (hu : ∀ i, u (ValueIdx.ix2 i b) = u' i) (hc : ∀ i : Fin 8, c (ValueIdx.ix2 ⟨i.val, by omega⟩ b) = c' i) (hn : ∀ i, n (ValueIdx.ix2 i b) = n' i)
    (hwu : ∀ (j : Fin 64) (i : Fin 16), w1u (ValueIdx.ix2 j i) = W (ValueIdx.ix2 j ⟨i.val, by omega⟩)) (hwc : ∀ (j : Fin 64) (i : Fin 8), w1c (ValueIdx.ix2 j ⟨i.val, by omega⟩) = W (ValueIdx.ix2 j ⟨16 + i.val, by omega⟩))
    (hw0 : ∀ (j : Fin 64) (i : Fin 16), 8 ≤ i.val → w1c (ValueIdx.ix2 j i) = (0 : EReal)) (hwn : ∀ (j : Fin 64) (i : Fin 8), w1n (ValueIdx.ix2 j i) = W (ValueIdx.ix2 j ⟨24 + i.val, by omega⟩))
    (hb : ∀ j, b1 (ValueIdx.ix2 j 0) = B j) (j : Fin 64) :
    max ((∑ i : Fin 16, u (ValueIdx.ix2 i b) * w1u (ValueIdx.ix2 j i)) + (∑ i : Fin 16, c (ValueIdx.ix2 i b) * w1c (ValueIdx.ix2 j i))
          + (∑ i : Fin 8, n (ValueIdx.ix2 i b) * w1n (ValueIdx.ix2 j i)) + b1 (ValueIdx.ix2 j 0)) 0
      = layer1 u' c' n' (fun j i => W (ValueIdx.ix2 j i)) B j := by
  unfold layer1
  rw [sum_low (fun i => c (ValueIdx.ix2 i b)) (fun i => w1c (ValueIdx.ix2 j i)) (hw0 j)]
  refine congrArg (max · 0) (congr (congrArg HAdd.hAdd (congr (congrArg HAdd.hAdd (congr (congrArg HAdd.hAdd ?_) ?_)) ?_)) (hb j))
  · exact Finset.sum_congr rfl fun i _ => congr (congrArg HMul.hMul (hu i)) (hwu j i)
  · exact Finset.sum_congr rfl fun i _ => congr (congrArg HMul.hMul (hc i)) (hwc j i)
  · exact Finset.sum_congr rfl fun i _ => congr (congrArg HMul.hMul (hn i)) (hwn j i)

section Kernel
variable (m : (ℓ : Loc nD τ sig) → Buf (Elt Ideal) ℓ) (d : Dev nD)

/-- The kernel's result at a row. -/
theorem kernel_at (hu : ∀ x, (V0 m d (Proc.devRef .tc main_arg0) x).toNat < 1000000) (hc : ∀ x, (V0 m d (Proc.devRef .tc main_arg1) x).toNat < 1000) (b : Fin 16384) :
    shapeCast S16384 (mlpOf (V4 m d)) shapeCasts_S1x16384_S16384 (ValueIdx.ix1 b)
      = rowNet (V0 m d (Proc.devRef .tc main_arg0)) (V0 m d (Proc.devRef .tc main_arg1)) (V0 m d (Proc.devRef .tc main_arg2)) (V0 m d (Proc.devRef .tc main_arg3)) (V0 m d (Proc.devRef .tc main_arg4))
          (V0 m d (Proc.devRef .tc main_arg5)) (V0 m d (Proc.devRef .tc main_arg6)) (V0 m d (Proc.devRef .tc main_arg7)) (V0 m d (Proc.devRef .tc main_arg8)) (V0 m d (Proc.devRef .tc main_arg9))
          (V0 m d (Proc.devRef .tc main_arg10)) hu hc b := by
  refine (ValueIdx.shapeCast_1a_a_apply _ _ b).trans ?_
  unfold mlpOf
  refine (mlp_at _ _ _ _ _ _ _ _ _ _ _ b).trans ?_
  unfold rowNet
  have first (j : Fin 64) := first_of (fun i => op_u m d i b (hu _)) (fun i => op_c m d ⟨i.val, by omega⟩ i.isLt b (hc _)) (fun i => op_n m d i b)
    (fun j i => op_w1u m d j i) (fun j i => op_w1c m d j ⟨i.val, by omega⟩ i.isLt) (fun j i hi => op_w1c_zero m d j i hi) (fun j i => op_w1n m d j i) (fun j => op_b1 m d j) j
  exact congr (congr (congr (congr (congrArg layers23 (funext first)) (funext fun k => funext fun j => congrFun (op_w2 m d) _)) (funext fun k => op_b2 m d k))
    (funext fun k => congrFun (op_w3 m d) _)) (op_b3 m d)

end Kernel

/-- The first layer of a joined row, given what its entries are. -/
theorem joined_first {X : FVec Ideal Cert.ReferenceIdeal.S16384x32 .f32} {W : FVec Ideal S64x32 .f32} {B : FVec Ideal S64 .f32} {b : Fin 16384} {u' : Fin 16 → EReal} {c' n' : Fin 8 → EReal}
    (hu : ∀ i : Fin 16, X (ValueIdx.ix2 b ⟨i.val, by omega⟩) = u' i) (hc : ∀ i : Fin 8, X (ValueIdx.ix2 b ⟨16 + i.val, by omega⟩) = c' i) (hn : ∀ i : Fin 8, X (ValueIdx.ix2 b ⟨24 + i.val, by omega⟩) = n' i) (j : Fin 64) :
    max ((∑ i : Fin 32, X (ValueIdx.ix2 b i) * W (ValueIdx.ix2 j i)) + B (ValueIdx.ix1 j)) 0 = layer1 u' c' n' (fun j i => W (ValueIdx.ix2 j i)) (fun j => B (ValueIdx.ix1 j)) j := by
  unfold layer1
  rw [split32]
  simp only [hu, hc, hn]

section Reference
variable (m : (ℓ : Loc Cert.ReferenceIdeal.nD Cert.ReferenceIdeal.τ Cert.ReferenceIdeal.sig) → Buf (Elt Ideal) ℓ) (c : Dev Cert.ReferenceIdeal.nD)

/-- The reference's result at a row. -/
theorem ref_at (hu : ∀ x, ((m ((c.tc : Thread Cert.ReferenceIdeal.nD Cert.ReferenceIdeal.τ).loc Cert.ReferenceIdeal.main_arg0) : IVec S16384 32) x).toNat < 1000000)
    (hc : ∀ x, ((m ((c.tc : Thread Cert.ReferenceIdeal.nD Cert.ReferenceIdeal.τ).loc Cert.ReferenceIdeal.main_arg1) : IVec S16384 32) x).toNat < 1000) (b : Fin 16384) :
    Cert.ReferenceIdeal.Value.res_main_v20 (F := Ideal) m c (ValueIdx.ix1 b)
      = rowNet (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))
          (m ((c.tc : Thread Cert.ReferenceIdeal.nD Cert.ReferenceIdeal.τ).loc Cert.ReferenceIdeal.main_arg10)) hu hc b := by
  unfold Cert.ReferenceIdeal.Value.res_main_v20
  refine (layers_at _ _ _ _ _ _ _ b).trans ?_
  unfold rowNet
  refine congrArg (fun h => layers23 h _ _ _ _) (funext fun j => joined_first (fun i => (joined_u _ _ _ _ b i).trans ?_) (fun i => (joined_c _ _ _ _ b i).trans ?_) (fun i => joined_n _ _ _ _ b i) j)
  · exact take_at 999999#32 1000000#32 (by decide) (by decide) _ rfl rfl rfl rfl rfl _ _ hu _ _ _ _ _ _ _ _ _ _ _ _ b i
  · exact take_at 999#32 1000#32 (by decide) (by decide) _ rfl rfl rfl rfl rfl _ _ hc _ _ _ _ _ _ _ _ _ _ _ _ b i

end Reference

/-- The reference keeps its frame under the ranges too. -/
theorem frame_ReferenceIdeal_pre : Cert.quiescent_ReferenceIdeal_pre_in_range := fun m g _ => frame_ReferenceIdeal m g trivial

/-- Every result of the kernel is the reference's. -/
theorem algebraic : Cert.algebraic_KernelIdeal_ReferenceIdeal := by
  intro m g m' g' hpre hagree
  refine ⟨fun c => shapeCast S16384 (mlpOf (V4 m c)) shapeCasts_S1x16384_S16384,
    (θ_run Cert.KernelIdeal.defs _ _).mono (fun _ h c => ⟨result_is m h c, args_kept m h c⟩) (run_main (F := Ideal) m g fun c => ranges_of_pre (hpre c)),
    (θ_run Cert.ReferenceIdeal.defs _ _).mono (fun _ h c => ⟨(h c).1.trans ?_, (h c).2⟩) (Cert.ReferenceIdeal.Value.run (F := Ideal) m' g')⟩
  obtain ⟨e0, e1, e2, e3, e4, e5, e6, e7, e8, e9, e10⟩ := hagree c
  obtain ⟨hu, hc⟩ := ranges_of_pre (hpre c)
  have hu' : ∀ x, ((m' ((c.tc : Thread Cert.ReferenceIdeal.nD Cert.ReferenceIdeal.τ).loc Cert.ReferenceIdeal.main_arg0) : IVec S16384 32) x).toNat < 1000000 := fun x =>
    (congrArg BitVec.toNat (congrFun e0 x)).trans_lt (hu x)
  have hc' : ∀ x, ((m' ((c.tc : Thread Cert.ReferenceIdeal.nD Cert.ReferenceIdeal.τ).loc Cert.ReferenceIdeal.main_arg1) : IVec S16384 32) x).toNat < 1000 := fun x =>
    (congrArg BitVec.toNat (congrFun e1 x)).trans_lt (hc x)
  funext x
  obtain ⟨b, rfl⟩ : ∃ b : Fin 16384, x = ValueIdx.ix1 b := ⟨x 0, ValueIdx.eq_ix1 x⟩
  refine (ref_at m' c hu' hc' b).trans (Eq.trans ?_ (kernel_at m c hu hc b).symm)
  exact rowNet_congr e0 e1 e2 e3 e4 e5 e6 e7 e8 e9 e10 hu hc hu' hc' b

end Cert.Proof.KI
-- ==== Proof.lean ====
/-
  The certificate's claim, assembled. The kernel's run and its two frames are in Proof/Frames.lean (the run itself in
  Proof/Launch.lean), the reference's frame in Proof/RefFrame.lean, the value equation in Proof/Equation.lean; the
  idealized program is the program itself, so `preserves` has nothing to show.
-/
module

public import proofs.«01_k».proof.Defs
public import proofs.«01_k».proof.Proof.Frames
public import proofs.«01_k».proof.Proof.RefFrame
public import proofs.«01_k».proof.Proof.Equation

@[expose] public section

namespace Cert.Proof

theorem claim : Cert.Claim :=
  ⟨Cert.Kernel.Gen.facts, Cert.KernelIdeal.Gen.facts, Cert.ReferenceIdeal.Gen.facts, Cert.Pre_in_range.Gen.facts,
    KI.frame_Kernel, KI.frame_KernelIdeal, KI.frame_ReferenceIdeal, KI.frame_ReferenceIdeal_pre, trivial, KI.algebraic⟩

end Cert.Proof

end
